-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Kernel34Ideal_finite_forward [hPre_finite_forward : Cert.Pre_finite_forward.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_finite_forward.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3))) = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_finite_forward [hPre_finite_forward : Cert.Pre_finite_forward.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_finite_forward.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Kernel34Ideal_pre_finite_forward [hKernel34Ideal : Cert.Kernel34Ideal.Facts] [hPre_finite_forward : Cert.Pre_finite_forward.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal_finite_forward m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Reference34Ideal_pre_finite_forward [hReference34Ideal : Cert.Reference34Ideal.Facts] [hPre_finite_forward : Cert.Pre_finite_forward.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_finite_forward m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)) (v3 : (c : Dev Cert.KernelIdeal.nD) → Buf (Elt Ideal) ((c.tc : Thread Cert.KernelIdeal.nD Cert.KernelIdeal.τ).loc Cert.KernelIdeal.main_v43_3)) (v4 : (c : Dev Cert.KernelIdeal.nD) → Buf (Elt Ideal) ((c.tc : Thread Cert.KernelIdeal.nD Cert.KernelIdeal.τ).loc Cert.KernelIdeal.main_v43_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_v43_3) = v3 c
          ∧ r.2.mem ((c.tc : Thread Cert.KernelIdeal.nD Cert.KernelIdeal.τ).loc Cert.KernelIdeal.main_v43_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_v42) = v1 c
          ∧ r.2.mem ((c.tc : Thread Cert.Reference9Ideal.nD Cert.Reference9Ideal.τ).loc Cert.Reference9Ideal.main_v43) = v2 c
          ∧ r.2.mem ((c.tc : Thread Cert.Reference9Ideal.nD Cert.Reference9Ideal.τ).loc Cert.Reference9Ideal.main_v44) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v10) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_v26) = v1 c
          ∧ r.2.mem ((c.tc : Thread Cert.Reference23Ideal.nD Cert.Reference23Ideal.τ).loc Cert.Reference23Ideal.main_v7) = v2 c
          ∧ r.2.mem ((c.tc : Thread Cert.Reference23Ideal.nD Cert.Reference23Ideal.τ).loc Cert.Reference23Ideal.main_v13) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_v26) = v1 c
          ∧ r.2.mem ((c.tc : Thread Cert.Reference24Ideal.nD Cert.Reference24Ideal.τ).loc Cert.Reference24Ideal.main_v7) = v2 c
          ∧ r.2.mem ((c.tc : Thread Cert.Reference24Ideal.nD Cert.Reference24Ideal.τ).loc Cert.Reference24Ideal.main_v13) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v12) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v34) = v0 c
          ∧ r.2.mem ((c.tc : Thread Cert.Reference28Ideal.nD Cert.Reference28Ideal.τ).loc Cert.Reference28Ideal.main_v17) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v34) = v0 c
          ∧ r.2.mem ((c.tc : Thread Cert.Reference29Ideal.nD Cert.Reference29Ideal.τ).loc Cert.Reference29Ideal.main_v17) = v1 c
          ∧ r.2.mem ((c.tc : Thread Cert.Reference29Ideal.nD Cert.Reference29Ideal.τ).loc Cert.Reference29Ideal.main_v36) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v14) = v0 c
          ∧ r.2.mem ((c.tc : Thread Cert.Reference30Ideal.nD Cert.Reference30Ideal.τ).loc Cert.Reference30Ideal.main_v15) = v1 c
          ∧ r.2.mem ((c.tc : Thread Cert.Reference30Ideal.nD Cert.Reference30Ideal.τ).loc Cert.Reference30Ideal.main_v23) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v5) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v3) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v30) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v35) = v0 c
          ∧ r.2.mem ((c.tc : Thread Cert.Reference37Ideal.nD Cert.Reference37Ideal.τ).loc Cert.Reference37Ideal.main_v37) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v20) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def preserves_Kernel34_Kernel34Ideal : Prop :=
  IdealRules.named_const.Statement Cert.Kernel34Ideal.κ "mask" .f32 0xF149F2CA#32 ⊥
  ∧ IdealRules.named_const.Statement Cert.Kernel34Ideal.κ "log2e" .f32 0x3FB8AA3B#32 (((Real.log 2)⁻¹ : ℝ) : EReal)

def algebraic_Kernel34Ideal_Reference34Ideal_pre_finite_forward [hKernel34Ideal : Cert.Kernel34Ideal.Facts] [hReference34Ideal : Cert.Reference34Ideal.Facts] [hPre_finite_forward : Cert.Pre_finite_forward.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal_finite_forward m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v11_0)) (v1 : (c : Dev Cert.Kernel34Ideal.nD) → Buf (Elt Ideal) ((c.tc : Thread Cert.Kernel34Ideal.nD Cert.Kernel34Ideal.τ).loc Cert.Kernel34Ideal.main_v11_1)) (v2 : (c : Dev Cert.Kernel34Ideal.nD) → Buf (Elt Ideal) ((c.tc : Thread Cert.Kernel34Ideal.nD Cert.Kernel34Ideal.τ).loc Cert.Kernel34Ideal.main_v11_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v11_0) = v0 c
          ∧ r.2.mem ((c.tc : Thread Cert.Kernel34Ideal.nD Cert.Kernel34Ideal.τ).loc Cert.Kernel34Ideal.main_v11_1) = v1 c
          ∧ r.2.mem ((c.tc : Thread Cert.Kernel34Ideal.nD Cert.Kernel34Ideal.τ).loc Cert.Kernel34Ideal.main_v11_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v27) = v0 c
          ∧ r.2.mem ((c.tc : Thread Cert.Reference34Ideal.nD Cert.Reference34Ideal.τ).loc Cert.Reference34Ideal.main_v26) = v1 c
          ∧ r.2.mem ((c.tc : Thread Cert.Reference34Ideal.nD Cert.Reference34Ideal.τ).loc Cert.Reference34Ideal.main_v32) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel34 : Cert.Kernel34.Facts) (hKernel34Ideal : Cert.Kernel34Ideal.Facts) (hReference34Ideal : Cert.Reference34Ideal.Facts) (hPre_finite : Cert.Pre_finite.Facts) (hPre_finite_forward : Cert.Pre_finite_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel34 (hKernel34 := hKernel34)
    ∧ quiescent_Kernel34Ideal (hKernel34Ideal := hKernel34Ideal)
    ∧ quiescent_Kernel34Ideal_pre_finite_forward (hKernel34Ideal := hKernel34Ideal) (hPre_finite_forward := hPre_finite_forward)
    ∧ quiescent_Reference34Ideal (hReference34Ideal := hReference34Ideal)
    ∧ quiescent_Reference34Ideal_pre_finite_forward (hReference34Ideal := hReference34Ideal) (hPre_finite_forward := hPre_finite_forward)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel34_Kernel34Ideal
    ∧ algebraic_Kernel34Ideal_Reference34Ideal_pre_finite_forward (hKernel34Ideal := hKernel34Ideal) (hReference34Ideal := hReference34Ideal) (hPre_finite_forward := hPre_finite_forward)
-- ==== Pre_finite.lean ====
abbrev S4096x2048 : Shape := ⟨2, ![4096, 2048]⟩
abbrev S4096x22528 : Shape := ⟨2, ![4096, 22528]⟩
abbrev S16x4096 : Shape := ⟨2, ![16, 4096]⟩
abbrev S_ : Shape := ⟨0, ![]⟩

class Facts : Prop where
  slices_S4096x22528_S4096x2048_0_12288 : S4096x22528.Slices ![0, 12288] S4096x2048
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_v2 : FVec F S4096x2048 .f32) (main_v6 : IVec S_ 1) (main_v10 : IVec S_ 1) (main_v14 : IVec S_ 1) (main_v15 : FVec F S16x4096 .f32) (main_v16 : FVec F S16x4096 .f32) : IVec S_ 1 :=
  let main_v17 : IVec S16x4096 1 := cmpf .olt main_v15 main_v16
  let main_c_5 : IVec S_ 1 := constantI S_ 1 1#1
  let main_v18 : IVec S_ 1 := (fun x v => Host.reduce IntOp.andi x v reducesTo_S16x4096_S_d0_1 h_S_) main_v17 main_c_5
  let main_v19 : FVec F S4096x2048 .f32 := Host.absf main_v2
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v6 main_v10
  let main_v24 : IVec S_ 1 := andi main_v23 main_v14
  let main_v25 : IVec S_ 1 := andi main_v24 main_v18
  let main_v26 : IVec S_ 1 := andi main_v25 main_v22
  main_v26

def fn {F : FTy → Type} [FloatOps F] (main_arg0 : FVec F S4096x2048 .f32) (main_arg1 : FVec F S4096x2048 .f32) (main_arg2 : FVec F S4096x22528 .bf16) (main_arg3 : FVec F S16x4096 .f32) (main_arg4 : FVec F S4096x2048 .bf16) : IVec S_ 1 :=
  let main_v0 : FVec F S4096x2048 .bf16 := (extractStridedSlice S4096x2048 ![0, 12288] · slices_S4096x22528_S4096x2048_0_12288) main_arg2
  let main_v1 : FVec F S4096x2048 .f32 := (extf .f32 · bitsLt_bf16_f32) main_v0
  let main_v2 : FVec F S4096x2048 .f32 := (extf .f32 · bitsLt_bf16_f32) main_arg4
  let main_v3 : FVec F S4096x2048 .f32 := Host.absf main_arg0
  let main_cst : FVec F S_ .f32 := constant S_ .f32 0x7F800000#32
  let main_v4 : FVec F S4096x2048 .f32 := broadcastInDim S4096x2048 ![] bcast_S_S4096x2048 main_cst
  let main_v5 : IVec S4096x2048 1 := cmpf .olt main_v3 main_v4
  let main_c : IVec S_ 1 := constantI S_ 1 1#1
  let main_v6 : IVec S_ 1 := (fun x v => Host.reduce IntOp.andi x v reducesTo_S4096x2048_S_d0_1 h_S_) main_v5 main_c
  let main_v7 : FVec F S4096x2048 .f32 := Host.absf main_arg1
  let main_cst_0 : FVec F S_ .f32 := constant S_ .f32 0x7F800000#32
  let main_v8 : FVec F S4096x2048 .f32 := broadcastInDim S4096x2048 ![] bcast_S_S4096x2048 main_cst_0
  let main_v9 : IVec S4096x2048 1 := cmpf .olt main_v7 main_v8
  let main_c_1 : IVec S_ 1 := constantI S_ 1 1#1
  let main_v10 : IVec S_ 1 := (fun x v => Host.reduce IntOp.andi x v reducesTo_S4096x2048_S_d0_1 h_S_) main_v9 main_c_1
  let main_v11 : FVec F S4096x2048 .f32 := Host.absf main_v1
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  let main_c_3 : IVec S_ 1 := constantI S_ 1 1#1
  let main_v14 : IVec S_ 1 := (fun x v => Host.reduce IntOp.andi x v reducesTo_S4096x2048_S_d0_1 h_S_) main_v13 main_c_3
  let main_v15 : FVec F S16x4096 .f32 := Host.absf main_arg3
  let main_cst_4 : FVec F S_ .f32 := constant S_ .f32 0x7F800000#32
  let main_v16 : FVec F S16x4096 .f32 := broadcastInDim S16x4096 ![] bcast_S_S16x4096 main_cst_4
  fn_part1 (F := F) main_v2 main_v6 main_v10 main_v14 main_v15 main_v16
-- ==== Pre_finite_forward.lean ====
abbrev S4096x2048 : Shape := ⟨2, ![4096, 2048]⟩
abbrev S4096x22528 : Shape := ⟨2, ![4096, 22528]⟩
abbrev S16x4096 : Shape := ⟨2, ![16, 4096]⟩
abbrev S_ : Shape := ⟨0, ![]⟩

class Facts : Prop where
  slices_S4096x22528_S4096x2048_0_12288 : S4096x22528.Slices ![0, 12288] S4096x2048
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_v5 : IVec S_ 1) (main_v9 : IVec S_ 1) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S4096x2048 .f32) (main_arg1 : FVec F S4096x2048 .f32) (main_arg2 : FVec F S4096x22528 .bf16) (main_arg3 : FVec F S16x4096 .f32) : IVec S_ 1 :=
  let main_v0 : FVec F S4096x2048 .bf16 := (extractStridedSlice S4096x2048 ![0, 12288] · slices_S4096x22528_S4096x2048_0_12288) main_arg2
  let main_v1 : FVec F S4096x2048 .f32 := (extf .f32 · bitsLt_bf16_f32) main_v0
  let main_v2 : FVec F S4096x2048 .f32 := Host.absf main_arg0
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_c : IVec S_ 1 := constantI S_ 1 1#1
  let main_v5 : IVec S_ 1 := (fun x v => Host.reduce IntOp.andi x v reducesTo_S4096x2048_S_d0_1 h_S_) main_v4 main_c
  let main_v6 : FVec F S4096x2048 .f32 := Host.absf main_arg1
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : FVec F S4096x2048 .f32 := Host.absf main_v1
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v10 main_v11
  let main_c_3 : IVec S_ 1 := constantI S_ 1 1#1
  let main_v13 : IVec S_ 1 := (fun x v => Host.reduce IntOp.andi x v reducesTo_S4096x2048_S_d0_1 h_S_) main_v12 main_c_3
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_v5 main_v9 main_v13 main_v16
-- ==== Kernel.lean ====
abbrev S4096x2048 : Shape := ⟨2, ![4096, 2048]⟩
abbrev S4096x22528 : Shape := ⟨2, ![4096, 22528]⟩
abbrev S16x4096 : Shape := ⟨2, ![16, 4096]⟩
abbrev S_ : Shape := ⟨0, ![]⟩
abbrev S16x4x1x1024 : Shape := ⟨4, ![16, 4, 1, 1024]⟩
abbrev S4096x16x128 : Shape := ⟨3, ![4096, 16, 128]⟩
abbrev S16x4096x4096 : Shape := ⟨3, ![16, 4096, 4096]⟩
abbrev S16x1x4096 : Shape := ⟨3, ![16, 1, 4096]⟩
abbrev S4096x4096 : Shape := ⟨2, ![4096, 4096]⟩
abbrev S16x4096x1 : Shape := ⟨3, ![16, 4096, 1]⟩
abbrev S16x128x4096 : Shape := ⟨3, ![16, 128, 4096]⟩
abbrev S4096x128 : Shape := ⟨2, ![4096, 128]⟩
abbrev S1024x128 : Shape := ⟨2, ![1024, 128]⟩
abbrev S1x1x1x1024 : Shape := ⟨4, ![1, 1, 1, 1024]⟩
abbrev S1x4096x1 : Shape := ⟨3, ![1, 4096, 1]⟩
abbrev S1x1024 : Shape := ⟨2, ![1, 1024]⟩
abbrev S1024x1024 : Shape := ⟨2, ![1024, 1024]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 64
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x22528, .bf16⟩
  | .hbm, ⟨3, _⟩ => ⟨S16x4096, .f32⟩
  | .hbm, ⟨4, _⟩ => ⟨S4096x2048, .bf16⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .bf16⟩
  | .hbm, ⟨13, _⟩ => ⟨S4096x2048, .bf16⟩
  | .hbm, ⟨14, _⟩ => ⟨S_, .f32⟩
  | .hbm, ⟨15, _⟩ => ⟨S_, .f32⟩
  | .hbm, ⟨16, _⟩ => ⟨S16x4096, .f32⟩
  | .hbm, ⟨17, _⟩ => ⟨S16x4096, .f32⟩
  | .hbm, ⟨18, _⟩ => ⟨S16x4x1x1024, .f32⟩
  | .hbm, ⟨19, _⟩ => ⟨S4096x2048, .bf16⟩
  | .hbm, ⟨20, _⟩ => ⟨S4096x2048, .f32⟩
  | .hbm, ⟨21, _⟩ => ⟨S4096x16x128, .f32⟩
  | .hbm, ⟨22, _⟩ => ⟨S4096x16x128, .f32⟩
  | .hbm, ⟨23, _⟩ => ⟨S4096x16x128, .f32⟩
  | .hbm, ⟨24, _⟩ => ⟨S16x4096x4096, .f32⟩
  | .hbm, ⟨25, _⟩ => ⟨S_, .f32⟩
  | .hbm, ⟨26, _⟩ => ⟨S16x4096x4096, .f32⟩
  | .hbm, ⟨27, _⟩ => ⟨S16x4096x4096, .f32⟩
  | .hbm, ⟨28, _⟩ => ⟨S16x1x4096, .f32⟩
  | .hbm, ⟨29, _⟩ => ⟨S16x4096x4096, .f32⟩
  | .hbm, ⟨30, _⟩ => ⟨S16x4096x4096, .f32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S16x4096x4096, .i1⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S16x4096x4096, .f32⟩
  | .hbm, ⟨43, _⟩ => ⟨S16x4096x4096, .f32⟩
  | .hbm, ⟨44, _⟩ => ⟨S16x4096x4096, .f32⟩
  | .hbm, ⟨45, _⟩ => ⟨S_, .f32⟩
  | .hbm, ⟨46, _⟩ => ⟨S16x4096, .f32⟩
  | .hbm, ⟨47, _⟩ => ⟨S16x4096x1, .f32⟩
  | .hbm, ⟨48, _⟩ => ⟨S16x4096x4096, .f32⟩
  | .hbm, ⟨49, _⟩ => ⟨S16x4096x4096, .f32⟩
  | .hbm, ⟨50, _⟩ => ⟨S16x128x4096, .f32⟩
  | .hbm, ⟨51, _⟩ => ⟨S4096x16x128, .f32⟩
  | .hbm, ⟨52, _⟩ => ⟨S4096x2048, .f32⟩
  | .hbm, ⟨53, _⟩ => ⟨S16x4096x1, .f32⟩
  | .hbm, ⟨54, _⟩ => ⟨S16x4096x1, .f32⟩
  | .hbm, ⟨55, _⟩ => ⟨S_, .f32⟩
  | .hbm, ⟨56, _⟩ => ⟨S_, .f32⟩
  | .hbm, ⟨57, _⟩ => ⟨S16x4096x1, .f32⟩
  | .hbm, ⟨58, _⟩ => ⟨S16x4096x1, .f32⟩
  | .hbm, ⟨59, _⟩ => ⟨S4096x2048, .f32⟩
  | .hbm, ⟨60, _⟩ => ⟨S4096x2048, .f32⟩
  | .hbm, ⟨61, _⟩ => ⟨S4096x2048, .bf16⟩
  | .hbm, ⟨62, _⟩ => ⟨S16x4x1x1024, .f32⟩
  | .hbm, ⟨63, _⟩ => ⟨S16x4096x1, .f32⟩
  | .local _ .vmem, ⟨0, _⟩ => ⟨S4096x128, .bf16⟩
  | .local _ .vmem, ⟨1, _⟩ => ⟨S4096x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x1x1x1024, .f32⟩
  | .local _ .vmem, ⟨7, _⟩ => ⟨S1x1x1x1024, .f32⟩
  | .local _ .vmem, ⟨8, _⟩ => ⟨S4096x128, .f32⟩
  | .local _ .vmem, ⟨9, _⟩ => ⟨S4096x128, .f32⟩
  | .local _ .vmem, ⟨10, _⟩ => ⟨S4096x128, .bf16⟩
  | .local _ .vmem, ⟨11, _⟩ => ⟨S4096x128, .bf16⟩
  | .local _ .vmem, ⟨12, _⟩ => ⟨S1x4096x1, .f32⟩
  | .local _ .vmem, ⟨13, _⟩ => ⟨S1x4096x1, .f32⟩
  | .local _ .vmem, ⟨14, _⟩ => ⟨S4096x128, .f32⟩
  | .local _ .vmem, ⟨15, _⟩ => ⟨S4096x128, .f32⟩
  | .local _ .vmem, ⟨16, _⟩ => ⟨S1024x128, .f32⟩
  | .local _ .vmem, ⟨17, _⟩ => ⟨S1024x128, .f32⟩
  | .local _ .vmem, ⟨18, _⟩ => ⟨S1024x128, .bf16⟩
  | .local _ .vmem, ⟨19, _⟩ => ⟨S1024x128, .bf16⟩
  | .local _ .vmem, ⟨20, _⟩ => ⟨S1x1x1x1024, .f32⟩
  | .local _ .vmem, ⟨21, _⟩ => ⟨S1x1x1x1024, .f32⟩
  | .local _ .vmem, ⟨22, _⟩ => ⟨S1x4096x1, .f32⟩
  | .local _ .vmem, ⟨23, _⟩ => ⟨S1x4096x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43_0 : Ref sig .tc := ⟨.hbm, 59, rfl⟩
abbrev main_v43_1 : Ref sig .tc := ⟨.hbm, 60, rfl⟩
abbrev main_v43_2 : Ref sig .tc := ⟨.hbm, 61, rfl⟩
abbrev main_v43_3 : Ref sig .tc := ⟨.hbm, 62, rfl⟩
abbrev main_v43_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v12 : BitVec 32 := Scalar.muli arg1 c1024_i32
  let c0_i32_10 : BitVec 32 := 0#32
  let v13 : BitVec 32 := Scalar.addi v12 c0_i32_10
  v13
def k0_off1 (i : grid0.Coords) : Fin 2 → Nat :=
  let arg1 : BitVec 32 := BitVec.ofNat 32 (i 1).val
  let c1024_i32 : BitVec 32 := 1024#32
  let v12 : BitVec 32 := Scalar.muli arg1 c1024_i32
  let c0_i32_10 : BitVec 32 := 0#32
  let v13 : BitVec 32 := Scalar.addi v12 c0_i32_10
  let v14 : BitVec 32 := v13
  let v15 : Index := Scalar.indexCast v14
  let c0_11 : Index := 0#32
  ![v15.toNat, 0]
def k0_off2 (i : grid0.Coords) : Fin 3 → Nat :=
  let c0_16 : Index := 0#32
  let arg1 : BitVec 32 := BitVec.ofNat 32 (i 1).val
  let c1024_i32 : BitVec 32 := 1024#32
  let v12 : BitVec 32 := Scalar.muli arg1 c1024_i32
  let c0_i32_10 : BitVec 32 := 0#32
  let v13 : BitVec 32 := Scalar.addi v12 c0_i32_10
  let v14 : BitVec 32 := v13
  let v30 : Index := Scalar.indexCast v14
  let c0_17 : Index := 0#32
  ![0, v30.toNat, 0]
@[reducible] def k0_t1_loop (i : grid0.Coords) : Scf.Loop 32 :=
  let arg1 : BitVec 32 := BitVec.ofNat 32 (i 1).val
  let c1_i32 : BitVec 32 := 1#32
  let v11 : BitVec 32 := Scalar.addi arg1 c1_i32
  let c4_i32 : BitVec 32 := 4#32
  let v77 : BitVec 32 := Scalar.subi c4_i32 v11
  let c1_i32_34 : BitVec 32 := 1#32
  let v79 : BitVec 32 := Scalar.divsi v77 c1_i32_34
  let v80 : BitVec 32 := Scalar.muli v79 c1_i32_34
  let v81 : BitVec 32 := Scalar.addi v11 v80
  let c1_i32_35 : BitVec 32 := 1#32
  ⟨v11, v81, c1_i32_35⟩
def k0_mult2 (i : grid0.Coords) (k0_t1 : Fin (k0_t1_loop i).trips) : BitVec 32 :=
  let arg1 : BitVec 32 := BitVec.ofNat 32 (i 1).val
  let c1_i32 : BitVec 32 := 1#32
  let v11 : BitVec 32 := Scalar.addi arg1 c1_i32
  let c1_i32_35 : BitVec 32 := 1#32
  let arg14 : BitVec 32 := Scf.iv v11 c1_i32_35 k0_t1
  let c1024_i32_45 : BitVec 32 := 1024#32
  let v90 : BitVec 32 := Scalar.muli arg14 c1024_i32_45
  let c0_i32_46 : BitVec 32 := 0#32
  let v91 : BitVec 32 := Scalar.addi v90 c0_i32_46
  v91
def k0_off3 (i : grid0.Coords) (k0_t1 : Fin (k0_t1_loop i).trips) : Fin 2 → Nat :=
  let arg1 : BitVec 32 := BitVec.ofNat 32 (i 1).val
  let c1_i32 : BitVec 32 := 1#32
  let v11 : BitVec 32 := Scalar.addi arg1 c1_i32
  let c1_i32_35 : BitVec 32 := 1#32
  let arg14 : BitVec 32 := Scf.iv v11 c1_i32_35 k0_t1
  let c1024_i32_45 : BitVec 32 := 1024#32
  let v90 : BitVec 32 := Scalar.muli arg14 c1024_i32_45
  let c0_i32_46 : BitVec 32 := 0#32
  let v91 : BitVec 32 := Scalar.addi v90 c0_i32_46
  let v92 : BitVec 32 := v91
  let v93 : Index := Scalar.indexCast v92
  let c0_47 : Index := 0#32
  ![v93.toNat, 0]
def k0_off4 (i : grid0.Coords) (k0_t1 : Fin (k0_t1_loop i).trips) : Fin 3 → Nat :=
  let c0_50 : Index := 0#32
  let arg1 : BitVec 32 := BitVec.ofNat 32 (i 1).val
  let c1_i32 : BitVec 32 := 1#32
  let v11 : BitVec 32 := Scalar.addi arg1 c1_i32
  let c1_i32_35 : BitVec 32 := 1#32
  let arg14 : BitVec 32 := Scf.iv v11 c1_i32_35 k0_t1
  let c1024_i32_45 : BitVec 32 := 1024#32
  let v90 : BitVec 32 := Scalar.muli arg14 c1024_i32_45
  let c0_i32_46 : BitVec 32 := 0#32
  let v91 : BitVec 32 := Scalar.addi v90 c0_i32_46
  let v92 : BitVec 32 := v91
  let v101 : Index := Scalar.indexCast v92
  let c0_51 : Index := 0#32
  ![0, v101.toNat, 0]
@[reducible] def k0_t2_loop (i : grid0.Coords) : Scf.Loop 32 :=
  let arg1 : BitVec 32 := BitVec.ofNat 32 (i 1).val
  let c1_i32 : BitVec 32 := 1#32
  let v11 : BitVec 32 := Scalar.addi arg1 c1_i32
  let c4_i32 : BitVec 32 := 4#32
  let v77 : BitVec 32 := Scalar.subi c4_i32 v11
  let c1_i32_34 : BitVec 32 := 1#32
  let v79 : BitVec 32 := Scalar.divsi v77 c1_i32_34
  let v80 : BitVec 32 := Scalar.muli v79 c1_i32_34
  let v81 : BitVec 32 := Scalar.addi v11 v80
  let v78 : BitVec 32 := Scalar.addi v11 v77
  let c1_i32_36 : BitVec 32 := 1#32
  ⟨v81, v78, c1_i32_36⟩
def k0_mult3 (i : grid0.Coords) (k0_t2 : Fin (k0_t2_loop i).trips) : BitVec 32 :=
  let arg1 : BitVec 32 := BitVec.ofNat 32 (i 1).val
  let c1_i32 : BitVec 32 := 1#32
  let v11 : BitVec 32 := Scalar.addi arg1 c1_i32
  let c4_i32 : BitVec 32 := 4#32
  let v77 : BitVec 32 := Scalar.subi c4_i32 v11
  let c1_i32_34 : BitVec 32 := 1#32
  let v79 : BitVec 32 := Scalar.divsi v77 c1_i32_34
  let v80 : BitVec 32 := Scalar.muli v79 c1_i32_34
  let v81 : BitVec 32 := Scalar.addi v11 v80
  let c1_i32_36 : BitVec 32 := 1#32
  let arg14 : BitVec 32 := Scf.iv v81 c1_i32_36 k0_t2
  let c1024_i32_45 : BitVec 32 := 1024#32
  let v90 : BitVec 32 := Scalar.muli arg14 c1024_i32_45
  let c0_i32_46 : BitVec 32 := 0#32
  let v91 : BitVec 32 := Scalar.addi v90 c0_i32_46
  v91
def k0_off5 (i : grid0.Coords) (k0_t2 : Fin (k0_t2_loop i).trips) : Fin 2 → Nat :=
  let arg1 : BitVec 32 := BitVec.ofNat 32 (i 1).val
  let c1_i32 : BitVec 32 := 1#32
  let v11 : BitVec 32 := Scalar.addi arg1 c1_i32
  let c4_i32 : BitVec 32 := 4#32
  let v77 : BitVec 32 := Scalar.subi c4_i32 v11
  let c1_i32_34 : BitVec 32 := 1#32
  let v79 : BitVec 32 := Scalar.divsi v77 c1_i32_34
  let v80 : BitVec 32 := Scalar.muli v79 c1_i32_34
  let v81 : BitVec 32 := Scalar.addi v11 v80
  let c1_i32_36 : BitVec 32 := 1#32
  let arg14 : BitVec 32 := Scf.iv v81 c1_i32_36 k0_t2
  let c1024_i32_45 : BitVec 32 := 1024#32
  let v90 : BitVec 32 := Scalar.muli arg14 c1024_i32_45
  let c0_i32_46 : BitVec 32 := 0#32
  let v91 : BitVec 32 := Scalar.addi v90 c0_i32_46
  let v92 : BitVec 32 := v91
  let v93 : Index := Scalar.indexCast v92
  let c0_47 : Index := 0#32
  ![v93.toNat, 0]
def k0_off6 (i : grid0.Coords) (k0_t2 : Fin (k0_t2_loop i).trips) : Fin 3 → Nat :=
  let c0_50 : Index := 0#32
  let arg1 : BitVec 32 := BitVec.ofNat 32 (i 1).val
  let c1_i32 : BitVec 32 := 1#32
  let v11 : BitVec 32 := Scalar.addi arg1 c1_i32
  let c4_i32 : BitVec 32 := 4#32
  let v77 : BitVec 32 := Scalar.subi c4_i32 v11
  let c1_i32_34 : BitVec 32 := 1#32
  let v79 : BitVec 32 := Scalar.divsi v77 c1_i32_34
  let v80 : BitVec 32 := Scalar.muli v79 c1_i32_34
  let v81 : BitVec 32 := Scalar.addi v11 v80
  let c1_i32_36 : BitVec 32 := 1#32
  let arg14 : BitVec 32 := Scf.iv v81 c1_i32_36 k0_t2
  let c1024_i32_45 : BitVec 32 := 1024#32
  let v90 : BitVec 32 := Scalar.muli arg14 c1024_i32_45
  let c0_i32_46 : BitVec 32 := 0#32
  let v91 : BitVec 32 := Scalar.addi v90 c0_i32_46
  let v92 : BitVec 32 := v91
  let v101 : Index := Scalar.indexCast v92
  let c0_51 : Index := 0#32
  ![0, v101.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg0
  let c0_i32 : BitVec 32 := 0#32
  ![arg1.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4096x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4096x2048 : Shape := ⟨2, ![4096, 2048]⟩
abbrev S4096x22528 : Shape := ⟨2, ![4096, 22528]⟩
abbrev S16x4096 : Shape := ⟨2, ![16, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096x4096 : Shape := ⟨2, ![4096, 4096]⟩
abbrev S16x128x4096 : Shape := ⟨3, ![16, 128, 4096]⟩
abbrev S16x4x1x1024 : Shape := ⟨4, ![16, 4, 1, 1024]⟩

abbrev nBuf : Space → Nat
  | .hbm => 129
  | .vmem => 0
  | .smem => 0
  | _ => 0

abbrev hbmTy0_0 (i : Nat) : BufTy := match i % 128 with
  | 0 => ⟨S4096x2048, .f32⟩
  | 1 => ⟨S4096x2048, .f32⟩
  | 2 => ⟨S4096x22528, .bf16⟩
  | 3 => ⟨S16x4096, .f32⟩
  | 4 => ⟨S4096x2048, .bf16⟩
  | 5 => ⟨S4096x2048, .bf16⟩
  | 6 => ⟨S4096x2048, .f32⟩
  | 7 => ⟨S4096x16x128, .f32⟩
  | 8 => ⟨S16x4096x128, .f32⟩
  | 9 => ⟨S4096x16x128, .f32⟩
  | 10 => ⟨S16x4096x128, .f32⟩
  | 11 => ⟨S4096x16x128, .f32⟩
  | 12 => ⟨S16x4096x128, .f32⟩
  | 13 => ⟨S16x4096x4096, .f32⟩
  | 14 => ⟨S_, .f32⟩
  | 15 => ⟨S16x4096x4096, .f32⟩
  | 16 => ⟨S16x4096x4096, .f32⟩
  | 17 => ⟨S16x4096x1, .f32⟩
  | 18 => ⟨S16x4096x4096, .f32⟩
  | 19 => ⟨S16x4096x4096, .f32⟩
  | 20 => ⟨S16x1x4096, .f32⟩
  | 21 => ⟨S16x4096x4096, .f32⟩
  | 22 => ⟨S16x4096x4096, .f32⟩
  | 23 => ⟨S4096x4096, .i32⟩
  | 24 => ⟨S4096x4096, .i32⟩
  | 25 => ⟨S4096x4096, .i1⟩
  | 26 => ⟨S_, .f32⟩
  | 27 => ⟨S_, .f32⟩
  | 28 => ⟨S16x4096x4096, .i1⟩
  | 29 => ⟨S16x4096x4096, .f32⟩
  | 30 => ⟨S16x4096x4096, .f32⟩
  | 31 => ⟨S_, .f32⟩
  | 32 => ⟨S16x4096x4096, .f32⟩
  | 33 => ⟨S_, .f32⟩
  | 34 => ⟨S16x4096, .f32⟩
  | 35 => ⟨S16x4096x1, .f32⟩
  | 36 => ⟨S16x4096x4096, .f32⟩
  | 37 => ⟨S16x4096x4096, .i1⟩
  | 38 => ⟨S16x4096x4096, .f32⟩
  | 39 => ⟨S_, .f32⟩
  | 40 => ⟨S16x4096, .f32⟩
  | 41 => ⟨S_, .f32⟩
  | 42 => ⟨S16x4096, .f32⟩
  | 43 => ⟨S16x4096, .f32⟩
  | 44 => ⟨S_, .f32⟩
  | 45 => ⟨S16x4096, .f32⟩
  | 46 => ⟨S16x4096, .i1⟩
  | 47 => ⟨S_, .f32⟩
  | 48 => ⟨S16x4096, .f32⟩
  | 49 => ⟨S16x4096, .i1⟩
  | 50 => ⟨S_, .f32⟩
  | 51 => ⟨S16x4096, .f32⟩
  | 52 => ⟨S_, .f32⟩
  | 53 => ⟨S16x4096, .f32⟩
  | 54 => ⟨S_, .f32⟩
  | 55 => ⟨S16x4096, .f32⟩
  | 56 => ⟨S16x4096, .f32⟩
  | 57 => ⟨S16x4096, .f32⟩
  | 58 => ⟨S16x4096x1, .f32⟩
  | 59 => ⟨S16x4096x4096, .f32⟩
  | 60 => ⟨S16x4096x4096, .f32⟩
  | 61 => ⟨S16x4096x4096, .f32⟩
  | 62 => ⟨S_, .f32⟩
  | 63 => ⟨S16x4096, .f32⟩
  | 64 => ⟨S16x4096x1, .f32⟩
  | 65 => ⟨S16x4096x4096, .f32⟩
  | 66 => ⟨S16x4096x4096, .f32⟩
  | 67 => ⟨S16x4096x1, .f32⟩
  | 68 => ⟨S_, .f32⟩
  | 69 => ⟨S16x4096x1, .f32⟩
  | 70 => ⟨S16x4096x1, .f32⟩
  | 71 => ⟨S16x4096x128, .f32⟩
  | 72 => ⟨S4096x16x128, .f32⟩
  | 73 => ⟨S4096x2048, .f32⟩
  | 74 => ⟨S4096x2048, .f32⟩
  | 75 => ⟨S4096x16x128, .f32⟩
  | 76 => ⟨S16x4096x128, .f32⟩
  | 77 => ⟨S16x128x4096, .f32⟩
  | 78 => ⟨S16x4096x128, .f32⟩
  | 79 => ⟨S16x4096x4096, .f32⟩
  | 80 => ⟨S16x4096x4096, .f32⟩
  | 81 => ⟨S16x4096x4096, .f32⟩
  | 82 => ⟨S16x4096x4096, .f32⟩
  | 83 => ⟨S_, .f32⟩
  | 84 => ⟨S16x4096, .f32⟩
  | 85 => ⟨S16x4096x1, .f32⟩
  | 86 => ⟨S16x4096x1, .f32⟩
  | 87 => ⟨S16x4096x4096, .f32⟩
  | 88 => ⟨S16x4096x4096, .f32⟩
  | 89 => ⟨S_, .f32⟩
  | 90 => ⟨S16x4096, .f32⟩
  | 91 => ⟨S16x4096x4096, .f32⟩
  | 92 => ⟨S16x4096x4096, .f32⟩
  | 93 => ⟨S16x4096x4096, .f32⟩
  | 94 => ⟨S_, .f32⟩
  | 95 => ⟨S16x4096x4096, .f32⟩
  | 96 => ⟨S16x4096x4096, .f32⟩
  | 97 => ⟨S16x4096x4096, .f32⟩
  | 98 => ⟨S_, .f32⟩
  | 99 => ⟨S16x4096, .f32⟩
  | 100 => ⟨S16x1x4096, .f32⟩
  | 101 => ⟨S_, .f32⟩
  | 102 => ⟨S16x4096, .f32⟩
  | 103 => ⟨S_, .f32⟩
  | 104 => ⟨S16x4096, .f32⟩
  | 105 => ⟨S16x4096x1, .f32⟩
  | 106 => ⟨S_, .f32⟩
  | 107 => ⟨S16x4096, .f32⟩
  | 108 => ⟨S_, .f32⟩
  | 109 => ⟨S16x4096x4096, .f32⟩
  | 110 => ⟨S16x4096x4096, .f32⟩
  | 111 => ⟨S16x4096x128, .f32⟩
  | 112 => ⟨S16x4096x128, .f32⟩
  | 113 => ⟨S4096x16x128, .f32⟩
  | 114 => ⟨S4096x2048, .f32⟩
  | 115 => ⟨S4096x16x128, .f32⟩
  | 116 => ⟨S4096x2048, .f32⟩
  | 117 => ⟨S4096x16x128, .f32⟩
  | 118 => ⟨S4096x2048, .f32⟩
  | 119 => ⟨S_, .f32⟩
  | 120 => ⟨S_, .f32⟩
  | 121 => ⟨S4096x2048, .f32⟩
  | 122 => ⟨S4096x2048, .f32⟩
  | 123 => ⟨S_, .f32⟩
  | 124 => ⟨S4096x2048, .f32⟩
  | 125 => ⟨S4096x2048, .f32⟩
  | 126 => ⟨S4096x2048, .bf16⟩
  | 127 => ⟨S16x4x1x1024, .f32⟩
  | _ => ⟨S4096x2048, .f32⟩

abbrev hbmTy0_1 (i : Nat) : BufTy := match i % 128 with
  | 0 => ⟨S16x4096x1, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_18 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_19 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== Kernel2.lean ====
abbrev S4096x4096 : Shape := ⟨2, ![4096, 4096]⟩
abbrev S11264x4096 : Shape := ⟨2, ![11264, 4096]⟩
abbrev S4096x11264 : Shape := ⟨2, ![4096, 11264]⟩
abbrev S1024x4096 : Shape := ⟨2, ![1024, 4096]⟩
abbrev S512x4096 : Shape := ⟨2, ![512, 4096]⟩
abbrev S1024x512 : Shape := ⟨2, ![1024, 512]⟩
abbrev S8x128 : Shape := ⟨2, ![8, 128]⟩

abbrev nBuf : Space → Nat
  | .hbm => 6
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S4096x11264, .bf16⟩
  | .hbm, ⟨3, _⟩ => ⟨S4096x11264, .bf16⟩
  | .hbm, ⟨4, _⟩ => ⟨S4096x11264, .bf16⟩
  | .hbm, ⟨5, _⟩ => ⟨S4096x11264, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4096x4096 : Shape := ⟨2, ![4096, 4096]⟩
abbrev S11264x4096 : Shape := ⟨2, ![11264, 4096]⟩
abbrev S4096x11264 : Shape := ⟨2, ![4096, 11264]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S4096x11264, .bf16⟩
  | .hbm, ⟨3, _⟩ => ⟨S4096x11264, .bf16⟩
  | .hbm, ⟨4, _⟩ => ⟨S4096x11264, .f32⟩
  | .hbm, ⟨5, _⟩ => ⟨S4096x11264, .f32⟩
  | .hbm, ⟨6, _⟩ => ⟨S4096x11264, .f32⟩
  | .hbm, ⟨7, _⟩ => ⟨S4096x11264, .f32⟩
  | .hbm, ⟨8, _⟩ => ⟨S_, .f32⟩
  | .hbm, ⟨9, _⟩ => ⟨S4096x11264, .f32⟩
  | .hbm, ⟨10, _⟩ => ⟨S4096x11264, .f32⟩
  | .hbm, ⟨11, _⟩ => ⟨S_, .f32⟩
  | .hbm, ⟨12, _⟩ => ⟨S4096x11264, .f32⟩
  | .hbm, ⟨13, _⟩ => ⟨S4096x11264, .f32⟩
  | .hbm, ⟨14, _⟩ => ⟨S_, .f32⟩
  | .hbm, ⟨15, _⟩ => ⟨S4096x11264, .f32⟩
  | .hbm, ⟨16, _⟩ => ⟨S4096x11264, .f32⟩
  | .hbm, ⟨17, _⟩ => ⟨S4096x11264, .f32⟩
  | .hbm, ⟨18, _⟩ => ⟨S4096x11264, .f32⟩
  | .hbm, ⟨19, _⟩ => ⟨S4096x11264, .f32⟩
  | .hbm, ⟨20, _⟩ => ⟨S4096x11264, .bf16⟩
  | .hbm, ⟨21, _⟩ => ⟨S4096x11264, .f32⟩
  | .hbm, ⟨22, _⟩ => ⟨S11264x4096, .f32⟩
  | .hbm, ⟨23, _⟩ => ⟨S4096x4096, .f32⟩
  | .hbm, ⟨24, _⟩ => ⟨S4096x4096, .f32⟩
  | .hbm, ⟨25, _⟩ => ⟨S4096x11264, .f32⟩
  | .hbm, ⟨26, _⟩ => ⟨S4096x11264, .bf16⟩
  | .hbm, ⟨27, _⟩ => ⟨S4096x11264, .f32⟩
  | .hbm, ⟨28, _⟩ => ⟨S4096x11264, .f32⟩
  | .hbm, ⟨29, _⟩ => ⟨S4096x11264, .f32⟩
  | .hbm, ⟨30, _⟩ => ⟨S4096x11264, .f32⟩
  | .hbm, ⟨31, _⟩ => ⟨S4096x11264, .f32⟩
  | .hbm, ⟨32, _⟩ => ⟨S4096x11264, .f32⟩
  | .hbm, ⟨33, _⟩ => ⟨S4096x11264, .f32⟩
  | .hbm, ⟨34, _⟩ => ⟨S4096x11264, .bf16⟩
  | .hbm, ⟨35, _⟩ => ⟨S4096x11264, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Kernel3.lean ====
abbrev S4096x4096 : Shape := ⟨2, ![4096, 4096]⟩
abbrev S4096x22528 : Shape := ⟨2, ![4096, 22528]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x22528, .bf16⟩
  | .hbm, ⟨2, _⟩ => ⟨S4096x22528, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x22528 : Shape := ⟨2, ![4096, 22528]⟩
abbrev S_ : Shape := ⟨0, ![]⟩
abbrev S22528x4096 : Shape := ⟨2, ![22528, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x22528, .bf16⟩
  | .hbm, ⟨2, _⟩ => ⟨S_, .f32⟩
  | .hbm, ⟨3, _⟩ => ⟨S4096x22528, .f32⟩
  | .hbm, ⟨4, _⟩ => ⟨S4096x4096, .f32⟩
  | .hbm, ⟨5, _⟩ => ⟨S4096x22528, .f32⟩
  | .hbm, ⟨6, _⟩ => ⟨S4096x22528, .f32⟩
  | .hbm, ⟨7, _⟩ => ⟨S22528x4096, .f32⟩
  | .hbm, ⟨8, _⟩ => ⟨S4096x22528, .f32⟩
  | .hbm, ⟨9, _⟩ => ⟨S4096x22528, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x22528 : Shape := ⟨2, ![4096, 22528]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x22528, .bf16⟩
  | .hbm, ⟨1, _⟩ => ⟨S4096x22528, .bf16⟩
  | .hbm, ⟨2, _⟩ => ⟨S4096x4096, .f32⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x22528 : Shape := ⟨2, ![4096, 22528]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x22528, .bf16⟩
  | .hbm, ⟨1, _⟩ => ⟨S4096x22528, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x22528, .f32⟩
  | .hbm, ⟨6, _⟩ => ⟨S4096x22528, .f32⟩
  | .hbm, ⟨7, _⟩ => ⟨S4096x22528, .f32⟩
  | .hbm, ⟨8, _⟩ => ⟨S4096x4096, .f32⟩
  | .hbm, ⟨9, _⟩ => ⟨S4096x4096, .f32⟩
  | _, _ => ⟨S4096x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S4096x4096 : Shape := ⟨2, ![4096, 4096]⟩
abbrev S4096x11264 : Shape := ⟨2, ![4096, 11264]⟩
abbrev S8x4096x1408 : Shape := ⟨3, ![8, 4096, 1408]⟩
abbrev S4096x512 : Shape := ⟨2, ![4096, 512]⟩
abbrev S4096x1408 : Shape := ⟨2, ![4096, 1408]⟩
abbrev S1x512x1408 : Shape := ⟨3, ![1, 512, 1408]⟩
abbrev S8x128 : Shape := ⟨2, ![8, 128]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x11264, .bf16⟩
  | .hbm, ⟨2, _⟩ => ⟨S8x4096x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S4096x11264 : Shape := ⟨2, ![4096, 11264]⟩
abbrev S_ : Shape := ⟨0, ![]⟩
abbrev S8x4096x1408 : Shape := ⟨3, ![8, 4096, 1408]⟩
abbrev S4096x8x1408 : Shape := ⟨3, ![4096, 8, 1408]⟩
abbrev S11264x4096 : Shape := ⟨2, ![11264, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x11264, .bf16⟩
  | .hbm, ⟨2, _⟩ => ⟨S_, .f32⟩
  | .hbm, ⟨3, _⟩ => ⟨S8x4096x1408, .f32⟩
  | .hbm, ⟨4, _⟩ => ⟨S4096x4096, .f32⟩
  | .hbm, ⟨5, _⟩ => ⟨S4096x8x1408, .f32⟩
  | .hbm, ⟨6, _⟩ => ⟨S4096x11264, .f32⟩
  | .hbm, ⟨7, _⟩ => ⟨S4096x11264, .f32⟩
  | .hbm, ⟨8, _⟩ => ⟨S4096x11264, .f32⟩
  | .hbm, ⟨9, _⟩ => ⟨S11264x4096, .f32⟩
  | .hbm, ⟨10, _⟩ => ⟨S4096x11264, .f32⟩
  | .hbm, ⟨11, _⟩ => ⟨S4096x8x1408, .f32⟩
  | .hbm, ⟨12, _⟩ => ⟨S8x4096x1408, .f32⟩
  | .hbm, ⟨13, _⟩ => ⟨S8x4096x1408, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S4096x11264 : Shape := ⟨2, ![4096, 11264]⟩
abbrev S8x4096x1408 : Shape := ⟨3, ![8, 4096, 1408]⟩
abbrev S4096x4096 : Shape := ⟨2, ![4096, 4096]⟩
abbrev S512x11264 : Shape := ⟨2, ![512, 11264]⟩
abbrev S8x256x1408 : Shape := ⟨3, ![8, 256, 1408]⟩
abbrev S512x256 : Shape := ⟨2, ![512, 256]⟩
abbrev S8x128 : Shape := ⟨2, ![8, 128]⟩
abbrev S512x1408 : Shape := ⟨2, ![512, 1408]⟩
abbrev S1x256x1408 : Shape := ⟨3, ![1, 256, 1408]⟩
abbrev S256x1408 : Shape := ⟨2, ![256, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x11264, .bf16⟩
  | .hbm, ⟨1, _⟩ => ⟨S8x4096x1408, .bf16⟩
  | .hbm, ⟨2, _⟩ => ⟨S4096x4096, .f32⟩
  | .hbm, ⟨3, _⟩ => ⟨S4096x4096, .f32⟩
  | .local _ .vmem, ⟨0, _⟩ => ⟨S512x11264, .bf16⟩
  | .local _ .vmem, ⟨1, _⟩ => ⟨S512x11264, .bf16⟩
  | .local _ .vmem, ⟨2, _⟩ => ⟨S8x256x1408, .bf16⟩
  | .local _ .vmem, ⟨3, _⟩ => ⟨S8x256x1408, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S8x128, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x11264 : Shape := ⟨2, ![4096, 11264]⟩
abbrev S8x4096x1408 : Shape := ⟨3, ![8, 4096, 1408]⟩
abbrev S4096x4096 : Shape := ⟨2, ![4096, 4096]⟩
abbrev S_ : Shape := ⟨0, ![]⟩
abbrev S4096x8x1408 : Shape := ⟨3, ![4096, 8, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S8x4096x1408, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S8x4096x1408, .f32⟩
  | .hbm, ⟨6, _⟩ => ⟨S4096x8x1408, .f32⟩
  | .hbm, ⟨7, _⟩ => ⟨S4096x11264, .f32⟩
  | .hbm, ⟨8, _⟩ => ⟨S4096x11264, .f32⟩
  | .hbm, ⟨9, _⟩ => ⟨S4096x11264, .f32⟩
  | .hbm, ⟨10, _⟩ => ⟨S4096x4096, .f32⟩
  | .hbm, ⟨11, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S4096x11264 : Shape := ⟨2, ![4096, 11264]⟩
abbrev S4096x4096 : Shape := ⟨2, ![4096, 4096]⟩
abbrev S11264x4096 : Shape := ⟨2, ![11264, 4096]⟩
abbrev S4096x512 : Shape := ⟨2, ![4096, 512]⟩
abbrev S4096x1024 : Shape := ⟨2, ![4096, 1024]⟩
abbrev S512x1024 : Shape := ⟨2, ![512, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S11264x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![22, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x11264 : Shape := ⟨2, ![4096, 11264]⟩
abbrev S4096x4096 : Shape := ⟨2, ![4096, 4096]⟩
abbrev S_ : Shape := ⟨0, ![]⟩
abbrev S11264x4096 : Shape := ⟨2, ![11264, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S_, .f32⟩
  | .hbm, ⟨3, _⟩ => ⟨S11264x4096, .f32⟩
  | .hbm, ⟨4, _⟩ => ⟨S4096x11264, .f32⟩
  | .hbm, ⟨5, _⟩ => ⟨S4096x4096, .f32⟩
  | .hbm, ⟨6, _⟩ => ⟨S4096x4096, .f32⟩
  | .hbm, ⟨7, _⟩ => ⟨S4096x11264, .f32⟩
  | .hbm, ⟨8, _⟩ => ⟨S11264x4096, .f32⟩
  | .hbm, ⟨9, _⟩ => ⟨S11264x4096, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x11264 : Shape := ⟨2, ![4096, 11264]⟩
abbrev S8x4096x1408 : Shape := ⟨3, ![8, 4096, 1408]⟩
abbrev S4096x4096 : Shape := ⟨2, ![4096, 4096]⟩
abbrev S512x11264 : Shape := ⟨2, ![512, 11264]⟩
abbrev S8x256x1408 : Shape := ⟨3, ![8, 256, 1408]⟩
abbrev S512x256 : Shape := ⟨2, ![512, 256]⟩
abbrev S8x128 : Shape := ⟨2, ![8, 128]⟩
abbrev S512x1408 : Shape := ⟨2, ![512, 1408]⟩
abbrev S1x256x1408 : Shape := ⟨3, ![1, 256, 1408]⟩
abbrev S256x1408 : Shape := ⟨2, ![256, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S8x4096x1408, .bf16⟩
  | .hbm, ⟨2, _⟩ => ⟨S4096x4096, .f32⟩
  | .local _ .vmem, ⟨0, _⟩ => ⟨S512x11264, .bf16⟩
  | .local _ .vmem, ⟨1, _⟩ => ⟨S512x11264, .bf16⟩
  | .local _ .vmem, ⟨2, _⟩ => ⟨S8x256x1408, .bf16⟩
  | .local _ .vmem, ⟨3, _⟩ => ⟨S8x256x1408, .bf16⟩
  | .local _ .vmem, ⟨4, _⟩ => ⟨S512x256, .f32⟩
  | .local _ .vmem, ⟨5, _⟩ => ⟨S512x256, .f32⟩
  | .local _ .vmem, ⟨6, _⟩ => ⟨S8x128, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x11264 : Shape := ⟨2, ![4096, 11264]⟩
abbrev S8x4096x1408 : Shape := ⟨3, ![8, 4096, 1408]⟩
abbrev S_ : Shape := ⟨0, ![]⟩
abbrev S4096x4096 : Shape := ⟨2, ![4096, 4096]⟩
abbrev S4096x8x1408 : Shape := ⟨3, ![4096, 8, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S8x4096x1408, .bf16⟩
  | .hbm, ⟨2, _⟩ => ⟨S_, .f32⟩
  | .hbm, ⟨3, _⟩ => ⟨S4096x4096, .f32⟩
  | .hbm, ⟨4, _⟩ => ⟨S8x4096x1408, .f32⟩
  | .hbm, ⟨5, _⟩ => ⟨S4096x8x1408, .f32⟩
  | .hbm, ⟨6, _⟩ => ⟨S4096x11264, .f32⟩
  | .hbm, ⟨7, _⟩ => ⟨S4096x11264, .f32⟩
  | .hbm, ⟨8, _⟩ => ⟨S4096x11264, .f32⟩
  | .hbm, ⟨9, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x4096 : Shape := ⟨2, ![4096, 4096]⟩
abbrev S4096x22528 : Shape := ⟨2, ![4096, 22528]⟩
abbrev S512x4096 : Shape := ⟨2, ![512, 4096]⟩
abbrev S512x512 : Shape := ⟨2, ![512, 512]⟩
abbrev S8x128 : Shape := ⟨2, ![8, 128]⟩

abbrev nBuf : Space → Nat
  | .hbm => 9
  | .vmem => 21
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x22528, .bf16⟩
  | .hbm, ⟨3, _⟩ => ⟨S4096x4096, .bf16⟩
  | .hbm, ⟨4, _⟩ => ⟨S4096x4096, .bf16⟩
  | .hbm, ⟨5, _⟩ => ⟨S4096x4096, .bf16⟩
  | .hbm, ⟨6, _⟩ => ⟨S4096x4096, .bf16⟩
  | .hbm, ⟨7, _⟩ => ⟨S4096x4096, .bf16⟩
  | .hbm, ⟨8, _⟩ => ⟨S4096x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi arg1 c28_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi arg1 c36_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference9Ideal.lean ====
abbrev S4096x4096 : Shape := ⟨2, ![4096, 4096]⟩
abbrev S4096x22528 : Shape := ⟨2, ![4096, 22528]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x22528, .bf16⟩
  | .hbm, ⟨3, _⟩ => ⟨S4096x4096, .bf16⟩
  | .hbm, ⟨4, _⟩ => ⟨S4096x4096, .bf16⟩
  | .hbm, ⟨5, _⟩ => ⟨S4096x4096, .bf16⟩
  | .hbm, ⟨6, _⟩ => ⟨S4096x4096, .bf16⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .bf16⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .bf16⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .bf16⟩
  | .hbm, ⟨53, _⟩ => ⟨S4096x4096, .bf16⟩
  | .hbm, ⟨54, _⟩ => ⟨S4096x4096, .bf16⟩
  | .hbm, ⟨55, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel10.lean ====
abbrev S4096x4096 : Shape := ⟨2, ![4096, 4096]⟩
abbrev S4096x512 : Shape := ⟨2, ![4096, 512]⟩
abbrev S512x512 : Shape := ⟨2, ![512, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | .local _ .vmem, ⟨6, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x4096 : Shape := ⟨2, ![4096, 4096]⟩
abbrev S2048x4096 : Shape := ⟨2, ![2048, 4096]⟩
abbrev S4096x2048 : Shape := ⟨2, ![4096, 2048]⟩
abbrev S1024x4096 : Shape := ⟨2, ![1024, 4096]⟩
abbrev S512x4096 : Shape := ⟨2, ![512, 4096]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x2048 : Shape := ⟨2, ![4096, 2048]⟩
abbrev S4096x4096 : Shape := ⟨2, ![4096, 4096]⟩
abbrev S8x2048x512 : Shape := ⟨3, ![8, 2048, 512]⟩
abbrev S4096x1024 : Shape := ⟨2, ![4096, 1024]⟩
abbrev S4096x512 : Shape := ⟨2, ![4096, 512]⟩
abbrev S1x1024x512 : Shape := ⟨3, ![1, 1024, 512]⟩
abbrev S8x128 : Shape := ⟨2, ![8, 128]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S8x2048x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S4096x4096 : Shape := ⟨2, ![4096, 4096]⟩
abbrev S_ : Shape := ⟨0, ![]⟩
abbrev S8x2048x512 : Shape := ⟨3, ![8, 2048, 512]⟩
abbrev S2048x8x512 : Shape := ⟨3, ![2048, 8, 512]⟩
abbrev S2048x4096 : Shape := ⟨2, ![2048, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S8x2048x512, .f32⟩
  | .hbm, ⟨4, _⟩ => ⟨S4096x2048, .f32⟩
  | .hbm, ⟨5, _⟩ => ⟨S2048x8x512, .f32⟩
  | .hbm, ⟨6, _⟩ => ⟨S2048x4096, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S2048x4096, .f32⟩
  | .hbm, ⟨11, _⟩ => ⟨S2048x8x512, .f32⟩
  | .hbm, ⟨12, _⟩ => ⟨S8x2048x512, .f32⟩
  | .hbm, ⟨13, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel13.lean ====
abbrev S4096x4096 : Shape := ⟨2, ![4096, 4096]⟩
abbrev S4096x22528 : Shape := ⟨2, ![4096, 22528]⟩
abbrev S1024x4096 : Shape := ⟨2, ![1024, 4096]⟩
abbrev S4096x512 : Shape := ⟨2, ![4096, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x22528, .bf16⟩
  | .hbm, ⟨2, _⟩ => ⟨S4096x22528, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 44, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x4096 : Shape := ⟨2, ![4096, 4096]⟩
abbrev S4096x22528 : Shape := ⟨2, ![4096, 22528]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x22528, .bf16⟩
  | .hbm, ⟨2, _⟩ => ⟨S4096x4096, .f32⟩
  | .hbm, ⟨3, _⟩ => ⟨S4096x22528, .f32⟩
  | .hbm, ⟨4, _⟩ => ⟨S4096x22528, .f32⟩
  | .hbm, ⟨5, _⟩ => ⟨S4096x22528, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x4096 : Shape := ⟨2, ![4096, 4096]⟩
abbrev S8x4096x1408 : Shape := ⟨3, ![8, 4096, 1408]⟩
abbrev S4096x11264 : Shape := ⟨2, ![4096, 11264]⟩
abbrev S512x4096 : Shape := ⟨2, ![512, 4096]⟩
abbrev S1x4096x1408 : Shape := ⟨3, ![1, 4096, 1408]⟩
abbrev S512x1408 : Shape := ⟨2, ![512, 1408]⟩
abbrev S8x128 : Shape := ⟨2, ![8, 128]⟩
abbrev S4096x1408 : Shape := ⟨2, ![4096, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x4096x1408, .bf16⟩
  | .hbm, ⟨2, _⟩ => ⟨S4096x11264, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S512x1408, .bf16⟩
  | .local _ .vmem, ⟨5, _⟩ => ⟨S512x1408, .bf16⟩
  | .local _ .vmem, ⟨6, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x4096 : Shape := ⟨2, ![4096, 4096]⟩
abbrev S8x4096x1408 : Shape := ⟨3, ![8, 4096, 1408]⟩
abbrev S4096x8x1408 : Shape := ⟨3, ![4096, 8, 1408]⟩
abbrev S4096x11264 : Shape := ⟨2, ![4096, 11264]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x1408, .bf16⟩
  | .hbm, ⟨2, _⟩ => ⟨S4096x4096, .f32⟩
  | .hbm, ⟨3, _⟩ => ⟨S8x4096x1408, .f32⟩
  | .hbm, ⟨4, _⟩ => ⟨S4096x8x1408, .f32⟩
  | .hbm, ⟨5, _⟩ => ⟨S4096x11264, .f32⟩
  | .hbm, ⟨6, _⟩ => ⟨S4096x11264, .f32⟩
  | .hbm, ⟨7, _⟩ => ⟨S4096x11264, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S4096x4096 : Shape := ⟨2, ![4096, 4096]⟩
abbrev S8x4096x1408 : Shape := ⟨3, ![8, 4096, 1408]⟩
abbrev S4096x11264 : Shape := ⟨2, ![4096, 11264]⟩
abbrev S512x4096 : Shape := ⟨2, ![512, 4096]⟩
abbrev S1x4096x1408 : Shape := ⟨3, ![1, 4096, 1408]⟩
abbrev S512x1408 : Shape := ⟨2, ![512, 1408]⟩
abbrev S8x128 : Shape := ⟨2, ![8, 128]⟩
abbrev S4096x1408 : Shape := ⟨2, ![4096, 1408]⟩

abbrev nBuf : Space → Nat
  | .hbm => 5
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S8x4096x1408, .bf16⟩
  | .hbm, ⟨2, _⟩ => ⟨S4096x11264, .bf16⟩
  | .hbm, ⟨3, _⟩ => ⟨S4096x11264, .bf16⟩
  | .hbm, ⟨4, _⟩ => ⟨S4096x11264, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference15Ideal.lean ====
abbrev S4096x4096 : Shape := ⟨2, ![4096, 4096]⟩
abbrev S8x4096x1408 : Shape := ⟨3, ![8, 4096, 1408]⟩
abbrev S4096x11264 : Shape := ⟨2, ![4096, 11264]⟩
abbrev S4096x8x1408 : Shape := ⟨3, ![4096, 8, 1408]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x1408, .bf16⟩
  | .hbm, ⟨2, _⟩ => ⟨S4096x11264, .bf16⟩
  | .hbm, ⟨3, _⟩ => ⟨S4096x4096, .f32⟩
  | .hbm, ⟨4, _⟩ => ⟨S8x4096x1408, .f32⟩
  | .hbm, ⟨5, _⟩ => ⟨S4096x8x1408, .f32⟩
  | .hbm, ⟨6, _⟩ => ⟨S4096x11264, .f32⟩
  | .hbm, ⟨7, _⟩ => ⟨S4096x11264, .f32⟩
  | .hbm, ⟨8, _⟩ => ⟨S4096x11264, .bf16⟩
  | .hbm, ⟨9, _⟩ => ⟨S4096x11264, .f32⟩
  | .hbm, ⟨10, _⟩ => ⟨S4096x11264, .f32⟩
  | .hbm, ⟨11, _⟩ => ⟨S4096x11264, .f32⟩
  | .hbm, ⟨12, _⟩ => ⟨S_, .f32⟩
  | .hbm, ⟨13, _⟩ => ⟨S4096x11264, .f32⟩
  | .hbm, ⟨14, _⟩ => ⟨S4096x11264, .f32⟩
  | .hbm, ⟨15, _⟩ => ⟨S_, .f32⟩
  | .hbm, ⟨16, _⟩ => ⟨S4096x11264, .f32⟩
  | .hbm, ⟨17, _⟩ => ⟨S4096x11264, .f32⟩
  | .hbm, ⟨18, _⟩ => ⟨S4096x11264, .f32⟩
  | .hbm, ⟨19, _⟩ => ⟨S4096x11264, .f32⟩
  | .hbm, ⟨20, _⟩ => ⟨S4096x11264, .f32⟩
  | .hbm, ⟨21, _⟩ => ⟨S4096x11264, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel16.lean ====
abbrev S4096x11264 : Shape := ⟨2, ![4096, 11264]⟩
abbrev S11264x4096 : Shape := ⟨2, ![11264, 4096]⟩
abbrev S4096x4096 : Shape := ⟨2, ![4096, 4096]⟩
abbrev S512x11264 : Shape := ⟨2, ![512, 11264]⟩
abbrev S11264x256 : Shape := ⟨2, ![11264, 256]⟩
abbrev S512x256 : Shape := ⟨2, ![512, 256]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x4096, .f32⟩
  | .local _ .vmem, ⟨0, _⟩ => ⟨S512x11264, .bf16⟩
  | .local _ .vmem, ⟨1, _⟩ => ⟨S512x11264, .bf16⟩
  | .local _ .vmem, ⟨2, _⟩ => ⟨S11264x256, .bf16⟩
  | .local _ .vmem, ⟨3, _⟩ => ⟨S11264x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S8x128, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S11264x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4096x11264 : Shape := ⟨2, ![4096, 11264]⟩
abbrev S11264x4096 : Shape := ⟨2, ![11264, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x11264, .f32⟩
  | .hbm, ⟨4, _⟩ => ⟨S11264x4096, .f32⟩
  | .hbm, ⟨5, _⟩ => ⟨S4096x4096, .f32⟩
  | .hbm, ⟨6, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | .hbm, ⟨5, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4096x2048 : Shape := ⟨2, ![4096, 2048]⟩
abbrev S2048x4096 : Shape := ⟨2, ![2048, 4096]⟩
abbrev S4096x22528 : Shape := ⟨2, ![4096, 22528]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 6
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x22528, .bf16⟩
  | .hbm, ⟨3, _⟩ => ⟨S4096x4096, .bf16⟩
  | .hbm, ⟨4, _⟩ => ⟨S4096x4096, .bf16⟩
  | .hbm, ⟨5, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi arg1 c14_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi arg1 c18_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference19Ideal.lean ====
abbrev S4096x2048 : Shape := ⟨2, ![4096, 2048]⟩
abbrev S2048x4096 : Shape := ⟨2, ![2048, 4096]⟩
abbrev S4096x22528 : Shape := ⟨2, ![4096, 22528]⟩
abbrev S4096x4096 : Shape := ⟨2, ![4096, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x22528, .bf16⟩
  | .hbm, ⟨3, _⟩ => ⟨S4096x4096, .bf16⟩
  | .hbm, ⟨4, _⟩ => ⟨S4096x2048, .f32⟩
  | .hbm, ⟨5, _⟩ => ⟨S2048x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .hbm, ⟨9, _⟩ => ⟨S4096x4096, .f32⟩
  | .hbm, ⟨10, _⟩ => ⟨S4096x4096, .bf16⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel20.lean ====
abbrev S4x4096x2822 : Shape := ⟨3, ![4, 4096, 2822]⟩
abbrev S4096x2822 : Shape := ⟨2, ![4096, 2822]⟩
abbrev S4x64x2822 : Shape := ⟨3, ![4, 64, 2822]⟩
abbrev S64x2822 : Shape := ⟨2, ![64, 2822]⟩
abbrev S1x64x2822 : Shape := ⟨3, ![1, 64, 2822]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x2822, .bf16⟩
  | .hbm, ⟨1, _⟩ => ⟨S4096x2822, .f32⟩
  | .hbm, ⟨2, _⟩ => ⟨S4096x2822, .f32⟩
  | .hbm, ⟨3, _⟩ => ⟨S4096x2822, .f32⟩
  | .hbm, ⟨4, _⟩ => ⟨S4096x2822, .f32⟩
  | .hbm, ⟨5, _⟩ => ⟨S4096x2822, .f32⟩
  | .hbm, ⟨6, _⟩ => ⟨S4096x2822, .f32⟩
  | .hbm, ⟨7, _⟩ => ⟨S4096x2822, .f32⟩
  | .local _ .vmem, ⟨0, _⟩ => ⟨S4x64x2822, .bf16⟩
  | .local _ .vmem, ⟨1, _⟩ => ⟨S4x64x2822, .bf16⟩
  | .local _ .vmem, ⟨2, _⟩ => ⟨S64x2822, .f32⟩
  | .local _ .vmem, ⟨3, _⟩ => ⟨S64x2822, .f32⟩
  | .local _ .vmem, ⟨4, _⟩ => ⟨S64x2822, .f32⟩
  | .local _ .vmem, ⟨5, _⟩ => ⟨S64x2822, .f32⟩
  | .local _ .vmem, ⟨6, _⟩ => ⟨S64x2822, .f32⟩
  | .local _ .vmem, ⟨7, _⟩ => ⟨S64x2822, .f32⟩
  | .local _ .vmem, ⟨8, _⟩ => ⟨S64x2822, .f32⟩
  | .local _ .vmem, ⟨9, _⟩ => ⟨S64x2822, .f32⟩
  | .local _ .vmem, ⟨10, _⟩ => ⟨S64x2822, .f32⟩
  | .local _ .vmem, ⟨11, _⟩ => ⟨S64x2822, .f32⟩
  | .local _ .vmem, ⟨12, _⟩ => ⟨S64x2822, .f32⟩
  | .local _ .vmem, ⟨13, _⟩ => ⟨S64x2822, .f32⟩
  | .local _ .vmem, ⟨14, _⟩ => ⟨S64x2822, .f32⟩
  | .local _ .vmem, ⟨15, _⟩ => ⟨S64x2822, .f32⟩
  | _, _ => ⟨S4x4096x2822, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2822 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2822 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2822 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2822 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2822 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2822 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2822 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2822 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S4x4096x2822 : Shape := ⟨3, ![4, 4096, 2822]⟩
abbrev S4096x2822 : Shape := ⟨2, ![4096, 2822]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x2822, .bf16⟩
  | .hbm, ⟨1, _⟩ => ⟨S4096x2822, .f32⟩
  | .hbm, ⟨2, _⟩ => ⟨S4096x2822, .f32⟩
  | .hbm, ⟨3, _⟩ => ⟨S4096x2822, .f32⟩
  | .hbm, ⟨4, _⟩ => ⟨S4x4096x2822, .f32⟩
  | .hbm, ⟨5, _⟩ => ⟨S_, .f32⟩
  | .hbm, ⟨6, _⟩ => ⟨S4096x2822, .f32⟩
  | .hbm, ⟨7, _⟩ => ⟨S_, .f32⟩
  | .hbm, ⟨8, _⟩ => ⟨S4096x2822, .f32⟩
  | .hbm, ⟨9, _⟩ => ⟨S4096x2822, .f32⟩
  | .hbm, ⟨10, _⟩ => ⟨S_, .f32⟩
  | .hbm, ⟨11, _⟩ => ⟨S4096x2822, .f32⟩
  | .hbm, ⟨12, _⟩ => ⟨S4096x2822, .f32⟩
  | .hbm, ⟨13, _⟩ => ⟨S4096x2822, .f32⟩
  | .hbm, ⟨14, _⟩ => ⟨S_, .f32⟩
  | .hbm, ⟨15, _⟩ => ⟨S4096x2822, .f32⟩
  | .hbm, ⟨16, _⟩ => ⟨S4096x2822, .f32⟩
  | .hbm, ⟨17, _⟩ => ⟨S4096x2822, .f32⟩
  | .hbm, ⟨18, _⟩ => ⟨S_, .f32⟩
  | .hbm, ⟨19, _⟩ => ⟨S4096x2822, .f32⟩
  | .hbm, ⟨20, _⟩ => ⟨S4096x2822, .f32⟩
  | .hbm, ⟨21, _⟩ => ⟨S4096x2822, .f32⟩
  | .hbm, ⟨22, _⟩ => ⟨S_, .f32⟩
  | .hbm, ⟨23, _⟩ => ⟨S4096x2822, .f32⟩
  | .hbm, ⟨24, _⟩ => ⟨S4096x2822, .f32⟩
  | .hbm, ⟨25, _⟩ => ⟨S_, .f32⟩
  | .hbm, ⟨26, _⟩ => ⟨S4096x2822, .f32⟩
  | .hbm, ⟨27, _⟩ => ⟨S4096x2822, .f32⟩
  | .hbm, ⟨28, _⟩ => ⟨S4096x2822, .f32⟩
  | .hbm, ⟨29, _⟩ => ⟨S_, .f32⟩
  | .hbm, ⟨30, _⟩ => ⟨S4096x2822, .f32⟩
  | .hbm, ⟨31, _⟩ => ⟨S4096x2822, .f32⟩
  | .hbm, ⟨32, _⟩ => ⟨S4096x2822, .f32⟩
  | .hbm, ⟨33, _⟩ => ⟨S_, .f32⟩
  | .hbm, ⟨34, _⟩ => ⟨S4096x2822, .f32⟩
  | .hbm, ⟨35, _⟩ => ⟨S4096x2822, .f32⟩
  | .hbm, ⟨36, _⟩ => ⟨S4096x2822, .f32⟩
  | .hbm, ⟨37, _⟩ => ⟨S_, .f32⟩
  | .hbm, ⟨38, _⟩ => ⟨S4096x2822, .f32⟩
  | .hbm, ⟨39, _⟩ => ⟨S4096x2822, .f32⟩
  | _, _ => ⟨S4x4096x2822, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S4x2048x512 : Shape := ⟨3, ![4, 2048, 512]⟩
abbrev S2048x512 : Shape := ⟨2, ![2048, 512]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S4x512x512, .bf16⟩
  | .local _ .vmem, ⟨1, _⟩ => ⟨S4x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S4x2048x512 : Shape := ⟨3, ![4, 2048, 512]⟩
abbrev S2048x512 : Shape := ⟨2, ![2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S4x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S4x512x4096 : Shape := ⟨3, ![4, 512, 4096]⟩
abbrev S512x4096 : Shape := ⟨2, ![512, 4096]⟩
abbrev S4x64x4096 : Shape := ⟨3, ![4, 64, 4096]⟩
abbrev S64x4096 : Shape := ⟨2, ![64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S4x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S4x64x4096, .bf16⟩
  | .local _ .vmem, ⟨1, _⟩ => ⟨S4x64x4096, .bf16⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S4x512x4096 : Shape := ⟨3, ![4, 512, 4096]⟩
abbrev S512x4096 : Shape := ⟨2, ![512, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S4x512x4096, .f32⟩
  | .hbm, ⟨5, _⟩ => ⟨S_, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | _, _ => ⟨S4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S4x4096x1408 : Shape := ⟨3, ![4, 4096, 1408]⟩
abbrev S4096x1376 : Shape := ⟨2, ![4096, 1376]⟩
abbrev S4x128x1408 : Shape := ⟨3, ![4, 128, 1408]⟩
abbrev S128x1376 : Shape := ⟨2, ![128, 1376]⟩
abbrev S1x128x1408 : Shape := ⟨3, ![1, 128, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x1408, .bf16⟩
  | .hbm, ⟨1, _⟩ => ⟨S4096x1376, .f32⟩
  | .hbm, ⟨2, _⟩ => ⟨S4096x1376, .f32⟩
  | .hbm, ⟨3, _⟩ => ⟨S4096x1376, .f32⟩
  | .hbm, ⟨4, _⟩ => ⟨S4096x1376, .f32⟩
  | .hbm, ⟨5, _⟩ => ⟨S4096x1376, .f32⟩
  | .hbm, ⟨6, _⟩ => ⟨S4096x1376, .f32⟩
  | .hbm, ⟨7, _⟩ => ⟨S4096x1376, .f32⟩
  | .local _ .vmem, ⟨0, _⟩ => ⟨S4x128x1408, .bf16⟩
  | .local _ .vmem, ⟨1, _⟩ => ⟨S4x128x1408, .bf16⟩
  | .local _ .vmem, ⟨2, _⟩ => ⟨S128x1376, .f32⟩
  | .local _ .vmem, ⟨3, _⟩ => ⟨S128x1376, .f32⟩
  | .local _ .vmem, ⟨4, _⟩ => ⟨S128x1376, .f32⟩
  | .local _ .vmem, ⟨5, _⟩ => ⟨S128x1376, .f32⟩
  | .local _ .vmem, ⟨6, _⟩ => ⟨S128x1376, .f32⟩
  | .local _ .vmem, ⟨7, _⟩ => ⟨S128x1376, .f32⟩
  | .local _ .vmem, ⟨8, _⟩ => ⟨S128x1376, .f32⟩
  | .local _ .vmem, ⟨9, _⟩ => ⟨S128x1376, .f32⟩
  | .local _ .vmem, ⟨10, _⟩ => ⟨S128x1376, .f32⟩
  | .local _ .vmem, ⟨11, _⟩ => ⟨S128x1376, .f32⟩
  | .local _ .vmem, ⟨12, _⟩ => ⟨S128x1376, .f32⟩
  | .local _ .vmem, ⟨13, _⟩ => ⟨S128x1376, .f32⟩
  | .local _ .vmem, ⟨14, _⟩ => ⟨S128x1376, .f32⟩
  | .local _ .vmem, ⟨15, _⟩ => ⟨S128x1376, .f32⟩
  | _, _ => ⟨S4x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1376 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1376 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1376 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1376 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1376 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S4x4096x1408 : Shape := ⟨3, ![4, 4096, 1408]⟩
abbrev S4096x1376 : Shape := ⟨2, ![4096, 1376]⟩
abbrev S4x4096x1376 : Shape := ⟨3, ![4, 4096, 1376]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1408, .bf16⟩
  | .hbm, ⟨1, _⟩ => ⟨S4096x1376, .f32⟩
  | .hbm, ⟨2, _⟩ => ⟨S4096x1376, .f32⟩
  | .hbm, ⟨3, _⟩ => ⟨S4096x1376, .f32⟩
  | .hbm, ⟨4, _⟩ => ⟨S4x4096x1408, .f32⟩
  | .hbm, ⟨5, _⟩ => ⟨S4x4096x1376, .f32⟩
  | .hbm, ⟨6, _⟩ => ⟨S_, .f32⟩
  | .hbm, ⟨7, _⟩ => ⟨S4096x1376, .f32⟩
  | .hbm, ⟨8, _⟩ => ⟨S_, .f32⟩
  | .hbm, ⟨9, _⟩ => ⟨S4096x1376, .f32⟩
  | .hbm, ⟨10, _⟩ => ⟨S4096x1376, .f32⟩
  | .hbm, ⟨11, _⟩ => ⟨S_, .f32⟩
  | .hbm, ⟨12, _⟩ => ⟨S4096x1376, .f32⟩
  | .hbm, ⟨13, _⟩ => ⟨S4096x1376, .f32⟩
  | .hbm, ⟨14, _⟩ => ⟨S4096x1376, .f32⟩
  | .hbm, ⟨15, _⟩ => ⟨S_, .f32⟩
  | .hbm, ⟨16, _⟩ => ⟨S4096x1376, .f32⟩
  | .hbm, ⟨17, _⟩ => ⟨S4096x1376, .f32⟩
  | .hbm, ⟨18, _⟩ => ⟨S4096x1376, .f32⟩
  | .hbm, ⟨19, _⟩ => ⟨S_, .f32⟩
  | .hbm, ⟨20, _⟩ => ⟨S4096x1376, .f32⟩
  | .hbm, ⟨21, _⟩ => ⟨S4096x1376, .f32⟩
  | .hbm, ⟨22, _⟩ => ⟨S4096x1376, .f32⟩
  | .hbm, ⟨23, _⟩ => ⟨S_, .f32⟩
  | .hbm, ⟨24, _⟩ => ⟨S4096x1376, .f32⟩
  | .hbm, ⟨25, _⟩ => ⟨S4096x1376, .f32⟩
  | .hbm, ⟨26, _⟩ => ⟨S_, .f32⟩
  | .hbm, ⟨27, _⟩ => ⟨S4096x1376, .f32⟩
  | .hbm, ⟨28, _⟩ => ⟨S4096x1376, .f32⟩
  | .hbm, ⟨29, _⟩ => ⟨S4096x1376, .f32⟩
  | .hbm, ⟨30, _⟩ => ⟨S_, .f32⟩
  | .hbm, ⟨31, _⟩ => ⟨S4096x1376, .f32⟩
  | .hbm, ⟨32, _⟩ => ⟨S4096x1376, .f32⟩
  | .hbm, ⟨33, _⟩ => ⟨S4096x1376, .f32⟩
  | .hbm, ⟨34, _⟩ => ⟨S_, .f32⟩
  | .hbm, ⟨35, _⟩ => ⟨S4096x1376, .f32⟩
  | .hbm, ⟨36, _⟩ => ⟨S4096x1376, .f32⟩
  | .hbm, ⟨37, _⟩ => ⟨S4096x1376, .f32⟩
  | .hbm, ⟨38, _⟩ => ⟨S_, .f32⟩
  | .hbm, ⟨39, _⟩ => ⟨S4096x1376, .f32⟩
  | .hbm, ⟨40, _⟩ => ⟨S4096x1376, .f32⟩
  | _, _ => ⟨S4x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel24.lean ====
abbrev S4x1408x4096 : Shape := ⟨3, ![4, 1408, 4096]⟩
abbrev S1376x4096 : Shape := ⟨2, ![1376, 4096]⟩
abbrev S4x32x4096 : Shape := ⟨3, ![4, 32, 4096]⟩
abbrev S32x4096 : Shape := ⟨2, ![32, 4096]⟩
abbrev S1x32x4096 : Shape := ⟨3, ![1, 32, 4096]⟩

abbrev nBuf : Space → Nat
  | .hbm => 8
  | .vmem => 16
  | .smem => 0
  | _ => 0

abbrev bufTy : (tb : Table) → Fin (tcTables nBuf tb) → BufTy
  | .hbm, ⟨0, _⟩ => ⟨S4x1408x4096, .bf16⟩
  | .hbm, ⟨1, _⟩ => ⟨S1376x4096, .f32⟩
  | .hbm, ⟨2, _⟩ => ⟨S1376x4096, .f32⟩
  | .hbm, ⟨3, _⟩ => ⟨S1376x4096, .f32⟩
  | .hbm, ⟨4, _⟩ => ⟨S1376x4096, .f32⟩
  | .hbm, ⟨5, _⟩ => ⟨S1376x4096, .f32⟩
  | .hbm, ⟨6, _⟩ => ⟨S1376x4096, .f32⟩
  | .hbm, ⟨7, _⟩ => ⟨S1376x4096, .f32⟩
  | .local _ .vmem, ⟨0, _⟩ => ⟨S4x32x4096, .bf16⟩
  | .local _ .vmem, ⟨1, _⟩ => ⟨S4x32x4096, .bf16⟩
  | .local _ .vmem, ⟨2, _⟩ => ⟨S32x4096, .f32⟩
  | .local _ .vmem, ⟨3, _⟩ => ⟨S32x4096, .f32⟩
  | .local _ .vmem, ⟨4, _⟩ => ⟨S32x4096, .f32⟩
  | .local _ .vmem, ⟨5, _⟩ => ⟨S32x4096, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | _, _ => ⟨S4x1408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x32x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S4x1408x4096 : Shape := ⟨3, ![4, 1408, 4096]⟩
abbrev S1376x4096 : Shape := ⟨2, ![1376, 4096]⟩
abbrev S4x1376x4096 : Shape := ⟨3, ![4, 1376, 4096]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x1408x4096, .bf16⟩
  | .hbm, ⟨1, _⟩ => ⟨S1376x4096, .f32⟩
  | .hbm, ⟨2, _⟩ => ⟨S1376x4096, .f32⟩
  | .hbm, ⟨3, _⟩ => ⟨S1376x4096, .f32⟩
  | .hbm, ⟨4, _⟩ => ⟨S4x1408x4096, .f32⟩
  | .hbm, ⟨5, _⟩ => ⟨S4x1376x4096, .f32⟩
  | .hbm, ⟨6, _⟩ => ⟨S_, .f32⟩
  | .hbm, ⟨7, _⟩ => ⟨S1376x4096, .f32⟩
  | .hbm, ⟨8, _⟩ => ⟨S_, .f32⟩
  | .hbm, ⟨9, _⟩ => ⟨S1376x4096, .f32⟩
  | .hbm, ⟨10, _⟩ => ⟨S1376x4096, .f32⟩
  | .hbm, ⟨11, _⟩ => ⟨S_, .f32⟩
  | .hbm, ⟨12, _⟩ => ⟨S1376x4096, .f32⟩
  | .hbm, ⟨13, _⟩ => ⟨S1376x4096, .f32⟩
  | .hbm, ⟨14, _⟩ => ⟨S1376x4096, .f32⟩
  | .hbm, ⟨15, _⟩ => ⟨S_, .f32⟩
  | .hbm, ⟨16, _⟩ => ⟨S1376x4096, .f32⟩
  | .hbm, ⟨17, _⟩ => ⟨S1376x4096, .f32⟩
  | .hbm, ⟨18, _⟩ => ⟨S1376x4096, .f32⟩
  | .hbm, ⟨19, _⟩ => ⟨S_, .f32⟩
  | .hbm, ⟨20, _⟩ => ⟨S1376x4096, .f32⟩
  | .hbm, ⟨21, _⟩ => ⟨S1376x4096, .f32⟩
  | .hbm, ⟨22, _⟩ => ⟨S1376x4096, .f32⟩
  | .hbm, ⟨23, _⟩ => ⟨S_, .f32⟩
  | .hbm, ⟨24, _⟩ => ⟨S1376x4096, .f32⟩
  | .hbm, ⟨25, _⟩ => ⟨S1376x4096, .f32⟩
  | .hbm, ⟨26, _⟩ => ⟨S_, .f32⟩
  | .hbm, ⟨27, _⟩ => ⟨S1376x4096, .f32⟩
  | .hbm, ⟨28, _⟩ => ⟨S1376x4096, .f32⟩
  | .hbm, ⟨29, _⟩ => ⟨S1376x4096, .f32⟩
  | .hbm, ⟨30, _⟩ => ⟨S_, .f32⟩
  | .hbm, ⟨31, _⟩ => ⟨S1376x4096, .f32⟩
  | .hbm, ⟨32, _⟩ => ⟨S1376x4096, .f32⟩
  | .hbm, ⟨33, _⟩ => ⟨S1376x4096, .f32⟩
  | .hbm, ⟨34, _⟩ => ⟨S_, .f32⟩
  | .hbm, ⟨35, _⟩ => ⟨S1376x4096, .f32⟩
  | .hbm, ⟨36, _⟩ => ⟨S1376x4096, .f32⟩
  | .hbm, ⟨37, _⟩ => ⟨S1376x4096, .f32⟩
  | .hbm, ⟨38, _⟩ => ⟨S_, .f32⟩
  | .hbm, ⟨39, _⟩ => ⟨S1376x4096, .f32⟩
  | .hbm, ⟨40, _⟩ => ⟨S1376x4096, .f32⟩
  | _, _ => ⟨S4x1408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel25.lean ====
abbrev S4x4x768 : Shape := ⟨3, ![4, 4, 768]⟩
abbrev S4x768 : Shape := ⟨2, ![4, 768]⟩
abbrev S1x4x768 : Shape := ⟨3, ![1, 4, 768]⟩

abbrev nBuf : Space → Nat
  | .hbm => 8
  | .vmem => 8
  | .smem => 0
  | _ => 0

abbrev bufTy : (tb : Table) → Fin (tcTables nBuf tb) → BufTy
  | .hbm, ⟨0, _⟩ => ⟨S4x4x768, .bf16⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .hbm, ⟨7, _⟩ => ⟨S4x768, .f32⟩
  | .local _ .vmem, ⟨0, _⟩ => ⟨S4x4x768, .bf16⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | .local _ .vmem, ⟨7, _⟩ => ⟨S4x768, .f32⟩
  | _, _ => ⟨S4x4x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S4x4x768 : Shape := ⟨3, ![4, 4, 768]⟩
abbrev S4x768 : Shape := ⟨2, ![4, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4x768, .bf16⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x4x768, .f32⟩
  | .hbm, ⟨5, _⟩ => ⟨S_, .f32⟩
  | .hbm, ⟨6, _⟩ => ⟨S4x768, .f32⟩
  | .hbm, ⟨7, _⟩ => ⟨S_, .f32⟩
  | .hbm, ⟨8, _⟩ => ⟨S4x768, .f32⟩
  | .hbm, ⟨9, _⟩ => ⟨S4x768, .f32⟩
  | .hbm, ⟨10, _⟩ => ⟨S_, .f32⟩
  | .hbm, ⟨11, _⟩ => ⟨S4x768, .f32⟩
  | .hbm, ⟨12, _⟩ => ⟨S4x768, .f32⟩
  | .hbm, ⟨13, _⟩ => ⟨S4x768, .f32⟩
  | .hbm, ⟨14, _⟩ => ⟨S_, .f32⟩
  | .hbm, ⟨15, _⟩ => ⟨S4x768, .f32⟩
  | .hbm, ⟨16, _⟩ => ⟨S4x768, .f32⟩
  | .hbm, ⟨17, _⟩ => ⟨S4x768, .f32⟩
  | .hbm, ⟨18, _⟩ => ⟨S_, .f32⟩
  | .hbm, ⟨19, _⟩ => ⟨S4x768, .f32⟩
  | .hbm, ⟨20, _⟩ => ⟨S4x768, .f32⟩
  | .hbm, ⟨21, _⟩ => ⟨S4x768, .f32⟩
  | .hbm, ⟨22, _⟩ => ⟨S_, .f32⟩
  | .hbm, ⟨23, _⟩ => ⟨S4x768, .f32⟩
  | .hbm, ⟨24, _⟩ => ⟨S4x768, .f32⟩
  | .hbm, ⟨25, _⟩ => ⟨S_, .f32⟩
  | .hbm, ⟨26, _⟩ => ⟨S4x768, .f32⟩
  | .hbm, ⟨27, _⟩ => ⟨S4x768, .f32⟩
  | .hbm, ⟨28, _⟩ => ⟨S4x768, .f32⟩
  | .hbm, ⟨29, _⟩ => ⟨S_, .f32⟩
  | .hbm, ⟨30, _⟩ => ⟨S4x768, .f32⟩
  | .hbm, ⟨31, _⟩ => ⟨S4x768, .f32⟩
  | .hbm, ⟨32, _⟩ => ⟨S4x768, .f32⟩
  | .hbm, ⟨33, _⟩ => ⟨S_, .f32⟩
  | .hbm, ⟨34, _⟩ => ⟨S4x768, .f32⟩
  | .hbm, ⟨35, _⟩ => ⟨S4x768, .f32⟩
  | .hbm, ⟨36, _⟩ => ⟨S4x768, .f32⟩
  | .hbm, ⟨37, _⟩ => ⟨S_, .f32⟩
  | .hbm, ⟨38, _⟩ => ⟨S4x768, .f32⟩
  | .hbm, ⟨39, _⟩ => ⟨S4x768, .f32⟩
  | _, _ => ⟨S4x4x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S8x72x128 : Shape := ⟨3, ![8, 72, 128]⟩
abbrev S72x128 : Shape := ⟨2, ![72, 128]⟩
abbrev S1x72x128 : Shape := ⟨3, ![1, 72, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S72x128, .f32⟩
  | .hbm, ⟨5, _⟩ => ⟨S72x128, .f32⟩
  | .hbm, ⟨6, _⟩ => ⟨S72x128, .f32⟩
  | .hbm, ⟨7, _⟩ => ⟨S72x128, .f32⟩
  | .local _ .vmem, ⟨0, _⟩ => ⟨S8x72x128, .f32⟩
  | .local _ .vmem, ⟨1, _⟩ => ⟨S72x128, .f32⟩
  | .local _ .vmem, ⟨2, _⟩ => ⟨S72x128, .f32⟩
  | .local _ .vmem, ⟨3, _⟩ => ⟨S72x128, .f32⟩
  | .local _ .vmem, ⟨4, _⟩ => ⟨S72x128, .f32⟩
  | .local _ .vmem, ⟨5, _⟩ => ⟨S72x128, .f32⟩
  | .local _ .vmem, ⟨6, _⟩ => ⟨S72x128, .f32⟩
  | .local _ .vmem, ⟨7, _⟩ => ⟨S72x128, .f32⟩
  | _, _ => ⟨S8x72x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S72x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S8x72x128 : Shape := ⟨3, ![8, 72, 128]⟩
abbrev S72x128 : Shape := ⟨2, ![72, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S_, .f32⟩
  | .hbm, ⟨5, _⟩ => ⟨S72x128, .f32⟩
  | .hbm, ⟨6, _⟩ => ⟨S_, .f32⟩
  | .hbm, ⟨7, _⟩ => ⟨S72x128, .f32⟩
  | .hbm, ⟨8, _⟩ => ⟨S72x128, .f32⟩
  | .hbm, ⟨9, _⟩ => ⟨S_, .f32⟩
  | .hbm, ⟨10, _⟩ => ⟨S72x128, .f32⟩
  | .hbm, ⟨11, _⟩ => ⟨S72x128, .f32⟩
  | .hbm, ⟨12, _⟩ => ⟨S72x128, .f32⟩
  | .hbm, ⟨13, _⟩ => ⟨S_, .f32⟩
  | .hbm, ⟨14, _⟩ => ⟨S72x128, .f32⟩
  | .hbm, ⟨15, _⟩ => ⟨S72x128, .f32⟩
  | .hbm, ⟨16, _⟩ => ⟨S72x128, .f32⟩
  | .hbm, ⟨17, _⟩ => ⟨S_, .f32⟩
  | .hbm, ⟨18, _⟩ => ⟨S72x128, .f32⟩
  | .hbm, ⟨19, _⟩ => ⟨S72x128, .f32⟩
  | .hbm, ⟨20, _⟩ => ⟨S72x128, .f32⟩
  | .hbm, ⟨21, _⟩ => ⟨S_, .f32⟩
  | .hbm, ⟨22, _⟩ => ⟨S72x128, .f32⟩
  | .hbm, ⟨23, _⟩ => ⟨S72x128, .f32⟩
  | .hbm, ⟨24, _⟩ => ⟨S_, .f32⟩
  | .hbm, ⟨25, _⟩ => ⟨S72x128, .f32⟩
  | .hbm, ⟨26, _⟩ => ⟨S72x128, .f32⟩
  | .hbm, ⟨27, _⟩ => ⟨S72x128, .f32⟩
  | .hbm, ⟨28, _⟩ => ⟨S_, .f32⟩
  | .hbm, ⟨29, _⟩ => ⟨S72x128, .f32⟩
  | .hbm, ⟨30, _⟩ => ⟨S72x128, .f32⟩
  | .hbm, ⟨31, _⟩ => ⟨S72x128, .f32⟩
  | .hbm, ⟨32, _⟩ => ⟨S_, .f32⟩
  | .hbm, ⟨33, _⟩ => ⟨S72x128, .f32⟩
  | .hbm, ⟨34, _⟩ => ⟨S72x128, .f32⟩
  | .hbm, ⟨35, _⟩ => ⟨S72x128, .f32⟩
  | .hbm, ⟨36, _⟩ => ⟨S_, .f32⟩
  | .hbm, ⟨37, _⟩ => ⟨S72x128, .f32⟩
  | .hbm, ⟨38, _⟩ => ⟨S72x128, .f32⟩
  | _, _ => ⟨S8x72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference27Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel28.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let arg1 : BitVec 32 := BitVec.ofNat 32 (i 1).val
  let c0_i32_16 : BitVec 32 := 0#32
  let v40 : BitVec 1 := Scalar.cmpi .eq arg1 c0_i32_16
  let v41 : BitVec 1 := Scalar.andi v39 v40
  let v42 : BitVec 32 := Scalar.extui v41
  let c0_i32_17 : BitVec 32 := 0#32
  let v43 : BitVec 1 := Scalar.cmpi .ne v42 c0_i32_17
  v43

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let arg1 : BitVec 32 := BitVec.ofNat 32 (i 1).val
  let c0_i32_16 : BitVec 32 := 0#32
  let v40 : BitVec 1 := Scalar.cmpi .eq arg1 c0_i32_16
  let v41 : BitVec 1 := Scalar.andi v39 v40
  let v_true : BitVec 1 := 1#1
  let v44 : BitVec 1 := Scalar.xori v41 v_true
  let v45 : BitVec 32 := Scalar.extui v44
  let c0_i32_18 : BitVec 32 := 0#32
  let v46 : BitVec 1 := Scalar.cmpi .ne v45 c0_i32_18
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference28Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel29.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S1x4096, .f32⟩
  | .hbm, ⟨6, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S1x4096, .f32⟩
  | .local _ .vmem, ⟨10, _⟩ => ⟨S128x4096, .bf16⟩
  | .local _ .vmem, ⟨11, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let arg1 : BitVec 32 := BitVec.ofNat 32 (i 1).val
  let c0_i32_18 : BitVec 32 := 0#32
  let v42 : BitVec 1 := Scalar.cmpi .eq arg1 c0_i32_18
  let v43 : BitVec 1 := Scalar.andi v41 v42
  let v44 : BitVec 32 := Scalar.extui v43
  let c0_i32_19 : BitVec 32 := 0#32
  let v45 : BitVec 1 := Scalar.cmpi .ne v44 c0_i32_19
  v45

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let arg1 : BitVec 32 := BitVec.ofNat 32 (i 1).val
  let c0_i32_18 : BitVec 32 := 0#32
  let v42 : BitVec 1 := Scalar.cmpi .eq arg1 c0_i32_18
  let v43 : BitVec 1 := Scalar.andi v41 v42
  let v_true : BitVec 1 := 1#1
  let v46 : BitVec 1 := Scalar.xori v43 v_true
  let v47 : BitVec 32 := Scalar.extui v46
  let c0_i32_20 : BitVec 32 := 0#32
  let v48 : BitVec 1 := Scalar.cmpi .ne v47 c0_i32_20
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference29Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel30.lean ====
abbrev S4096x4096 : Shape := ⟨2, ![4096, 4096]⟩
abbrev S1x128 : Shape := ⟨2, ![1, 128]⟩
abbrev S128x4096 : Shape := ⟨2, ![128, 4096]⟩
abbrev S1x128x4096 : Shape := ⟨3, ![1, 128, 4096]⟩
abbrev S1 : Shape := ⟨1, ![1]⟩
abbrev S1x1x1 : Shape := ⟨3, ![1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S1x128, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | .local _ .vmem, ⟨8, _⟩ => ⟨S1x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference30Ideal.lean ====
abbrev S4096x4096 : Shape := ⟨2, ![4096, 4096]⟩
abbrev S_ : Shape := ⟨0, ![]⟩
abbrev S4096 : Shape := ⟨1, ![4096]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_cst_10 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel31.lean ====
abbrev S4096x4096 : Shape := ⟨2, ![4096, 4096]⟩
abbrev S4096x128 : Shape := ⟨2, ![4096, 128]⟩
abbrev S1024x4096 : Shape := ⟨2, ![1024, 4096]⟩
abbrev S1024x128 : Shape := ⟨2, ![1024, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x128, .bf16⟩
  | .hbm, ⟨2, _⟩ => ⟨S4096x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | .local _ .vmem, ⟨5, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S4096x4096 : Shape := ⟨2, ![4096, 4096]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x128, .bf16⟩
  | .hbm, ⟨2, _⟩ => ⟨S4096x4096, .f32⟩
  | .hbm, ⟨3, _⟩ => ⟨S4096x128, .f32⟩
  | .hbm, ⟨4, _⟩ => ⟨S4096x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel32.lean ====
abbrev S4096x4096 : Shape := ⟨2, ![4096, 4096]⟩
abbrev S4096x128 : Shape := ⟨2, ![4096, 128]⟩
abbrev S4096x1024 : Shape := ⟨2, ![4096, 1024]⟩
abbrev S1024x128 : Shape := ⟨2, ![1024, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x128, .f32⟩
  | .hbm, ⟨2, _⟩ => ⟨S4096x128, .bf16⟩
  | .local _ .vmem, ⟨0, _⟩ => ⟨S4096x1024, .bf16⟩
  | .local _ .vmem, ⟨1, _⟩ => ⟨S4096x1024, .bf16⟩
  | .local _ .vmem, ⟨2, _⟩ => ⟨S4096x128, .f32⟩
  | .local _ .vmem, ⟨3, _⟩ => ⟨S1024x128, .bf16⟩
  | .local _ .vmem, ⟨4, _⟩ => ⟨S1024x128, .bf16⟩
  | .local _ .vmem, ⟨5, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S4096x4096 : Shape := ⟨2, ![4096, 4096]⟩
abbrev S4096x128 : Shape := ⟨2, ![4096, 128]⟩
abbrev S_ : Shape := ⟨0, ![]⟩
abbrev S128x4096 : Shape := ⟨2, ![128, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x128, .f32⟩
  | .hbm, ⟨2, _⟩ => ⟨S_, .f32⟩
  | .hbm, ⟨3, _⟩ => ⟨S4096x128, .f32⟩
  | .hbm, ⟨4, _⟩ => ⟨S4096x4096, .f32⟩
  | .hbm, ⟨5, _⟩ => ⟨S4096x128, .f32⟩
  | .hbm, ⟨6, _⟩ => ⟨S128x4096, .f32⟩
  | .hbm, ⟨7, _⟩ => ⟨S4096x128, .f32⟩
  | .hbm, ⟨8, _⟩ => ⟨S4096x128, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel33.lean ====
abbrev S4096x128 : Shape := ⟨2, ![4096, 128]⟩
abbrev S4096x4096 : Shape := ⟨2, ![4096, 4096]⟩
abbrev S1024x128 : Shape := ⟨2, ![1024, 128]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x128, .bf16⟩
  | .hbm, ⟨2, _⟩ => ⟨S4096x4096, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S4096x128 : Shape := ⟨2, ![4096, 128]⟩
abbrev S_ : Shape := ⟨0, ![]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .bf16⟩
  | .hbm, ⟨2, _⟩ => ⟨S_, .f32⟩
  | .hbm, ⟨3, _⟩ => ⟨S4096x4096, .f32⟩
  | .hbm, ⟨4, _⟩ => ⟨S4096x128, .f32⟩
  | .hbm, ⟨5, _⟩ => ⟨S4096x128, .f32⟩
  | .hbm, ⟨6, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel35.lean ====
abbrev S4096x22528 : Shape := ⟨2, ![4096, 22528]⟩
abbrev S4x6144 : Shape := ⟨2, ![4, 6144]⟩
abbrev S4096x6144 : Shape := ⟨2, ![4096, 6144]⟩
abbrev S4096x128 : Shape := ⟨2, ![4096, 128]⟩
abbrev S4x128 : Shape := ⟨2, ![4, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x22528, .bf16⟩
  | .hbm, ⟨1, _⟩ => ⟨S4x6144, .f32⟩
  | .hbm, ⟨2, _⟩ => ⟨S4096x6144, .f32⟩
  | .local _ .vmem, ⟨0, _⟩ => ⟨S4096x128, .bf16⟩
  | .local _ .vmem, ⟨1, _⟩ => ⟨S4096x128, .bf16⟩
  | .local _ .vmem, ⟨2, _⟩ => ⟨S4x128, .f32⟩
  | .local _ .vmem, ⟨3, _⟩ => ⟨S4x128, .f32⟩
  | .local _ .vmem, ⟨4, _⟩ => ⟨S4096x128, .f32⟩
  | .local _ .vmem, ⟨5, _⟩ => ⟨S4096x128, .f32⟩
  | _, _ => ⟨S4096x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference35Ideal.lean ====
abbrev S4096x22528 : Shape := ⟨2, ![4096, 22528]⟩
abbrev S4x6144 : Shape := ⟨2, ![4, 6144]⟩
abbrev S4096x6144 : Shape := ⟨2, ![4096, 6144]⟩
abbrev S_ : Shape := ⟨0, ![]⟩
abbrev S4099x6144 : Shape := ⟨2, ![4099, 6144]⟩
abbrev S1x6144 : Shape := ⟨2, ![1, 6144]⟩
abbrev S6144 : Shape := ⟨1, ![6144]⟩

abbrev nBuf : Space → Nat
  | .hbm => 43
  | .vmem => 0
  | .smem => 0
  | _ => 0

abbrev bufTy : (tb : Table) → Fin (tcTables nBuf tb) → BufTy
  | .hbm, ⟨0, _⟩ => ⟨S4096x22528, .bf16⟩
  | .hbm, ⟨1, _⟩ => ⟨S4x6144, .f32⟩
  | .hbm, ⟨2, _⟩ => ⟨S4096x6144, .bf16⟩
  | .hbm, ⟨3, _⟩ => ⟨S4096x6144, .f32⟩
  | .hbm, ⟨4, _⟩ => ⟨S_, .i32⟩
  | .hbm, ⟨5, _⟩ => ⟨S_, .f32⟩
  | .hbm, ⟨6, _⟩ => ⟨S4099x6144, .f32⟩
  | .hbm, ⟨7, _⟩ => ⟨S4096x6144, .f32⟩
  | .hbm, ⟨8, _⟩ => ⟨S1x6144, .f32⟩
  | .hbm, ⟨9, _⟩ => ⟨S6144, .f32⟩
  | .hbm, ⟨10, _⟩ => ⟨S1x6144, .f32⟩
  | .hbm, ⟨11, _⟩ => ⟨S4096x6144, .f32⟩
  | .hbm, ⟨12, _⟩ => ⟨S4096x6144, .f32⟩
  | .hbm, ⟨13, _⟩ => ⟨S4096x6144, .f32⟩
  | .hbm, ⟨14, _⟩ => ⟨S1x6144, .f32⟩
  | .hbm, ⟨15, _⟩ => ⟨S6144, .f32⟩
  | .hbm, ⟨16, _⟩ => ⟨S1x6144, .f32⟩
  | .hbm, ⟨17, _⟩ => ⟨S4096x6144, .f32⟩
  | .hbm, ⟨18, _⟩ => ⟨S4096x6144, .f32⟩
  | .hbm, ⟨19, _⟩ => ⟨S4096x6144, .f32⟩
  | .hbm, ⟨20, _⟩ => ⟨S4096x6144, .f32⟩
  | .hbm, ⟨21, _⟩ => ⟨S1x6144, .f32⟩
  | .hbm, ⟨22, _⟩ => ⟨S6144, .f32⟩
  | .hbm, ⟨23, _⟩ => ⟨S1x6144, .f32⟩
  | .hbm, ⟨24, _⟩ => ⟨S4096x6144, .f32⟩
  | .hbm, ⟨25, _⟩ => ⟨S4096x6144, .f32⟩
  | .hbm, ⟨26, _⟩ => ⟨S4096x6144, .f32⟩
  | .hbm, ⟨27, _⟩ => ⟨S4096x6144, .f32⟩
  | .hbm, ⟨28, _⟩ => ⟨S1x6144, .f32⟩
  | .hbm, ⟨29, _⟩ => ⟨S6144, .f32⟩
  | .hbm, ⟨30, _⟩ => ⟨S1x6144, .f32⟩
  | .hbm, ⟨31, _⟩ => ⟨S4096x6144, .f32⟩
  | .hbm, ⟨32, _⟩ => ⟨S4096x6144, .f32⟩
  | .hbm, ⟨33, _⟩ => ⟨S4096x6144, .f32⟩
  | .hbm, ⟨34, _⟩ => ⟨S4096x6144, .f32⟩
  | .hbm, ⟨35, _⟩ => ⟨S4096x6144, .f32⟩
  | .hbm, ⟨36, _⟩ => ⟨S_, .f32⟩
  | .hbm, ⟨37, _⟩ => ⟨S4096x6144, .f32⟩
  | .hbm, ⟨38, _⟩ => ⟨S4096x6144, .f32⟩
  | .hbm, ⟨39, _⟩ => ⟨S_, .f32⟩
  | .hbm, ⟨40, _⟩ => ⟨S4096x6144, .f32⟩
  | .hbm, ⟨41, _⟩ => ⟨S4096x6144, .f32⟩
  | .hbm, ⟨42, _⟩ => ⟨S4096x6144, .f32⟩
  | _, _ => ⟨S4096x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel36.lean ====
abbrev S4096x128 : Shape := ⟨2, ![4096, 128]⟩
abbrev S1x128 : Shape := ⟨2, ![1, 128]⟩
abbrev S512x128 : Shape := ⟨2, ![512, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S1x128, .f32⟩
  | .hbm, ⟨3, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference36Ideal.lean ====
abbrev S4096x128 : Shape := ⟨2, ![4096, 128]⟩
abbrev S1x128 : Shape := ⟨2, ![1, 128]⟩
abbrev S4096x16 : Shape := ⟨2, ![4096, 16]⟩
abbrev S1x16 : Shape := ⟨2, ![1, 16]⟩
abbrev S_ : Shape := ⟨0, ![]⟩
abbrev S4096x80 : Shape := ⟨2, ![4096, 80]⟩

abbrev nBuf : Space → Nat
  | .hbm => 58
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S1x128, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S1x16, .f32⟩
  | .hbm, ⟨7, _⟩ => ⟨S1x16, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S4096x16, .f32⟩
  | .hbm, ⟨12, _⟩ => ⟨S4096x16, .f32⟩
  | .hbm, ⟨13, _⟩ => ⟨S_, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .i1⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S_, .f32⟩
  | .hbm, ⟨32, _⟩ => ⟨S4096x16, .f32⟩
  | .hbm, ⟨33, _⟩ => ⟨S4096x16, .f32⟩
  | .hbm, ⟨34, _⟩ => ⟨S_, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S_, .f32⟩
  | .hbm, ⟨41, _⟩ => ⟨S4096x16, .f32⟩
  | .hbm, ⟨42, _⟩ => ⟨S4096x16, .f32⟩
  | .hbm, ⟨43, _⟩ => ⟨S4096x16, .f32⟩
  | .hbm, ⟨44, _⟩ => ⟨S4096x16, .f32⟩
  | .hbm, ⟨45, _⟩ => ⟨S4096x16, .i1⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S_, .f32⟩
  | .hbm, ⟨56, _⟩ => ⟨S4096x80, .f32⟩
  | .hbm, ⟨57, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v21 : Ref sig .tc := ⟨.hbm, 54, rfl⟩
abbrev main_cst_1 : Ref sig .tc := ⟨.hbm, 55, rfl⟩
abbrev main_v22 : Ref sig .tc := ⟨.hbm, 56, rfl⟩
abbrev main_v23 : Ref sig .tc := ⟨.hbm, 57, rfl⟩

abbrev nD : Nat := 1
abbrev τ : Topo := Topo.v7x

variable {F : FTy → Type} [FloatOps F]
-- ==== Kernel37.lean ====
abbrev S4096x22528 : Shape := ⟨2, ![4096, 22528]⟩
abbrev S1x128 : Shape := ⟨2, ![1, 128]⟩
abbrev S4096x2048 : Shape := ⟨2, ![4096, 2048]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x22528, .bf16⟩
  | .hbm, ⟨1, _⟩ => ⟨S1x128, .f32⟩
  | .hbm, ⟨2, _⟩ => ⟨S1x128, .f32⟩
  | .hbm, ⟨3, _⟩ => ⟨S4096x2048, .bf16⟩
  | .hbm, ⟨4, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x128, .f32⟩
  | .local _ .vmem, ⟨5, _⟩ => ⟨S1x128, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S4096x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg1 c5_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference37Ideal.lean ====
abbrev S4096x22528 : Shape := ⟨2, ![4096, 22528]⟩
abbrev S1x128 : Shape := ⟨2, ![1, 128]⟩
abbrev S4096x2048 : Shape := ⟨2, ![4096, 2048]⟩
abbrev S4096x16x128 : Shape := ⟨3, ![4096, 16, 128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩

abbrev nBuf : Space → Nat
  | .hbm => 48
  | .vmem => 0
  | .smem => 0
  | _ => 0

abbrev bufTy : (tb : Table) → Fin (tcTables nBuf tb) → BufTy
  | .hbm, ⟨0, _⟩ => ⟨S4096x22528, .bf16⟩
  | .hbm, ⟨1, _⟩ => ⟨S1x128, .f32⟩
  | .hbm, ⟨2, _⟩ => ⟨S1x128, .f32⟩
  | .hbm, ⟨3, _⟩ => ⟨S4096x2048, .bf16⟩
  | .hbm, ⟨4, _⟩ => ⟨S4096x2048, .f32⟩
  | .hbm, ⟨5, _⟩ => ⟨S4096x16x128, .f32⟩
  | .hbm, ⟨6, _⟩ => ⟨S4096x2048, .bf16⟩
  | .hbm, ⟨7, _⟩ => ⟨S4096x2048, .f32⟩
  | .hbm, ⟨8, _⟩ => ⟨S4096x16x128, .f32⟩
  | .hbm, ⟨9, _⟩ => ⟨S4096x16x128, .f32⟩
  | .hbm, ⟨10, _⟩ => ⟨S_, .f32⟩
  | .hbm, ⟨11, _⟩ => ⟨S4096x16, .f32⟩
  | .hbm, ⟨12, _⟩ => ⟨S4096x16x1, .f32⟩
  | .hbm, ⟨13, _⟩ => ⟨S_, .f32⟩
  | .hbm, ⟨14, _⟩ => ⟨S4096x16x1, .f32⟩
  | .hbm, ⟨15, _⟩ => ⟨S4096x16x1, .f32⟩
  | .hbm, ⟨16, _⟩ => ⟨S_, .f32⟩
  | .hbm, ⟨17, _⟩ => ⟨S4096x16x1, .f32⟩
  | .hbm, ⟨18, _⟩ => ⟨S4096x16x1, .f32⟩
  | .hbm, ⟨19, _⟩ => ⟨S4096x16x1, .f32⟩
  | .hbm, ⟨20, _⟩ => ⟨S4096x16x128, .f32⟩
  | .hbm, ⟨21, _⟩ => ⟨S4096x16x128, .f32⟩
  | .hbm, ⟨22, _⟩ => ⟨S1x1x128, .f32⟩
  | .hbm, ⟨23, _⟩ => ⟨S4096x16x128, .f32⟩
  | .hbm, ⟨24, _⟩ => ⟨S4096x16x128, .f32⟩
  | .hbm, ⟨25, _⟩ => ⟨S_, .f32⟩
  | .hbm, ⟨26, _⟩ => ⟨S4096x16x128, .f32⟩
  | .hbm, ⟨27, _⟩ => ⟨S4096x16x128, .f32⟩
  | .hbm, ⟨28, _⟩ => ⟨S4096x16x128, .f32⟩
  | .hbm, ⟨29, _⟩ => ⟨S_, .f32⟩
  | .hbm, ⟨30, _⟩ => ⟨S4096x16, .f32⟩
  | .hbm, ⟨31, _⟩ => ⟨S4096x16x1, .f32⟩
  | .hbm, ⟨32, _⟩ => ⟨S_, .f32⟩
  | .hbm, ⟨33, _⟩ => ⟨S4096x16x1, .f32⟩
  | .hbm, ⟨34, _⟩ => ⟨S4096x16x1, .f32⟩
  | .hbm, ⟨35, _⟩ => ⟨S_, .f32⟩
  | .hbm, ⟨36, _⟩ => ⟨S4096x16x1, .f32⟩
  | .hbm, ⟨37, _⟩ => ⟨S4096x16x1, .f32⟩
  | .hbm, ⟨38, _⟩ => ⟨S4096x16x1, .f32⟩
  | .hbm, ⟨39, _⟩ => ⟨S4096x16x128, .f32⟩
  | .hbm, ⟨40, _⟩ => ⟨S4096x16x128, .f32⟩
  | .hbm, ⟨41, _⟩ => ⟨S1x1x128, .f32⟩
  | .hbm, ⟨42, _⟩ => ⟨S4096x16x128, .f32⟩
  | .hbm, ⟨43, _⟩ => ⟨S4096x16x128, .f32⟩
  | .hbm, ⟨44, _⟩ => ⟨S4096x2048, .f32⟩
  | .hbm, ⟨45, _⟩ => ⟨S4096x2048, .bf16⟩
  | .hbm, ⟨46, _⟩ => ⟨S4096x2048, .f32⟩
  | .hbm, ⟨47, _⟩ => ⟨S4096x2048, .bf16⟩
  | _, _ => ⟨S4096x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel38.lean ====
abbrev S4096x2048 : Shape := ⟨2, ![4096, 2048]⟩
abbrev S4096x22528 : Shape := ⟨2, ![4096, 22528]⟩
abbrev S1x128 : Shape := ⟨2, ![1, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x22528, .bf16⟩
  | .hbm, ⟨2, _⟩ => ⟨S1x128, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x128, .f32⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference38Ideal.lean ====
abbrev S4096x2048 : Shape := ⟨2, ![4096, 2048]⟩
abbrev S4096x22528 : Shape := ⟨2, ![4096, 22528]⟩
abbrev S1x128 : Shape := ⟨2, ![1, 128]⟩
abbrev S4096x16x128 : Shape := ⟨3, ![4096, 16, 128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x22528, .bf16⟩
  | .hbm, ⟨2, _⟩ => ⟨S1x128, .f32⟩
  | .hbm, ⟨3, _⟩ => ⟨S4096x2048, .bf16⟩
  | .hbm, ⟨4, _⟩ => ⟨S4096x2048, .f32⟩
  | .hbm, ⟨5, _⟩ => ⟨S4096x16x128, .f32⟩
  | .hbm, ⟨6, _⟩ => ⟨S4096x16x128, .f32⟩
  | .hbm, ⟨7, _⟩ => ⟨S4096x16x128, .f32⟩
  | .hbm, ⟨8, _⟩ => ⟨S_, .f32⟩
  | .hbm, ⟨9, _⟩ => ⟨S4096x16, .f32⟩
  | .hbm, ⟨10, _⟩ => ⟨S4096x16x1, .f32⟩
  | .hbm, ⟨11, _⟩ => ⟨S_, .f32⟩
  | .hbm, ⟨12, _⟩ => ⟨S4096x16x1, .f32⟩
  | .hbm, ⟨13, _⟩ => ⟨S4096x16x1, .f32⟩
  | .hbm, ⟨14, _⟩ => ⟨S_, .f32⟩
  | .hbm, ⟨15, _⟩ => ⟨S4096x16x1, .f32⟩
  | .hbm, ⟨16, _⟩ => ⟨S4096x16x1, .f32⟩
  | .hbm, ⟨17, _⟩ => ⟨S4096x16x1, .f32⟩
  | .hbm, ⟨18, _⟩ => ⟨S4096x16x128, .f32⟩
  | .hbm, ⟨19, _⟩ => ⟨S4096x16x128, .f32⟩
  | .hbm, ⟨20, _⟩ => ⟨S1x1x128, .f32⟩
  | .hbm, ⟨21, _⟩ => ⟨S4096x16x128, .f32⟩
  | .hbm, ⟨22, _⟩ => ⟨S4096x16x128, .f32⟩
  | .hbm, ⟨23, _⟩ => ⟨S4096x16x128, .f32⟩
  | .hbm, ⟨24, _⟩ => ⟨S4096x16x128, .f32⟩
  | .hbm, ⟨25, _⟩ => ⟨S_, .f32⟩
  | .hbm, ⟨26, _⟩ => ⟨S4096x16x128, .f32⟩
  | .hbm, ⟨27, _⟩ => ⟨S4096x16x128, .f32⟩
  | .hbm, ⟨28, _⟩ => ⟨S_, .f32⟩
  | .hbm, ⟨29, _⟩ => ⟨S4096x16x128, .f32⟩
  | .hbm, ⟨30, _⟩ => ⟨S4096x16x128, .f32⟩
  | .hbm, ⟨31, _⟩ => ⟨S4096x16x128, .f32⟩
  | .hbm, ⟨32, _⟩ => ⟨S4096x16x128, .f32⟩
  | .hbm, ⟨33, _⟩ => ⟨S4096x2048, .f32⟩
  | .hbm, ⟨34, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Kernel34.lean ====
abbrev S4096x2048 : Shape := ⟨2, ![4096, 2048]⟩
abbrev S4096x22528 : Shape := ⟨2, ![4096, 22528]⟩
abbrev S16x4096 : Shape := ⟨2, ![16, 4096]⟩
abbrev S_ : Shape := ⟨0, ![]⟩
abbrev S16x4x1x1024 : Shape := ⟨4, ![16, 4, 1, 1024]⟩
abbrev S16x4096x1 : Shape := ⟨3, ![16, 4096, 1]⟩
abbrev S1024x128 : Shape := ⟨2, ![1024, 128]⟩
abbrev S4096x128 : Shape := ⟨2, ![4096, 128]⟩
abbrev S1x4x1x1024 : Shape := ⟨4, ![1, 4, 1, 1024]⟩
abbrev S1x1024x1 : Shape := ⟨3, ![1, 1024, 1]⟩
abbrev S1024x1 : Shape := ⟨2, ![1024, 1]⟩
abbrev S1x1x1x1024 : Shape := ⟨4, ![1, 1, 1, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 21
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x22528, .bf16⟩
  | .hbm, ⟨3, _⟩ => ⟨S16x4096, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .bf16⟩
  | .hbm, ⟨12, _⟩ => ⟨S4096x2048, .bf16⟩
  | .hbm, ⟨13, _⟩ => ⟨S_, .f32⟩
  | .hbm, ⟨14, _⟩ => ⟨S_, .f32⟩
  | .hbm, ⟨15, _⟩ => ⟨S16x4096, .f32⟩
  | .hbm, ⟨16, _⟩ => ⟨S16x4096, .f32⟩
  | .hbm, ⟨17, _⟩ => ⟨S16x4x1x1024, .f32⟩
  | .hbm, ⟨18, _⟩ => ⟨S4096x2048, .bf16⟩
  | .hbm, ⟨19, _⟩ => ⟨S4096x2048, .f32⟩
  | .hbm, ⟨20, _⟩ => ⟨S16x4096x1, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x4x1x1024, .f32⟩
  | .local _ .vmem, ⟨7, _⟩ => ⟨S1x4x1x1024, .f32⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1x1024x1, .f32⟩
  | .local _ .vmem, ⟨13, _⟩ => ⟨S1x1024x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  ⟨c0_i32, v9, c1_i32_3⟩
def k0_mult1 (i : grid0.Coords) (k0_t1 : Fin (k0_t1_loop i).trips) : BitVec 32 :=
  let c0_i32 : BitVec 32 := 0#32
  let c1_i32_3 : BitVec 32 := 1#32
  let arg9 : BitVec 32 := Scf.iv c0_i32 c1_i32_3 k0_t1
  let c1024_i32_24 : BitVec 32 := 1024#32
  let v61 : BitVec 32 := Scalar.muli arg9 c1024_i32_24
  v61
def k0_off1 (i : grid0.Coords) (k0_t1 : Fin (k0_t1_loop i).trips) : Fin 2 → Nat :=
  let c0_i32 : BitVec 32 := 0#32
  let c1_i32_3 : BitVec 32 := 1#32
  let arg9 : BitVec 32 := Scf.iv c0_i32 c1_i32_3 k0_t1
  let c1024_i32_24 : BitVec 32 := 1024#32
  let v61 : BitVec 32 := Scalar.muli arg9 c1024_i32_24
  let v62 : BitVec 32 := v61
  let v63 : Index := Scalar.indexCast v62
  let c0_25 : Index := 0#32
  ![v63.toNat, 0]
def k0_off2 (i : grid0.Coords) (k0_t1 : Fin (k0_t1_loop i).trips) : Fin 4 → Nat :=
  let c0_26 : Index := 0#32
  let c0_i32 : BitVec 32 := 0#32
  let c1_i32_3 : BitVec 32 := 1#32
  let arg9 : BitVec 32 := Scf.iv c0_i32 c1_i32_3 k0_t1
  let v66 : Index := Scalar.indexCast arg9
  let c0_27 : Index := 0#32
  let c0_28 : Index := 0#32
  ![0, v66.toNat, 0, 0]
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_4 : BitVec 32 := 1#32
  ⟨v9, v6, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg9 : BitVec 32 := Scf.iv v9 c1_i32_4 k0_t2
  let c1024_i32_24 : BitVec 32 := 1024#32
  let v61 : BitVec 32 := Scalar.muli arg9 c1024_i32_24
  v61
def k0_off3 (i : grid0.Coords) (k0_t2 : Fin (k0_t2_loop i).trips) : Fin 2 → Nat :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg9 : BitVec 32 := Scf.iv v9 c1_i32_4 k0_t2
  let c1024_i32_24 : BitVec 32 := 1024#32
  let v61 : BitVec 32 := Scalar.muli arg9 c1024_i32_24
  let v62 : BitVec 32 := v61
  let v63 : Index := Scalar.indexCast v62
  let c0_25 : Index := 0#32
  ![v63.toNat, 0]
def k0_off4 (i : grid0.Coords) (k0_t2 : Fin (k0_t2_loop i).trips) : Fin 4 → Nat :=
  let c0_26 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg9 : BitVec 32 := Scf.iv v9 c1_i32_4 k0_t2
  let v66 : Index := Scalar.indexCast arg9
  let c0_27 : Index := 0#32
  let c0_28 : Index := 0#32
  ![0, v66.toNat, 0, 0]
def k0_mult3 (i : grid0.Coords) : BitVec 32 :=
  let arg1 : BitVec 32 := BitVec.ofNat 32 (i 1).val
  let c1024_i32 : BitVec 32 := 1024#32
  let v12 : BitVec 32 := Scalar.muli arg1 c1024_i32
  v12
def k0_off5 (i : grid0.Coords) : Fin 2 → Nat :=
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_5 : Index := 0#32
  ![v14.toNat, 0]
def k0_off6 (i : grid0.Coords) : Fin 4 → Nat :=
  let c0_6 : Index := 0#32
  let arg1 : BitVec 32 := BitVec.ofNat 32 (i 1).val
  let v17 : Index := Scalar.indexCast arg1
  let c0_7 : Index := 0#32
  let c0_8 : Index := 0#32
  ![0, v17.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel34Ideal.lean ====
variable {F : FTy → Type} [FloatOps F] [Named F]
def κ : String → Option EReal := fun
  | "log2e" => some (((Real.log 2)⁻¹ : ℝ) : EReal)
  | "mask" => some ⊥
  | _ => none
-- ==== Reference34Ideal.lean ====
abbrev S4096x2048 : Shape := ⟨2, ![4096, 2048]⟩
abbrev S4096x22528 : Shape := ⟨2, ![4096, 22528]⟩
abbrev S16x4096 : Shape := ⟨2, ![16, 4096]⟩
abbrev S4096x16x128 : Shape := ⟨3, ![4096, 16, 128]⟩
abbrev S16x4096x4096 : Shape := ⟨3, ![16, 4096, 4096]⟩
abbrev S_ : Shape := ⟨0, ![]⟩
abbrev S16x1x4096 : Shape := ⟨3, ![16, 1, 4096]⟩
abbrev S4096x4096 : Shape := ⟨2, ![4096, 4096]⟩
abbrev S16x4096x1 : Shape := ⟨3, ![16, 4096, 1]⟩
abbrev S16x128x4096 : Shape := ⟨3, ![16, 128, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x22528, .bf16⟩
  | .hbm, ⟨3, _⟩ => ⟨S16x4096, .f32⟩
  | .hbm, ⟨4, _⟩ => ⟨S4096x2048, .bf16⟩
  | .hbm, ⟨5, _⟩ => ⟨S4096x2048, .f32⟩
  | .hbm, ⟨6, _⟩ => ⟨S4096x16x128, .f32⟩
  | .hbm, ⟨7, _⟩ => ⟨S4096x16x128, .f32⟩
  | .hbm, ⟨8, _⟩ => ⟨S4096x16x128, .f32⟩
  | .hbm, ⟨9, _⟩ => ⟨S16x4096x4096, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S16x1x4096, .f32⟩
  | .hbm, ⟨14, _⟩ => ⟨S16x4096x4096, .f32⟩
  | .hbm, ⟨15, _⟩ => ⟨S16x4096x4096, .f32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S16x4096x4096, .i1⟩
  | .hbm, ⟨22, _⟩ => ⟨S16x4096x4096, .f32⟩
  | .hbm, ⟨23, _⟩ => ⟨S16x4096x4096, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S_, .f32⟩
  | .hbm, ⟨31, _⟩ => ⟨S16x4096, .f32⟩
  | .hbm, ⟨32, _⟩ => ⟨S16x4096x1, .f32⟩
  | .hbm, ⟨33, _⟩ => ⟨S16x4096x4096, .f32⟩
  | .hbm, ⟨34, _⟩ => ⟨S16x4096x4096, .f32⟩
  | .hbm, ⟨35, _⟩ => ⟨S16x128x4096, .f32⟩
  | .hbm, ⟨36, _⟩ => ⟨S4096x16x128, .f32⟩
  | .hbm, ⟨37, _⟩ => ⟨S4096x2048, .f32⟩
  | .hbm, ⟨38, _⟩ => ⟨S4096x2048, .bf16⟩
  | .hbm, ⟨39, _⟩ => ⟨S16x4096x1, .f32⟩
  | .hbm, ⟨40, _⟩ => ⟨S16x4096x1, .f32⟩
  | .hbm, ⟨41, _⟩ => ⟨S_, .f32⟩
  | .hbm, ⟨42, _⟩ => ⟨S_, .f32⟩
  | .hbm, ⟨43, _⟩ => ⟨S16x4096x1, .f32⟩
  | .hbm, ⟨44, _⟩ => ⟨S16x4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.Step.lean ====
module

public import proofs.«01_k».proof.Proof.Gen.KernelIdeal.Skeleton
public import Idealize.ShloMosaic.Lib.WritesUnit
public import Idealize.ShloMosaic.Lib.WholeRead

@[expose] public section

set_option maxRecDepth 16384

noncomputable section

namespace Cert.Att

open Idealize.ShloMosaic Idealize.ShloMosaic.TcCoe Idealize.SL.Sem
open Cert.KernelIdeal Cert.KernelIdeal.Gen

variable {F : FTy → Type} [FloatOps F] [Named F]

/-- The entries of `X` in the unit-stride block at `off`: what a load of that block reads. -/
def cut {s : Shape} {α : Type} (X : s.Idx → α) (off size : Fin s.rank → ℕ) (inb : ∀ a, off a + size a ≤ s.size a) :
    (⟨s.rank, size⟩ : Shape).Idx → α :=
  fun x => X ((Rect.unit (s := s) off size inb).toLoadRect.idx x)

/-- `X` with the unit-stride block at `off` replaced by `w`: what a store of that block leaves. -/
def upd {s : Shape} {α : Type} (X : s.Idx → α) (off size : Fin s.rank → ℕ) (w : (⟨s.rank, size⟩ : Shape).Idx → α) : s.Idx → α :=
  fun y => if h : ∀ a, off a ≤ (y a).val ∧ (y a).val < off a + size a
    then w (Rect.unitLocal (s := s) (off := off) (size := size) y h) else X y

/-- What one pass over the tiles of queries carries: the gradient of the keys, of the values, of the decay (by key),
and the two blocks that are added into, the gradient of the queries and of the decay (by query). -/
abbrev Carry (F : FTy → Type) := FVec F S1024x128 .f32 × FVec F S1024x128 .f32 × FVec F S1x1024 .f32
abbrev State (F : FTy → Type) := Carry F × Vec F S4096x128 .f32 × Vec F S1x4096x1 .f32

/-- The rows of a block of the tile that the loop's trip `k` takes. -/
abbrev rows (i : grid0.Coords) (k : Fin (k0_t1_loop i).trips) {φ : EltTy} (X : Vec F S4096x128 φ) : Vec F S1024x128 φ :=
  cut X (k0_off3 i k) S1024x128.size (k0_off3_inb i k)
abbrev col (i : grid0.Coords) (k : Fin (k0_t1_loop i).trips) {φ : EltTy} (X : Vec F S1x4096x1 φ) : Vec F S1x1024x1 φ :=
  cut X (k0_off4 i k) S1x1024x1.size (k0_off4_inb i k)
/-- The rows of the tile on the diagonal. -/
abbrev rows0 (i : grid0.Coords) {φ : EltTy} (X : Vec F S4096x128 φ) : Vec F S1024x128 φ :=
  cut X (k0_off1 i) S1024x128.size (k0_off1_inb i)
abbrev col0 (i : grid0.Coords) {φ : EltTy} (X : Vec F S1x4096x1 φ) : Vec F S1x1024x1 φ :=
  cut X (k0_off2 i) S1x1024x1.size (k0_off2_inb i)

/-- One tile below the diagonal, trip `k` of the loop: `v4` the keys, `v5` the values, `v7` the decay; `x0` the queries,
`x4` the forward result, `x5` its gradient, `x6` the row normaliser. -/
def stepK (i : grid0.Coords) (v4 : FVec F S1024x128 .bf16) (v5 : Vec F S1024x128 .bf16) (v7 : FVec F S1x1024 .f32)
    (x0 : Vec F S4096x128 .bf16) (x4 : Vec F S4096x128 .f32) (x5 : Vec F S4096x128 .bf16) (x6 : Vec F S1x4096x1 .f32)
    (k : Fin (k0_t1_loop i).trips) (s : State F) : State F :=
  ((k0_pay3 s.1.1 (k0_pay10 (rows i k x0)) (k0_pay15 v4 v5 v7 (rows i k x0) (rows i k x5) (col i k x6) (rows i k x4)),
    k0_pay12 v4 v7 s.1.2.1 (rows i k x0) (rows i k x5) (col i k x6),
    k0_pay4 s.1.2.2 (k0_pay13 v4 v5 v7 (rows i k x0) (rows i k x5) (col i k x6) (rows i k x4))),
   upd s.2.1 (k0_off3 i k) S1024x128.size
     (k0_pay2 v4 (k0_pay15 v4 v5 v7 (rows i k x0) (rows i k x5) (col i k x6) (rows i k x4)) (rows i k s.2.1)),
   upd s.2.2 (k0_off4 i k) S1x1024x1.size
     (k0_pay14 v4 v5 v7 (rows i k x0) (rows i k x5) (col i k x6) (rows i k x4) (col i k s.2.2)))

/-- The state before trip `k`. -/
def stAt (i : grid0.Coords) (v4 : FVec F S1024x128 .bf16) (v5 : Vec F S1024x128 .bf16) (v7 : FVec F S1x1024 .f32)
    (x0 : Vec F S4096x128 .bf16) (x4 : Vec F S4096x128 .f32) (x5 : Vec F S4096x128 .bf16) (x6 : Vec F S1x4096x1 .f32)
    (s : State F) : ℕ → State F
  | 0 => s
  | k + 1 => if h : k < (k0_t1_loop i).trips then stepK i v4 v5 v7 x0 x4 x5 x6 ⟨k, h⟩ (stAt i v4 v5 v7 x0 x4 x5 x6 s k)
      else stAt i v4 v5 v7 x0 x4 x5 x6 s k

theorem stAt_succ (i : grid0.Coords) (v4 : FVec F S1024x128 .bf16) (v5 : Vec F S1024x128 .bf16) (v7 : FVec F S1x1024 .f32)
    (x0 : Vec F S4096x128 .bf16) (x4 : Vec F S4096x128 .f32) (x5 : Vec F S4096x128 .bf16) (x6 : Vec F S1x4096x1 .f32)
    (s : State F) (k : Fin (k0_t1_loop i).trips) :
    stAt i v4 v5 v7 x0 x4 x5 x6 s (k.val + 1) = stepK i v4 v5 v7 x0 x4 x5 x6 k (stAt i v4 v5 v7 x0 x4 x5 x6 s k.val) := by
  rw [stAt, dif_pos k.isLt]

/-- The tile on the diagonal: the first that a point takes; `d9`, `d13` the blocks added into, as found. -/
def diag (i : grid0.Coords) (x0 : Vec F S4096x128 .bf16) (x1 x2 : Vec F S1024x128 .bf16) (x3 : Vec F S1x1x1x1024 .f32)
    (x4 : Vec F S4096x128 .f32) (x5 : Vec F S4096x128 .bf16) (x6 : Vec F S1x4096x1 .f32)
    (d9 : Vec F S4096x128 .f32) (d13 : Vec F S1x4096x1 .f32) : State F :=
  ((k0_pay38 x2 (k0_pay26 (F := F)) (k0_pay29 (rows0 i x0)) (rows0 i x5) (k0_pay30 x1 x3 (rows0 i x0)) (k0_pay31 (col0 i x6)) (rows0 i x4),
    k0_pay33 (k0_pay27 (F := F)) (rows0 i x5) (k0_pay30 x1 x3 (rows0 i x0)) (k0_pay31 (col0 i x6)),
    k0_pay1 (k0_pay28 (F := F)) (k0_pay39 x2 (rows0 i x5) (k0_pay30 x1 x3 (rows0 i x0)) (k0_pay31 (col0 i x6)) (rows0 i x4))),
   upd d9 (k0_off1 i) S1024x128.size
     (k0_pay37 (k0_pay24 x1) x2 (rows0 i x5) (k0_pay30 x1 x3 (rows0 i x0)) (k0_pay31 (col0 i x6)) (rows0 i x4) (rows0 i d9)),
   upd d13 (k0_off2 i) S1x1024x1.size
     (k0_pay35 x2 (rows0 i x5) (k0_pay30 x1 x3 (rows0 i x0)) (k0_pay31 (col0 i x6)) (rows0 i x4) (col0 i d13)))

/-- What a grid point leaves: the state after the diagonal tile and every tile below it. -/
def point (i : grid0.Coords) (x0 : Vec F S4096x128 .bf16) (x1 x2 : Vec F S1024x128 .bf16) (x3 : Vec F S1x1x1x1024 .f32)
    (x4 : Vec F S4096x128 .f32) (x5 : Vec F S4096x128 .bf16) (x6 : Vec F S1x4096x1 .f32)
    (d9 : Vec F S4096x128 .f32) (d13 : Vec F S1x4096x1 .f32) : State F :=
  stAt i (k0_pay24 x1) x2 (k0_pay25 x3) x0 x4 x5 x6 (diag i x0 x1 x2 x3 x4 x5 x6 d9 d13) (k0_t1_loop i).trips

/-! ### The same through a memref's view -/

section View
variable {κ : Kind} {sp : Space} {s : Shape} {e : EltTy}

theorem readAt_cut {m : Memref sig κ sp s e} (h : m.IsWhole) (X : s.Idx → Elt F e) (off size : Fin s.rank → ℕ)
    (inb : ∀ a, off a + size a ≤ s.size a) :
    View.readAt (Elt F) m.view (Rect.unit (s := s) off size inb).toLoadRect (h.unread X) = cut X off size inb :=
  funext fun x => h.readAt_unread X _ x

theorem writes_upd {m : Memref sig κ sp s e} (h : m.IsWhole) (X : s.Idx → Elt F e) (off size : Fin s.rank → ℕ)
    (inb : ∀ a, off a + size a ≤ s.size a) (w : (⟨s.rank, size⟩ : Shape).Idx → Elt F e) :
    m.view.writes (Elt F) (h.unread X) [⟨Rect.unit (s := s) off size inb, w⟩] = h.unread (upd X off size w) := by
  refine h.eq_unread (funext fun y => ?_)
  rw [View.read_writes_cons_unit _ _ inb w [] y rfl]
  unfold upd
  split
  · rfl
  · exact congrFun (h.read_unread X) y

/-- A store of the whole block leaves what it stored, whatever was there. -/
theorem writes_whole {m : Memref sig κ sp s e} (h : m.IsWhole) (f : m.view.ty.Contents (Elt F)) (off : Fin s.rank → ℕ)
    (h0 : ∀ a, off a = 0) (inb : ∀ a, off a + s.size a ≤ s.size a) (w : s.Idx → Elt F e) (L : List (View.Piece (Elt F) s e)) :
    m.view.writes (Elt F) f (⟨Rect.unit (s := s) off s.size inb, w⟩ :: L) = h.unread w := by
  refine h.eq_unread (funext fun y => ?_)
  refine View.read_writes_cons_unit_of_mem _ _ inb w L y y rfl fun a => ?_
  rw [h0 a, Nat.zero_add]

theorem cut_whole (X : s.Idx → Elt F e) (off : Fin s.rank → ℕ) (h0 : ∀ a, off a = 0)
    (inb : ∀ a, off a + s.size a ≤ s.size a) : cut X off s.size inb = X := by
  funext x
  unfold cut
  congr 1
  funext a
  apply Fin.ext
  show off a + 1 * (x a).val = (x a).val
  rw [h0 a]; omega

/-- A store of one block over a store of the whole. -/
theorem writes_two {m : Memref sig κ sp s e} (h : m.IsWhole) (f : m.view.ty.Contents (Elt F)) (off off0 size : Fin s.rank → ℕ)
    (h0 : ∀ a, off0 a = 0) (inb0 : ∀ a, off0 a + s.size a ≤ s.size a) (z : s.Idx → Elt F e)
    (inb : ∀ a, off a + size a ≤ s.size a) (w : (⟨s.rank, size⟩ : Shape).Idx → Elt F e) :
    m.view.writes (Elt F) f [⟨Rect.unit (s := s) off size inb, w⟩, ⟨Rect.unit (s := s) off0 s.size inb0, z⟩]
      = h.unread (upd z off size w) := by
  refine h.eq_unread (funext fun y => ?_)
  rw [View.read_writes_cons_unit _ _ inb w _ y rfl, writes_whole h f off0 h0 inb0 z []]
  unfold upd
  split
  · rfl
  · exact congrFun (h.read_unread z) y

end View

/-! The same lemmas at the shapes of the body, the sizes written out. -/

section Shapes

theorem zero2 : ∀ a : Fin 2, (![0, 0] : Fin 2 → ℕ) a = 0 := by decide
theorem zero3 : ∀ a : Fin 3, (![0, 0, 0] : Fin 3 → ℕ) a = 0 := by decide
theorem zero4 : ∀ a : Fin 4, (![0, 0, 0, 0] : Fin 4 → ℕ) a = 0 := by decide

theorem cut_tile {e : EltTy} (X : Vec F S1024x128 e) (inb : ∀ a, (![0, 0] : Fin 2 → ℕ) a + (![1024, 128] : Fin 2 → ℕ) a ≤ S1024x128.size a) :
    cut X ![0, 0] ![1024, 128] inb = X := cut_whole X ![0, 0] zero2 inb

theorem cut_line (X : Vec F S1x1x1x1024 .f32) (inb : ∀ a, (![0, 0, 0, 0] : Fin 4 → ℕ) a + (![1, 1, 1, 1024] : Fin 4 → ℕ) a ≤ S1x1x1x1024.size a) :
    cut X ![0, 0, 0, 0] ![1, 1, 1, 1024] inb = X := cut_whole X ![0, 0, 0, 0] zero4 inb

variable {κ : Kind} {sp : Space}

theorem writes_tile {e : EltTy} {m : Memref sig κ sp S1024x128 e} (h : m.IsWhole) (f : m.view.ty.Contents (Elt F))
    (inb : ∀ a, (![0, 0] : Fin 2 → ℕ) a + (![1024, 128] : Fin 2 → ℕ) a ≤ S1024x128.size a) (w : Vec F S1024x128 e) :
    m.view.writes (Elt F) f [⟨Rect.unit (s := S1024x128) ![0, 0] ![1024, 128] inb, w⟩] = h.unread w := writes_whole h f _ zero2 inb w []

theorem writes_line {m : Memref sig κ sp S1x1x1x1024 .f32} (h : m.IsWhole) (f : m.view.ty.Contents (Elt F))
    (inb : ∀ a, (![0, 0, 0, 0] : Fin 4 → ℕ) a + (![1, 1, 1, 1024] : Fin 4 → ℕ) a ≤ S1x1x1x1024.size a) (w : Vec F S1x1x1x1024 .f32) :
    m.view.writes (Elt F) f [⟨Rect.unit (s := S1x1x1x1024) ![0, 0, 0, 0] ![1, 1, 1, 1024] inb, w⟩] = h.unread w := writes_whole h f _ zero4 inb w []

theorem writes_dq {m : Memref sig κ sp S4096x128 .f32} (h : m.IsWhole) (f : m.view.ty.Contents (Elt F))
    (inb : ∀ a, (![0, 0] : Fin 2 → ℕ) a + (![4096, 128] : Fin 2 → ℕ) a ≤ S4096x128.size a) (w : Vec F S4096x128 .f32) :
    m.view.writes (Elt F) f [⟨Rect.unit (s := S4096x128) ![0, 0] ![4096, 128] inb, w⟩] = h.unread w := writes_whole h f _ zero2 inb w []

theorem writes_dcq {m : Memref sig κ sp S1x4096x1 .f32} (h : m.IsWhole) (f : m.view.ty.Contents (Elt F))
    (inb : ∀ a, (![0, 0, 0] : Fin 3 → ℕ) a + (![1, 4096, 1] : Fin 3 → ℕ) a ≤ S1x4096x1.size a) (w : Vec F S1x4096x1 .f32) :
    m.view.writes (Elt F) f [⟨Rect.unit (s := S1x4096x1) ![0, 0, 0] ![1, 4096, 1] inb, w⟩] = h.unread w := writes_whole h f _ zero3 inb w []

theorem writes_dq2 {m : Memref sig κ sp S4096x128 .f32} (h : m.IsWhole) (f : m.view.ty.Contents (Elt F)) (off : Fin 2 → ℕ)
    (inb0 : ∀ a, (![0, 0] : Fin 2 → ℕ) a + (![4096, 128] : Fin 2 → ℕ) a ≤ S4096x128.size a) (z : Vec F S4096x128 .f32)
    (inb : ∀ a, off a + (![1024, 128] : Fin 2 → ℕ) a ≤ S4096x128.size a) (w : Vec F S1024x128 .f32) :
    m.view.writes (Elt F) f [⟨Rect.unit (s := S4096x128) off ![1024, 128] inb, w⟩, ⟨Rect.unit (s := S4096x128) ![0, 0] ![4096, 128] inb0, z⟩]
      = h.unread (upd z off ![1024, 128] w) := writes_two h f off _ _ zero2 inb0 z inb w

theorem writes_dcq2 {m : Memref sig κ sp S1x4096x1 .f32} (h : m.IsWhole) (f : m.view.ty.Contents (Elt F)) (off : Fin 3 → ℕ)
    (inb0 : ∀ a, (![0, 0, 0] : Fin 3 → ℕ) a + (![1, 4096, 1] : Fin 3 → ℕ) a ≤ S1x4096x1.size a) (z : Vec F S1x4096x1 .f32)
    (inb : ∀ a, off a + (![1, 1024, 1] : Fin 3 → ℕ) a ≤ S1x4096x1.size a) (w : Vec F S1x1024x1 .f32) :
    m.view.writes (Elt F) f [⟨Rect.unit (s := S1x4096x1) off ![1, 1024, 1] inb, w⟩, ⟨Rect.unit (s := S1x4096x1) ![0, 0, 0] ![1, 4096, 1] inb0, z⟩]
      = h.unread (upd z off ![1, 1024, 1] w) := writes_two h f off _ _ zero3 inb0 z inb w

end Shapes

end Cert.Att

end
-- ==== Proof.Loop.lean ====
module

public import proofs.«01_k».proof.Proof.Step
public import proofs.«01_k».proof.Proof.Gen.KernelIdeal.Frame
public import Idealize.ShloMosaic.Lib.LoopRemainder
public import Idealize.ShloMosaic.Lib.Exec
public import Idealize.ShloMosaic.Lib.WritesUnit
public import Idealize.ShloMosaic.Lib.WholeRead

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- Before trip `k` of the loop over the tiles below the diagonal: what it reads as it was, what it adds into and what it
carries at the state of the trips before. -/
def inv (c : Dev nD) (i : grid0.Coords) (arg2 : Memref sig .tc .vmem S4096x128 .bf16) (harg2 : arg2.IsWhole) (arg6 : Memref sig .tc .vmem S4096x128 .f32) (harg6 : arg6.IsWhole) (arg7 : Memref sig .tc .vmem S4096x128 .bf16) (harg7 : arg7.IsWhole) (arg8 : Memref sig .tc .vmem S1x4096x1 .f32) (harg8 : arg8.IsWhole) (arg9 : Memref sig .tc .vmem S4096x128 .f32) (harg9 : arg9.IsWhole) (arg13 : Memref sig .tc .vmem S1x4096x1 .f32) (harg13 : arg13.IsWhole)
    (v4 : FVec F S1024x128 .bf16) (v5 : Vec F S1024x128 .bf16) (v7 : FVec F S1x1024 .f32) (v11 : BitVec 32) (x0 : Vec F S4096x128 .bf16) (x4 : Vec F S4096x128 .f32) (x5 : Vec F S4096x128 .bf16) (x6 : Vec F S1x4096x1 .f32) (s : State F) (k : ℕ) (acc : Carry F) : sProp 𝕄 :=
  iprop((arg2.view.loc (c : Thread nD τ) ↦[arg2.view.set]{fullShare} (harg2.unread x0)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} (harg8.unread x6))
    ∗ (arg9.view.loc (c : Thread nD τ) ↦[arg9.view.set]{fullShare} (harg9.unread (stAt i v4 v5 v7 x0 x4 x5 x6 s k).2.1))
    ∗ (arg13.view.loc (c : Thread nD τ) ↦[arg13.view.set]{fullShare} (harg13.unread (stAt i v4 v5 v7 x0 x4 x5 x6 s k).2.2)) ∗ ⌜acc = (stAt i v4 v5 v7 x0 x4 x5 x6 s k).1⌝)

set_option maxHeartbeats 1000000 in
/-- One trip. -/
theorem inv_step (c : Dev nD) (E : Set ℕ) (i : grid0.Coords)
    (arg2 : Memref sig .tc .vmem S4096x128 .bf16) (harg2 : arg2.IsWhole)
    (arg3 : Memref sig .tc .vmem S1024x128 .bf16) (harg3 : arg3.IsWhole)
    (arg4 : Memref sig .tc .vmem S1024x128 .bf16) (harg4 : arg4.IsWhole)
    (arg5 : Memref sig .tc .vmem S1x1x1x1024 .f32) (harg5 : arg5.IsWhole)
    (arg6 : Memref sig .tc .vmem S4096x128 .f32) (harg6 : arg6.IsWhole)
    (arg7 : Memref sig .tc .vmem S4096x128 .bf16) (harg7 : arg7.IsWhole)
    (arg8 : Memref sig .tc .vmem S1x4096x1 .f32) (harg8 : arg8.IsWhole)
    (arg9 : Memref sig .tc .vmem S4096x128 .f32) (harg9 : arg9.IsWhole)
    (arg10 : Memref sig .tc .vmem S1024x128 .f32) (harg10 : arg10.IsWhole)
    (arg11 : Memref sig .tc .vmem S1024x128 .bf16) (harg11 : arg11.IsWhole)
    (arg12 : Memref sig .tc .vmem S1x1x1x1024 .f32) (harg12 : arg12.IsWhole)
    (arg13 : Memref sig .tc .vmem S1x4096x1 .f32) (harg13 : arg13.IsWhole)
    (v4 : FVec F S1024x128 .bf16) (v5 : Vec F S1024x128 .bf16) (v7 : FVec F S1x1024 .f32) (v11 : BitVec 32) (x0 : Vec F S4096x128 .bf16) (x4 : Vec F S4096x128 .f32) (x5 : Vec F S4096x128 .bf16) (x6 : Vec F S1x4096x1 .f32) (s : State F)
    (k : Fin (k0_t1_loop i).trips) (acc : Carry F) :
    inv c i arg2 harg2 arg6 harg6 arg7 harg7 arg8 harg8 arg9 harg9 arg13 harg13 v4 v5 v7 v11 x0 x4 x5 x6 s k.val acc
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 v4 v5 v7 v11 k acc)
          (inv c i arg2 harg2 arg6 harg6 arg7 harg7 arg8 harg8 arg9 harg9 arg13 harg13 v4 v5 v7 v11 x0 x4 x5 x6 s (k.val + 1)) := by
  unfold inv k0_t1_body
  simp only [k0_part1_eq_skeleton]
  iintro ⟨H2, H6, H7, H8, H9, H13, %hacc⟩
  subst hacc
  sl_exec
  sl_step

  delta inv_step.sl.r inv_step.sl.r_1 inv_step.sl.r_2 inv_step.sl.r_3
  simp only [readAt_cut, writes_upd, stAt_succ, stepK]
  isplitl [H2]; · iexact H2
  isplitl [H6]; · iexact H6
  isplitl [H7]; · iexact H7
  isplitl [H8]; · iexact H8
  isplitl [H9]; · iexact H9
  isplitl [H13]; · iexact H13
  ipureintro; trivial

set_option warn.classDefReducibility false in
/-- The loop by its invariant. -/
def loopInv (c : Dev nD) (E : Set ℕ) (i : grid0.Coords)
    (arg2 : Memref sig .tc .vmem S4096x128 .bf16) (harg2 : arg2.IsWhole)
    (arg3 : Memref sig .tc .vmem S1024x128 .bf16) (harg3 : arg3.IsWhole)
    (arg4 : Memref sig .tc .vmem S1024x128 .bf16) (harg4 : arg4.IsWhole)
    (arg5 : Memref sig .tc .vmem S1x1x1x1024 .f32) (harg5 : arg5.IsWhole)
    (arg6 : Memref sig .tc .vmem S4096x128 .f32) (harg6 : arg6.IsWhole)
    (arg7 : Memref sig .tc .vmem S4096x128 .bf16) (harg7 : arg7.IsWhole)
    (arg8 : Memref sig .tc .vmem S1x4096x1 .f32) (harg8 : arg8.IsWhole)
    (arg9 : Memref sig .tc .vmem S4096x128 .f32) (harg9 : arg9.IsWhole)
    (arg10 : Memref sig .tc .vmem S1024x128 .f32) (harg10 : arg10.IsWhole)
    (arg11 : Memref sig .tc .vmem S1024x128 .bf16) (harg11 : arg11.IsWhole)
    (arg12 : Memref sig .tc .vmem S1x1x1x1024 .f32) (harg12 : arg12.IsWhole)
    (arg13 : Memref sig .tc .vmem S1x4096x1 .f32) (harg13 : arg13.IsWhole)
    (v4 : FVec F S1024x128 .bf16) (v5 : Vec F S1024x128 .bf16) (v7 : FVec F S1x1024 .f32) (v11 : BitVec 32) (x0 : Vec F S4096x128 .bf16) (x4 : Vec F S4096x128 .f32) (x5 : Vec F S4096x128 .bf16) (x6 : Vec F S1x4096x1 .f32) (s : State F) :
    LoopInv (M := 𝕄) frame (wpE (defs₀ (F := F)) Variants.none (c : Thread nD τ) none) E
      (k0_t1_loop i).lb (k0_t1_loop i).ub (k0_t1_loop i).st (k0_t1_ok i) s.1
      (k0_t1_body (F := F) i arg2 harg2 arg3 harg3 arg4 harg4 arg5 harg5 arg6 harg6 arg7 harg7 arg8 harg8 arg9 harg9 arg10 harg10 arg11 harg11 arg12 harg12 arg13 harg13 v4 v5 v7 v11) where
  inv := inv c i arg2 harg2 arg6 harg6 arg7 harg7 arg8 harg8 arg9 harg9 arg13 harg13 v4 v5 v7 v11 x0 x4 x5 x6 s
  step := inv_step c E i arg2 harg2 arg3 harg3 arg4 harg4 arg5 harg5 arg6 harg6 arg7 harg7 arg8 harg8 arg9 harg9 arg10 harg10 arg11 harg11 arg12 harg12 arg13 harg13 v4 v5 v7 v11 x0 x4 x5 x6 s

end Cert.Att

end
-- ==== Proof.RunA.lean ====
module

public import proofs.«01_k».proof.Proof.Loop

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 1000000 in
/-- The body at a point that begins a run of four: the two blocks added into are cleared first. -/
theorem runA (c : Dev nD) (i : grid0.Coords)
    (arg2 : Memref sig .tc .vmem S4096x128 .bf16) (harg2 : arg2.IsWhole)
    (arg3 : Memref sig .tc .vmem S1024x128 .bf16) (harg3 : arg3.IsWhole)
    (arg4 : Memref sig .tc .vmem S1024x128 .bf16) (harg4 : arg4.IsWhole)
    (arg5 : Memref sig .tc .vmem S1x1x1x1024 .f32) (harg5 : arg5.IsWhole)
    (arg6 : Memref sig .tc .vmem S4096x128 .f32) (harg6 : arg6.IsWhole)
    (arg7 : Memref sig .tc .vmem S4096x128 .bf16) (harg7 : arg7.IsWhole)
    (arg8 : Memref sig .tc .vmem S1x4096x1 .f32) (harg8 : arg8.IsWhole)
    (arg9 : Memref sig .tc .vmem S4096x128 .f32) (harg9 : arg9.IsWhole)
    (arg10 : Memref sig .tc .vmem S1024x128 .f32) (harg10 : arg10.IsWhole)
    (arg11 : Memref sig .tc .vmem S1024x128 .bf16) (harg11 : arg11.IsWhole)
    (arg12 : Memref sig .tc .vmem S1x1x1x1024 .f32) (harg12 : arg12.IsWhole)
    (arg13 : Memref sig .tc .vmem S1x4096x1 .f32) (harg13 : arg13.IsWhole)
    (hc0 : (Scalar.cmpi .ne (Scalar.extui (Scalar.cmpi .eq (BitVec.ofNat 32 (i 1).val) 0#32)) 0#32) = 1#1)
    (x0 : Vec F S4096x128 .bf16) (x1 : Vec F S1024x128 .bf16) (x2 : Vec F S1024x128 .bf16) (x3 : Vec F S1x1x1x1024 .f32) (x4 : Vec F S4096x128 .f32) (x5 : Vec F S4096x128 .bf16) (x6 : Vec F S1x4096x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (point i x0 x1 x2 x3 x4 x5 x6 (k0_pay22 (F := F)) (k0_pay23 (F := F))).2.1 ∗ owns (c : Thread nD τ) arg10 fullShare (point i x0 x1 x2 x3 x4 x5 x6 (k0_pay22 (F := F)) (k0_pay23 (F := F))).1.1 ∗ owns (c : Thread nD τ) arg11 fullShare (k0_pay8 (point i x0 x1 x2 x3 x4 x5 x6 (k0_pay22 (F := F)) (k0_pay23 (F := F))).1.2.1) ∗ owns (c : Thread nD τ) arg12 fullShare (k0_pay9 (point i x0 x1 x2 x3 x4 x5 x6 (k0_pay22 (F := F)) (k0_pay23 (F := F))).1.2.2) ∗ owns (c : Thread nD τ) arg13 fullShare (point i x0 x1 x2 x3 x4 x5 x6 (k0_pay22 (F := F)) (k0_pay23 (F := F))).2.2) -∗ K ⟨⟩))
      ⊢ wp frame (wpE (defs₀ (F := F)) Variants.none (c : Thread nD τ) none) E (cc0_fox_bwd i arg2 harg2 arg3 harg3 arg4 harg4 arg5 harg5 arg6 harg6 arg7 harg7 arg8 harg8 arg9 harg9 arg10 harg10 arg11 harg11 arg12 harg12 arg13 harg13) K := by
  simp only [cc0_fox_bwd_eq_skeleton]; unfold cc0_fox_bwd_skel
  simp only [k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact hc0)
  delta runA.sl.r runA.sl.r_1 runA.sl.r_2 runA.sl.r_3 runA.sl.r_4 runA.sl.r_5 runA.sl.r_6 runA.sl.r_7 runA.sl.r_8 runA.sl.r_9 runA.sl.H9_1 runA.sl.H13_1
  simp only [readAt_cut, writes_upd]
  rw [cut_tile x1 inb_S1024x128_S1024x128_0_0, cut_tile x2 inb_S1024x128_S1024x128_0_0, cut_line x3 inb_S1x1x1x1024_S1x1x1x1024_0_0_0_0]
  rw [writes_dq harg9 _ inb_S4096x128_S4096x128_0_0, writes_dcq harg13 _ inb_S1x4096x1_S1x4096x1_0_0_0]
  rw [readAt_cut harg9, readAt_cut harg13]
  rw [writes_dq2 harg9 _ _ inb_S4096x128_S4096x128_0_0, writes_dcq2 harg13 _ _ inb_S1x4096x1_S1x4096x1_0_0_0]
  let L := loopInv (F := F) c E i arg2 harg2 arg3 harg3 arg4 harg4 arg5 harg5 arg6 harg6 arg7 harg7 arg8 harg8 arg9 harg9 arg10 harg10 arg11 harg11 arg12 harg12 arg13 harg13 (k0_pay24 x1) x2 (k0_pay25 x3) (runA.sl.v11 i) x0 x4 x5 x6 (diag i x0 x1 x2 x3 x4 x5 x6 (k0_pay22 (F := F)) (k0_pay23 (F := F)))
  sl_exec
  sl_step
  iapply Hk
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr
    · ipureintro; exact harg6.read_unread _
    · iexact H6
  isplitl [H7]
  · iexists _; isplitr
    · ipureintro; exact harg7.read_unread _
    · iexact H7
  isplitl [H8]
  · iexists _; isplitr
    · ipureintro; exact harg8.read_unread _
    · iexact H8
  isplitl [H9]
  · iexists _; isplitr
    · ipureintro; exact harg9.read_unread _
    · iexact H9
  isplitl [H10]
  · iexists _; isplitr
    · ipureintro; exact (congrArg (View.read (Elt F) arg10.view) (writes_tile harg10 f10 inb_S1024x128_S1024x128_0_0 _)).trans (harg10.read_unread _)
    · iexact H10
  isplitl [H11]
  · iexists _; isplitr
    · ipureintro; exact (congrArg (View.read (Elt F) arg11.view) (writes_tile harg11 f11 inb_S1024x128_S1024x128_0_0 _)).trans (harg11.read_unread _)
    · iexact H11
  isplitl [H12]
  · iexists _; isplitr
    · ipureintro; exact (congrArg (View.read (Elt F) arg12.view) (writes_line harg12 f12 inb_S1x1x1x1024_S1x1x1x1024_0_0_0_0 _)).trans (harg12.read_unread _)
    · iexact H12
  iexists _; isplitr
  · ipureintro; exact harg13.read_unread _
  · iexact H13

end Cert.Att

end
-- ==== Proof.RunB.lean ====
module

public import proofs.«01_k».proof.Proof.Loop

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 1000000 in
/-- The body at a point that goes on a run: the two blocks added into hold what the point before left. -/
theorem runB (c : Dev nD) (i : grid0.Coords)
    (arg2 : Memref sig .tc .vmem S4096x128 .bf16) (harg2 : arg2.IsWhole)
    (arg3 : Memref sig .tc .vmem S1024x128 .bf16) (harg3 : arg3.IsWhole)
    (arg4 : Memref sig .tc .vmem S1024x128 .bf16) (harg4 : arg4.IsWhole)
    (arg5 : Memref sig .tc .vmem S1x1x1x1024 .f32) (harg5 : arg5.IsWhole)
    (arg6 : Memref sig .tc .vmem S4096x128 .f32) (harg6 : arg6.IsWhole)
    (arg7 : Memref sig .tc .vmem S4096x128 .bf16) (harg7 : arg7.IsWhole)
    (arg8 : Memref sig .tc .vmem S1x4096x1 .f32) (harg8 : arg8.IsWhole)
    (arg9 : Memref sig .tc .vmem S4096x128 .f32) (harg9 : arg9.IsWhole)
    (arg10 : Memref sig .tc .vmem S1024x128 .f32) (harg10 : arg10.IsWhole)
    (arg11 : Memref sig .tc .vmem S1024x128 .bf16) (harg11 : arg11.IsWhole)
    (arg12 : Memref sig .tc .vmem S1x1x1x1024 .f32) (harg12 : arg12.IsWhole)
    (arg13 : Memref sig .tc .vmem S1x4096x1 .f32) (harg13 : arg13.IsWhole)
    (hc0 : ¬ (Scalar.cmpi .ne (Scalar.extui (Scalar.cmpi .eq (BitVec.ofNat 32 (i 1).val) 0#32)) 0#32) = 1#1)
    (x0 : Vec F S4096x128 .bf16) (x1 : Vec F S1024x128 .bf16) (x2 : Vec F S1024x128 .bf16) (x3 : Vec F S1x1x1x1024 .f32) (x4 : Vec F S4096x128 .f32) (x5 : Vec F S4096x128 .bf16) (x6 : Vec F S1x4096x1 .f32) (d9 : Vec F S4096x128 .f32) (d13 : Vec F S1x4096x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare d9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare d13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (point i x0 x1 x2 x3 x4 x5 x6 d9 d13).2.1 ∗ owns (c : Thread nD τ) arg10 fullShare (point i x0 x1 x2 x3 x4 x5 x6 d9 d13).1.1 ∗ owns (c : Thread nD τ) arg11 fullShare (k0_pay8 (point i x0 x1 x2 x3 x4 x5 x6 d9 d13).1.2.1) ∗ owns (c : Thread nD τ) arg12 fullShare (k0_pay9 (point i x0 x1 x2 x3 x4 x5 x6 d9 d13).1.2.2) ∗ owns (c : Thread nD τ) arg13 fullShare (point i x0 x1 x2 x3 x4 x5 x6 d9 d13).2.2) -∗ K ⟨⟩))
      ⊢ wp frame (wpE (defs₀ (F := F)) Variants.none (c : Thread nD τ) none) E (cc0_fox_bwd i arg2 harg2 arg3 harg3 arg4 harg4 arg5 harg5 arg6 harg6 arg7 harg7 arg8 harg8 arg9 harg9 arg10 harg10 arg11 harg11 arg12 harg12 arg13 harg13) K := by
  simp only [cc0_fox_bwd_eq_skeleton]; unfold cc0_fox_bwd_skel
  simp only [k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  obtain rfl := harg9.eq_unread hf9; obtain rfl := harg13.eq_unread hf13
  sl_exec (disch := first | sl_exact hc0)

  delta runB.sl.r runB.sl.r_1 runB.sl.r_2 runB.sl.r_3 runB.sl.r_4 runB.sl.r_5 runB.sl.r_6 runB.sl.r_7 runB.sl.r_8 runB.sl.r_9
  simp only [readAt_cut, writes_upd]
  rw [cut_tile x1 inb_S1024x128_S1024x128_0_0, cut_tile x2 inb_S1024x128_S1024x128_0_0, cut_line x3 inb_S1x1x1x1024_S1x1x1x1024_0_0_0_0]
  let L := loopInv (F := F) c E i arg2 harg2 arg3 harg3 arg4 harg4 arg5 harg5 arg6 harg6 arg7 harg7 arg8 harg8 arg9 harg9 arg10 harg10 arg11 harg11 arg12 harg12 arg13 harg13 (k0_pay24 x1) x2 (k0_pay25 x3) (runB.sl.v11 i) x0 x4 x5 x6 (diag i x0 x1 x2 x3 x4 x5 x6 d9 d13)
  sl_exec
  sl_step
  iapply Hk
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr
    · ipureintro; exact harg6.read_unread _
    · iexact H6
  isplitl [H7]
  · iexists _; isplitr
    · ipureintro; exact harg7.read_unread _
    · iexact H7
  isplitl [H8]
  · iexists _; isplitr
    · ipureintro; exact harg8.read_unread _
    · iexact H8
  isplitl [H9]
  · iexists _; isplitr
    · ipureintro; exact harg9.read_unread _
    · iexact H9
  isplitl [H10]
  · iexists _; isplitr
    · ipureintro; exact (congrArg (View.read (Elt F) arg10.view) (writes_tile harg10 f10 inb_S1024x128_S1024x128_0_0 _)).trans (harg10.read_unread _)
    · iexact H10
  isplitl [H11]
  · iexists _; isplitr
    · ipureintro; exact (congrArg (View.read (Elt F) arg11.view) (writes_tile harg11 f11 inb_S1024x128_S1024x128_0_0 _)).trans (harg11.read_unread _)
    · iexact H11
  isplitl [H12]
  · iexists _; isplitr
    · ipureintro; exact (congrArg (View.read (Elt F) arg12.view) (writes_line harg12 f12 inb_S1x1x1x1024_S1x1x1x1024_0_0_0_0 _)).trans (harg12.read_unread _)
    · iexact H12
  iexists _; isplitr
  · ipureintro; exact harg13.read_unread _
  · iexact H13

end Cert.Att

end
-- ==== Proof.Dats.lean ====
module

public import proofs.«01_k».proof.Proof.RunA
public import proofs.«01_k».proof.Proof.RunB
public import Idealize.ShloMosaic.Lib.Claim
public import Idealize.ShloMosaic.Lib.WordCmp

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs hold, point by point -/

/-- What point `t` leaves when it finds `s` in the two blocks added into. -/
def leaves (c : Dev nD) (t : Fin cfg0.N) (s : Vec F S4096x128 .f32 × Vec F S1x4096x1 .f32) : State F :=
  point (grid0.coords t) (iblk m c 0 t) (iblk m c 1 t) (iblk m c 2 t) (iblk m c 3 t) (iblk m c 4 t) (iblk m c 5 t) (iblk m c 6 t) s.1 s.2

/-- The cleared blocks. -/
abbrev cleared : Vec F S4096x128 .f32 × Vec F S1x4096x1 .f32 := (k0_pay22 (F := F), k0_pay23 (F := F))

/-- What point number `n` leaves: a run of four begins from cleared blocks, the others from what the point before left. -/
def leftN (c : Dev nD) : ℕ → State F
  | 0 => leaves m c ⟨0, by decide⟩ cleared
  | n + 1 => if h : n + 1 < cfg0.N then
      if (n + 1) % 4 = 0 then leaves m c ⟨n + 1, h⟩ cleared else leaves m c ⟨n + 1, h⟩ (leftN c n).2
    else leftN c n

theorem leftN_first (c : Dev nD) (t : Fin cfg0.N) (h : t.val % 4 = 0) : leftN m c t.val = leaves m c t cleared := by
  obtain ⟨n, hn⟩ := t
  cases n with
  | zero => rfl
  | succ n => unfold leftN; rw [dif_pos hn, if_pos h]

theorem leftN_next (c : Dev nD) (t : Fin cfg0.N) (h : t.val % 4 ≠ 0) : leftN m c t.val = leaves m c t (leftN m c (t.val - 1)).2 := by
  obtain ⟨n, hn⟩ := t
  cases n with
  | zero => exact absurd rfl h
  | succ n => rw [show leftN m c (n + 1) = _ from rfl, leftN, dif_pos hn, if_neg h]; rfl

/-! ## The proof data -/

/-- What each window's buffer holds after each point: an input its block, an output what the points so far left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (leftN m c t.val).2.1
    | ⟨8, _⟩ => (leftN m c t.val).1.1
    | ⟨9, _⟩ => k0_pay8 (leftN m c t.val).1.2.1
    | ⟨10, _⟩ => k0_pay9 (leftN m c t.val).1.2.2
    | ⟨11, _⟩ => (leftN m c t.val).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (leftN m c t.val).2.1 := by dsimp only [dats]
theorem after_8 (c : Dev nD) (t : Fin cfg0.N) : (dats m 0 c).after 8 t = (leftN m c t.val).1.1 := by dsimp only [dats]
theorem after_9 (c : Dev nD) (t : Fin cfg0.N) : (dats m 0 c).after 9 t = k0_pay8 (leftN m c t.val).1.2.1 := by dsimp only [dats]
theorem after_10 (c : Dev nD) (t : Fin cfg0.N) : (dats m 0 c).after 10 t = k0_pay9 (leftN m c t.val).1.2.2 := by dsimp only [dats]
theorem after_11 (c : Dev nD) (t : Fin cfg0.N) : (dats m 0 c).after 11 t = (leftN m c t.val).2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
/-- A point that goes on a run finds in output 7 what the point before left. -/
theorem before_7 (c : Dev nD) (t : Fin cfg0.N) (h : t.val % 4 ≠ 0) (d) : (dats m 0 c).before 7 t d = (leftN m c (t.val - 1)).2.1 := by
  rw [(dats m 0 c).before_out_kept 7 rfl t (fun h0 => h (by rw [h0])) (by
      refine Bool.eq_false_iff.mpr fun hf => ?_
      have := (flush0_7 _).mp hf
      simp only at this
      omega) (fun _ => rfl) (fun _ _ => rfl) d, after_7]
/-- A point that goes on a run finds in output 11 what the point before left. -/
theorem before_11 (c : Dev nD) (t : Fin cfg0.N) (h : t.val % 4 ≠ 0) (d) : (dats m 0 c).before 11 t d = (leftN m c (t.val - 1)).2.2 := by
  rw [(dats m 0 c).before_out_kept 11 rfl t (fun h0 => h (by rw [h0])) (by
      refine Bool.eq_false_iff.mpr fun hf => ?_
      have := (flush0_11 _).mp hf
      simp only at this
      omega) (fun _ => rfl) (fun _ _ => rfl) d, after_11]

/-! ## The body at every point -/

/-- The branch at the head of the body is taken at the points that begin a run. -/
theorem head_taken : ∀ t : Fin cfg0.N, ((Scalar.cmpi .ne (Scalar.extui (Scalar.cmpi .eq (BitVec.ofNat 32 (grid0.coords t 1).val) 0#32)) 0#32) = 1#1) ↔ t.val % 4 = 0 :=
  fun t => by
    have ht : t.val < 64 := Nat.lt_of_lt_of_eq t.isLt N_0
    have e1 : (grid0.coords t 1).val = t.val / 1 % 4 := Pipeline.Grid.coords_val t 1 (by decide) rfl
    simp only [e1]
    word_cmp

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2400000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  by_cases h0 : t.val % 4 = 0
  · rw [leftN_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA c (grid0.coords t) _ _ _ _ _ _ _ _ _ _ _ _ _ _ _ _ _ _ _ _ _ _ _ _ ((head_taken t).mpr h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · simp only [before_7 m c t h0, before_11 m c t h0]
    rw [leftN_next m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runB c (grid0.coords t) _ _ _ _ _ _ _ _ _ _ _ _ _ _ _ _ _ _ _ _ _ _ _ _ (fun h => h0 ((head_taken t).mp h)) (iblk m c 0 t) (iblk m c 1 t) (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) :
    defs₀ (F := F) .tc cfg0.body (cfg0.bodyArgs t (cfg0.slots t)) = bodyAt0 t := by
  unfold defs₀; rw [Defs.onTc_tc]

/-- The obligation of the launch, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends with each output's array as the points wrote it back, everything else as before, and the counters at zero. -/
theorem run_counted : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_counted m ρ)

/-- The frame: the arguments end unchanged and the counters at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_counted m ρ))

end Cert.Att

end
-- ==== Proof.Nums.lean ====
module

public import Idealize.ShloMosaic.Lib.Pointwise
public import Mathlib.Analysis.SpecialFunctions.Pow.Real

@[expose] public section

noncomputable section

/-! The real numbers behind one head of the attention's backward pass: what the call's operands hold and what its
results are. Rows and keys are counted from 0 over the whole sequence. -/

namespace Cert.Att

open Finset

/-- The operands of one head: the queries `q`, the keys `k`, the values `v`, the forward result `o` and its gradient `g`,
the decay `c` of each key and the normaliser `l` of each row. -/
structure Nums where
  q : ℕ → ℕ → ℝ
  k : ℕ → ℕ → ℝ
  v : ℕ → ℕ → ℝ
  o : ℕ → ℕ → ℝ
  g : ℕ → ℕ → ℝ
  c : ℕ → ℝ
  l : ℕ → ℝ

namespace Nums
variable (N : Nums)

/-- The logarithm to base 2 of the weight of key `s` in row `t`. -/
def logit (t s : ℕ) : ℝ := (∑ d ∈ range 128, N.q t d * N.k s d) - N.c s - N.l t
/-- The weight itself; a key after its row has none. -/
def w (t s : ℕ) : ℝ := if s ≤ t then Real.rpow 2 (N.logit t s) else 0
/-- The gradient of the logit. -/
def ds (t s : ℕ) : ℝ := N.w t s * ((∑ d ∈ range 128, N.g t d * N.v s d) - ∑ d ∈ range 128, N.g t d * N.o t d)
/-- The gradient of the keys, of the values and of the decay, over the first `n` rows. -/
def dk (n s d : ℕ) : ℝ := (∑ t ∈ range n, N.ds t s * N.q t d) * Real.log 2
def dv (n s d : ℕ) : ℝ := ∑ t ∈ range n, N.w t s * N.g t d
def dc (n s : ℕ) : ℝ := -∑ t ∈ range n, N.ds t s
/-- The gradient of the queries and of the row's decay, over the first `n` keys. -/
def dq (n t d : ℕ) : ℝ := (∑ s ∈ range n, N.ds t s * N.k s d) * Real.log 2
def dcq (n t : ℕ) : ℝ := ∑ s ∈ range n, N.ds t s

theorem w_zero {t s : ℕ} (h : t < s) : N.w t s = 0 := if_neg (by omega)
theorem ds_zero {t s : ℕ} (h : t < s) : N.ds t s = 0 := by rw [ds, w_zero N h, zero_mul]

/-- Rows before a key give it nothing. -/
theorem dk_start {b s : ℕ} (h : b ≤ s) (d : ℕ) : N.dk b s d = 0 := by
  rw [dk, sum_eq_zero fun t ht => ?_, zero_mul]
  rw [ds_zero N (by have := mem_range.mp ht; omega), zero_mul]
theorem dv_start {b s : ℕ} (h : b ≤ s) (d : ℕ) : N.dv b s d = 0 :=
  sum_eq_zero fun t ht => by rw [w_zero N (by have := mem_range.mp ht; omega), zero_mul]
theorem dc_start {b s : ℕ} (h : b ≤ s) : N.dc b s = 0 := by
  rw [dc, sum_eq_zero fun t ht => ds_zero N (by have := mem_range.mp ht; omega), neg_zero]

/-- One tile more of rows. -/
theorem dk_add (n m s d : ℕ) : N.dk (n + m) s d = N.dk n s d + (∑ r ∈ range m, N.ds (n + r) s * N.q (n + r) d) * Real.log 2 := by
  rw [dk, sum_range_add, add_mul, dk]
theorem dv_add (n m s d : ℕ) : N.dv (n + m) s d = N.dv n s d + ∑ r ∈ range m, N.w (n + r) s * N.g (n + r) d := by
  rw [dv, sum_range_add, dv]
theorem dc_add (n m s : ℕ) : N.dc (n + m) s = N.dc n s - ∑ r ∈ range m, N.ds (n + r) s := by
  rw [dc, sum_range_add, dc]; ring
/-- One tile more of keys. -/
theorem dq_add (n m t d : ℕ) : N.dq (n + m) t d = N.dq n t d + (∑ r ∈ range m, N.ds t (n + r) * N.k (n + r) d) * Real.log 2 := by
  rw [dq, sum_range_add, add_mul, dq]
theorem dcq_add (n m t : ℕ) : N.dcq (n + m) t = N.dcq n t + ∑ r ∈ range m, N.ds t (n + r) := by
  rw [dcq, sum_range_add, dcq]
/-- A tile of keys after the row gives it nothing. -/
theorem dq_tile_zero {b t : ℕ} (h : t < b) (m d : ℕ) : ∑ r ∈ range m, N.ds t (b + r) * N.k (b + r) d = 0 :=
  sum_eq_zero fun r _ => by rw [ds_zero N (by omega), zero_mul]
theorem dcq_tile_zero {b t : ℕ} (h : t < b) (m : ℕ) : ∑ r ∈ range m, N.ds t (b + r) = 0 :=
  sum_eq_zero fun r _ => ds_zero N (by omega)

end Nums

/-- A sum of real numbers, taken among the extended ones, is the real sum. -/
theorem coe_sum {ι : Type} (S : Finset ι) (f : ι → ℝ) : (∑ x ∈ S, ((f x : ℝ) : EReal)) = ((∑ x ∈ S, f x : ℝ) : EReal) := by
  classical
  induction S using Finset.induction_on with
  | empty => simp
  | insert a S ha ih => rw [sum_insert ha, sum_insert ha, ih, EReal.coe_add]

/-- The same over the first `n` numbers. -/
theorem coe_sum_fin (n : ℕ) (f : ℕ → ℝ) : (∑ x : Fin n, ((f x.val : ℝ) : EReal)) = ((∑ x ∈ range n, f x : ℝ) : EReal) := by
  rw [coe_sum, Finset.sum_range]

end Cert.Att

end
-- ==== Proof.Pay.lean ====
module

public import proofs.«01_k».proof.Proof.Step
public import proofs.«01_k».proof.Proof.Nums
public import Idealize.ShloMosaic.Lib.WordCmp

@[expose] public section

set_option maxRecDepth 16384

noncomputable section

/-! What the body computes of one tile, when its operands are real numbers. -/

namespace Cert.Att

open Idealize.ShloMosaic Idealize.ShloMosaic.TcCoe Idealize.SL.Sem
open Cert.KernelIdeal Cert.KernelIdeal.Gen
open Finset (range)

/-- The constant that stands for the natural logarithm of 2. -/
theorem named_ln2 : (Named.named κ "ln2" 0x3F317218#32 : Ideal .f32) = ((Real.log 2 : ℝ) : EReal) := rfl
/-- The constant that stands for minus infinity. -/
theorem named_mask : (Named.named κ "mask" 0xF149F2CA#32 : Ideal .f32) = (⊥ : EReal) := rfl

/-- The operands of the tile of rows from `a` and keys from `b`. -/
structure Tile (N : Nums) (a b : ℕ) (k : FVec Ideal S1024x128 .bf16) (v : FVec Ideal S1024x128 .bf16) (c : FVec Ideal S1x1024 .f32)
    (q g : FVec Ideal S1024x128 .bf16) (e : FVec Ideal S1x1024x1 .f32) (o : FVec Ideal S1024x128 .f32) : Prop where
  hk : ∀ (l : Fin 1024) (d : Fin 128), k (ix2 l d) = ((N.k (b + l) d : ℝ) : EReal)
  hv : ∀ (l : Fin 1024) (d : Fin 128), v (ix2 l d) = ((N.v (b + l) d : ℝ) : EReal)
  hc : ∀ l : Fin 1024, c (ix2 0 l) = ((N.c (b + l) : ℝ) : EReal)
  hq : ∀ (r : Fin 1024) (d : Fin 128), q (ix2 r d) = ((N.q (a + r) d : ℝ) : EReal)
  hg : ∀ (r : Fin 1024) (d : Fin 128), g (ix2 r d) = ((N.g (a + r) d : ℝ) : EReal)
  he : ∀ r : Fin 1024, e (ix3 0 r 0) = ((N.l (a + r) : ℝ) : EReal)
  ho : ∀ (r : Fin 1024) (d : Fin 128), o (ix2 r d) = ((N.o (a + r) d : ℝ) : EReal)

section
variable {N : Nums} {a b : ℕ} {k v : FVec Ideal S1024x128 .bf16} {c : FVec Ideal S1x1024 .f32}
  {q g : FVec Ideal S1024x128 .bf16} {e : FVec Ideal S1x1024x1 .f32} {o : FVec Ideal S1024x128 .f32}
  (T : Tile N a b k v c q g e o)
include T

/-- The logit before the row's normaliser comes off. -/
theorem Tile.dot (r l : Fin 1024) : (∑ x : Fin 128, q (ix2 r x) * k (ix2 l x)) - c (ix2 0 l)
    = (((∑ d ∈ range 128, N.q (a + r) d * N.k (b + l) d) - N.c (b + l) : ℝ) : EReal) := by
  rw [EReal.coe_sub, ← coe_sum_fin, T.hc]
  congr 1
  refine Finset.sum_congr rfl fun x _ => ?_
  rw [T.hq, T.hk, EReal.coe_mul]

/-- What multiplies the weight in the gradient of the logit. -/
theorem Tile.rest (r l : Fin 1024) : (∑ x : Fin 128, g (ix2 r x) * v (ix2 l x)) - (∑ x : Fin 128, g (ix2 r x) * o (ix2 r x))
    = (((∑ d ∈ range 128, N.g (a + r) d * N.v (b + l) d) - ∑ d ∈ range 128, N.g (a + r) d * N.o (a + r) d : ℝ) : EReal) := by
  rw [EReal.coe_sub, ← coe_sum_fin, ← coe_sum_fin]
  congr 1
  · refine Finset.sum_congr rfl fun x _ => ?_
    rw [T.hg, T.hv, EReal.coe_mul]
  · refine Finset.sum_congr rfl fun x _ => ?_
    rw [T.hg, T.ho, EReal.coe_mul]

/-! ### A tile below the diagonal -/

theorem Tile.w_below (h : b + 1024 ≤ a) (r l : Fin 1024) : k0_pay11 k c q e (ix2 r l) = ((N.w (a + r) (b + l) : ℝ) : EReal) := by
  pointwise [k0_pay11, k0_pay10]
  rw [T.dot, T.he, ← EReal.coe_sub, Nums.w, if_pos (by have := l.isLt; omega)]
  rfl

theorem Tile.ds_below (h : b + 1024 ≤ a) (r l : Fin 1024) : k0_pay13 k v c q g e o (ix2 r l) = ((N.ds (a + r) (b + l) : ℝ) : EReal) := by
  pointwise [k0_pay13]
  rw [T.w_below h, T.rest, ← EReal.coe_mul]
  rfl

theorem Tile.dk_below (h : b + 1024 ≤ a) {S : FVec Ideal S1024x128 .f32} (hS : ∀ (l : Fin 1024) (d : Fin 128), S (ix2 l d) = ((N.dk a (b + l) d : ℝ) : EReal))
    (l : Fin 1024) (d : Fin 128) : k0_pay3 S (k0_pay10 q) (k0_pay15 k v c q g e o) (ix2 l d) = ((N.dk (a + 1024) (b + l) d : ℝ) : EReal) := by
  pointwise [k0_pay3, k0_pay10, k0_pay15]
  rw [hS, named_ln2, Nums.dk_add, EReal.coe_add, EReal.coe_mul, ← coe_sum_fin]
  congr 2
  refine Finset.sum_congr rfl fun x _ => ?_
  rw [T.ds_below h, T.hq, EReal.coe_mul]

theorem Tile.dv_below (h : b + 1024 ≤ a) {S : FVec Ideal S1024x128 .f32} (hS : ∀ (l : Fin 1024) (d : Fin 128), S (ix2 l d) = ((N.dv a (b + l) d : ℝ) : EReal))
    (l : Fin 1024) (d : Fin 128) : k0_pay12 k c S q g e (ix2 l d) = ((N.dv (a + 1024) (b + l) d : ℝ) : EReal) := by
  pointwise [k0_pay12]
  rw [hS, Nums.dv_add, EReal.coe_add, ← coe_sum_fin]
  congr 1
  refine Finset.sum_congr rfl fun x _ => ?_
  rw [T.w_below h, T.hg, EReal.coe_mul]

theorem Tile.dc_below (h : b + 1024 ≤ a) {S : FVec Ideal S1x1024 .f32} (hS : ∀ l : Fin 1024, S (ix2 0 l) = ((N.dc a (b + l) : ℝ) : EReal))
    (l : Fin 1024) : k0_pay4 S (k0_pay13 k v c q g e o) (ix2 0 l) = ((N.dc (a + 1024) (b + l) : ℝ) : EReal) := by
  pointwise [k0_pay4]
  rw [hS, Nums.dc_add, EReal.coe_sub, ← coe_sum_fin]
  congr 1
  exact Finset.sum_congr rfl fun x _ => T.ds_below h x l

theorem Tile.dq_below (h : b + 1024 ≤ a) {S : FVec Ideal S1024x128 .f32} {E : ℕ → ℕ → ℝ} (hS : ∀ (r : Fin 1024) (d : Fin 128), S (ix2 r d) = ((E (a + r) d : ℝ) : EReal))
    (r : Fin 1024) (d : Fin 128) : k0_pay2 k (k0_pay15 k v c q g e o) S (ix2 r d)
      = ((E (a + r) d + (∑ l ∈ range 1024, N.ds (a + r) (b + l) * N.k (b + l) d) * Real.log 2 : ℝ) : EReal) := by
  pointwise [k0_pay2, k0_pay15]
  rw [hS, named_ln2, EReal.coe_add, EReal.coe_mul, ← coe_sum_fin]
  congr 2
  refine Finset.sum_congr rfl fun x _ => ?_
  rw [T.ds_below h, T.hk, EReal.coe_mul]

theorem Tile.dcq_below (h : b + 1024 ≤ a) {S : FVec Ideal S1x1024x1 .f32} {E : ℕ → ℝ} (hS : ∀ r : Fin 1024, S (ix3 0 r 0) = ((E (a + r) : ℝ) : EReal))
    (r : Fin 1024) : k0_pay14 k v c q g e o S (ix3 0 r 0) = ((E (a + r) + ∑ l ∈ range 1024, N.ds (a + r) (b + l) : ℝ) : EReal) := by
  pointwise [k0_pay14]
  rw [hS, EReal.coe_add, ← coe_sum_fin]
  congr 1
  exact Finset.sum_congr rfl fun x _ => T.ds_below h r x

end

/-! ### The tile on the diagonal -/

/-- The mask of the tile on the diagonal keeps the keys up to the row. -/
theorem sge_iff (r l : Fin 1024) :
    IntOp.cmpi CmpIPredicate.sge (IntOp.addi (0#32) (BitVec.ofNat 32 r.val)) (BitVec.ofNat 32 l.val) = (1 : BitVec 1) ↔ l.val ≤ r.val := by
  have hz : IntOp.addi (0#32) (BitVec.ofNat 32 r.val) = BitVec.ofNat 32 r.val := BitVec.zero_add _
  rw [hz]
  exact WordCmp.cmpi_sge_ofNat_eq_one_iff (by have := r.isLt; omega) (by have := l.isLt; omega)

section
variable {N : Nums} {a : ℕ} {x1 v : FVec Ideal S1024x128 .bf16} {x3 : FVec Ideal S1x1x1x1024 .f32}
  {q g : FVec Ideal S1024x128 .bf16} {e : FVec Ideal S1x1024x1 .f32} {o : FVec Ideal S1024x128 .f32}
  (T : Tile N a a (k0_pay24 x1) v (k0_pay25 x3) q g e o)
include T

theorem Tile.w_diag (r l : Fin 1024) : k0_pay32 (F := Ideal) (k0_pay30 x1 x3 q) (k0_pay31 e) (ix2 r l) = ((N.w (a + r) (a + l) : ℝ) : EReal) := by
  have hd := T.dot r l
  have hc := T.hc l
  pointwise [k0_pay24, k0_pay25] at hd hc
  pointwise [k0_pay32, k0_pay31, k0_pay30, k0_pay29, k0_pay24, k0_pay25]
  rw [hd, T.he, named_mask]
  have hr := r.isLt
  have hl := l.isLt
  have hb := sge_iff r l
  by_cases h : l.val ≤ r.val
  · rw [Scalar.select, if_pos (hb.mpr h), ← EReal.coe_sub, Nums.w, if_pos (by omega)]
    rfl
  · rw [Scalar.select, if_neg (mt hb.mp h), Nums.w, if_neg (by omega), EReal.bot_sub]
    rfl

theorem Tile.ds_diag (r l : Fin 1024) : k0_pay34 (F := Ideal) v g (k0_pay30 x1 x3 q) (k0_pay31 e) o (ix2 r l) = ((N.ds (a + r) (a + l) : ℝ) : EReal) := by
  pointwise [k0_pay34]
  rw [T.w_diag, T.rest, ← EReal.coe_mul]
  rfl

theorem Tile.dk_diag (l : Fin 1024) (d : Fin 128) :
    k0_pay38 v (k0_pay26 (F := Ideal)) (k0_pay29 q) g (k0_pay30 x1 x3 q) (k0_pay31 e) o (ix2 l d) = ((N.dk (a + 1024) (a + l) d : ℝ) : EReal) := by
  pointwise [k0_pay38, k0_pay26, k0_pay29, k0_pay36]
  rw [named_ln2, Nums.dk_add, Nums.dk_start N (by omega), zero_add, EReal.coe_mul, ← coe_sum_fin]
  congr 1
  refine Finset.sum_congr rfl fun x _ => ?_
  rw [T.ds_diag, T.hq, EReal.coe_mul]

theorem Tile.dv_diag (l : Fin 1024) (d : Fin 128) :
    k0_pay33 (k0_pay27 (F := Ideal)) g (k0_pay30 x1 x3 q) (k0_pay31 e) (ix2 l d) = ((N.dv (a + 1024) (a + l) d : ℝ) : EReal) := by
  pointwise [k0_pay33, k0_pay27]
  rw [Nums.dv_add, Nums.dv_start N (by omega), zero_add, ← coe_sum_fin]
  refine Finset.sum_congr rfl fun x _ => ?_
  rw [T.w_diag, T.hg, EReal.coe_mul]

theorem Tile.dc_diag (l : Fin 1024) :
    k0_pay1 (k0_pay28 (F := Ideal)) (k0_pay39 v g (k0_pay30 x1 x3 q) (k0_pay31 e) o) (ix2 0 l) = ((N.dc (a + 1024) (a + l) : ℝ) : EReal) := by
  pointwise [k0_pay1, k0_pay28, k0_pay39]
  rw [Nums.dc_add, Nums.dc_start N (by omega), EReal.coe_sub, ← coe_sum_fin]
  congr 1
  exact Finset.sum_congr rfl fun x _ => T.ds_diag x l

theorem Tile.dq_diag {S : FVec Ideal S1024x128 .f32} {E : ℕ → ℕ → ℝ} (hS : ∀ (r : Fin 1024) (d : Fin 128), S (ix2 r d) = ((E (a + r) d : ℝ) : EReal))
    (r : Fin 1024) (d : Fin 128) : k0_pay37 (F := Ideal) (k0_pay24 x1) v g (k0_pay30 x1 x3 q) (k0_pay31 e) o S (ix2 r d)
      = ((E (a + r) d + (∑ l ∈ range 1024, N.ds (a + r) (a + l) * N.k (a + l) d) * Real.log 2 : ℝ) : EReal) := by
  have hk := T.hk
  pointwise [k0_pay24] at hk
  pointwise [k0_pay37, k0_pay36, k0_pay24]
  rw [hS, named_ln2, EReal.coe_add, EReal.coe_mul, ← coe_sum_fin]
  congr 2
  refine Finset.sum_congr rfl fun x _ => ?_
  rw [T.ds_diag, hk, EReal.coe_mul]

theorem Tile.dcq_diag {S : FVec Ideal S1x1024x1 .f32} {E : ℕ → ℝ} (hS : ∀ r : Fin 1024, S (ix3 0 r 0) = ((E (a + r) : ℝ) : EReal))
    (r : Fin 1024) : k0_pay35 (F := Ideal) v g (k0_pay30 x1 x3 q) (k0_pay31 e) o S (ix3 0 r 0) = ((E (a + r) + ∑ l ∈ range 1024, N.ds (a + r) (a + l) : ℝ) : EReal) := by
  pointwise [k0_pay35]
  rw [hS, EReal.coe_add, ← coe_sum_fin]
  congr 1
  exact Finset.sum_congr rfl fun x _ => T.ds_diag r x

end

end Cert.Att

end
-- ==== Proof.Point.lean ====
module

public import proofs.«01_k».proof.Proof.Pay
public import Idealize.ShloMosaic.Lib.Pipeline.ValueKit

@[expose] public section

set_option maxRecDepth 16384

noncomputable section

/-! What a grid point leaves, when its blocks are real numbers: the gradients of its tile of keys over every row, and the
gradients of the rows grown by its tile of keys. -/

namespace Cert.Att

open Idealize.ShloMosaic Idealize.ShloMosaic.TcCoe Idealize.SL.Sem
open Cert.KernelIdeal Cert.KernelIdeal.Gen
open Finset (range)

/-! ### A tile of rows, at an index -/

theorem cut2_at {α : Type} (X : S4096x128.Idx → α) (off : Fin 2 → ℕ) (inb : ∀ a, off a + S1024x128.size a ≤ S4096x128.size a)
    (a : ℕ) (e : off = ![a, 0]) (r : Fin 1024) (d : Fin 128) (h : a + r.val < 4096) :
    cut (s := S4096x128) X off S1024x128.size inb (ix2 r d) = X (ix2 ⟨a + r.val, h⟩ d) := by
  subst e
  refine congrArg X (funext fun b => Fin.ext ?_)
  rw [Rect.idx_unit_val]
  fin_cases b
  · rfl
  · exact Nat.zero_add _

theorem cut3_at {α : Type} (X : S1x4096x1.Idx → α) (off : Fin 3 → ℕ) (inb : ∀ a, off a + S1x1024x1.size a ≤ S1x4096x1.size a)
    (a : ℕ) (e : off = ![0, a, 0]) (r : Fin 1024) (h : a + r.val < 4096) :
    cut (s := S1x4096x1) X off S1x1024x1.size inb (ix3 0 r 0) = X (ix3 0 ⟨a + r.val, h⟩ 0) := by
  subst e
  refine congrArg X (funext fun b => Fin.ext ?_)
  rw [Rect.idx_unit_val]
  fin_cases b
  · rfl
  · rfl
  · rfl

theorem upd2_in {α : Type} (X : S4096x128.Idx → α) (off : Fin 2 → ℕ) (w : S1024x128.Idx → α)
    (a : ℕ) (e : off = ![a, 0]) (t : Fin 4096) (d : Fin 128) (r : Fin 1024) (h : t.val = a + r.val) :
    upd (s := S4096x128) X off S1024x128.size w (ix2 t d) = w (ix2 r d) := by
  subst e
  have hr := r.isLt
  have hd := d.isLt
  have hc : ∀ b : Fin 2, (![a, 0] : Fin 2 → ℕ) b ≤ ((ix2 t d : S4096x128.Idx) b).val ∧ ((ix2 t d : S4096x128.Idx) b).val < (![a, 0] : Fin 2 → ℕ) b + S1024x128.size b := by
    intro b
    fin_cases b
    · exact ⟨show a ≤ t.val by omega, show t.val < a + 1024 by omega⟩
    · exact ⟨Nat.zero_le _, show d.val < 0 + 128 by omega⟩
  refine (dif_pos hc).trans (congrArg w (funext fun b => Fin.ext ?_))
  fin_cases b
  · show t.val - a = r.val
    omega
  · show d.val - 0 = d.val
    omega

theorem upd2_out {α : Type} (X : S4096x128.Idx → α) (off : Fin 2 → ℕ) (w : S1024x128.Idx → α)
    (a : ℕ) (e : off = ![a, 0]) (t : Fin 4096) (d : Fin 128) (h : t.val < a ∨ a + 1024 ≤ t.val) :
    upd (s := S4096x128) X off S1024x128.size w (ix2 t d) = X (ix2 t d) := by
  subst e
  refine dif_neg fun hc => ?_
  have h0 : a ≤ t.val ∧ t.val < a + 1024 := hc 0
  omega

theorem upd3_in {α : Type} (X : S1x4096x1.Idx → α) (off : Fin 3 → ℕ) (w : S1x1024x1.Idx → α)
    (a : ℕ) (e : off = ![0, a, 0]) (t : Fin 4096) (r : Fin 1024) (h : t.val = a + r.val) :
    upd (s := S1x4096x1) X off S1x1024x1.size w (ix3 0 t 0) = w (ix3 0 r 0) := by
  subst e
  have hr := r.isLt
  have hc : ∀ b : Fin 3, (![0, a, 0] : Fin 3 → ℕ) b ≤ ((ix3 0 t 0 : S1x4096x1.Idx) b).val ∧ ((ix3 0 t 0 : S1x4096x1.Idx) b).val < (![0, a, 0] : Fin 3 → ℕ) b + S1x1024x1.size b := by
    intro b
    fin_cases b
    · exact ⟨Nat.zero_le _, show 0 < 0 + 1 by omega⟩
    · exact ⟨show a ≤ t.val by omega, show t.val < a + 1024 by omega⟩
    · exact ⟨Nat.zero_le _, show 0 < 0 + 1 by omega⟩
  refine (dif_pos hc).trans (congrArg w (funext fun b => Fin.ext ?_))
  fin_cases b
  · rfl
  · show t.val - a = r.val
    omega
  · rfl

theorem upd3_out {α : Type} (X : S1x4096x1.Idx → α) (off : Fin 3 → ℕ) (w : S1x1024x1.Idx → α)
    (a : ℕ) (e : off = ![0, a, 0]) (t : Fin 4096) (h : t.val < a ∨ a + 1024 ≤ t.val) :
    upd (s := S1x4096x1) X off S1x1024x1.size w (ix3 0 t 0) = X (ix3 0 t 0) := by
  subst e
  refine dif_neg fun hc => ?_
  have h0 : a ≤ t.val ∧ t.val < a + 1024 := hc 1
  omega

/-! ### A grid point -/

/-- The tiles left below the diagonal. -/
theorem trips_eq : ∀ i : grid0.Coords, (k0_t1_loop i).trips = 3 - (i 1).val := by decide +kernel

/-- The blocks of a point whose tile of keys starts at `b`. -/
structure Operands (N : Nums) (b : ℕ) (x0 : FVec Ideal S4096x128 .bf16) (x1 x2 : FVec Ideal S1024x128 .bf16)
    (x3 : FVec Ideal S1x1x1x1024 .f32) (x4 : FVec Ideal S4096x128 .f32) (x5 : FVec Ideal S4096x128 .bf16)
    (x6 : FVec Ideal S1x4096x1 .f32) : Prop where
  hq : ∀ (t : Fin 4096) (d : Fin 128), x0 (ix2 t d) = ((N.q t d : ℝ) : EReal)
  hk : ∀ (l : Fin 1024) (d : Fin 128), x1 (ix2 l d) = ((N.k (b + l) d : ℝ) : EReal)
  hv : ∀ (l : Fin 1024) (d : Fin 128), x2 (ix2 l d) = ((N.v (b + l) d : ℝ) : EReal)
  hc : ∀ l : Fin 1024, x3 (ix4 0 0 0 l) = ((N.c (b + l) : ℝ) : EReal)
  ho : ∀ (t : Fin 4096) (d : Fin 128), x4 (ix2 t d) = ((N.o t d : ℝ) : EReal)
  hg : ∀ (t : Fin 4096) (d : Fin 128), x5 (ix2 t d) = ((N.g t d : ℝ) : EReal)
  he : ∀ t : Fin 4096, x6 (ix3 0 t 0) = ((N.l t : ℝ) : EReal)

/-- The state once the rows before `n` are done against the keys from `b`. -/
structure Holds (N : Nums) (b n : ℕ) (s : State Ideal) : Prop where
  dk : ∀ (l : Fin 1024) (d : Fin 128), s.1.1 (ix2 l d) = ((N.dk n (b + l) d : ℝ) : EReal)
  dv : ∀ (l : Fin 1024) (d : Fin 128), s.1.2.1 (ix2 l d) = ((N.dv n (b + l) d : ℝ) : EReal)
  dc : ∀ l : Fin 1024, s.1.2.2 (ix2 0 l) = ((N.dc n (b + l) : ℝ) : EReal)
  dq : ∀ (t : Fin 4096) (d : Fin 128), s.2.1 (ix2 t d) = ((if t.val < n then N.dq (b + 1024) t d else N.dq b t d : ℝ) : EReal)
  dcq : ∀ t : Fin 4096, s.2.2 (ix3 0 t 0) = ((if t.val < n then N.dcq (b + 1024) t else N.dcq b t : ℝ) : EReal)

section
variable {N : Nums} {b : ℕ} {x0 : FVec Ideal S4096x128 .bf16} {x1 x2 : FVec Ideal S1024x128 .bf16}
  {x3 : FVec Ideal S1x1x1x1024 .f32} {x4 : FVec Ideal S4096x128 .f32} {x5 : FVec Ideal S4096x128 .bf16}
  {x6 : FVec Ideal S1x4096x1 .f32} (O : Operands N b x0 x1 x2 x3 x4 x5 x6)
include O

/-- The tile of rows from `a`, read out of the blocks. -/
theorem Operands.tile (a : ℕ) (ha : a + 1024 ≤ 4096) (off : Fin 2 → ℕ) (off' : Fin 3 → ℕ)
    (inb : ∀ a, off a + S1024x128.size a ≤ S4096x128.size a) (inb' : ∀ a, off' a + S1x1024x1.size a ≤ S1x4096x1.size a)
    (e : off = ![a, 0]) (e' : off' = ![0, a, 0]) :
    Tile N a b (k0_pay24 x1) x2 (k0_pay25 x3) (cut (s := S4096x128) x0 off S1024x128.size inb) (cut (s := S4096x128) x5 off S1024x128.size inb)
      (cut (s := S1x4096x1) x6 off' S1x1024x1.size inb') (cut (s := S4096x128) x4 off S1024x128.size inb) where
  hk l d := by pointwise [k0_pay24]; exact O.hk l d
  hv l d := O.hv l d
  hc l := by pointwise [k0_pay25]; exact O.hc l
  hq r d := by rw [cut2_at x0 off inb a e r d (by omega)]; exact O.hq _ d
  hg r d := by rw [cut2_at x5 off inb a e r d (by omega)]; exact O.hg _ d
  he r := by rw [cut3_at x6 off' inb' a e' r (by omega)]; exact O.he _
  ho r d := by rw [cut2_at x4 off inb a e r d (by omega)]; exact O.ho _ d

/-- The tile on the diagonal starts every sum. -/
theorem Operands.diag_holds (i : grid0.Coords) (hb : b = 1024 * (i 1).val) (d9 : FVec Ideal S4096x128 .f32) (d13 : FVec Ideal S1x4096x1 .f32)
    (h9 : ∀ (t : Fin 4096) (d : Fin 128), d9 (ix2 t d) = ((N.dq b t d : ℝ) : EReal))
    (h13 : ∀ t : Fin 4096, d13 (ix3 0 t 0) = ((N.dcq b t : ℝ) : EReal)) :
    Holds N b (b + 1024) (diag (F := Ideal) i x0 x1 x2 x3 x4 x5 x6 d9 d13) := by
  have hi : (i 1).val < 4 := (i 1).isLt
  have e1 : k0_off1 i = ![b, 0] := by rw [k0_off1_eq, hb]
  have e2 : k0_off2 i = ![0, b, 0] := by rw [k0_off2_eq, hb]
  have T := O.tile b (by omega) (k0_off1 i) (k0_off2 i) (k0_off1_inb i) (k0_off2_inb i) e1 e2
  refine ⟨fun l d => T.dk_diag l d, fun l d => T.dv_diag l d, fun l => T.dc_diag l, fun t d => ?_, fun t => ?_⟩
  · by_cases h : b ≤ t.val ∧ t.val < b + 1024
    · refine (upd2_in d9 _ _ b e1 t d ⟨t.val - b, by omega⟩ (show t.val = b + (t.val - b) by omega)).trans ?_
      refine (T.dq_diag (E := N.dq b) (fun r d' => ?_) _ d).trans ?_
      · exact (cut2_at d9 _ _ b e1 r d' (by omega)).trans (h9 _ d')
      · rw [if_pos h.2, Nums.dq_add, show b + (⟨t.val - b, by omega⟩ : Fin 1024).val = t.val from show b + (t.val - b) = t.val by omega]
    · refine (upd2_out d9 _ _ b e1 t d (by omega)).trans ((h9 t d).trans ?_)
      by_cases h' : t.val < b
      · rw [if_pos (by omega), Nums.dq_add, Nums.dq_tile_zero N h', zero_mul, add_zero]
      · rw [if_neg (by omega)]
  · by_cases h : b ≤ t.val ∧ t.val < b + 1024
    · refine (upd3_in d13 _ _ b e2 t ⟨t.val - b, by omega⟩ (show t.val = b + (t.val - b) by omega)).trans ?_
      refine (T.dcq_diag (E := N.dcq b) (fun r => ?_) _).trans ?_
      · exact (cut3_at d13 _ _ b e2 r (by omega)).trans (h13 _)
      · rw [if_pos h.2, Nums.dcq_add, show b + (⟨t.val - b, by omega⟩ : Fin 1024).val = t.val from show b + (t.val - b) = t.val by omega]
    · refine (upd3_out d13 _ _ b e2 t (by omega)).trans ((h13 t).trans ?_)
      by_cases h' : t.val < b
      · rw [if_pos (by omega), Nums.dcq_add, Nums.dcq_tile_zero N h', add_zero]
      · rw [if_neg (by omega)]

/-- A tile below the diagonal adds its rows. -/
theorem Operands.step_holds (i : grid0.Coords) (hb : b = 1024 * (i 1).val) (k : Fin (k0_t1_loop i).trips) {s : State Ideal}
    (H : Holds N b (b + 1024 + 1024 * k.val) s) (hk : (i 1).val + k.val + 1 < 4) :
    Holds N b (b + 1024 + 1024 * (k.val + 1)) (stepK (F := Ideal) i (k0_pay24 x1) x2 (k0_pay25 x3) x0 x4 x5 x6 k s) := by
  obtain ⟨a, ha⟩ : ∃ a, a = b + 1024 + 1024 * k.val := ⟨_, rfl⟩
  have e3 : k0_off3 i k = ![a, 0] := by rw [k0_off3_eq, ha, hb]; congr 1; omega
  have e4 : k0_off4 i k = ![0, a, 0] := by rw [k0_off4_eq, ha, hb]; congr 2; omega
  have hn : b + 1024 + 1024 * (k.val + 1) = a + 1024 := by omega
  have hlt : a + 1024 ≤ 4096 := by omega
  have hab : b + 1024 ≤ a := by omega
  have T := O.tile a hlt (k0_off3 i k) (k0_off4 i k) (k0_off3_inb i k) (k0_off4_inb i k) e3 e4
  rw [← ha] at H
  rw [hn]
  refine ⟨fun l d => T.dk_below hab H.dk l d, fun l d => T.dv_below hab H.dv l d, fun l => T.dc_below hab H.dc l, fun t d => ?_, fun t => ?_⟩
  · by_cases h : a ≤ t.val ∧ t.val < a + 1024
    · refine (upd2_in s.2.1 _ _ a e3 t d ⟨t.val - a, by omega⟩ (show t.val = a + (t.val - a) by omega)).trans ?_
      refine (T.dq_below hab (E := N.dq b) (fun r d' => ?_) _ d).trans ?_
      · refine (cut2_at s.2.1 _ _ a e3 r d' (by omega)).trans ((H.dq _ d').trans ?_)
        rw [if_neg (show ¬ a + r.val < a by omega)]
      · rw [if_pos h.2, Nums.dq_add, show a + (⟨t.val - a, by omega⟩ : Fin 1024).val = t.val from show a + (t.val - a) = t.val by omega]
    · refine (upd2_out s.2.1 _ _ a e3 t d (by omega)).trans ((H.dq t d).trans ?_)
      by_cases h' : t.val < a
      · rw [if_pos h', if_pos (by omega)]
      · rw [if_neg h', if_neg (by omega)]
  · by_cases h : a ≤ t.val ∧ t.val < a + 1024
    · refine (upd3_in s.2.2 _ _ a e4 t ⟨t.val - a, by omega⟩ (show t.val = a + (t.val - a) by omega)).trans ?_
      refine (T.dcq_below hab (E := N.dcq b) (fun r => ?_) _).trans ?_
      · refine (cut3_at s.2.2 _ _ a e4 r (by omega)).trans ((H.dcq _).trans ?_)
        rw [if_neg (show ¬ a + r.val < a by omega)]
      · rw [if_pos h.2, Nums.dcq_add, show a + (⟨t.val - a, by omega⟩ : Fin 1024).val = t.val from show a + (t.val - a) = t.val by omega]
    · refine (upd3_out s.2.2 _ _ a e4 t (by omega)).trans ((H.dcq t).trans ?_)
      by_cases h' : t.val < a
      · rw [if_pos h', if_pos (by omega)]
      · rw [if_neg h', if_neg (by omega)]

/-- A whole point: every row is done. -/
theorem Operands.point_holds (i : grid0.Coords) (hb : b = 1024 * (i 1).val) (d9 : FVec Ideal S4096x128 .f32) (d13 : FVec Ideal S1x4096x1 .f32)
    (h9 : ∀ (t : Fin 4096) (d : Fin 128), d9 (ix2 t d) = ((N.dq b t d : ℝ) : EReal))
    (h13 : ∀ t : Fin 4096, d13 (ix3 0 t 0) = ((N.dcq b t : ℝ) : EReal)) :
    Holds N b 4096 (point (F := Ideal) i x0 x1 x2 x3 x4 x5 x6 d9 d13) := by
  have hi : (i 1).val < 4 := (i 1).isLt
  have ht := trips_eq i
  have key : ∀ n : ℕ, n ≤ (k0_t1_loop i).trips → Holds N b (b + 1024 + 1024 * n)
      (stAt (F := Ideal) i (k0_pay24 x1) x2 (k0_pay25 x3) x0 x4 x5 x6 (diag (F := Ideal) i x0 x1 x2 x3 x4 x5 x6 d9 d13) n) := by
    intro n
    induction n with
    | zero => exact fun _ => O.diag_holds i hb d9 d13 h9 h13
    | succ n ih =>
      intro hn
      have := O.step_holds i hb ⟨n, hn⟩ (ih (by omega)) (show (i 1).val + n + 1 < 4 by omega)
      rw [← stAt_succ] at this
      exact this
  have h := key _ le_rfl
  rw [show b + 1024 + 1024 * (k0_t1_loop i).trips = 4096 by omega] at h
  exact h

end

end Cert.Att

end
-- ==== Proof.Soft.lean ====
module

public import proofs.«01_k».proof.Proof.Nums
public import Idealize.ShloMosaic.Lib.IdealHost
public import Mathlib.Analysis.SpecialFunctions.Pow.Real

@[expose] public section

noncomputable section

/-! The softmax of a masked row, and the gradients of the attention, in real numbers. -/

namespace Cert.Att

open Idealize.ShloMosaic
open Finset (range)

/-! ### One row -/

/-- The exponential of key `s` of row `t` with `a` taken off the logits `x`; a key after its row has none. -/
def expo (a : ℝ) (x : ℕ → ℝ) (t s : ℕ) : ℝ := if s ≤ t then Real.exp (x s - a) else 0
/-- Their sum. -/
def total (a : ℝ) (x : ℕ → ℝ) (t : ℕ) : ℝ := ∑ s ∈ range 4096, expo a x t s
/-- The softmax. -/
def soft (x : ℕ → ℝ) (t s : ℕ) : ℝ := expo 0 x t s / total 0 x t

theorem expo_nonneg (a : ℝ) (x : ℕ → ℝ) (t s : ℕ) : 0 ≤ expo a x t s := by
  unfold expo; split
  · exact (Real.exp_pos _).le
  · exact le_rfl

theorem total_pos (a : ℝ) (x : ℕ → ℝ) {t : ℕ} (h : t < 4096) : 0 < total a x t := by
  refine Finset.sum_pos' (fun s _ => expo_nonneg a x t s) ⟨t, Finset.mem_range.mpr h, ?_⟩
  rw [expo, if_pos le_rfl]; exact Real.exp_pos _

theorem expo_shift (a : ℝ) (x : ℕ → ℝ) (t s : ℕ) : expo a x t s = Real.exp (-a) * expo 0 x t s := by
  unfold expo; split
  · rw [← Real.exp_add]; congr 1; ring
  · rw [mul_zero]

theorem total_shift (a : ℝ) (x : ℕ → ℝ) (t : ℕ) : total a x t = Real.exp (-a) * total 0 x t := by
  rw [total, total, Finset.mul_sum]; exact Finset.sum_congr rfl fun s _ => expo_shift a x t s

/-- What is taken off does not change the softmax. -/
theorem soft_of (a : ℝ) (x : ℕ → ℝ) (t s : ℕ) : expo a x t s / total a x t = soft x t s := by
  rw [expo_shift, total_shift, soft, mul_div_mul_left _ _ (Real.exp_pos _).ne']

/-- A constant added to the row's logits does not either. -/
theorem expo_add (a b : ℝ) (x : ℕ → ℝ) (t s : ℕ) : expo a (fun s => x s + b) t s = expo (a - b) x t s := by
  unfold expo; split
  · congr 1; ring
  · rfl
theorem total_add (a b : ℝ) (x : ℕ → ℝ) (t : ℕ) : total a (fun s => x s + b) t = total (a - b) x t :=
  Finset.sum_congr rfl fun s _ => expo_add a b x t s
theorem soft_add (b : ℝ) (x : ℕ → ℝ) (t s : ℕ) : soft (fun s => x s + b) t s = soft x t s := by
  rw [soft, expo_add, total_add, soft_of]

/-- The softmax in base 2 from the row's normaliser. -/
theorem soft_two (a : ℝ) (x : ℕ → ℝ) {t : ℕ} (h : t < 4096) (s : ℕ) :
    (if s ≤ t then Real.rpow 2 ((x s - (a + Real.log (total a x t))) / Real.log 2) else 0) = soft x t s := by
  rw [← soft_of a, expo]
  split
  · show (2 : ℝ) ^ ((x s - (a + Real.log (total a x t))) / Real.log 2) = _
    rw [Real.rpow_def_of_pos (by norm_num : (0 : ℝ) < 2), mul_div_cancel₀ _ (Real.log_pos (by norm_num : (1 : ℝ) < 2)).ne',
      ← sub_sub, Real.exp_sub, Real.exp_log (total_pos a x h)]
  · rw [zero_div]

/-! ### The same row among the extended reals -/

/-- A masked logit. -/
def masked (x : ℕ → ℝ) (t s : ℕ) : EReal := if s ≤ t then ((x s : ℝ) : EReal) else ⊥

/-- The largest masked logit is a real number. -/
theorem exists_max (x : ℕ → ℝ) (t : Fin 4096) :
    ∃ M : ℝ, (Finset.univ : Finset (Fin 4096)).fold max ⊥ (fun s => masked x t.val s.val) = ((M : ℝ) : EReal) := by
  have lt_top : ∀ S : Finset (Fin 4096), S.fold max ⊥ (fun s => masked x t.val s.val) ≠ ⊤ := by
    intro S
    induction S using Finset.induction_on with
    | empty => simp
    | insert a S ha ih =>
      rw [Finset.fold_insert ha]
      rcases max_choice (masked x t.val a.val) (S.fold max ⊥ fun s => masked x t.val s.val) with h | h
      · rw [h, masked]; split
        · exact EReal.coe_ne_top _
        · exact bot_ne_top
      · rw [h]; exact ih
  have ne_bot : (Finset.univ : Finset (Fin 4096)).fold max ⊥ (fun s => masked x t.val s.val) ≠ ⊥ := by
    intro h
    have : masked x t.val t.val ≤ (Finset.univ : Finset (Fin 4096)).fold max ⊥ (fun s => masked x t.val s.val) :=
      Finset.le_fold_max _ |>.mpr (Or.inr ⟨t, Finset.mem_univ _, le_rfl⟩)
    rw [h, le_bot_iff, masked, if_pos le_rfl] at this
    exact EReal.coe_ne_bot _ this
  exact ⟨_, (EReal.coe_toReal (lt_top _) ne_bot).symm⟩

/-- That number. -/
def peak (x : ℕ → ℝ) (t : ℕ) : ℝ := ((Finset.univ : Finset (Fin 4096)).fold max ⊥ (fun s => masked x t s.val)).toReal
theorem fold_peak (x : ℕ → ℝ) (t : Fin 4096) :
    (Finset.univ : Finset (Fin 4096)).fold max ⊥ (fun s => masked x t.val s.val) = ((peak x t.val : ℝ) : EReal) := by
  obtain ⟨M, h⟩ := exists_max x t
  rw [peak, h, EReal.toReal_coe]

theorem masked_exp (x : ℕ → ℝ) (t s : ℕ) (M : ℝ) : Ideal.exp (masked x t s - ((M : ℝ) : EReal)) = ((expo M x t s : ℝ) : EReal) := by
  unfold masked expo; split
  · rw [← EReal.coe_sub, Ideal.exp_coe]
  · rw [EReal.bot_sub, Ideal.exp_bot, EReal.coe_zero]

theorem log_total (a : ℝ) (x : ℕ → ℝ) {t : ℕ} (h : t < 4096) :
    Ideal.log ((total a x t : ℝ) : EReal) = ((Real.log (total a x t) : ℝ) : EReal) := by
  show (if total a x t ≤ 0 then ⊥ else ((Real.log (total a x t) : ℝ) : EReal)) = _
  rw [if_neg (not_le.mpr (total_pos a x h))]

/-- A quotient of two real numbers. -/
theorem div_real (x : ℝ) {y : ℝ} (h : y ≠ 0) : Ideal.div ((x : ℝ) : EReal) ((y : ℝ) : EReal) = ((x / y : ℝ) : EReal) := by
  rw [Ideal.div_coe h, ← EReal.coe_mul, mul_one_div]

/-! ### The constants -/

/-- The number that stands for `128 ^ (-1/2)`. -/
def sigma : ℝ := 11863283 / 134217728
theorem sigma_ne : sigma ≠ 0 := by unfold sigma; norm_num
theorem ofBits_sigma : Ideal.ofBits .f32 0x3DB504F3#32 = ((sigma : ℝ) : EReal) := by
  simp [Ideal.ofBits, Ideal.ieee, sigma, -EReal.coe_mul]; norm_num
theorem ofBits_two : Ideal.ofBits .f32 0x40000000#32 = ((2 : ℝ) : EReal) := by
  simp [Ideal.ofBits, Ideal.ieee, -EReal.coe_mul]; norm_num
theorem ofBits_bot : Ideal.ofBits .f32 0xFF800000#32 = (⊥ : EReal) := by
  simp [Ideal.ofBits, Ideal.ieee, -EReal.coe_mul]
theorem ofBits_top : Ideal.ofBits .f32 0x7F800000#32 = (⊤ : EReal) := by
  simp [Ideal.ofBits, Ideal.ieee, -EReal.coe_mul]
theorem log_two_ne : Real.log 2 ≠ 0 := (Real.log_pos (by norm_num : (1 : ℝ) < 2)).ne'
theorem ideal_log_two : Ideal.log (Ideal.ofBits .f32 0x40000000#32) = ((Real.log 2 : ℝ) : EReal) := by
  rw [ofBits_two]
  show (if (2 : ℝ) ≤ 0 then ⊥ else ((Real.log 2 : ℝ) : EReal)) = _
  rw [if_neg (by norm_num)]

/-! ### The gradients -/

/-- The attention's operands: queries, keys, values and the result's gradient by row and column (head `h` has columns
`128 h` to `128 h + 127`), the cumulative gate by head and position. -/
structure Data where
  q : ℕ → ℕ → ℝ
  k : ℕ → ℕ → ℝ
  v : ℕ → ℕ → ℝ
  g : ℕ → ℕ → ℝ
  c : ℕ → ℕ → ℝ

namespace Data
variable (A : Data)

/-- The logits of a row, without the row's own gate. -/
def x (h t s : ℕ) : ℝ := (∑ d ∈ range 128, A.q t (h * 128 + d) * A.k s (h * 128 + d)) * sigma - A.c h s
/-- The weights. -/
def p (h t s : ℕ) : ℝ := soft (A.x h t) t s
/-- The gradient of the weights. -/
def dp (h t s : ℕ) : ℝ := ∑ d ∈ range 128, A.g t (h * 128 + d) * A.v s (h * 128 + d)
/-- The gradient of the logits. -/
def ds (h t s : ℕ) : ℝ := A.p h t s * (A.dp h t s - ∑ r ∈ range 4096, A.p h t r * A.dp h t r)

/-- What the call's operands are for head `h`; `M` is what the row's normaliser takes off. -/
def nums (M : ℕ → ℕ → ℝ) (h : ℕ) : Nums where
  q t d := A.q t (h * 128 + d) * sigma / Real.log 2
  k s d := A.k s (h * 128 + d)
  v s d := A.v s (h * 128 + d)
  o t d := ∑ s ∈ range 4096, A.v s (h * 128 + d) * A.p h t s
  g t d := A.g t (h * 128 + d)
  c s := A.c h s / Real.log 2
  l t := (M h t + Real.log (total (M h t) (A.x h t) t)) / Real.log 2

variable (M : ℕ → ℕ → ℝ) (h : ℕ) {t : ℕ} (ht : t < 4096)
include ht

theorem nums_w (s : ℕ) : (A.nums M h).w t s = A.p h t s := by
  rw [Nums.w, p, ← soft_two (M h t) _ ht]
  have : (A.nums M h).logit t s = (A.x h t s - (M h t + Real.log (total (M h t) (A.x h t) t))) / Real.log 2 := by
    rw [Nums.logit, sub_div, x, sub_div]
    congr 2
    rw [mul_div_assoc, Finset.sum_mul]
    refine Finset.sum_congr rfl fun d _ => ?_
    simp only [nums]; ring
  rw [this]

theorem nums_ds (s : ℕ) : (A.nums M h).ds t s = A.ds h t s := by
  rw [Nums.ds, nums_w A M h ht, ds]
  congr 2
  simp only [nums, dp, Finset.mul_sum]
  rw [Finset.sum_comm]
  refine Finset.sum_congr rfl fun r _ => Finset.sum_congr rfl fun d _ => ?_
  ring

end Data

/-- The gradient of the logits as the softmax's rule writes it: the quotient's two parts, times the exponential. -/
theorem ds_rule (A : Data) (h t s : ℕ) (ht : t < 4096) (a : ℝ) (y : ℕ → ℝ) (b : ℝ) (hy : y = fun s => A.x h t s + b) :
    (A.dp h t s / total a y t + -(∑ r ∈ range 4096, A.dp h t r * (1 / (total a y t * total a y t)) * expo a y t r)) * expo a y t s = A.ds h t s := by
  have hz := (total_pos a y ht).ne'
  have hp : ∀ r, A.p h t r = expo a y t r / total a y t := fun r => by rw [soft_of, hy, soft_add]; rfl
  rw [Data.ds, hp s]
  have : ∑ r ∈ range 4096, A.dp h t r * (1 / (total a y t * total a y t)) * expo a y t r = (∑ r ∈ range 4096, A.p h t r * A.dp h t r) / total a y t := by
    rw [Finset.sum_div]
    refine Finset.sum_congr rfl fun r _ => ?_
    rw [hp r]; field_simp
  rw [this]
  field_simp
  ring

end Cert.Att

end
-- ==== Proof.Host.lean ====
module

public import proofs.«01_k».proof.Proof.Gen.KernelIdeal.Frame
public import Idealize.ShloMosaic.Lib.Claim
public import Idealize.ShloMosaic.Lib.Pointwise
public import proofs.«01_k».proof.Proof.Soft
public import proofs.«01_k».proof.Proof.Pay

@[expose] public section

set_option maxRecDepth 16384

noncomputable section
namespace Cert.Att

open Idealize.ShloMosaic Idealize.ShloMosaic.TcCoe Idealize.SL.Sem
open Cert.KernelIdeal Cert.KernelIdeal.Gen

/-! ## The lines before the call, one array at a time -/

/-- The masked logits of every head. -/
def hS (q k : FVec Ideal S4096x2048 .f32) (c : FVec Ideal S16x4096 .f32) : FVec Ideal S16x4096x4096 .f32 :=
  select (broadcastInDim S16x4096x4096 ![1, 2] bcast_S4096x4096_S16x4096x4096_1_2 (cmpi .sge (iotaInDim S4096x4096 32 0) (iotaInDim S4096x4096 32 1)))
    (subf (mulf (Host.dotGeneral dot_S4096x16x128_S4096x16x128_S16x4096x4096_2_2_0_0_1_1 none
        (shapeCast S4096x16x128 q shapeCasts_S4096x2048_S4096x16x128) (shapeCast S4096x16x128 k shapeCasts_S4096x2048_S4096x16x128))
        (broadcastInDim S16x4096x4096 ![] bcast_S_S16x4096x4096 (constant S_ .f32 0x3DB504F3#32)))
      (broadcastInDim S16x4096x4096 ![0, 1, 2] bcast_S16x1x4096_S16x4096x4096_0_1_2 (broadcastInDim S16x1x4096 ![0, 2] bcast_S16x4096_S16x1x4096_0_2 c)))
    (broadcastInDim S16x4096x4096 ![] bcast_S_S16x4096x4096 (constant S_ .f32 0xFF800000#32))
/-- The largest logit of each row. -/
def hM (S : FVec Ideal S16x4096x4096 .f32) : FVec Ideal S16x4096x1 .f32 :=
  broadcastInDim S16x4096x1 ![0, 1] bcast_S16x4096_S16x4096x1_0_1 (Host.reduce FloatOps.maximumf S (constant S_ .f32 0xFF800000#32) reducesTo_S16x4096x4096_S16x4096_d2 h_S_)
/-- The exponentials. -/
def hE (S : FVec Ideal S16x4096x4096 .f32) : FVec Ideal S16x4096x4096 .f32 :=
  Host.exp (subf S (broadcastInDim S16x4096x4096 ![0, 1, 2] bcast_S16x4096x1_S16x4096x4096_0_1_2 (hM S)))
/-- Their sum over each row. -/
def hL (S : FVec Ideal S16x4096x4096 .f32) : FVec Ideal S16x4096x1 .f32 :=
  broadcastInDim S16x4096x1 ![0, 1] bcast_S16x4096_S16x4096x1_0_1 (Host.reduceAdd (hE S) (constant S_ .f32 0x00000000#32) reducesTo_S16x4096x4096_S16x4096_d2 h_S_)
/-- The values' columns of the projection. -/
def hV (p : FVec Ideal S4096x22528 .bf16) : FVec Ideal S4096x16x128 .f32 :=
  shapeCast S4096x16x128 (extf .f32 (extractStridedSlice S4096x2048 ![0, 12288] p slices_S4096x22528_S4096x2048_0_12288) bitsLt_bf16_f32) shapeCasts_S4096x2048_S4096x16x128
/-- The attention's result. -/
def hO (S : FVec Ideal S16x4096x4096 .f32) (p : FVec Ideal S4096x22528 .bf16) : FVec Ideal S4096x2048 .f32 :=
  shapeCast S4096x2048 (transpose S4096x16x128 [2, 0, 1] (Host.dotGeneral dot_S4096x16x128_S16x4096x4096_S16x128x4096_0_2_2_1_1_0 none (hV p)
    (Host.divf (hE S) (broadcastInDim S16x4096x4096 ![0, 1, 2] bcast_S16x4096x1_S16x4096x4096_0_1_2 (hL S)))) transposes_S16x128x4096_S4096x16x128_2_0_1) shapeCasts_S4096x16x128_S4096x2048
/-- The logarithm to base 2 of each row's sum. -/
def hZ (S : FVec Ideal S16x4096x4096 .f32) : FVec Ideal S16x4096x1 .f32 :=
  Host.divf (addf (hM S) (Host.log (hL S))) (broadcastInDim S16x4096x1 ![] bcast_S_S16x4096x1 (Host.log (constant S_ .f32 0x40000000#32)))

section
variable (m : (ℓ : Loc nD τ sig) → Buf (Elt Ideal) ℓ) (c : Dev nD)

theorem V37 : V m c main_v37 = hO (hS (m ((c : Thread nD τ).loc main_arg0)) (m ((c : Thread nD τ).loc main_arg1)) (m ((c : Thread nD τ).loc main_arg3))) (m ((c : Thread nD τ).loc main_arg2)) := by
  unfold V
  simp only [hostOps0, hostOps0_1, hostOps0_2, List.flatten_cons, List.flatten_nil, List.cons_append, List.nil_append, List.append_nil]
  entry_read
  rfl
theorem V42 : V m c main_v42 = hZ (hS (m ((c : Thread nD τ).loc main_arg0)) (m ((c : Thread nD τ).loc main_arg1)) (m ((c : Thread nD τ).loc main_arg3))) := by
  unfold V
  simp only [hostOps0, hostOps0_1, hostOps0_2, List.flatten_cons, List.flatten_nil, List.cons_append, List.nil_append, List.append_nil]
  entry_read
  rfl
theorem V5 (t : Fin 4096) (x : Fin 2048) (a : ℝ) (e : (m ((c : Thread nD τ).loc main_arg0) : S4096x2048.Idx → EReal) (ix2 t x) = ((a : ℝ) : EReal)) :
    (V m c main_v5 : S4096x2048.Idx → EReal) (ix2 t x) = ((a * sigma / Real.log 2 : ℝ) : EReal) := by
  unfold V
  simp only [hostOps0, hostOps0_1, hostOps0_2, List.flatten_cons, List.flatten_nil, List.cons_append, List.nil_append, List.append_nil]
  entry_read
  change (m (c, Proc.tc.devRef main_arg0) : S4096x2048.Idx → EReal) (ix2 t x) = _ at e
  pointwise
  rw [e, ofBits_sigma, ideal_log_two, ← EReal.coe_mul, div_real _ log_two_ne]
theorem V6 (t : Fin 4096) (x : Fin 2048) : (V m c main_v6 : S4096x2048.Idx → EReal) (ix2 t x) = (m ((c : Thread nD τ).loc main_arg1) : S4096x2048.Idx → EReal) (ix2 t x) := by
  unfold V
  simp only [hostOps0, hostOps0_1, hostOps0_2, List.flatten_cons, List.flatten_nil, List.cons_append, List.nil_append, List.append_nil]
  entry_read
  pointwise
theorem V10 (h : Fin 16) (j : Fin 4) (l : Fin 1024) (a : ℝ) (b : j.val * 1024 + l.val < 4096)
    (e : (m ((c : Thread nD τ).loc main_arg3) : S16x4096.Idx → EReal) (ix2 h ⟨j.val * 1024 + l.val, b⟩) = ((a : ℝ) : EReal)) :
    (V m c main_v10 : S16x4x1x1024.Idx → EReal) (ix4 h j 0 l) = ((a / Real.log 2 : ℝ) : EReal) := by
  unfold V
  simp only [hostOps0, hostOps0_1, hostOps0_2, List.flatten_cons, List.flatten_nil, List.cons_append, List.nil_append, List.append_nil]
  entry_read
  change (m (c, Proc.tc.devRef main_arg3) : S16x4096.Idx → EReal) (ix2 h ⟨j.val * 1024 + l.val, b⟩) = _ at e
  pointwise
  rw [e, ideal_log_two, div_real _ log_two_ne]
end

/-! ## What they hold at each index -/

theorem hS_at (q k : FVec Ideal S4096x2048 .f32) (c : FVec Ideal S16x4096 .f32) (h : Fin 16) (t s : Fin 4096) :
    hS q k c (ix3 h t s) = Scalar.select (IntOp.cmpi .sge (BitVec.ofNat 32 t.val) (BitVec.ofNat 32 s.val))
      ((∑ x : Fin 128, q (ix2 t ⟨h.val * 128 + x.val, by omega⟩) * k (ix2 s ⟨h.val * 128 + x.val, by omega⟩)) * Ideal.ofBits .f32 0x3DB504F3#32 - c (ix2 h s)) (Ideal.ofBits .f32 0xFF800000#32) := by
  pointwise [hS]
theorem hM_at (S : FVec Ideal S16x4096x4096 .f32) (h : Fin 16) (t : Fin 4096) :
    hM S (ix3 h t 0) = (Finset.univ : Finset (Fin 4096)).fold max (Ideal.ofBits .f32 0xFF800000#32) (fun x => S (ix3 h t x)) := by
  pointwise [hM]
theorem hE_at (S : FVec Ideal S16x4096x4096 .f32) (h : Fin 16) (t s : Fin 4096) :
    hE S (ix3 h t s) = Ideal.exp (S (ix3 h t s) - hM S (ix3 h t 0)) := by
  pointwise [hE]
theorem hL_at (S : FVec Ideal S16x4096x4096 .f32) (h : Fin 16) (t : Fin 4096) :
    hL S (ix3 h t 0) = ∑ x : Fin 4096, hE S (ix3 h t x) := by
  pointwise [hL]
theorem hO_at (S : FVec Ideal S16x4096x4096 .f32) (p : FVec Ideal S4096x22528 .bf16) (t : Fin 4096) (h : Fin 16) (d : Fin 128) :
    hO S p (ix2 t ⟨h.val * 128 + d.val, by omega⟩)
      = ∑ s : Fin 4096, p (ix2 s ⟨12288 + (h.val * 128 + d.val), by omega⟩) * Ideal.div (hE S (ix3 h t s)) (hL S (ix3 h t 0)) := by
  have e : (⟨(h.val * 128 + d.val) / 128, by omega⟩ : Fin 16) = h := Fin.ext (by show (h.val * 128 + d.val) / 128 = h.val; omega)
  generalize hx : (⟨h.val * 128 + d.val, by omega⟩ : Fin 2048) = x
  have hx' : x.val = h.val * 128 + d.val := by rw [← hx]
  have e : (⟨x.val / 128, by omega⟩ : Fin 16) = h := Fin.ext (by show x.val / 128 = h.val; omega)
  have : hO S p (ix2 t x) = ∑ s : Fin 4096, p (ix2 s ⟨12288 + x.val, by omega⟩) * Ideal.div (hE S (ix3 ⟨x.val / 128, by omega⟩ t s)) (hL S (ix3 ⟨x.val / 128, by omega⟩ t 0)) := by
    pointwise [hO, hV]
  rw [this, e]
  simp only [hx']
theorem twos_at (X Y : FVec Ideal S16x4096x1 .f32) (h : Fin 16) (t : Fin 4096) :
    Host.divf (addf X (Host.log Y)) (broadcastInDim S16x4096x1 ![] bcast_S_S16x4096x1 (Host.log (constant S_ .f32 0x40000000#32))) (ix3 h t 0)
      = Ideal.div (X (ix3 h t 0) + Ideal.log (Y (ix3 h t 0))) (Ideal.log (Ideal.ofBits .f32 0x40000000#32)) := by
  pointwise
theorem hZ_at (S : FVec Ideal S16x4096x4096 .f32) (h : Fin 16) (t : Fin 4096) :
    hZ S (ix3 h t 0) = Ideal.div (hM S (ix3 h t 0) + Ideal.log (hL S (ix3 h t 0))) (Ideal.log (Ideal.ofBits .f32 0x40000000#32)) := by
  unfold hZ
  exact twos_at (hM S) (hL S) h t

/-! ## The same in real numbers -/

section
variable {A : Data} {q k : FVec Ideal S4096x2048 .f32} {c : FVec Ideal S16x4096 .f32} {p : FVec Ideal S4096x22528 .bf16}
  (hq : ∀ (t : Fin 4096) (x : Fin 2048), q (ix2 t x) = ((A.q t.val x.val : ℝ) : EReal))
  (hk : ∀ (t : Fin 4096) (x : Fin 2048), k (ix2 t x) = ((A.k t.val x.val : ℝ) : EReal))
  (hc : ∀ (h : Fin 16) (t : Fin 4096), c (ix2 h t) = ((A.c h.val t.val : ℝ) : EReal))
  (hv : ∀ (t : Fin 4096) (x : Fin 2048) (b : 12288 + x.val < 22528), p (ix2 t ⟨12288 + x.val, b⟩) = ((A.v t.val x.val : ℝ) : EReal))
include hq hk hc

theorem hS_real (h : Fin 16) (t s : Fin 4096) : hS q k c (ix3 h t s) = masked (A.x h.val t.val) t.val s.val := by
  have e : (∑ x : Fin 128, q (ix2 t ⟨h.val * 128 + x.val, by omega⟩) * k (ix2 s ⟨h.val * 128 + x.val, by omega⟩))
      = ((∑ d ∈ Finset.range 128, A.q t.val (h.val * 128 + d) * A.k s.val (h.val * 128 + d) : ℝ) : EReal) := by
    rw [← coe_sum_fin]
    exact Finset.sum_congr rfl fun x _ => by rw [hq, hk, ← EReal.coe_mul]
  rw [hS_at, e, hc, ofBits_sigma, ofBits_bot, ← EReal.coe_mul, ← EReal.coe_sub, Scalar.select, masked]
  have w : IntOp.cmpi .sge (BitVec.ofNat 32 t.val) (BitVec.ofNat 32 s.val) = (1 : BitVec 1) ↔ s.val ≤ t.val :=
    WordCmp.cmpi_sge_ofNat_eq_one_iff (by omega) (by omega)
  by_cases g : s.val ≤ t.val
  · rw [if_pos g, if_pos (w.mpr g)]; rfl
  · rw [if_neg g, if_neg (fun e => g (w.mp e))]
theorem hM_real (h : Fin 16) (t : Fin 4096) : hM (hS q k c) (ix3 h t 0) = ((peak (A.x h.val t.val) t.val : ℝ) : EReal) := by
  rw [hM_at, ofBits_bot, ← fold_peak]
  exact congrArg (fun f => (Finset.univ : Finset (Fin 4096)).fold max ⊥ f) (funext fun s => hS_real hq hk hc h t s)
theorem hE_real (h : Fin 16) (t s : Fin 4096) : hE (hS q k c) (ix3 h t s) = ((expo (peak (A.x h.val t.val) t.val) (A.x h.val t.val) t.val s.val : ℝ) : EReal) := by
  rw [hE_at, hM_real hq hk hc, hS_real hq hk hc, masked_exp]
theorem hL_real (h : Fin 16) (t : Fin 4096) : hL (hS q k c) (ix3 h t 0) = ((total (peak (A.x h.val t.val) t.val) (A.x h.val t.val) t.val : ℝ) : EReal) := by
  rw [hL_at, total, ← coe_sum_fin]
  exact Finset.sum_congr rfl fun s _ => hE_real hq hk hc h t s
theorem hZ_real (h : Fin 16) (t : Fin 4096) : hZ (hS q k c) (ix3 h t 0)
    = (((A.nums (fun h t => peak (A.x h t) t) h.val).l t.val : ℝ) : EReal) := by
  rw [hZ_at, hM_real hq hk hc, hL_real hq hk hc, log_total _ _ t.isLt, ideal_log_two, ← EReal.coe_add, div_real _ log_two_ne]
  rfl
include hv
theorem hO_real (t : Fin 4096) (h : Fin 16) (d : Fin 128) (b : h.val * 128 + d.val < 2048) : hO (hS q k c) p (ix2 t ⟨h.val * 128 + d.val, b⟩)
    = (((A.nums (fun h t => peak (A.x h t) t) h.val).o t.val d.val : ℝ) : EReal) := by
  rw [hO_at]
  refine Eq.trans ?_ (coe_sum_fin 4096 fun s => A.v s (h.val * 128 + d.val) * A.p h.val t.val s)
  refine Finset.sum_congr rfl fun s _ => ?_
  rw [hE_real hq hk hc, hL_real hq hk hc, div_real _ (total_pos _ _ t.isLt).ne', soft_of]
  have := hv s ⟨h.val * 128 + d.val, by omega⟩ (by show 12288 + (h.val * 128 + d.val) < 22528; omega)
  rw [this, ← EReal.coe_mul]
  rfl
end

end Cert.Att

end
-- ==== Proof.Blocks.lean ====
module

public import proofs.«01_k».proof.Proof.Dats
public import proofs.«01_k».proof.Proof.Point
public import proofs.«01_k».proof.Proof.Host
public import Idealize.ShloMosaic.Lib.Pipeline.ValueKit

@[expose] public section

set_option maxRecDepth 16384

noncomputable section

/-! The blocks each step of the grid reads: step `4 h + j` takes head `h` and the `j`-th 1024 keys. -/

namespace Cert.Att

open Idealize.ShloMosaic Idealize.ShloMosaic.TcCoe Idealize.SL.Sem
open Cert.KernelIdeal Cert.KernelIdeal.Gen

theorem idx_0 : ∀ t : Fin cfg0.N, win0_0.index t = ![0, t.val / 4] := (by decide +kernel : ∀ t : Fin grid0.N, _)
theorem idx_1 : ∀ t : Fin cfg0.N, win0_1.index t = ![t.val % 4, t.val / 4] := (by decide +kernel : ∀ t : Fin grid0.N, _)
theorem idx_2 : ∀ t : Fin cfg0.N, win0_2.index t = ![t.val % 4, 96 + t.val / 4] := (by decide +kernel : ∀ t : Fin grid0.N, _)
theorem idx_3 : ∀ t : Fin cfg0.N, win0_3.index t = ![t.val / 4, t.val % 4, 0, 0] := (by decide +kernel : ∀ t : Fin grid0.N, _)
theorem idx_4 : ∀ t : Fin cfg0.N, win0_4.index t = ![0, t.val / 4] := (by decide +kernel : ∀ t : Fin grid0.N, _)
theorem idx_5 : ∀ t : Fin cfg0.N, win0_5.index t = ![0, t.val / 4] := (by decide +kernel : ∀ t : Fin grid0.N, _)
theorem idx_6 : ∀ t : Fin cfg0.N, win0_6.index t = ![t.val / 4, 0, 0] := (by decide +kernel : ∀ t : Fin grid0.N, _)
theorem idx_7 : ∀ t : Fin cfg0.N, win0_7.index t = ![0, t.val / 4] := (by decide +kernel : ∀ t : Fin grid0.N, _)
theorem idx_8 : ∀ t : Fin cfg0.N, win0_8.index t = ![t.val % 4, t.val / 4] := (by decide +kernel : ∀ t : Fin grid0.N, _)
theorem idx_9 : ∀ t : Fin cfg0.N, win0_9.index t = ![t.val % 4, t.val / 4] := (by decide +kernel : ∀ t : Fin grid0.N, _)
theorem idx_10 : ∀ t : Fin cfg0.N, win0_10.index t = ![t.val / 4, t.val % 4, 0, 0] := (by decide +kernel : ∀ t : Fin grid0.N, _)
theorem idx_11 : ∀ t : Fin cfg0.N, win0_11.index t = ![t.val / 4, 0, 0] := (by decide +kernel : ∀ t : Fin grid0.N, _)
theorem coords_val : ∀ t : Fin cfg0.N, (grid0.coords t 1).val = t.val % 4 := (by decide +kernel : ∀ t : Fin grid0.N, _)
theorem steps : cfg0.N = 64 := by decide

section
variable (m : (ℓ : Loc nD τ sig) → Buf (Elt Ideal) ℓ) (c : Dev nD) (t : Fin cfg0.N)

theorem blk_0 (r : Fin 4096) (d : Fin 128) (h : t.val / 4 * 128 + d.val < 2048) :
    (iblk m c 0 t : S4096x128.Idx → EReal) (ix2 r d) = (V m c main_v5 : S4096x2048.Idx → EReal) (ix2 r ⟨t.val / 4 * 128 + d.val, h⟩) := by
  blk_ext [iblk, idx_0 t]
theorem blk_1 (l : Fin 1024) (d : Fin 128) (h : t.val / 4 * 128 + d.val < 2048) (h' : t.val % 4 * 1024 + l.val < 4096) :
    (iblk m c 1 t : S1024x128.Idx → EReal) (ix2 l d) = (V m c main_v6 : S4096x2048.Idx → EReal) (ix2 ⟨t.val % 4 * 1024 + l.val, h'⟩ ⟨t.val / 4 * 128 + d.val, h⟩) := by
  blk_ext [iblk, idx_1 t]
theorem blk_2 (l : Fin 1024) (d : Fin 128) (h : 12288 + (t.val / 4 * 128 + d.val) < 22528) (h' : t.val % 4 * 1024 + l.val < 4096) :
    (iblk m c 2 t : S1024x128.Idx → EReal) (ix2 l d) = (m ((c : Thread nD τ).loc main_arg2) : S4096x22528.Idx → EReal) (ix2 ⟨t.val % 4 * 1024 + l.val, h'⟩ ⟨12288 + (t.val / 4 * 128 + d.val), h⟩) := by
  blk_ext [iblk, idx_2 t]
theorem blk_3 (l : Fin 1024) (h : t.val / 4 < 16) (h' : t.val % 4 < 4) :
    (iblk m c 3 t : S1x1x1x1024.Idx → EReal) (ix4 0 0 0 l) = (V m c main_v10 : S16x4x1x1024.Idx → EReal) (ix4 ⟨t.val / 4, h⟩ ⟨t.val % 4, h'⟩ 0 l) := by
  blk_ext [iblk, idx_3 t]
theorem blk_4 (r : Fin 4096) (d : Fin 128) (h : t.val / 4 * 128 + d.val < 2048) :
    (iblk m c 4 t : S4096x128.Idx → EReal) (ix2 r d) = (V m c main_v37 : S4096x2048.Idx → EReal) (ix2 r ⟨t.val / 4 * 128 + d.val, h⟩) := by
  blk_ext [iblk, idx_4 t]
theorem blk_5 (r : Fin 4096) (d : Fin 128) (h : t.val / 4 * 128 + d.val < 2048) :
    (iblk m c 5 t : S4096x128.Idx → EReal) (ix2 r d) = (m ((c : Thread nD τ).loc main_arg4) : S4096x2048.Idx → EReal) (ix2 r ⟨t.val / 4 * 128 + d.val, h⟩) := by
  blk_ext [iblk, idx_5 t]
theorem blk_6 (r : Fin 4096) (h : t.val / 4 < 16) :
    (iblk m c 6 t : S1x4096x1.Idx → EReal) (ix3 0 r 0) = (V m c main_v42 : S16x4096x1.Idx → EReal) (ix3 ⟨t.val / 4, h⟩ r 0) := by
  blk_ext [iblk, idx_6 t]
end

end Cert.Att

end
-- ==== Proof.Out.lean ====
module

public import proofs.«01_k».proof.Proof.Blocks

@[expose] public section

set_option maxRecDepth 16384

noncomputable section

/-! What the call writes, in real numbers. -/

namespace Cert.Att

open Idealize.ShloMosaic Idealize.ShloMosaic.TcCoe Idealize.SL.Sem
open Cert.KernelIdeal Cert.KernelIdeal.Gen
open Finset (range)

/-! ## The gradients -/

namespace Data
variable (A : Data)
/-- The gradients of the queries (in base 2, as the call gives them), keys, values, and of the gate by key and by row. -/
def gq (t x : ℕ) : ℝ := (∑ s ∈ range 4096, A.ds (x / 128) t s * A.k s x) * Real.log 2
def gk (s x : ℕ) : ℝ := (∑ t ∈ range 4096, A.ds (x / 128) t s * A.q t x) * sigma
def gv (s x : ℕ) : ℝ := ∑ t ∈ range 4096, A.p (x / 128) t s * A.g t x
def gc (h s : ℕ) : ℝ := -∑ t ∈ range 4096, A.ds h t s
def gr (h t : ℕ) : ℝ := ∑ s ∈ range 4096, A.ds h t s

variable (M : ℕ → ℕ → ℝ) (h : ℕ)
theorem nums_gq {t d : ℕ} (ht : t < 4096) (hd : d < 128) : (A.nums M h).dq 4096 t d = A.gq t (h * 128 + d) := by
  rw [gq, Nums.dq, show (h * 128 + d) / 128 = h by omega]
  simp only [nums_ds A M h ht]; rfl
theorem nums_gk {s d : ℕ} (hd : d < 128) : (A.nums M h).dk 4096 s d = A.gk s (h * 128 + d) := by
  rw [gk, Nums.dk, show (h * 128 + d) / 128 = h by omega, Finset.sum_mul, Finset.sum_mul]
  refine Finset.sum_congr rfl fun t ht => ?_
  rw [nums_ds A M h (Finset.mem_range.mp ht)]
  have := log_two_ne
  simp only [nums]; field_simp
theorem nums_gv {s d : ℕ} (hd : d < 128) : (A.nums M h).dv 4096 s d = A.gv s (h * 128 + d) := by
  rw [gv, Nums.dv, show (h * 128 + d) / 128 = h by omega]
  refine Finset.sum_congr rfl fun t ht => ?_
  rw [nums_w A M h (Finset.mem_range.mp ht)]; rfl
theorem nums_gc (s : ℕ) : (A.nums M h).dc 4096 s = A.gc h s :=
  congrArg Neg.neg (Finset.sum_congr rfl fun t ht => nums_ds A M h (Finset.mem_range.mp ht) s)
theorem nums_gr {t : ℕ} (ht : t < 4096) : (A.nums M h).dcq 4096 t = A.gr h t :=
  Finset.sum_congr rfl fun s _ => nums_ds A M h ht s
end Data

/-- The call's arguments are the numbers of `A`. -/
structure Reads (A : Data) (q k : FVec Ideal S4096x2048 .f32) (p : FVec Ideal S4096x22528 .bf16) (c : FVec Ideal S16x4096 .f32)
    (g : FVec Ideal S4096x2048 .bf16) : Prop where
  q : ∀ (t : Fin 4096) (x : Fin 2048), q (ix2 t x) = ((A.q t.val x.val : ℝ) : EReal)
  k : ∀ (t : Fin 4096) (x : Fin 2048), k (ix2 t x) = ((A.k t.val x.val : ℝ) : EReal)
  v : ∀ (t : Fin 4096) (x : Fin 2048) (b : 12288 + x.val < 22528), p (ix2 t ⟨12288 + x.val, b⟩) = ((A.v t.val x.val : ℝ) : EReal)
  c : ∀ (h : Fin 16) (t : Fin 4096), c (ix2 h t) = ((A.c h.val t.val : ℝ) : EReal)
  g : ∀ (t : Fin 4096) (x : Fin 2048), g (ix2 t x) = ((A.g t.val x.val : ℝ) : EReal)

theorem pay9_at (x : FVec Ideal S1x1024 .f32) (l : Fin 1024) : k0_pay9 (F := Ideal) x (ix4 0 0 0 l) = x (ix2 0 l) := by
  pointwise [k0_pay9]

/-- The operands of head `h`. -/
abbrev Data.head (A : Data) (h : ℕ) : Nums := A.nums (fun h t => peak (A.x h t) t) h

section
variable {A : Data} (m : (ℓ : Loc nD τ sig) → Buf (Elt Ideal) ℓ) (c : Dev nD)
  (R : Reads A (m ((c : Thread nD τ).loc main_arg0)) (m ((c : Thread nD τ).loc main_arg1)) (m ((c : Thread nD τ).loc main_arg2))
    (m ((c : Thread nD τ).loc main_arg3)) (m ((c : Thread nD τ).loc main_arg4)))
include R

theorem operands (t : Fin cfg0.N) : Operands (A.head (t.val / 4)) (1024 * (t.val % 4)) (iblk m c 0 t) (iblk m c 1 t) (iblk m c 2 t)
    (iblk m c 3 t) (iblk m c 4 t) (iblk m c 5 t) (iblk m c 6 t) := by
  have hN : t.val < 64 := lt_of_lt_of_eq t.isLt steps
  refine ⟨fun r d => ?_, fun l d => ?_, fun l d => ?_, fun l => ?_, fun r d => ?_, fun r d => ?_, fun r => ?_⟩
  · exact (blk_0 m c t r d (by omega)).trans (V5 m c _ _ _ (R.q _ _))
  · rw [Nat.mul_comm 1024]
    exact (blk_1 m c t l d (by omega) (by omega)).trans ((V6 m c _ _).trans (R.k _ _))
  · rw [Nat.mul_comm 1024]
    exact (blk_2 m c t l d (by omega) (by omega)).trans (R.v _ ⟨t.val / 4 * 128 + d.val, by omega⟩ (by show 12288 + (t.val / 4 * 128 + d.val) < 22528; omega))
  · rw [Nat.mul_comm 1024]
    exact (blk_3 m c t l (by omega) (by omega)).trans (V10 m c _ _ _ _ (by show t.val % 4 * 1024 + l.val < 4096; omega) (R.c _ _))
  · refine (blk_4 m c t r d (by omega)).trans ?_
    rw [V37]
    exact hO_real R.q R.k R.c R.v r ⟨t.val / 4, by omega⟩ d (by show t.val / 4 * 128 + d.val < 2048; omega)
  · exact (blk_5 m c t r d (by omega)).trans (R.g _ _)
  · refine (blk_6 m c t r (by omega)).trans ?_
    rw [V42]
    exact hZ_real R.q R.k R.c ⟨t.val / 4, by omega⟩ r

theorem left_holds (n : ℕ) (hn : n < cfg0.N) : Holds (A.head (n / 4)) (1024 * (n % 4)) 4096 (leftN m c n) := by
  have hp : ∀ s : Vec Ideal S4096x128 .f32 × Vec Ideal S1x4096x1 .f32,
      (∀ (t : Fin 4096) (d : Fin 128), s.1 (ix2 t d) = (((A.head (n / 4)).dq (1024 * (n % 4)) t d : ℝ) : EReal)) →
      (∀ t : Fin 4096, s.2 (ix3 0 t 0) = (((A.head (n / 4)).dcq (1024 * (n % 4)) t : ℝ) : EReal)) →
      Holds (A.head (n / 4)) (1024 * (n % 4)) 4096 (leaves m c ⟨n, hn⟩ s) := fun s h9 h13 =>
    (operands m c R ⟨n, hn⟩).point_holds _ (by rw [coords_val]) s.1 s.2 h9 h13
  induction n with
  | zero =>
    rw [leftN_first m c ⟨0, hn⟩ rfl]
    refine hp _ (fun t d => ?_) (fun t => ?_)
    · have : (k0_pay22 (F := Ideal)) (ix2 t d) = (0 : EReal) := by pointwise [k0_pay22]
      refine this.trans ?_
      simp [Nums.dq]
    · have : (k0_pay23 (F := Ideal)) (ix3 0 t 0) = (0 : EReal) := by pointwise [k0_pay23]
      refine this.trans ?_
      simp [Nums.dcq]
  | succ n ih =>
    by_cases h : (n + 1) % 4 = 0
    · rw [leftN_first m c ⟨n + 1, hn⟩ h]
      refine hp _ (fun t d => ?_) (fun t => ?_)
      · have : (k0_pay22 (F := Ideal)) (ix2 t d) = (0 : EReal) := by pointwise [k0_pay22]
        refine this.trans ?_
        simp [Nums.dq, h]
      · have : (k0_pay23 (F := Ideal)) (ix3 0 t 0) = (0 : EReal) := by pointwise [k0_pay23]
        refine this.trans ?_
        simp [Nums.dcq, h]
    · rw [leftN_next m c ⟨n + 1, hn⟩ h]
      have hn' : n < cfg0.N := by omega
      have I := ih hn' (fun s h9 h13 => (operands m c R ⟨n, hn'⟩).point_holds _ (by rw [coords_val]) s.1 s.2 h9 h13)
      have e1 : n / 4 = (n + 1) / 4 := by omega
      have e2 : 1024 * (n % 4) + 1024 = 1024 * ((n + 1) % 4) := by omega
      refine hp _ (fun t d => ?_) (fun t => ?_)
      · have := I.dq t d
        rw [if_pos t.isLt, e1, e2] at this
        exact this
      · have := I.dcq t
        rw [if_pos t.isLt, e1, e2] at this
        exact this

/-! ## The arrays at the end -/

theorem out_7 : (dats m 0 c).arrAt 7 (cfgs 0).N = (fun i => ((A.gq (i 0).val (i 1).val : ℝ) : EReal) : S4096x2048.Idx → EReal) := by
  refine (dats m 0 c).arrAt_eq_of_covers 7 _ (by decide +kernel) fun t hf y => ?_
  have hN : t.val < 64 := lt_of_lt_of_eq t.isLt steps
  have h3 : t.val % 4 = 3 := (flush0_7 t).mp hf
  blk_simp
  rw [after_7]
  have := (left_holds m c R t.val t.isLt).dq (y 0) (y 1)
  rw [← eq_ix2 y] at this
  refine this.trans ?_
  blk_simp [idx_7 t]
  have h0 : (y 0).val < 4096 := (y 0).isLt
  have h1 : (y 1).val < 128 := (y 1).isLt
  rw [if_pos h0, h3, Data.nums_gq _ _ _ h0 h1]
theorem out_8 : (dats m 0 c).arrAt 8 (cfgs 0).N = (fun i => ((A.gk (i 0).val (i 1).val : ℝ) : EReal) : S4096x2048.Idx → EReal) := by
  refine (dats m 0 c).arrAt_eq_of_covers 8 _ (by decide +kernel) fun t hf y => ?_
  have hN : t.val < 64 := lt_of_lt_of_eq t.isLt steps
  blk_simp
  rw [after_8]
  have := (left_holds m c R t.val t.isLt).dk (y 0) (y 1)
  rw [← eq_ix2 y] at this
  refine this.trans ?_
  blk_simp [idx_8 t]
  have h1 : (y 1).val < 128 := (y 1).isLt
  rw [Data.nums_gk _ _ _ h1, Nat.mul_comm 1024]
theorem out_9 : (dats m 0 c).arrAt 9 (cfgs 0).N = (fun i => ((A.gv (i 0).val (i 1).val : ℝ) : EReal) : S4096x2048.Idx → EReal) := by
  refine (dats m 0 c).arrAt_eq_of_covers 9 _ (by decide +kernel) fun t hf y => ?_
  have hN : t.val < 64 := lt_of_lt_of_eq t.isLt steps
  blk_simp
  rw [after_9]
  have := (left_holds m c R t.val t.isLt).dv (y 0) (y 1)
  rw [← eq_ix2 y] at this
  refine Eq.trans (show k0_pay8 (F := Ideal) (leftN m c t.val).1.2.1 y = (leftN m c t.val).1.2.1 y from rfl) (this.trans ?_)
  blk_simp [idx_9 t]
  have h1 : (y 1).val < 128 := (y 1).isLt
  rw [Data.nums_gv _ _ _ h1, Nat.mul_comm 1024]
theorem out_10 : (dats m 0 c).arrAt 10 (cfgs 0).N = (fun i => ((A.gc (i 0).val ((i 1).val * 1024 + (i 3).val) : ℝ) : EReal) : S16x4x1x1024.Idx → EReal) := by
  refine (dats m 0 c).arrAt_eq_of_covers 10 _ (by decide +kernel) fun t hf y => ?_
  have hN : t.val < 64 := lt_of_lt_of_eq t.isLt steps
  blk_simp
  rw [after_10]
  have h0 : (y 0).val = 0 := by have : (y 0).val < 1 := (y 0).isLt; omega
  have h1 : (y 1).val = 0 := by have : (y 1).val < 1 := (y 1).isLt; omega
  have h2 : (y 2).val = 0 := by have : (y 2).val < 1 := (y 2).isLt; omega
  have e : y = ix4 0 0 0 (y 3) := by
    funext b; fin_cases b
    · exact Fin.ext h0
    · exact Fin.ext h1
    · exact Fin.ext h2
    · rfl
  refine Eq.trans (congrArg (k0_pay9 (F := Ideal) (leftN m c t.val).1.2.2) e) ((pay9_at _ (y 3)).trans (((left_holds m c R t.val t.isLt).dc (y 3)).trans ?_))
  blk_simp [idx_10 t]
  rw [Data.nums_gc, Nat.mul_comm 1024]
theorem out_11 : (dats m 0 c).arrAt 11 (cfgs 0).N = (fun i => ((A.gr (i 0).val (i 1).val : ℝ) : EReal) : S16x4096x1.Idx → EReal) := by
  refine (dats m 0 c).arrAt_eq_of_covers 11 _ (by decide +kernel) fun t hf y => ?_
  have hN : t.val < 64 := lt_of_lt_of_eq t.isLt steps
  have h3 : t.val % 4 = 3 := (flush0_11 t).mp hf
  blk_simp
  rw [after_11]
  have h0 : (y 0).val = 0 := by have : (y 0).val < 1 := (y 0).isLt; omega
  have h2 : (y 2).val = 0 := by have : (y 2).val < 1 := (y 2).isLt; omega
  have e : y = ix3 0 (y 1) 0 := by
    funext b; fin_cases b
    · exact Fin.ext h0
    · rfl
    · exact Fin.ext h2
  refine Eq.trans (congrArg (leftN m c t.val).2.2 e) (((left_holds m c R t.val t.isLt).dcq (y 1)).trans ?_)
  have h1 : (y 1).val < 4096 := (y 1).isLt
  rw [if_pos h1, h3, Data.nums_gr _ _ _ h1]
  blk_simp [idx_11 t]
end

end Cert.Att

end
-- ==== Proof.Pre.lean ====
module

public import proofs.«01_k».proof.Defs
public import proofs.«01_k».proof.Proof.Out
public import Idealize.ShloMosaic.Lib.ReduceAll

@[expose] public section

set_option maxRecDepth 16384

noncomputable section

/-! What the precondition says: every number the call reads is a real number. -/

namespace Cert.Att

open Idealize.ShloMosaic Idealize.ShloMosaic.TcCoe Idealize.SL.Sem
open Cert.Pre_finite

/-- A number below `⊤` in absolute value is real. -/
theorem real_of_lt (x : EReal) (h : FloatOps.cmpf (F := Ideal) (φ := .f32) .olt (max x (-x)) (Ideal.ofBits .f32 0x7F800000#32) = 1#1) :
    x = ((x.toReal : ℝ) : EReal) := by
  have h1 : max x (-x) < Ideal.ofBits .f32 0x7F800000#32 := by
    by_contra hn
    have : FloatOps.cmpf (F := Ideal) (φ := .f32) .olt (max x (-x)) (Ideal.ofBits .f32 0x7F800000#32) = 0#1 := by
      show BitVec.ofBool (decide (max x (-x) < Ideal.ofBits .f32 0x7F800000#32)) = 0#1
      rw [decide_eq_false hn]; rfl
    rw [this] at h
    exact absurd h (by decide)
  rw [ofBits_top] at h1
  refine (EReal.coe_toReal ?_ ?_).symm
  · rintro rfl; simp at h1
  · rintro rfl; simp at h1

instance : Subsingleton S_.Idx := ⟨fun a b => funext fun d => d.elim0⟩

section
variable [Facts]
open Facts

theorem all_real {s : Shape} (x : FVec Ideal s .f32) (b : S_.BroadcastsInDim s (![] : Fin 0 → Fin s.rank)) {ax : List (Fin s.rank)} (r : s.ReducesTo ax S_)
    (h : Host.reduce IntOp.andi (cmpf .olt (Host.absf x) (broadcastInDim s ![] b (constant S_ .f32 0x7F800000#32))) (constantI S_ 1 1#1) r h_S_ ix0 = 1#1)
    (i : s.Idx) : (x i : EReal) = (((x i : EReal).toReal : ℝ) : EReal) :=
  real_of_lt _ (Host.reduce_andi_all _ _ r h_S_ ix0 h i)

theorem all_real_narrow {s : Shape} (x : FVec Ideal s .bf16) (b : S_.BroadcastsInDim s (![] : Fin 0 → Fin s.rank)) {ax : List (Fin s.rank)} (r : s.ReducesTo ax S_)
    (h : Host.reduce IntOp.andi (cmpf .olt (Host.absf (extf .f32 x bitsLt_bf16_f32)) (broadcastInDim s ![] b (constant S_ .f32 0x7F800000#32))) (constantI S_ 1 1#1) r h_S_ ix0 = 1#1)
    (i : s.Idx) : (x i : EReal) = (((x i : EReal).toReal : ℝ) : EReal) :=
  all_real (extf .f32 x bitsLt_bf16_f32) b r h i

theorem pre_real (q k : FVec Ideal S4096x2048 .f32) (p : FVec Ideal S4096x22528 .bf16) (c : FVec Ideal S16x4096 .f32) (g : FVec Ideal S4096x2048 .bf16)
    (h : fn (F := Ideal) q k p c g = fun _ => 1#1) :
    (∀ i, (q i : EReal) = (((q i : EReal).toReal : ℝ) : EReal)) ∧ (∀ i, (k i : EReal) = (((k i : EReal).toReal : ℝ) : EReal))
      ∧ (∀ i, (extractStridedSlice S4096x2048 ![0, 12288] p slices_S4096x22528_S4096x2048_0_12288 i : EReal)
          = (((extractStridedSlice S4096x2048 ![0, 12288] p slices_S4096x22528_S4096x2048_0_12288 i : EReal).toReal : ℝ) : EReal))
      ∧ (∀ i, (c i : EReal) = (((c i : EReal).toReal : ℝ) : EReal)) ∧ (∀ i, (g i : EReal) = (((g i : EReal).toReal : ℝ) : EReal)) := by
  have h0 := congrFun h ix0
  unfold fn fn_part1 at h0
  dsimp only at h0
  generalize extractStridedSlice S4096x2048 ![0, 12288] p slices_S4096x22528_S4096x2048_0_12288 = z at h0 ⊢
  obtain ⟨h1, hg⟩ := IntOp.andi_eq_one.mp h0
  obtain ⟨h2, hc⟩ := IntOp.andi_eq_one.mp h1
  obtain ⟨h3, hp⟩ := IntOp.andi_eq_one.mp h2
  obtain ⟨hq, hk⟩ := IntOp.andi_eq_one.mp h3
  refine ⟨?_, ?_, ?_, ?_, ?_⟩
  · exact all_real q _ _ hq
  · exact all_real k _ _ hk
  · exact all_real_narrow z _ _ hp
  · exact all_real c _ _ hc
  · exact all_real_narrow g _ _ hg

/-- The numbers of the arguments. -/
def dataOf (q k : FVec Ideal S4096x2048 .f32) (p : FVec Ideal S4096x22528 .bf16) (c : FVec Ideal S16x4096 .f32) (g : FVec Ideal S4096x2048 .bf16) : Data where
  q t x := if h : t < 4096 ∧ x < 2048 then (q (ix2 ⟨t, h.1⟩ ⟨x, h.2⟩) : EReal).toReal else 0
  k t x := if h : t < 4096 ∧ x < 2048 then (k (ix2 ⟨t, h.1⟩ ⟨x, h.2⟩) : EReal).toReal else 0
  v t x := if h : t < 4096 ∧ 12288 + x < 22528 then (p (ix2 ⟨t, h.1⟩ ⟨12288 + x, h.2⟩) : EReal).toReal else 0
  g t x := if h : t < 4096 ∧ x < 2048 then (g (ix2 ⟨t, h.1⟩ ⟨x, h.2⟩) : EReal).toReal else 0
  c h t := if e : h < 16 ∧ t < 4096 then (c (ix2 ⟨h, e.1⟩ ⟨t, e.2⟩) : EReal).toReal else 0

theorem slice_at (p : FVec Ideal S4096x22528 .bf16) (t : Fin 4096) (x : Fin 2048) (b : 12288 + x.val < 22528) :
    extractStridedSlice S4096x2048 ![0, 12288] p slices_S4096x22528_S4096x2048_0_12288 (ix2 t x) = p (ix2 t ⟨12288 + x.val, b⟩) := by
  pointwise

theorem reads_of (q k : FVec Ideal S4096x2048 .f32) (p : FVec Ideal S4096x22528 .bf16) (c : FVec Ideal S16x4096 .f32) (g : FVec Ideal S4096x2048 .bf16)
    (h : fn (F := Ideal) q k p c g = fun _ => 1#1) : Reads (dataOf q k p c g) q k p c g := by
  obtain ⟨hq, hk, hp, hc, hg⟩ := pre_real q k p c g h
  refine ⟨fun t x => ?_, fun t x => ?_, fun t x b => ?_, fun i t => ?_, fun t x => ?_⟩
  · simp only [dataOf, dif_pos (And.intro t.isLt x.isLt)]; exact hq _
  · simp only [dataOf, dif_pos (And.intro t.isLt x.isLt)]; exact hk _
  · have := hp (ix2 t x)
    rw [slice_at p t x b] at this
    simp only [dataOf, dif_pos (And.intro t.isLt b)]; exact this
  · simp only [dataOf, dif_pos (And.intro i.isLt t.isLt)]; exact hc _
  · simp only [dataOf, dif_pos (And.intro t.isLt x.isLt)]; exact hg _
end

end Cert.Att

end
-- ==== Proof.Ref.lean ====
module

public import proofs.«01_k».proof.Proof.Gen.ReferenceIdeal.Run
public import proofs.«01_k».proof.Proof.Out

@[expose] public section

set_option maxRecDepth 16384

noncomputable section

/-! The reference's results, one array at a time. -/

namespace Cert.Att.Ref

open Idealize.ShloMosaic Idealize.ShloMosaic.TcCoe Idealize.SL.Sem
open Cert.ReferenceIdeal Cert.ReferenceIdeal.Gen
open Finset (range)

/-- An array's columns, by head. -/
def rows (q : FVec Ideal S4096x2048 .f32) : FVec Ideal S16x4096x128 .f32 :=
  transpose S16x4096x128 [1, 0, 2] (shapeCast S4096x16x128 q shapeCasts_S4096x2048_S4096x16x128) transposes_S4096x16x128_S16x4096x128_1_0_2
/-- The gradient of the result, by head. -/
def gs (g : FVec Ideal S4096x2048 .bf16) : FVec Ideal S16x4096x128 .f32 :=
  transpose S16x4096x128 [1, 0, 2] (shapeCast S4096x16x128 (extf .f32 g bitsLt_bf16_f32) shapeCasts_S4096x2048_S4096x16x128) transposes_S4096x16x128_S16x4096x128_1_0_2
/-- The values, by head. -/
def vs (p : FVec Ideal S4096x22528 .bf16) : FVec Ideal S16x4096x128 .f32 :=
  transpose S16x4096x128 [1, 0, 2] (shapeCast S4096x16x128 (extf .f32 (extractStridedSlice S4096x2048 ![0, 12288] p slices_S4096x22528_S4096x2048_0_12288) bitsLt_bf16_f32) shapeCasts_S4096x2048_S4096x16x128) transposes_S4096x16x128_S16x4096x128_1_0_2
/-- Whether the key is not after the row. -/
def mask : IVec S16x4096x4096 1 :=
  broadcastInDim S16x4096x4096 ![1, 2] bcast_S4096x4096_S16x4096x4096_1_2 (cmpi .sge (iotaInDim S4096x4096 32 0) (iotaInDim S4096x4096 32 1))
/-- The masked logits. -/
def rS (q k : FVec Ideal S16x4096x128 .f32) (c : FVec Ideal S16x4096 .f32) : FVec Ideal S16x4096x4096 .f32 :=
  select mask (subf (addf (mulf (Host.dotGeneral dot_S16x4096x128_S16x4096x128_S16x4096x4096_2_2_1_1_0_0 none q k) (broadcastInDim S16x4096x4096 ![] bcast_S_S16x4096x4096 (constant S_ .f32 0x3DB504F3#32))) (broadcastInDim S16x4096x4096 ![0, 1, 2] bcast_S16x4096x1_S16x4096x4096_0_1_2 (broadcastInDim S16x4096x1 ![0, 1] bcast_S16x4096_S16x4096x1_0_1 c))) (broadcastInDim S16x4096x4096 ![0, 1, 2] bcast_S16x1x4096_S16x4096x4096_0_1_2 (broadcastInDim S16x1x4096 ![0, 2] bcast_S16x4096_S16x1x4096_0_2 c))) (broadcastInDim S16x4096x4096 ![] bcast_S_S16x4096x4096 (constant S_ .f32 0xFF800000#32))
/-- The largest logit of each row. -/
def rX (S : FVec Ideal S16x4096x4096 .f32) : FVec Ideal S16x4096 .f32 :=
  Host.reduce FloatOps.maximumf S (constant S_ .f32 0xFF800000#32) reducesTo_S16x4096x4096_S16x4096_d2 h_S_
def rM (S : FVec Ideal S16x4096x4096 .f32) : FVec Ideal S16x4096x1 .f32 :=
  broadcastInDim S16x4096x1 ![0, 1] bcast_S16x4096_S16x4096x1_0_1 (maximumf (broadcastInDim S16x4096 ![] bcast_S_S16x4096 (constant S_ .f32 0xFF800000#32)) (rX S))
/-- The exponentials. -/
def rE (S : FVec Ideal S16x4096x4096 .f32) (M : FVec Ideal S16x4096x1 .f32) : FVec Ideal S16x4096x4096 .f32 :=
  Host.exp (subf S (broadcastInDim S16x4096x4096 ![0, 1, 2] bcast_S16x4096x1_S16x4096x4096_0_1_2 M))
/-- Their sum over each row. -/
def rL (E : FVec Ideal S16x4096x4096 .f32) : FVec Ideal S16x4096x1 .f32 :=
  broadcastInDim S16x4096x1 ![0, 1] bcast_S16x4096_S16x4096x1_0_1 (Host.reduceAdd E (constant S_ .f32 0x00000000#32) reducesTo_S16x4096x4096_S16x4096_d2 h_S_)
/-- The gradient of the weights. -/
def rP (g v : FVec Ideal S16x4096x128 .f32) : FVec Ideal S16x4096x4096 .f32 :=
  Host.dotGeneral dot_S16x4096x128_S16x4096x128_S16x4096x4096_2_2_1_1_0_0 none g v
/-- The gradient of the sum of the exponentials. -/
def rN (P E : FVec Ideal S16x4096x4096 .f32) (L : FVec Ideal S16x4096x1 .f32) : FVec Ideal S16x4096x1 .f32 :=
  Host.negf (shapeCast S16x4096x1 (Host.reduceAdd (mulf (mulf P (broadcastInDim S16x4096x4096 ![0, 1, 2] bcast_S16x4096x1_S16x4096x4096_0_1_2 (Host.divf (broadcastInDim S16x4096x1 ![] bcast_S_S16x4096x1 (constant S_ .f32 0x3F800000#32)) (mulf L L)))) E) (constant S_ .f32 0x00000000#32) reducesTo_S16x4096x4096_S16x4096_d2 h_S_) shapeCasts_S16x4096_S16x4096x1)
/-- The gradient of the logits. -/
def rD (P E : FVec Ideal S16x4096x4096 .f32) (L N : FVec Ideal S16x4096x1 .f32) : FVec Ideal S16x4096x4096 .f32 :=
  select mask (mulf (addf (Host.divf P (broadcastInDim S16x4096x4096 ![0, 1, 2] bcast_S16x4096x1_S16x4096x4096_0_1_2 L)) (broadcastInDim S16x4096x4096 ![0, 1] bcast_S16x4096_S16x4096x4096_0_1 (Host.reduceAdd N (constant S_ .f32 0x00000000#32) reducesTo_S16x4096x1_S16x4096_d2 h_S_))) E) (broadcastInDim S16x4096x4096 ![] bcast_S_S16x4096x4096 (constant S_ .f32 0x00000000#32))
/-- The five results. -/
def rQ (D : FVec Ideal S16x4096x4096 .f32) (k : FVec Ideal S16x4096x128 .f32) : FVec Ideal S4096x2048 .f32 :=
  Host.divf (mulf (shapeCast S4096x2048 (transpose S4096x16x128 [1, 0, 2] (Host.dotGeneral dot_S16x4096x4096_S16x4096x128_S16x4096x128_2_1_1_2_0_0 none (mulf D (broadcastInDim S16x4096x4096 ![] bcast_S_S16x4096x4096 (constant S_ .f32 0x3DB504F3#32))) k) transposes_S16x4096x128_S4096x16x128_1_0_2) shapeCasts_S4096x16x128_S4096x2048) (broadcastInDim S4096x2048 ![] bcast_S_S4096x2048 (Host.log (constant S_ .f32 0x40000000#32)))) (broadcastInDim S4096x2048 ![] bcast_S_S4096x2048 (constant S_ .f32 0x3DB504F3#32))
def rK (D : FVec Ideal S16x4096x4096 .f32) (q : FVec Ideal S16x4096x128 .f32) : FVec Ideal S4096x2048 .f32 :=
  shapeCast S4096x2048 (transpose S4096x16x128 [1, 0, 2] (Host.dotGeneral dot_S16x4096x4096_S16x4096x128_S16x4096x128_1_1_2_2_0_0 none (mulf D (broadcastInDim S16x4096x4096 ![] bcast_S_S16x4096x4096 (constant S_ .f32 0x3DB504F3#32))) q) transposes_S16x4096x128_S4096x16x128_1_0_2) shapeCasts_S4096x16x128_S4096x2048
def rV (E : FVec Ideal S16x4096x4096 .f32) (L : FVec Ideal S16x4096x1 .f32) (g : FVec Ideal S16x4096x128 .f32) : FVec Ideal S4096x2048 .bf16 :=
  truncf .bf16 (shapeCast S4096x2048 (transpose S4096x16x128 [1, 0, 2] (transpose S16x4096x128 [0, 2, 1] (Host.dotGeneral dot_S16x4096x128_S16x4096x4096_S16x128x4096_1_1_2_2_0_0 none g (Host.divf E (broadcastInDim S16x4096x4096 ![0, 1, 2] bcast_S16x4096x1_S16x4096x4096_0_1_2 L))) transposes_S16x128x4096_S16x4096x128_0_2_1) transposes_S16x4096x128_S4096x16x128_1_0_2) shapeCasts_S4096x16x128_S4096x2048) bitsLt_bf16_f32
def rC (D : FVec Ideal S16x4096x4096 .f32) : FVec Ideal S16x4x1x1024 .f32 :=
  shapeCast S16x4x1x1024 (Host.reduceAdd (shapeCast S16x1x4096 (Host.reduceAdd (Host.negf D) (constant S_ .f32 0x00000000#32) reducesTo_S16x4096x4096_S16x4096_d1 h_S_) shapeCasts_S16x4096_S16x1x4096) (constant S_ .f32 0x00000000#32) reducesTo_S16x1x4096_S16x4096_d1 h_S_) shapeCasts_S16x4096_S16x4x1x1024
def rR (D : FVec Ideal S16x4096x4096 .f32) : FVec Ideal S16x4096x1 .f32 :=
  shapeCast S16x4096x1 (Host.reduceAdd (shapeCast S16x4096x1 (Host.reduceAdd D (constant S_ .f32 0x00000000#32) reducesTo_S16x4096x4096_S16x4096_d2 h_S_) shapeCasts_S16x4096_S16x4096x1) (constant S_ .f32 0x00000000#32) reducesTo_S16x4096x1_S16x4096_d2 h_S_) shapeCasts_S16x4096_S16x4096x1

/-! ## Their entries -/

theorem rows_at (q : FVec Ideal S4096x2048 .f32) (h : Fin 16) (t : Fin 4096) (d : Fin 128) (b : h.val * 128 + d.val < 2048) :
    rows q (ix3 h t d) = q (ix2 t ⟨h.val * 128 + d.val, b⟩) := by
  pointwise [rows]
theorem gs_at (g : FVec Ideal S4096x2048 .bf16) (h : Fin 16) (t : Fin 4096) (d : Fin 128) (b : h.val * 128 + d.val < 2048) :
    gs g (ix3 h t d) = g (ix2 t ⟨h.val * 128 + d.val, b⟩) := by
  pointwise [gs]
theorem vs_at (p : FVec Ideal S4096x22528 .bf16) (h : Fin 16) (t : Fin 4096) (d : Fin 128) (b : 12288 + (h.val * 128 + d.val) < 22528) :
    vs p (ix3 h t d) = p (ix2 t ⟨12288 + (h.val * 128 + d.val), b⟩) := by
  pointwise [vs]
theorem mask_at (h : Fin 16) (t s : Fin 4096) : mask (ix3 h t s) = IntOp.cmpi .sge (BitVec.ofNat 32 t.val) (BitVec.ofNat 32 s.val) := by
  pointwise [mask]
theorem rS_at (q k : FVec Ideal S16x4096x128 .f32) (c : FVec Ideal S16x4096 .f32) (h : Fin 16) (t s : Fin 4096) :
    rS q k c (ix3 h t s) = Scalar.select (mask (ix3 h t s))
      ((∑ x : Fin 128, q (ix3 h t x) * k (ix3 h s x)) * Ideal.ofBits .f32 0x3DB504F3#32 + c (ix2 h t) - c (ix2 h s)) (Ideal.ofBits .f32 0xFF800000#32) := by
  unfold rS
  generalize mask = X
  pointwise
theorem rX_at (S : FVec Ideal S16x4096x4096 .f32) (h : Fin 16) (t : Fin 4096) :
    rX S (ix2 h t) = (Finset.univ : Finset (Fin 4096)).fold max (Ideal.ofBits .f32 0xFF800000#32) (fun x => S (ix3 h t x)) := by
  pointwise [rX]
theorem row_at (X : FVec Ideal S16x4096 .f32) (h : Fin 16) (t : Fin 4096) :
    broadcastInDim S16x4096x1 ![0, 1] bcast_S16x4096_S16x4096x1_0_1 X (ix3 h t 0) = X (ix2 h t) := by
  pointwise
theorem max_at (X Y : FVec Ideal S16x4096 .f32) (i : S16x4096.Idx) : maximumf X Y i = max (X i : EReal) (Y i) := rfl
theorem low_at (i : S16x4096.Idx) : (broadcastInDim S16x4096 ![] bcast_S_S16x4096 (constant S_ .f32 0xFF800000#32) : FVec Ideal S16x4096 .f32) i = Ideal.ofBits .f32 0xFF800000#32 := rfl
theorem rM_at (S : FVec Ideal S16x4096x4096 .f32) (h : Fin 16) (t : Fin 4096) :
    rM S (ix3 h t 0) = max (Ideal.ofBits .f32 0xFF800000#32) (rX S (ix2 h t)) := by
  unfold rM
  exact (row_at _ h t).trans ((max_at _ _ _).trans (congrArg (fun z => max z (rX S (ix2 h t))) (low_at _)))
theorem rE_at (S : FVec Ideal S16x4096x4096 .f32) (M : FVec Ideal S16x4096x1 .f32) (h : Fin 16) (t s : Fin 4096) :
    rE S M (ix3 h t s) = Ideal.exp (S (ix3 h t s) - M (ix3 h t 0)) := by
  pointwise [rE]
theorem rL_at (E : FVec Ideal S16x4096x4096 .f32) (h : Fin 16) (t : Fin 4096) :
    rL E (ix3 h t 0) = ∑ x : Fin 4096, E (ix3 h t x) := by
  pointwise [rL]
theorem rP_at (g v : FVec Ideal S16x4096x128 .f32) (h : Fin 16) (t s : Fin 4096) :
    rP g v (ix3 h t s) = ∑ x : Fin 128, g (ix3 h t x) * v (ix3 h s x) := by
  pointwise [rP]
theorem rN_at (P E : FVec Ideal S16x4096x4096 .f32) (L : FVec Ideal S16x4096x1 .f32) (h : Fin 16) (t : Fin 4096) :
    rN P E L (ix3 h t 0) = -∑ x : Fin 4096, P (ix3 h t x) * Ideal.div 1 (L (ix3 h t 0) * L (ix3 h t 0)) * E (ix3 h t x) := by
  pointwise [rN]
theorem rD_at (P E : FVec Ideal S16x4096x4096 .f32) (L N : FVec Ideal S16x4096x1 .f32) (h : Fin 16) (t s : Fin 4096) :
    rD P E L N (ix3 h t s) = Scalar.select (mask (ix3 h t s)) ((Ideal.div (P (ix3 h t s)) (L (ix3 h t 0)) + N (ix3 h t 0)) * E (ix3 h t s)) 0 := by
  unfold rD
  generalize mask = X
  pointwise
  rw [Fin.sum_univ_one]
theorem rQ_at (D : FVec Ideal S16x4096x4096 .f32) (k : FVec Ideal S16x4096x128 .f32) (t : Fin 4096) (x : Fin 2048) (b : x.val / 128 < 16) (b' : x.val % 128 < 128) :
    rQ D k (ix2 t x) = Ideal.div ((∑ s : Fin 4096, D (ix3 ⟨x.val / 128, b⟩ t s) * Ideal.ofBits .f32 0x3DB504F3#32 * k (ix3 ⟨x.val / 128, b⟩ s ⟨x.val % 128, b'⟩))
      * Ideal.log (Ideal.ofBits .f32 0x40000000#32)) (Ideal.ofBits .f32 0x3DB504F3#32) := by
  pointwise [rQ]
theorem rK_at (D : FVec Ideal S16x4096x4096 .f32) (q : FVec Ideal S16x4096x128 .f32) (s : Fin 4096) (x : Fin 2048) (b : x.val / 128 < 16) (b' : x.val % 128 < 128) :
    rK D q (ix2 s x) = ∑ t : Fin 4096, D (ix3 ⟨x.val / 128, b⟩ t s) * Ideal.ofBits .f32 0x3DB504F3#32 * q (ix3 ⟨x.val / 128, b⟩ t ⟨x.val % 128, b'⟩) := by
  pointwise [rK]
theorem rV_at (E : FVec Ideal S16x4096x4096 .f32) (L : FVec Ideal S16x4096x1 .f32) (g : FVec Ideal S16x4096x128 .f32) (s : Fin 4096) (x : Fin 2048) (b : x.val / 128 < 16) (b' : x.val % 128 < 128) :
    rV E L g (ix2 s x) = ∑ t : Fin 4096, g (ix3 ⟨x.val / 128, b⟩ t ⟨x.val % 128, b'⟩) * Ideal.div (E (ix3 ⟨x.val / 128, b⟩ t s)) (L (ix3 ⟨x.val / 128, b⟩ t 0)) := by
  pointwise [rV]
theorem rC_at (D : FVec Ideal S16x4096x4096 .f32) (h : Fin 16) (j : Fin 4) (l : Fin 1024) (b : j.val * 1024 + l.val < 4096) :
    rC D (ix4 h j 0 l) = ∑ t : Fin 4096, -D (ix3 h t ⟨j.val * 1024 + l.val, b⟩) := by
  pointwise [rC]
  rw [Fin.sum_univ_one]
theorem rR_at (D : FVec Ideal S16x4096x4096 .f32) (h : Fin 16) (t : Fin 4096) :
    rR D (ix3 h t 0) = ∑ s : Fin 4096, D (ix3 h t s) := by
  pointwise [rR]
  rw [Fin.sum_univ_one]

/-! ## The run's results are these -/

section
variable (m : (ℓ : Loc nD τ sig) → Buf (Elt Ideal) ℓ) (c : Dev nD)
abbrev aQ : FVec Ideal S16x4096x128 .f32 := rows (m ((c : Thread nD τ).loc main_arg0))
abbrev aK : FVec Ideal S16x4096x128 .f32 := rows (m ((c : Thread nD τ).loc main_arg1))
abbrev aV : FVec Ideal S16x4096x128 .f32 := vs (m ((c : Thread nD τ).loc main_arg2))
abbrev aG : FVec Ideal S16x4096x128 .f32 := gs (m ((c : Thread nD τ).loc main_arg4))
abbrev aS : FVec Ideal S16x4096x4096 .f32 := rS (aQ m c) (aK m c) (m ((c : Thread nD τ).loc main_arg3))
abbrev aE : FVec Ideal S16x4096x4096 .f32 := rE (aS m c) (rM (aS m c))
abbrev aL : FVec Ideal S16x4096x1 .f32 := rL (aE m c)
abbrev aP : FVec Ideal S16x4096x4096 .f32 := rP (aG m c) (aV m c)
abbrev aD : FVec Ideal S16x4096x4096 .f32 := rD (aP m c) (aE m c) (aL m c) (rN (aP m c) (aE m c) (aL m c))
theorem out0 : Value.res_main_v92 m c = rQ (aD m c) (aK m c) := rfl
theorem out1 : Value.res_main_v85 m c = rK (aD m c) (aQ m c) := rfl
theorem out2 : Value.res_main_v93 m c = rV (aE m c) (aL m c) (aG m c) := rfl
theorem out3 : Value.res_main_v94 m c = rC (aD m c) := rfl
theorem out4 : Value.res_main_v95 m c = rR (aD m c) := rfl
end

/-! ## The same in real numbers -/

section
variable {A : Data} (m : (ℓ : Loc nD τ sig) → Buf (Elt Ideal) ℓ) (c : Dev nD)
  (R : Reads A (m ((c : Thread nD τ).loc main_arg0)) (m ((c : Thread nD τ).loc main_arg1)) (m ((c : Thread nD τ).loc main_arg2))
    (m ((c : Thread nD τ).loc main_arg3)) (m ((c : Thread nD τ).loc main_arg4)))

/-- A row's logits, its own gate with them. -/
abbrev y (A : Data) (h t : ℕ) : ℕ → ℝ := fun s => A.x h t s + A.c h t
/-- What the row takes off. -/
abbrev pk (A : Data) (h t : ℕ) : ℝ := peak (y A h t) t

theorem mask_one (h : Fin 16) (t s : Fin 4096) : mask (ix3 h t s) = (1 : BitVec 1) ↔ s.val ≤ t.val := by
  rw [mask_at]; exact WordCmp.cmpi_sge_ofNat_eq_one_iff (by omega) (by omega)

include R
theorem aQ_real (h : Fin 16) (t : Fin 4096) (d : Fin 128) : aQ m c (ix3 h t d) = ((A.q t.val (h.val * 128 + d.val) : ℝ) : EReal) :=
  (rows_at _ h t d (by omega)).trans (R.q _ _)
theorem aK_real (h : Fin 16) (t : Fin 4096) (d : Fin 128) : aK m c (ix3 h t d) = ((A.k t.val (h.val * 128 + d.val) : ℝ) : EReal) :=
  (rows_at _ h t d (by omega)).trans (R.k _ _)
theorem aV_real (h : Fin 16) (t : Fin 4096) (d : Fin 128) : aV m c (ix3 h t d) = ((A.v t.val (h.val * 128 + d.val) : ℝ) : EReal) :=
  (vs_at _ h t d (by omega)).trans (R.v t ⟨h.val * 128 + d.val, by omega⟩ (by show 12288 + (h.val * 128 + d.val) < 22528; omega))
theorem aG_real (h : Fin 16) (t : Fin 4096) (d : Fin 128) : aG m c (ix3 h t d) = ((A.g t.val (h.val * 128 + d.val) : ℝ) : EReal) :=
  (gs_at _ h t d (by omega)).trans (R.g _ _)

theorem aS_real (h : Fin 16) (t s : Fin 4096) : aS m c (ix3 h t s) = masked (y A h.val t.val) t.val s.val := by
  have e : (∑ x : Fin 128, aQ m c (ix3 h t x) * aK m c (ix3 h s x))
      = ((∑ d ∈ range 128, A.q t.val (h.val * 128 + d) * A.k s.val (h.val * 128 + d) : ℝ) : EReal) := by
    rw [← coe_sum_fin]
    exact Finset.sum_congr rfl fun x _ => by rw [aQ_real m c R, aK_real m c R, ← EReal.coe_mul]
  have e1 := R.c h t
  have e2 := R.c h s
  refine (rS_at _ _ _ h t s).trans ?_
  rw [e, ofBits_sigma, ofBits_bot, ← EReal.coe_mul]
  erw [e1, e2]
  rw [← EReal.coe_add, ← EReal.coe_sub, Scalar.select, masked]
  have w := mask_one h t s
  by_cases g : s.val ≤ t.val
  · rw [if_pos g, if_pos (w.mpr g)]
    congr 1
    simp only [y, Data.x]; ring
  · rw [if_neg g, if_neg (fun e => g (w.mp e))]
theorem aM_real (h : Fin 16) (t : Fin 4096) : rM (aS m c) (ix3 h t 0) = ((pk A h.val t.val : ℝ) : EReal) := by
  rw [rM_at, rX_at, ofBits_bot, max_eq_right bot_le, pk, ← fold_peak]
  exact congrArg (fun f => (Finset.univ : Finset (Fin 4096)).fold max ⊥ f) (funext fun s => aS_real m c R h t s)
theorem aE_real (h : Fin 16) (t s : Fin 4096) : aE m c (ix3 h t s) = ((expo (pk A h.val t.val) (y A h.val t.val) t.val s.val : ℝ) : EReal) := by
  rw [aE, rE_at, aM_real m c R, aS_real m c R, masked_exp]
theorem aL_real (h : Fin 16) (t : Fin 4096) : aL m c (ix3 h t 0) = ((total (pk A h.val t.val) (y A h.val t.val) t.val : ℝ) : EReal) := by
  rw [aL, rL_at, total, ← coe_sum_fin]
  exact Finset.sum_congr rfl fun s _ => aE_real m c R h t s
theorem aP_real (h : Fin 16) (t s : Fin 4096) : aP m c (ix3 h t s) = ((A.dp h.val t.val s.val : ℝ) : EReal) := by
  rw [aP, rP_at, Data.dp, ← coe_sum_fin]
  exact Finset.sum_congr rfl fun x _ => by rw [aG_real m c R, aV_real m c R, ← EReal.coe_mul]
theorem aN_real (h : Fin 16) (t : Fin 4096) : rN (aP m c) (aE m c) (aL m c) (ix3 h t 0)
    = ((-(∑ r ∈ range 4096, A.dp h.val t.val r * (1 / (total (pk A h.val t.val) (y A h.val t.val) t.val * total (pk A h.val t.val) (y A h.val t.val) t.val))
        * expo (pk A h.val t.val) (y A h.val t.val) t.val r) : ℝ) : EReal) := by
  have hz := (total_pos (pk A h.val t.val) (y A h.val t.val) t.isLt).ne'
  rw [rN_at, EReal.coe_neg, ← coe_sum_fin]
  refine congrArg Neg.neg ?_
  refine Finset.sum_congr rfl fun r _ => ?_
  rw [aP_real m c R, aE_real m c R, aL_real m c R, ← EReal.coe_mul, ← EReal.coe_one, div_real _ (mul_ne_zero hz hz), ← EReal.coe_mul, ← EReal.coe_mul]
theorem aD_real (h : Fin 16) (t s : Fin 4096) : aD m c (ix3 h t s) = ((A.ds h.val t.val s.val : ℝ) : EReal) := by
  have hz := (total_pos (pk A h.val t.val) (y A h.val t.val) t.isLt).ne'
  rw [aD, rD_at, aP_real m c R, aE_real m c R, aL_real m c R, aN_real m c R, div_real _ hz, ← EReal.coe_add, ← EReal.coe_mul,
    ds_rule A h.val t.val s.val t.isLt (pk A h.val t.val) (y A h.val t.val) (A.c h.val t.val) rfl, Scalar.select]
  have w := mask_one h t s
  by_cases g : s.val ≤ t.val
  · rw [if_pos (w.mpr g)]
  · rw [if_neg (fun e => g (w.mp e)), Data.ds, Data.p, soft, expo, if_neg g, zero_div, zero_mul, EReal.coe_zero]

/-! ## The five results -/

theorem gq_out (t : Fin 4096) (x : Fin 2048) : (Value.res_main_v92 m c : S4096x2048.Idx → EReal) (ix2 t x) = ((A.gq t.val x.val : ℝ) : EReal) := by
  have e : x.val / 128 * 128 + x.val % 128 = x.val := Nat.div_add_mod' x.val 128
  refine (congrFun (out0 m c) _).trans ((rQ_at _ _ t x (by omega) (by omega)).trans ?_)
  have : (∑ s : Fin 4096, aD m c (ix3 ⟨x.val / 128, by omega⟩ t s) * Ideal.ofBits .f32 0x3DB504F3#32 * aK m c (ix3 ⟨x.val / 128, by omega⟩ s ⟨x.val % 128, by omega⟩))
      = ((∑ s ∈ range 4096, A.ds (x.val / 128) t.val s * sigma * A.k s x.val : ℝ) : EReal) := by
    rw [← coe_sum_fin]
    refine Finset.sum_congr rfl fun s _ => ?_
    rw [aD_real m c R, aK_real m c R, ofBits_sigma, ← EReal.coe_mul, ← EReal.coe_mul]
    simp only [e]
  rw [this, ideal_log_two, ofBits_sigma, ← EReal.coe_mul, div_real _ sigma_ne, Data.gq]
  congr 1
  have e2 : ∑ s ∈ range 4096, A.ds (x.val / 128) t.val s * sigma * A.k s x.val = (∑ s ∈ range 4096, A.ds (x.val / 128) t.val s * A.k s x.val) * sigma := by
    rw [Finset.sum_mul]
    exact Finset.sum_congr rfl fun s _ => by ring
  rw [div_eq_iff sigma_ne, e2]
  ring
theorem gk_out (s : Fin 4096) (x : Fin 2048) : (Value.res_main_v85 m c : S4096x2048.Idx → EReal) (ix2 s x) = ((A.gk s.val x.val : ℝ) : EReal) := by
  have e : x.val / 128 * 128 + x.val % 128 = x.val := Nat.div_add_mod' x.val 128
  refine (congrFun (out1 m c) _).trans ((rK_at _ _ s x (by omega) (by omega)).trans ?_)
  rw [Data.gk, Finset.sum_mul, ← coe_sum_fin]
  refine Finset.sum_congr rfl fun t _ => ?_
  rw [aD_real m c R, aQ_real m c R, ofBits_sigma, ← EReal.coe_mul, ← EReal.coe_mul]
  simp only [e]
  congr 1; ring
theorem gv_out (s : Fin 4096) (x : Fin 2048) : (Value.res_main_v93 m c : S4096x2048.Idx → EReal) (ix2 s x) = ((A.gv s.val x.val : ℝ) : EReal) := by
  have e : x.val / 128 * 128 + x.val % 128 = x.val := Nat.div_add_mod' x.val 128
  refine (congrFun (out2 m c) _).trans ((rV_at _ _ _ s x (by omega) (by omega)).trans ?_)
  rw [Data.gv, ← coe_sum_fin]
  refine Finset.sum_congr rfl fun t _ => ?_
  rw [aG_real m c R, aE_real m c R, aL_real m c R, div_real _ (total_pos _ _ t.isLt).ne', soft_of, soft_add, ← EReal.coe_mul]
  simp only [e]
  congr 1; rw [mul_comm]; rfl
theorem gc_out (h : Fin 16) (j : Fin 4) (l : Fin 1024) : (Value.res_main_v94 m c : S16x4x1x1024.Idx → EReal) (ix4 h j 0 l) = ((A.gc h.val (j.val * 1024 + l.val) : ℝ) : EReal) := by
  refine (congrFun (out3 m c) _).trans ((rC_at _ h j l (by omega)).trans ?_)
  rw [Data.gc, ← Finset.sum_neg_distrib, ← coe_sum_fin]
  exact Finset.sum_congr rfl fun t _ => by rw [aD_real m c R, ← EReal.coe_neg]
theorem gr_out (h : Fin 16) (t : Fin 4096) : (Value.res_main_v95 m c : S16x4096x1.Idx → EReal) (ix3 h t 0) = ((A.gr h.val t.val : ℝ) : EReal) := by
  refine (congrFun (out4 m c) _).trans ((rR_at _ h t).trans ?_)
  rw [Data.gr, ← coe_sum_fin]
  exact Finset.sum_congr rfl fun s _ => aD_real m c R h t s
end

end Cert.Att.Ref

end
-- ==== Proof.Pair.lean ====
module

public import proofs.«01_k».proof.Proof.Pre
public import proofs.«01_k».proof.Proof.Ref

@[expose] public section

set_option maxRecDepth 16384

noncomputable section

/-! The call and the reference give the same five results. -/

namespace Cert.Att

open Idealize.ShloMosaic Idealize.ShloMosaic.TcCoe Idealize.SL.Sem
open Cert.KernelIdeal Cert.KernelIdeal.Gen

section
variable (m : (ℓ : Loc nD τ sig) → Buf (Elt Ideal) ℓ) (ρ : Dev nD → PrngReg)

/-- The run, its five results named. -/
theorem run_results : θ_run defs (onTc (τ := τ) (main (F := Ideal))) ⟨m, fun _ => 0, ρ⟩ (fun r => ∀ c : Dev nD,
      r.2.mem ((c.tc : Thread nD τ).loc main_v43_0) = (dats m 0 c).arrAt 7 (cfgs 0).N
      ∧ r.2.mem ((c.tc : Thread nD τ).loc main_v43_1) = (dats m 0 c).arrAt 8 (cfgs 0).N
      ∧ r.2.mem ((c.tc : Thread nD τ).loc main_v43_2) = (dats m 0 c).arrAt 9 (cfgs 0).N
      ∧ r.2.mem ((c.tc : Thread nD τ).loc main_v43_3) = (dats m 0 c).arrAt 10 (cfgs 0).N
      ∧ r.2.mem ((c.tc : Thread nD τ).loc main_v43_4) = (dats m 0 c).arrAt 11 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 7, (h.1 c).1 8, (h.1 c).1 9, (h.1 c).1 10, (h.1 c).1 11, h.2.1 c⟩)
    (θ_run_and (run_main m ρ) (frame_holds m ρ))
end

theorem pair [Cert.Pre_finite.Facts] : Cert.algebraic_KernelIdeal_ReferenceIdeal_pre_finite := by
  intro m ρ m' ρ' hpre hag
  have R : ∀ c : Dev nD, Reads _ _ _ _ _ _ := fun c => reads_of _ _ _ _ _ (hpre c)
  refine ⟨fun c => (dats m 0 c).arrAt 7 (cfgs 0).N, fun c => (dats m 0 c).arrAt 8 (cfgs 0).N, fun c => (dats m 0 c).arrAt 9 (cfgs 0).N,
    fun c => (dats m 0 c).arrAt 10 (cfgs 0).N, fun c => (dats m 0 c).arrAt 11 (cfgs 0).N, run_results m ρ, ?_⟩
  refine (θ_run Cert.ReferenceIdeal.defs _ _).mono (fun r h c => ?_) (Cert.ReferenceIdeal.Value.run (F := Ideal) m' ρ')
  obtain ⟨h0, h1, h2, h3, h4, ha⟩ := h c
  obtain ⟨A, K⟩ : ∃ A : Data, Reads A (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := ⟨_, R c⟩
  have R' : Reads A (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) := by
    rw [(hag c).1, (hag c).2.1, (hag c).2.2.1, (hag c).2.2.2.1, (hag c).2.2.2.2]
    exact K
  refine ⟨h0.trans ?_, h1.trans ?_, h2.trans ?_, h3.trans ?_, h4.trans ?_, ha⟩
  · refine Eq.trans ?_ (out_7 m c K).symm
    funext i
    exact (congrArg (Cert.ReferenceIdeal.Value.res_main_v92 m' c) (eq_ix2 i)).trans (Ref.gq_out m' c R' (i 0) (i 1))
  · refine Eq.trans ?_ (out_8 m c K).symm
    funext i
    exact (congrArg (Cert.ReferenceIdeal.Value.res_main_v85 m' c) (eq_ix2 i)).trans (Ref.gk_out m' c R' (i 0) (i 1))
  · refine Eq.trans ?_ (out_9 m c K).symm
    funext i
    exact (congrArg (Cert.ReferenceIdeal.Value.res_main_v93 m' c) (eq_ix2 i)).trans (Ref.gv_out m' c R' (i 0) (i 1))
  · refine Eq.trans ?_ (out_10 m c K).symm
    funext i
    have e : i = ix4 (i 0) (i 1) 0 (i 3) := by
      funext b; fin_cases b
      · rfl
      · rfl
      · exact Fin.ext (by have : (i 2).val < 1 := (i 2).isLt; show (i 2).val = 0; omega)
      · rfl
    exact (congrArg (Cert.ReferenceIdeal.Value.res_main_v94 m' c) e).trans (Ref.gc_out m' c R' (i 0) (i 1) (i 3))
  · refine Eq.trans ?_ (out_11 m c K).symm
    funext i
    have e : i = ix3 (i 0) (i 1) 0 := by
      funext b; fin_cases b
      · rfl
      · rfl
      · exact Fin.ext (by have : (i 2).val < 1 := (i 2).isLt; show (i 2).val = 0; omega)
    exact (congrArg (Cert.ReferenceIdeal.Value.res_main_v95 m' c) e).trans (Ref.gr_out m' c R' (i 0) (i 1))

end Cert.Att

end
-- ==== Proof.DAct.lean ====
/- The gradient of the gated activation: the output's gradient times the last weight, then the gradient of
   silu(gate) * up by gate and by up. The call takes the logistic function of its own; the reference writes it as a
   quotient. -/
module

public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DAct

open Cert.Kernel2Ideal Cert.Kernel2Ideal.Gen

/-- The gradient of the activation: the output's gradient through the last product. -/
abbrev through (X0 : FVec Ideal S4096x4096 .bf16) (X1 : FVec Ideal S11264x4096 .bf16) : FVec Ideal S4096x11264 .f32 :=
  extf .f32 (truncf .bf16 (Host.dotGeneral Cert.Reference2Ideal.dot_S4096x4096_S11264x4096_S4096x11264_1_1_0_0_n_n none
    (extf .f32 X0 Cert.Reference2Ideal.Gen.bitsLt_bf16_f32) (extf .f32 X1 Cert.Reference2Ideal.Gen.bitsLt_bf16_f32)) Cert.Reference2Ideal.Gen.bitsLt_bf16_f32) Cert.Reference2Ideal.Gen.bitsLt_bf16_f32

abbrev ones : FVec Ideal S4096x11264 .f32 :=
  broadcastInDim Cert.Reference2Ideal.S4096x11264 ![] Cert.Reference2Ideal.Gen.bcast_S_S4096x11264 (constant Cert.Reference2Ideal.S_ .f32 0x3F800000#32)

/-- One over one plus the exponential of minus the gate. -/
abbrev sig (X2 : FVec Ideal S4096x11264 .bf16) : FVec Ideal S4096x11264 .f32 :=
  Host.divf ones (addf ones (Host.exp (Host.negf (extf .f32 X2 Cert.Reference2Ideal.Gen.bitsLt_bf16_f32))))

/-- What the reference computes: the gradient by the gate. -/
abbrev byGate (X0 : FVec Ideal S4096x4096 .bf16) (X1 : FVec Ideal S11264x4096 .bf16) (X2 X3 : FVec Ideal S4096x11264 .bf16) :
    FVec Ideal S4096x11264 .bf16 :=
  truncf .bf16 (addf (mulf (mulf (through X0 X1) (extf .f32 X3 Cert.Reference2Ideal.Gen.bitsLt_bf16_f32)) (sig X2))
    (mulf (mulf (extf .f32 X2 Cert.Reference2Ideal.Gen.bitsLt_bf16_f32) (mulf (through X0 X1) (extf .f32 X3 Cert.Reference2Ideal.Gen.bitsLt_bf16_f32)))
      (mulf (sig X2) (subf ones (sig X2))))) Cert.Reference2Ideal.Gen.bitsLt_bf16_f32

/-- What the reference computes: the gradient by the other factor. -/
abbrev byUp (X0 : FVec Ideal S4096x4096 .bf16) (X1 : FVec Ideal S11264x4096 .bf16) (X2 : FVec Ideal S4096x11264 .bf16) :
    FVec Ideal S4096x11264 .bf16 :=
  truncf .bf16 (mulf (mulf (extf .f32 X2 Cert.Reference2Ideal.Gen.bitsLt_bf16_f32) (sig X2)) (through X0 X1)) Cert.Reference2Ideal.Gen.bitsLt_bf16_f32

variable (m : (ℓ : Loc nD τ Cert.Kernel2Ideal.sig) → Buf (Elt Ideal) ℓ)

/-- The block of each array that a grid point takes. -/
theorem blocks : ∀ t : Fin cfg0.N, win0_0.index t = ![(grid0.coords t 0).val, 0] ∧ win0_1.index t = ![(grid0.coords t 1).val, 0]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val] :=
  (by decide +kernel : ∀ t : Fin grid0.N, _)

theorem entry4 (c : Dev nD) (t : Fin cfg0.N) (y) : k0_pay4 (iblk m c 0 t) (iblk m c 1 t) (iblk m c 2 t) (iblk m c 3 t) y
    = byGate (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, byGate, through, sig, ones]
  simp only [Ideal.logistic]
  blk_point [iblk, V, blocks t]

theorem entry5 (c : Dev nD) (t : Fin cfg0.N) (y) : k0_pay5 (iblk m c 0 t) (iblk m c 1 t) (iblk m c 2 t) y
    = byUp (m ((c : Thread nD τ).loc main_arg0)) (m ((c : Thread nD τ).loc main_arg1)) (m ((c : Thread nD τ).loc main_arg2)) (((cfg0.win 5).blk t).view.emb y) := by
  pointwise [k0_pay1, k0_pay2, k0_pay3, k0_pay5, byUp, through, sig, ones]
  simp only [Ideal.logistic]
  blk_point [iblk, V, blocks t]

/-- The two result arrays after the run. -/
theorem final4 (c : Dev nD) : (dats m 0 c).arrAt 4 (cfgs 0).N = byGate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; unfold outsAt0; frame_out
  exact entry4 m c t y

theorem final5 (c : Dev nD) : (dats m 0 c).arrAt 5 (cfgs 0).N = byUp (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; unfold outsAt0; frame_out
  exact entry5 m c t y

theorem pair : Cert.algebraic_Kernel2Ideal_Reference2Ideal := by
  pair_intro
  · run_from Cert.Kernel2Ideal.Gen.run_main m g
  · hlo_run
    · exact (final4 m c).symm
    · exact (final5 m c).symm

end Cert.DAct

end
-- ==== Proof.DwIn.lean ====
/- The gradient of the input projection by its weight: the call multiplies a block of columns of the normed input with a
   block of columns of the projection's gradient, over all positions at once; the blocks tile the weight's gradient. -/
module

public import proofs.«01_k».proof.Defs
public import proofs.«01_k».proof.Proof.Gen.Kernel3Ideal.Frame
public import proofs.«01_k».proof.Proof.Gen.Reference3Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DwIn

open Cert.Kernel3Ideal Cert.Kernel3Ideal.Gen

/-- What the reference computes of the input and of the projection's gradient. -/
abbrev grad (X : FVec Ideal S4096x4096 .bf16) (G : FVec Ideal S4096x22528 .bf16) : FVec Ideal S4096x22528 .bf16 :=
  truncf .bf16 (transpose Cert.Reference3Ideal.S4096x22528 [1, 0]
    (Host.dotGeneral Cert.Reference3Ideal.dot_S4096x22528_S4096x4096_S22528x4096_0_0_1_1_n_n none
      (extf .f32 G Cert.Reference3Ideal.Gen.bitsLt_bf16_f32) (extf .f32 X Cert.Reference3Ideal.Gen.bitsLt_bf16_f32))
    Cert.Reference3Ideal.Gen.transposes_S22528x4096_S4096x22528_1_0) Cert.Reference3Ideal.Gen.bitsLt_bf16_f32

variable (m : (ℓ : Loc nD τ sig) → Buf (Elt Ideal) ℓ)

/-- The block of each array that a grid point takes. -/
theorem blocks : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- An entry of the block a point stores is the entry of the gradient at the block's place. -/
theorem entry (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  refine Finset.sum_congr rfl fun k _ => (mul_comm _ _).trans ?_
  blk_point [iblk, V, blocks t]

/-- The result array after the run. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact entry m c t y

theorem pair : Cert.algebraic_Kernel3Ideal_Reference3Ideal := by
  pair_intro
  · run_from Cert.Kernel3Ideal.Gen.run_main m g
  · hlo_run
    exact (final m c).symm

end Cert.DwIn

end
-- ==== Proof.DXn.lean ====
/- The gradient of the input projection by its normed input: eleven blocks of 2048 columns of the projection, one a grid
   point, are added up in a scratch array that starts from what the small projection gave. -/
module

public import proofs.«01_k».proof.Defs
public import proofs.«01_k».proof.Proof.Gen.Kernel4Ideal.Frame
public import proofs.«01_k».proof.Proof.Gen.Reference4Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DXn

open Cert.Kernel4Ideal Cert.Kernel4Ideal.Gen

/-- What the reference computes of the projection's gradient, the weight and the gradient so far. -/
abbrev grad (G W : FVec Ideal S4096x22528 .bf16) (D : FVec Ideal S4096x4096 .f32) : FVec Ideal S4096x4096 .f32 :=
  addf (Host.dotGeneral Cert.Reference4Ideal.dot_S4096x22528_S4096x22528_S4096x4096_1_1_0_0_n_n none
    (extf .f32 G Cert.Reference4Ideal.Gen.bitsLt_bf16_f32) (extf .f32 W Cert.Reference4Ideal.Gen.bitsLt_bf16_f32)) D

theorem grad_apply (G W : FVec Ideal S4096x22528 .bf16) (D : FVec Ideal S4096x4096 .f32) (i : S4096x4096.Idx) :
    grad G W D i = (∑ l : Fin 22528, G (ix2 (i 0) l) * W (ix2 (i 1) l)) + D i := by
  pointwise [grad]

/-- The part of the product that one grid point adds. -/
theorem part (x0 x1 : FVec Ideal S1024x2048 .bf16) (j : S1024x1024.Idx) :
    k0_pay1 (F := Ideal) x0 x1 j = ∑ k : Fin 2048, x0 (ix2 (j 0) k) * x1 (ix2 (j 1) k) := by
  pointwise [k0_pay1]

theorem first (x0 x1 : FVec Ideal S1024x2048 .bf16) (d : FVec Ideal S1024x1024 .f32) (j : S1024x1024.Idx) :
    k0_pay2 (F := Ideal) x0 x1 d j = k0_pay1 (F := Ideal) x0 x1 j + d j := by
  pointwise [k0_pay2]

theorem next (x0 x1 : FVec Ideal S1024x2048 .bf16) (a : FVec Ideal S1024x1024 .f32) (j : S1024x1024.Idx) :
    k0_pay3 (F := Ideal) x0 x1 a j = a j + k0_pay1 (F := Ideal) x0 x1 j := by
  pointwise [k0_pay3]

variable (m : (ℓ : Loc nD τ sig) → Buf (Elt Ideal) ℓ)

/-- The block of each array that a grid point takes. -/
theorem blocks : ∀ t : Fin cfg0.N, win0_0.index t = ![t.val / 44, t.val % 11] ∧ win0_1.index t = ![t.val / 11 % 4, t.val % 11]
    ∧ win0_2.index t = ![t.val / 44, t.val / 11 % 4] ∧ win0_3.index t = ![t.val / 44, t.val / 11 % 4] :=
  (by decide +kernel : ∀ t : Fin grid0.N, _)

/-- What a grid point adds to the scratch: its part of the product, and at the first of a block's points what the small
projection gave. -/
def added (c : Dev nD) (t : Fin cfg0.N) (j : S1024x1024.Idx) : EReal :=
  k0_pay1 (F := Ideal) (iblk m c 0 t) (iblk m c 1 t) j + if t.val % 11 = 0 then (show EReal from iblk m c 2 t j) else 0

theorem scratch_first (c : Dev nD) (t : Fin cfg0.N) (h : t.val % 11 = 0) (j) :
    (outsAt0 m c t.val t.isLt).2 j = 0 + added m c t j := by
  rw [outsAt0_A m c t h (by omega) (by omega)]
  frame_out
  rw [first, zero_add, added, if_pos h]

theorem scratch_next (c : Dev nD) (t : Fin cfg0.N) (h : ¬ t.val % 11 = 0) (j) :
    (outsAt0 m c t.val t.isLt).2 j
      = (outsAt0 m c (t.val - 1) (Nat.lt_of_le_of_lt (Nat.sub_le _ _) t.isLt)).2 j + added m c t j := by
  rw [added, if_neg h, add_zero]
  by_cases h2 : t.val % 11 = 10
  · rw [outsAt0_C m c t h (by omega) h2]
    frame_out
    rw [next, (Memref.isWhole_whole cc0_scratch0).read_unread]
  · rw [outsAt0_B m c t h (by omega) h2]
    frame_out
    rw [next, (Memref.isWhole_whole cc0_scratch0).read_unread]

/-- At a block's last point the stored block is the scratch. -/
theorem stored (c : Dev nD) (t : Fin cfg0.N) (h : t.val % 11 = 10) (j) :
    (outsAt0 m c t.val t.isLt).1 j = (outsAt0 m c t.val t.isLt).2 j := by
  rw [outsAt0_C m c t (by omega) (by omega) h]
  frame_out

/-- The result array after the run. -/
theorem final (c : Dev nD) : (dats m 0 c).arrAt 3 (cfgs 0).N = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, stored m c t h, Pipeline.eq_sum_fin_of_reset_step_apply_of_flush (fun n h => (outsAt0 m c n h).2) 11 (fun _ => 0) (added m c)
    (scratch_first m c) (scratch_next m c) t h _, zero_add, grad_apply]
  have e : ∀ s : Fin 11, (11 * (t.val / 11) + s.val) % 11 = s.val := fun s => by omega
  simp only [added, Finset.sum_add_distrib, part, e]
  refine congrArg₂ (· + ·) ?_ ?_
  · refine Fin.sum_mul_add_congr fun s k hl => ?_
    blk_point [iblk, V, blocks t, blocks ⟨_, Pipeline.run_point_lt_of_flush t h s⟩]
  · refine (Finset.sum_eq_single (0 : Fin 11) (fun s _ hs => if_neg fun h => hs (Fin.ext h)) (fun h => absurd (Finset.mem_univ _) h)).trans ?_
    refine (if_pos rfl).trans ?_
    blk_ext [iblk, V, blocks t, blocks ⟨_, Pipeline.run_point_lt_of_flush t h 0⟩]

theorem pair : Cert.algebraic_Kernel4Ideal_Reference4Ideal := by
  pair_intro
  · run_from Cert.Kernel4Ideal.Gen.run_main m g
  · hlo_run
    exact (final m c).symm

end Cert.DXn

end
-- ==== Proof.DwGate.lean ====
/- The gradient of the feed-forward block's first products by their weights, each device's columns apart: a block of
   columns of the normed input times one device's columns of the product's gradient, over all positions at once. -/
module

public import proofs.«01_k».proof.Defs
public import proofs.«01_k».proof.Proof.Gen.Kernel5Ideal.Frame
public import proofs.«01_k».proof.Proof.Gen.Reference5Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DwGate

open Cert.Kernel5Ideal Cert.Kernel5Ideal.Gen

/-- What the reference computes of the normed input and of the product's gradient: the devices' columns side by side,
then taken apart. -/
abbrev grad (X : FVec Ideal S4096x4096 .bf16) (G : FVec Ideal S4096x11264 .bf16) : FVec Ideal S8x4096x1408 .bf16 :=
  truncf .bf16 (transpose Cert.Reference5Ideal.S8x4096x1408 [1, 0, 2]
    (shapeCast Cert.Reference5Ideal.S4096x8x1408 (transpose Cert.Reference5Ideal.S4096x11264 [1, 0]
      (Host.dotGeneral Cert.Reference5Ideal.dot_S4096x11264_S4096x4096_S11264x4096_0_0_1_1_n_n none
        (extf .f32 G Cert.Reference5Ideal.Gen.bitsLt_bf16_f32) (extf .f32 X Cert.Reference5Ideal.Gen.bitsLt_bf16_f32))
      Cert.Reference5Ideal.Gen.transposes_S11264x4096_S4096x11264_1_0) Cert.Reference5Ideal.Gen.shapeCasts_S4096x11264_S4096x8x1408)
    Cert.Reference5Ideal.Gen.transposes_S4096x8x1408_S8x4096x1408_1_0_2) Cert.Reference5Ideal.Gen.bitsLt_bf16_f32

variable (m : (ℓ : Loc nD τ sig) → Buf (Elt Ideal) ℓ)

/-- The block of each array that a grid point takes. -/
theorem blocks : ∀ t : Fin cfg0.N, win0_0.index t = ![0, (grid0.coords t 0).val] ∧ win0_1.index t = ![0, (grid0.coords t 1).val]
    ∧ win0_2.index t = ![(grid0.coords t 1).val, (grid0.coords t 0).val, 0] :=
  (by decide +kernel : ∀ t : Fin grid0.N, _)

/-- An entry of the block a point stores is the entry of the gradient at the block's place. -/
theorem entry (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  refine Finset.sum_congr rfl fun k _ => (mul_comm _ _).trans ?_
  blk_point [iblk, V, blocks t]

/-- The result array after the run. -/
theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact entry m c t y

theorem pair : Cert.algebraic_Kernel5Ideal_Reference5Ideal := by
  pair_intro
  · run_from Cert.Kernel5Ideal.Gen.run_main m g
  · hlo_run
    exact (final m c).symm

end Cert.DwGate

end
-- ==== Proof.DHnUp.lean ====
/- The gradient of a first product of the feed-forward block by its normed input: the devices' blocks of the weight's
   columns are multiplied one after another and added up, then the gradient so far. -/
module

public import proofs.«01_k».proof.Defs
public import proofs.«01_k».proof.Proof.Gen.Kernel6Ideal.Frame
public import proofs.«01_k».proof.Proof.Gen.Reference6Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DHnUp

open Cert.Kernel6Ideal Cert.Kernel6Ideal.Gen

/-- What the reference computes: the devices' columns side by side, one product, and the gradient so far. -/
abbrev grad (G : FVec Ideal S4096x11264 .bf16) (W : FVec Ideal S8x4096x1408 .bf16) (D : FVec Ideal S4096x4096 .f32) :
    FVec Ideal S4096x4096 .f32 :=
  addf (Host.dotGeneral Cert.Reference6Ideal.dot_S4096x11264_S4096x11264_S4096x4096_1_1_0_0_n_n none
    (extf .f32 G Cert.Reference6Ideal.Gen.bitsLt_bf16_f32)
    (shapeCast Cert.Reference6Ideal.S4096x11264 (transpose Cert.Reference6Ideal.S4096x8x1408 [1, 0, 2] (extf .f32 W Cert.Reference6Ideal.Gen.bitsLt_bf16_f32)
      Cert.Reference6Ideal.Gen.transposes_S8x4096x1408_S4096x8x1408_1_0_2) Cert.Reference6Ideal.Gen.shapeCasts_S4096x8x1408_S4096x11264)) D

theorem grad_apply (G : FVec Ideal S4096x11264 .bf16) (W : FVec Ideal S8x4096x1408 .bf16) (D : FVec Ideal S4096x4096 .f32)
    (i : S4096x4096.Idx) :
    grad G W D i = (∑ l : Fin 11264, G (ix2 (i 0) l) * W (ix3 ⟨l.val / 1408, by omega⟩ (i 1) ⟨l.val % 1408, by omega⟩)) + D i := by
  pointwise [grad]

/-- One device's part of the product. -/
def share (G : FVec Ideal S512x1408 .bf16) (W : FVec Ideal S1x256x1408 .bf16) (j : S512x256.Idx) : EReal :=
  ∑ k : Fin 1408, G (ix2 (j 0) k) * W (ix3 0 (j 1) k)

theorem shares (a0 a1 a2 a3 a4 a5 a6 a7 : FVec Ideal S512x1408 .bf16) (b0 b1 b2 b3 b4 b5 b6 b7 : FVec Ideal S1x256x1408 .bf16)
    (d : FVec Ideal S512x256 .f32) (j : S512x256.Idx) :
    k0_pay1 (F := Ideal) (k0_pay2 (F := Ideal) a0 b0 a1 b1 a2 b2 a3 b3 a4 b4) a5 b5 a6 b6 a7 b7 d j
      = share a0 b0 j + share a1 b1 j + share a2 b2 j + share a3 b3 j + share a4 b4 j + share a5 b5 j + share a6 b6 j
        + share a7 b7 j + d j := by
  pointwise [k0_pay1, k0_pay2, share]

/-- A sum over all columns, device by device. -/
theorem by_device (f : Fin 11264 → EReal) :
    ∑ l, f l = ∑ s : Fin 8, ∑ k : Fin 1408, f ⟨s.val * 1408 + k.val, by omega⟩ :=
  (Fin.sum_mul_add_congr fun s k hl => rfl).symm

variable (m : (ℓ : Loc nD τ sig) → Buf (Elt Ideal) ℓ)

/-- The block of each array that a grid point takes. -/
theorem blocks : ∀ t : Fin cfg0.N, win0_0.index t = ![(grid0.coords t 0).val, 0] ∧ win0_1.index t = ![0, (grid0.coords t 1).val, 0]
    ∧ win0_2.index t = ![(grid0.coords t 0).val, (grid0.coords t 1).val]
    ∧ win0_3.index t = ![(grid0.coords t 0).val, (grid0.coords t 1).val] :=
  (by decide +kernel : ∀ t : Fin grid0.N, _)

/-- The result array after the run. -/
theorem final (c : Dev nD) : (dats m 0 c).arrAt 3 (cfgs 0).N = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; unfold outsAt0; frame_out
  rw [shares, grad_apply, by_device, Fin.sum_univ_eight]
  unfold share
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  on_goal 9 => blk_ext [iblk, V, blocks t]
  all_goals
    refine Finset.sum_congr rfl fun k _ => ?_
    blk_point [iblk, V, blocks t]

theorem pair : Cert.algebraic_Kernel6Ideal_Reference6Ideal := by
  pair_intro
  · run_from Cert.Kernel6Ideal.Gen.run_main m g
  · hlo_run
    exact (final m c).symm

end Cert.DHnUp

end
-- ==== Proof.DwDown.lean ====
/- The gradient of the feed-forward block's last product by its weight: a block of columns of the activations times a
   block of columns of the output's gradient, over all positions at once; the blocks tile the weight's gradient. -/
module

public import proofs.«01_k».proof.Defs
public import proofs.«01_k».proof.Proof.Gen.Kernel7Ideal.Frame
public import proofs.«01_k».proof.Proof.Gen.Reference7Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DwDown

open Cert.Kernel7Ideal Cert.Kernel7Ideal.Gen

/-- What the reference computes of the activations and of the output's gradient. -/
abbrev grad (X : FVec Ideal S4096x11264 .bf16) (G : FVec Ideal S4096x4096 .bf16) : FVec Ideal S11264x4096 .bf16 :=
  truncf .bf16 (transpose Cert.Reference7Ideal.S11264x4096 [1, 0]
    (Host.dotGeneral Cert.Reference7Ideal.dot_S4096x4096_S4096x11264_S4096x11264_0_0_1_1_n_n none
      (extf .f32 G Cert.Reference7Ideal.Gen.bitsLt_bf16_f32) (extf .f32 X Cert.Reference7Ideal.Gen.bitsLt_bf16_f32))
    Cert.Reference7Ideal.Gen.transposes_S4096x11264_S11264x4096_1_0) Cert.Reference7Ideal.Gen.bitsLt_bf16_f32

variable (m : (ℓ : Loc nD τ sig) → Buf (Elt Ideal) ℓ)

/-- The block of each array that a grid point takes. -/
theorem blocks : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- An entry of the block a point stores is the entry of the gradient at the block's place. -/
theorem entry (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  refine Finset.sum_congr rfl fun k _ => (mul_comm _ _).trans ?_
  blk_point [iblk, V, blocks t]

/-- The result array after the run. -/
theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact entry m c t y

theorem pair : Cert.algebraic_Kernel7Ideal_Reference7Ideal := by
  pair_intro
  · run_from Cert.Kernel7Ideal.Gen.run_main m g
  · hlo_run
    exact (final m c).symm

end Cert.DwDown

end
-- ==== Proof.DHnGate.lean ====
/- The gradient of a first product of the feed-forward block by its normed input: the devices' blocks of the weight's
   columns are multiplied one after another and added up. -/
module

public import proofs.«01_k».proof.Defs
public import proofs.«01_k».proof.Proof.Gen.Kernel8Ideal.Frame
public import proofs.«01_k».proof.Proof.Gen.Reference8Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DHnGate

open Cert.Kernel8Ideal Cert.Kernel8Ideal.Gen

/-- What the reference computes: the devices' columns side by side, then one product. -/
abbrev grad (G : FVec Ideal S4096x11264 .bf16) (W : FVec Ideal S8x4096x1408 .bf16) :
    FVec Ideal S4096x4096 .f32 :=
  Host.dotGeneral Cert.Reference8Ideal.dot_S4096x11264_S4096x11264_S4096x4096_1_1_0_0_n_n none
    (extf .f32 G Cert.Reference8Ideal.Gen.bitsLt_bf16_f32)
    (shapeCast Cert.Reference8Ideal.S4096x11264 (transpose Cert.Reference8Ideal.S4096x8x1408 [1, 0, 2] (extf .f32 W Cert.Reference8Ideal.Gen.bitsLt_bf16_f32)
      Cert.Reference8Ideal.Gen.transposes_S8x4096x1408_S4096x8x1408_1_0_2) Cert.Reference8Ideal.Gen.shapeCasts_S4096x8x1408_S4096x11264)

theorem grad_apply (G : FVec Ideal S4096x11264 .bf16) (W : FVec Ideal S8x4096x1408 .bf16)
    (i : S4096x4096.Idx) :
    grad G W i = ∑ l : Fin 11264, G (ix2 (i 0) l) * W (ix3 ⟨l.val / 1408, by omega⟩ (i 1) ⟨l.val % 1408, by omega⟩) := by
  pointwise [grad]

/-- One device's part of the product. -/
def share (G : FVec Ideal S512x1408 .bf16) (W : FVec Ideal S1x256x1408 .bf16) (j : S512x256.Idx) : EReal :=
  ∑ k : Fin 1408, G (ix2 (j 0) k) * W (ix3 0 (j 1) k)

theorem shares (a0 a1 a2 a3 a4 a5 a6 a7 : FVec Ideal S512x1408 .bf16) (b0 b1 b2 b3 b4 b5 b6 b7 : FVec Ideal S1x256x1408 .bf16) (j : S512x256.Idx) :
    k0_pay1 (F := Ideal) (k0_pay2 (F := Ideal) a0 b0 a1 b1 a2 b2 a3 b3 a4 b4) a5 b5 a6 b6 a7 b7 j
      = share a0 b0 j + share a1 b1 j + share a2 b2 j + share a3 b3 j + share a4 b4 j + share a5 b5 j + share a6 b6 j
        + share a7 b7 j := by
  pointwise [k0_pay1, k0_pay2, share]

/-- A sum over all columns, device by device. -/
theorem by_device (f : Fin 11264 → EReal) :
    ∑ l, f l = ∑ s : Fin 8, ∑ k : Fin 1408, f ⟨s.val * 1408 + k.val, by omega⟩ :=
  (Fin.sum_mul_add_congr fun s k hl => rfl).symm

variable (m : (ℓ : Loc nD τ sig) → Buf (Elt Ideal) ℓ)

/-- The block of each array that a grid point takes. -/
theorem blocks : ∀ t : Fin cfg0.N, win0_0.index t = ![(grid0.coords t 0).val, 0] ∧ win0_1.index t = ![0, (grid0.coords t 1).val, 0]
    ∧ win0_2.index t = ![(grid0.coords t 0).val, (grid0.coords t 1).val] :=
  (by decide +kernel : ∀ t : Fin grid0.N, _)

/-- The result array after the run. -/
theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [shares, grad_apply, by_device, Fin.sum_univ_eight]
  unfold share
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine Finset.sum_congr rfl fun k _ => ?_
    blk_point [iblk, V, blocks t]

theorem pair : Cert.algebraic_Kernel8Ideal_Reference8Ideal := by
  pair_intro
  · run_from Cert.Kernel8Ideal.Gen.run_main m g
  · hlo_run
    exact (final m c).symm

end Cert.DHnGate

end
-- ==== Proof.DMerged.lean ====
/- The gradient of the gated merge of the two branches: the gradient through the output projection, then the gradient of
   sigmoid(ga) * ya + sigmoid(gb) * yb by the two gates and the two branches. -/
module

public import proofs.«01_k».proof.Defs
public import proofs.«01_k».proof.Proof.Gen.Kernel9Ideal.Frame
public import proofs.«01_k».proof.Proof.Gen.Reference9Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DMerged

open Cert.Kernel9Ideal Cert.Kernel9Ideal.Gen

/-- The gradient of the merged branches: the output's gradient through the output projection. -/
abbrev through (X W : FVec Ideal S4096x4096 .bf16) : FVec Ideal S4096x4096 .f32 :=
  extf .f32 (truncf .bf16 (Host.dotGeneral Cert.Reference9Ideal.dot_S4096x4096_S4096x4096_S4096x4096_1_1_0_0_n_n none (extf .f32 X Cert.Reference9Ideal.Gen.bitsLt_bf16_f32) (extf .f32 W Cert.Reference9Ideal.Gen.bitsLt_bf16_f32))
    Cert.Reference9Ideal.Gen.bitsLt_bf16_f32) Cert.Reference9Ideal.Gen.bitsLt_bf16_f32

abbrev ones : FVec Ideal S4096x4096 .f32 :=
  broadcastInDim Cert.Reference9Ideal.S4096x4096 ![] Cert.Reference9Ideal.Gen.bcast_S_S4096x4096 (constant Cert.Reference9Ideal.S_ .f32 0x3F800000#32)

/-- The gate of the first branch: the logistic function, as a quotient, of its columns of the input projection. -/
abbrev gateA (P : FVec Ideal S4096x22528 .bf16) : FVec Ideal S4096x4096 .f32 :=
  Host.divf ones (addf ones (Host.exp (Host.negf (extf .f32
    (extractStridedSlice Cert.Reference9Ideal.S4096x4096 ![0, 14336] P Cert.Reference9Ideal.Gen.slices_S4096x22528_S4096x4096_0_14336) Cert.Reference9Ideal.Gen.bitsLt_bf16_f32))))

/-- The gate of the second branch. -/
abbrev gateB (P : FVec Ideal S4096x22528 .bf16) : FVec Ideal S4096x4096 .f32 :=
  Host.divf ones (addf ones (Host.exp (Host.negf (extf .f32
    (extractStridedSlice Cert.Reference9Ideal.S4096x4096 ![0, 18432] P Cert.Reference9Ideal.Gen.slices_S4096x22528_S4096x4096_0_18432) Cert.Reference9Ideal.Gen.bitsLt_bf16_f32))))

/-- What the reference computes: the gradient by the first gate. -/
abbrev byGateA (X W : FVec Ideal S4096x4096 .bf16) (P : FVec Ideal S4096x22528 .bf16) (y : FVec Ideal S4096x4096 .bf16) : FVec Ideal S4096x4096 .bf16 :=
  truncf .bf16 (mulf (mulf (through X W) (extf .f32 y Cert.Reference9Ideal.Gen.bitsLt_bf16_f32)) (mulf (gateA P) (subf ones (gateA P)))) Cert.Reference9Ideal.Gen.bitsLt_bf16_f32

/-- The gradient by the second gate. -/
abbrev byGateB (X W : FVec Ideal S4096x4096 .bf16) (P : FVec Ideal S4096x22528 .bf16) (y : FVec Ideal S4096x4096 .bf16) : FVec Ideal S4096x4096 .bf16 :=
  truncf .bf16 (mulf (mulf (through X W) (extf .f32 y Cert.Reference9Ideal.Gen.bitsLt_bf16_f32)) (mulf (gateB P) (subf ones (gateB P)))) Cert.Reference9Ideal.Gen.bitsLt_bf16_f32

/-- The gradient by the first branch. -/
abbrev byBranchA (X W : FVec Ideal S4096x4096 .bf16) (P : FVec Ideal S4096x22528 .bf16) : FVec Ideal S4096x4096 .bf16 :=
  truncf .bf16 (mulf (gateA P) (through X W)) Cert.Reference9Ideal.Gen.bitsLt_bf16_f32

/-- The gradient by the second branch. -/
abbrev byBranchB (X W : FVec Ideal S4096x4096 .bf16) (P : FVec Ideal S4096x22528 .bf16) : FVec Ideal S4096x4096 .bf16 :=
  truncf .bf16 (mulf (gateB P) (through X W)) Cert.Reference9Ideal.Gen.bitsLt_bf16_f32

variable (m : (ℓ : Loc nD τ sig) → Buf (Elt Ideal) ℓ)

/-- The block of each array that a grid point takes. -/
theorem blocks : ∀ t : Fin cfg0.N, win0_0.index t = ![(grid0.coords t 0).val, 0]
    ∧ win0_1.index t = ![(grid0.coords t 1).val, 0]
    ∧ win0_2.index t = ![(grid0.coords t 0).val, (grid0.coords t 1).val + 28]
    ∧ win0_3.index t = ![(grid0.coords t 0).val, (grid0.coords t 1).val + 36]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val]
    ∧ win0_8.index t = ![(grid0.coords t 0).val, (grid0.coords t 1).val]
    ∧ win0_9.index t = ![(grid0.coords t 0).val, (grid0.coords t 1).val] :=
  (by decide +kernel : ∀ t : Fin grid0.N, _)

theorem entry6 (c : Dev nD) (t : Fin cfg0.N) (y) : k0_pay6 (iblk m c 0 t) (iblk m c 1 t) (iblk m c 2 t) (iblk m c 4 t) y
    = byGateA (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay2, k0_pay3, k0_pay4, k0_pay5, k0_pay6, byGateA, through, gateA, gateB, ones]
  simp only [Ideal.logistic]
  blk_point [iblk, V, blocks t]

theorem final6 (c : Dev nD) : (dats m 0 c).arrAt 6 (cfgs 0).N = byGateA (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; unfold outsAt0; frame_out
  exact entry6 m c t y

theorem entry7 (c : Dev nD) (t : Fin cfg0.N) (y) : k0_pay7 (iblk m c 0 t) (iblk m c 1 t) (iblk m c 3 t) (iblk m c 5 t) y
    = byGateB (m ((c : Thread nD τ).loc main_arg0)) (m ((c : Thread nD τ).loc main_arg1)) (m ((c : Thread nD τ).loc main_arg2)) (m ((c : Thread nD τ).loc main_arg4)) (((cfg0.win 7).blk t).view.emb y) := by
  pointwise [k0_pay2, k0_pay3, k0_pay4, k0_pay5, k0_pay7, byGateB, through, gateA, gateB, ones]
  simp only [Ideal.logistic]
  blk_point [iblk, V, blocks t]

theorem final7 (c : Dev nD) : (dats m 0 c).arrAt 7 (cfgs 0).N = byGateB (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t _ y => ?_
  blk_simp
  rw [after0_7]; unfold outsAt0; frame_out
  exact entry7 m c t y

theorem entry8 (c : Dev nD) (t : Fin cfg0.N) (y) : k0_pay8 (iblk m c 0 t) (iblk m c 1 t) (iblk m c 2 t) y
    = byBranchA (m ((c : Thread nD τ).loc main_arg0)) (m ((c : Thread nD τ).loc main_arg1)) (m ((c : Thread nD τ).loc main_arg2)) (((cfg0.win 8).blk t).view.emb y) := by
  pointwise [k0_pay2, k0_pay3, k0_pay4, k0_pay5, k0_pay8, byBranchA, through, gateA, gateB, ones]
  simp only [Ideal.logistic]
  blk_point [iblk, V, blocks t]

theorem final8 (c : Dev nD) : (dats m 0 c).arrAt 8 (cfgs 0).N = byBranchA (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; unfold outsAt0; frame_out
  exact entry8 m c t y

theorem entry9 (c : Dev nD) (t : Fin cfg0.N) (y) : k0_pay1 (k0_pay5 (iblk m c 0 t) (iblk m c 1 t) (iblk m c 3 t)) y
    = byBranchB (m ((c : Thread nD τ).loc main_arg0)) (m ((c : Thread nD τ).loc main_arg1)) (m ((c : Thread nD τ).loc main_arg2)) (((cfg0.win 9).blk t).view.emb y) := by
  pointwise [k0_pay1, k0_pay2, k0_pay3, k0_pay4, k0_pay5, byBranchB, through, gateA, gateB, ones]
  simp only [Ideal.logistic]
  blk_point [iblk, V, blocks t]

theorem final9 (c : Dev nD) : (dats m 0 c).arrAt 9 (cfgs 0).N = byBranchB (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; unfold outsAt0; frame_out
  exact entry9 m c t y

theorem pair : Cert.algebraic_Kernel9Ideal_Reference9Ideal := by
  pair_intro
  · run_from Cert.Kernel9Ideal.Gen.run_main m g
  · hlo_run
    · exact (final6 m c).symm
    · exact (final7 m c).symm
    · exact (final8 m c).symm
    · exact (final9 m c).symm

end Cert.DMerged

end
-- ==== Proof.DwOut.lean ====
/- The gradient of the output projection by its weight: a block of columns of the merged branches times a block of
   columns of the gradient, over all positions at once. -/
module

public import proofs.«01_k».proof.Defs
public import proofs.«01_k».proof.Proof.Gen.Kernel10Ideal.Frame
public import proofs.«01_k».proof.Proof.Gen.Reference10Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DwOut

open Cert.Kernel10Ideal Cert.Kernel10Ideal.Gen

/-- What the reference computes of the merged branches and of the output's gradient. -/
abbrev grad (X W : FVec Ideal S4096x4096 .bf16) : FVec Ideal S4096x4096 .bf16 :=
  truncf .bf16 (transpose Cert.Reference10Ideal.S4096x4096 [1, 0]
    (Host.dotGeneral Cert.Reference10Ideal.dot_S4096x4096_S4096x4096_S4096x4096_0_0_1_1_n_n none (extf .f32 W Cert.Reference10Ideal.Gen.bitsLt_bf16_f32) (extf .f32 X Cert.Reference10Ideal.Gen.bitsLt_bf16_f32))
    Cert.Reference10Ideal.Gen.transposes_S4096x4096_S4096x4096_1_0) Cert.Reference10Ideal.Gen.bitsLt_bf16_f32

variable (m : (ℓ : Loc nD τ sig) → Buf (Elt Ideal) ℓ)

/-- The block of each array that a grid point takes. -/
theorem blocks : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

theorem entry (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  refine Finset.sum_congr rfl fun k _ => (mul_comm _ _).trans ?_
  blk_point [iblk, V, blocks t]

theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact entry m c t y

theorem pair : Cert.algebraic_Kernel10Ideal_Reference10Ideal := by
  pair_intro
  · run_from Cert.Kernel10Ideal.Gen.run_main m g
  · hlo_run
    exact (final m c).symm

end Cert.DwOut

end
-- ==== Proof.DBranch.lean ====
/- The gradient of a branch's projection by its input: rows of the gradient times rows of the weight. -/
module

public import proofs.«01_k».proof.Defs
public import proofs.«01_k».proof.Proof.Gen.Kernel11Ideal.Frame
public import proofs.«01_k».proof.Proof.Gen.Reference11Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DBranch

open Cert.Kernel11Ideal Cert.Kernel11Ideal.Gen

/-- What the reference computes of the branch's gradient and of the weight. -/
abbrev grad (X : FVec Ideal S4096x4096 .bf16) (W : FVec Ideal S2048x4096 .bf16) : FVec Ideal S4096x2048 .bf16 :=
  truncf .bf16 (Host.dotGeneral Cert.Reference11Ideal.dot_S4096x4096_S2048x4096_S4096x2048_1_1_0_0_n_n none (extf .f32 X Cert.Reference11Ideal.Gen.bitsLt_bf16_f32) (extf .f32 W Cert.Reference11Ideal.Gen.bitsLt_bf16_f32)) Cert.Reference11Ideal.Gen.bitsLt_bf16_f32

variable (m : (ℓ : Loc nD τ sig) → Buf (Elt Ideal) ℓ)

/-- The block of each array that a grid point takes. -/
theorem blocks : ∀ t : Fin cfg0.N, win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

theorem entry (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  blk_point [iblk, V, blocks t]

theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact entry m c t y

theorem pair : Cert.algebraic_Kernel11Ideal_Reference11Ideal := by
  pair_intro
  · run_from Cert.Kernel11Ideal.Gen.run_main m g
  · hlo_run
    exact (final m c).symm

end Cert.DBranch

end
-- ==== Proof.DwBranch.lean ====
/- The gradient of a branch's projection by its weight, each device's columns apart. -/
module

public import proofs.«01_k».proof.Defs
public import proofs.«01_k».proof.Proof.Gen.Kernel12Ideal.Frame
public import proofs.«01_k».proof.Proof.Gen.Reference12Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DwBranch

open Cert.Kernel12Ideal Cert.Kernel12Ideal.Gen

/-- What the reference computes: one product, its columns then dealt out to the devices. -/
abbrev grad (X : FVec Ideal S4096x2048 .bf16) (W : FVec Ideal S4096x4096 .bf16) : FVec Ideal S8x2048x512 .bf16 :=
  truncf .bf16 (transpose Cert.Reference12Ideal.S8x2048x512 [1, 0, 2]
    (shapeCast Cert.Reference12Ideal.S2048x8x512 (transpose Cert.Reference12Ideal.S2048x4096 [1, 0]
      (Host.dotGeneral Cert.Reference12Ideal.dot_S4096x4096_S4096x2048_S4096x2048_0_0_1_1_n_n none (extf .f32 W Cert.Reference12Ideal.Gen.bitsLt_bf16_f32) (extf .f32 X Cert.Reference12Ideal.Gen.bitsLt_bf16_f32))
      Cert.Reference12Ideal.Gen.transposes_S4096x2048_S2048x4096_1_0) Cert.Reference12Ideal.Gen.shapeCasts_S2048x4096_S2048x8x512)
    Cert.Reference12Ideal.Gen.transposes_S2048x8x512_S8x2048x512_1_0_2) Cert.Reference12Ideal.Gen.bitsLt_bf16_f32

variable (m : (ℓ : Loc nD τ sig) → Buf (Elt Ideal) ℓ)

/-- The block of each array that a grid point takes. -/
theorem blocks : ∀ t : Fin cfg0.N, win0_0.index t = ![0, (grid0.coords t 0).val]
    ∧ win0_1.index t = ![0, (grid0.coords t 1).val]
    ∧ win0_2.index t = ![(grid0.coords t 1).val, (grid0.coords t 0).val, 0] :=
  (by decide +kernel : ∀ t : Fin grid0.N, _)

theorem entry (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  refine Finset.sum_congr rfl fun k _ => (mul_comm _ _).trans ?_
  blk_point [iblk, V, blocks t]

theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact entry m c t y

theorem pair : Cert.algebraic_Kernel12Ideal_Reference12Ideal := by
  pair_intro
  · run_from Cert.Kernel12Ideal.Gen.run_main m g
  · hlo_run
    exact (final m c).symm

end Cert.DwBranch

end
-- ==== Proof.InProj.lean ====
/- The input projection: a block of rows of the normed input times a block of columns of the weight. -/
module

public import proofs.«01_k».proof.Defs
public import proofs.«01_k».proof.Proof.Gen.Kernel13Ideal.Frame
public import proofs.«01_k».proof.Proof.Gen.Reference13Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.InProj

open Cert.Kernel13Ideal Cert.Kernel13Ideal.Gen

/-- What the reference computes of the normed input and of the weight. -/
abbrev proj (X : FVec Ideal S4096x4096 .bf16) (W : FVec Ideal S4096x22528 .bf16) : FVec Ideal S4096x22528 .bf16 :=
  truncf .bf16 (Host.dotGeneral Cert.Reference13Ideal.dot_S4096x4096_S4096x22528_S4096x22528_1_0_0_1_n_n none (extf .f32 X Cert.Reference13Ideal.Gen.bitsLt_bf16_f32) (extf .f32 W Cert.Reference13Ideal.Gen.bitsLt_bf16_f32)) Cert.Reference13Ideal.Gen.bitsLt_bf16_f32

variable (m : (ℓ : Loc nD τ sig) → Buf (Elt Ideal) ℓ)

/-- The block of each array that a grid point takes. -/
theorem blocks : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

theorem entry (c : Dev nD) (t : Fin cfg0.N) (y) : k0_pay1 (iblk m c 0 t) (iblk m c 1 t) y
    = proj (m ((c : Thread nD τ).loc main_arg0)) (m ((c : Thread nD τ).loc main_arg1)) (((cfg0.win 2).blk t).view.emb y) := by
  pointwise [k0_pay1, proj]
  blk_point [iblk, V, blocks t]

theorem final (c : Dev nD) : (dats m 0 c).arrAt 2 (cfgs 0).N = proj (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact entry m c t y

theorem pair : Cert.algebraic_Kernel13Ideal_Reference13Ideal := by
  pair_intro
  · run_from Cert.Kernel13Ideal.Gen.run_main m g
  · hlo_run
    exact (final m c).symm

end Cert.InProj

end
-- ==== Proof.FfnGate.lean ====
/- The first product of the feed-forward block: rows of the normed input times one device's columns of the weight. -/
module

public import proofs.«01_k».proof.Defs
public import proofs.«01_k».proof.Proof.Gen.Kernel14Ideal.Frame
public import proofs.«01_k».proof.Proof.Gen.Reference14Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.FfnGate

open Cert.Kernel14Ideal Cert.Kernel14Ideal.Gen

/-- What the reference computes: the devices' columns of the weight side by side, then one product. -/
abbrev gate (X : FVec Ideal S4096x4096 .bf16) (W : FVec Ideal S8x4096x1408 .bf16) : FVec Ideal S4096x11264 .bf16 :=
  truncf .bf16 (Host.dotGeneral Cert.Reference14Ideal.dot_S4096x4096_S4096x11264_S4096x11264_1_0_0_1_n_n none (extf .f32 X Cert.Reference14Ideal.Gen.bitsLt_bf16_f32)
    (shapeCast Cert.Reference14Ideal.S4096x11264
      (transpose Cert.Reference14Ideal.S4096x8x1408 [1, 0, 2] (extf .f32 W Cert.Reference14Ideal.Gen.bitsLt_bf16_f32) Cert.Reference14Ideal.Gen.transposes_S8x4096x1408_S4096x8x1408_1_0_2)
      Cert.Reference14Ideal.Gen.shapeCasts_S4096x8x1408_S4096x11264)) Cert.Reference14Ideal.Gen.bitsLt_bf16_f32

variable (m : (ℓ : Loc nD τ sig) → Buf (Elt Ideal) ℓ)

/-- The block of each array that a grid point takes. -/
theorem blocks : ∀ t : Fin cfg0.N, win0_0.index t = ![(grid0.coords t 0).val, 0]
    ∧ win0_1.index t = ![(grid0.coords t 1).val, 0, 0]
    ∧ win0_2.index t = ![(grid0.coords t 0).val, (grid0.coords t 1).val] :=
  (by decide +kernel : ∀ t : Fin grid0.N, _)

theorem entry (c : Dev nD) (t : Fin cfg0.N) (y) : k0_pay1 (iblk m c 0 t) (iblk m c 1 t) y
    = gate (m ((c : Thread nD τ).loc main_arg0)) (m ((c : Thread nD τ).loc main_arg1)) (((cfg0.win 2).blk t).view.emb y) := by
  pointwise [k0_pay1, gate]
  blk_point [iblk, V, blocks t]

theorem final (c : Dev nD) : (dats m 0 c).arrAt 2 (cfgs 0).N = gate (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact entry m c t y

theorem pair : Cert.algebraic_Kernel14Ideal_Reference14Ideal := by
  pair_intro
  · run_from Cert.Kernel14Ideal.Gen.run_main m g
  · hlo_run
    exact (final m c).symm

end Cert.FfnGate

end
-- ==== Proof.FfnUp.lean ====
/- The second product of the feed-forward block and the gated activation silu(gate) * up, which the call computes from
   the block of the product it has just made. -/
module

public import proofs.«01_k».proof.Defs
public import proofs.«01_k».proof.Proof.Gen.Kernel15Ideal.Frame
public import proofs.«01_k».proof.Proof.Gen.Reference15Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.FfnUp

open Cert.Kernel15Ideal Cert.Kernel15Ideal.Gen

/-- What the reference computes: the devices' columns of the weight side by side, then one product. -/
abbrev up (X : FVec Ideal S4096x4096 .bf16) (W : FVec Ideal S8x4096x1408 .bf16) : FVec Ideal S4096x11264 .bf16 :=
  truncf .bf16 (Host.dotGeneral Cert.Reference15Ideal.dot_S4096x4096_S4096x11264_S4096x11264_1_0_0_1_n_n none (extf .f32 X Cert.Reference15Ideal.Gen.bitsLt_bf16_f32)
    (shapeCast Cert.Reference15Ideal.S4096x11264
      (transpose Cert.Reference15Ideal.S4096x8x1408 [1, 0, 2] (extf .f32 W Cert.Reference15Ideal.Gen.bitsLt_bf16_f32) Cert.Reference15Ideal.Gen.transposes_S8x4096x1408_S4096x8x1408_1_0_2)
      Cert.Reference15Ideal.Gen.shapeCasts_S4096x8x1408_S4096x11264)) Cert.Reference15Ideal.Gen.bitsLt_bf16_f32

abbrev ones : FVec Ideal S4096x11264 .f32 :=
  broadcastInDim Cert.Reference15Ideal.S4096x11264 ![] Cert.Reference15Ideal.Gen.bcast_S_S4096x11264 (constant Cert.Reference15Ideal.S_ .f32 0x3F800000#32)

/-- The gated activation, its logistic function written as a quotient. -/
abbrev act (X : FVec Ideal S4096x4096 .bf16) (W : FVec Ideal S8x4096x1408 .bf16) (g : FVec Ideal S4096x11264 .bf16) : FVec Ideal S4096x11264 .bf16 :=
  truncf .bf16 (mulf (mulf (extf .f32 g Cert.Reference15Ideal.Gen.bitsLt_bf16_f32)
      (Host.divf ones (addf ones (Host.exp (Host.negf (extf .f32 g Cert.Reference15Ideal.Gen.bitsLt_bf16_f32))))))
    (extf .f32 (up X W) Cert.Reference15Ideal.Gen.bitsLt_bf16_f32)) Cert.Reference15Ideal.Gen.bitsLt_bf16_f32

variable (m : (ℓ : Loc nD τ sig) → Buf (Elt Ideal) ℓ)

/-- The block of each array that a grid point takes. -/
theorem blocks : ∀ t : Fin cfg0.N, win0_0.index t = ![(grid0.coords t 0).val, 0]
    ∧ win0_1.index t = ![(grid0.coords t 1).val, 0, 0]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val] :=
  (by decide +kernel : ∀ t : Fin grid0.N, _)

theorem entry3 (c : Dev nD) (t : Fin cfg0.N) (y) : k0_pay2 (iblk m c 0 t) (iblk m c 1 t) y
    = up (m ((c : Thread nD τ).loc main_arg0)) (m ((c : Thread nD τ).loc main_arg1)) (((cfg0.win 3).blk t).view.emb y) := by
  pointwise [k0_pay1, k0_pay2, up]
  blk_point [iblk, V, blocks t]

theorem final3 (c : Dev nD) : (dats m 0 c).arrAt 3 (cfgs 0).N = up (m ((c : Thread nD τ).loc main_arg0)) (m ((c : Thread nD τ).loc main_arg1)) := by
  refine (dats m 0 c).arrAt_eq_of_covers 3 _ (by decide +kernel) fun t _ y => ?_
  blk_simp
  rw [after0_3]; unfold outsAt0; frame_out
  exact entry3 m c t y

theorem entry4 (c : Dev nD) (t : Fin cfg0.N) (y) : k0_pay3 (iblk m c 0 t) (iblk m c 1 t) (iblk m c 2 t) y
    = act (m ((c : Thread nD τ).loc main_arg0)) (m ((c : Thread nD τ).loc main_arg1)) (m ((c : Thread nD τ).loc main_arg2)) (((cfg0.win 4).blk t).view.emb y) := by
  pointwise [k0_pay1, k0_pay3, act, up, ones]
  simp only [Ideal.logistic]
  blk_point [iblk, V, blocks t]

theorem final4 (c : Dev nD) : (dats m 0 c).arrAt 4 (cfgs 0).N = act (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; unfold outsAt0; frame_out
  exact entry4 m c t y

theorem pair : Cert.algebraic_Kernel15Ideal_Reference15Ideal := by
  pair_intro
  · run_from Cert.Kernel15Ideal.Gen.run_main m g
  · hlo_run
    · exact (final3 m c).symm
    · exact (final4 m c).symm

end Cert.FfnUp

end
-- ==== Proof.FfnDown.lean ====
/- The last product of the feed-forward block, added to the stream it came from. -/
module

public import proofs.«01_k».proof.Defs
public import proofs.«01_k».proof.Proof.Gen.Kernel16Ideal.Frame
public import proofs.«01_k».proof.Proof.Gen.Reference16Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.FfnDown

open Cert.Kernel16Ideal Cert.Kernel16Ideal.Gen

/-- What the reference computes of the activation, of the weight and of the stream. -/
abbrev down (X : FVec Ideal S4096x11264 .bf16) (W : FVec Ideal S11264x4096 .bf16) (h : FVec Ideal S4096x4096 .f32) : FVec Ideal S4096x4096 .f32 :=
  addf h (Host.dotGeneral Cert.Reference16Ideal.dot_S4096x11264_S11264x4096_S4096x4096_1_0_0_1_n_n none (extf .f32 X Cert.Reference16Ideal.Gen.bitsLt_bf16_f32) (extf .f32 W Cert.Reference16Ideal.Gen.bitsLt_bf16_f32))

variable (m : (ℓ : Loc nD τ sig) → Buf (Elt Ideal) ℓ)

/-- The block of each array that a grid point takes. -/
theorem blocks : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

theorem entry (c : Dev nD) (t : Fin cfg0.N) (y) : k0_pay1 (iblk m c 0 t) (iblk m c 1 t) (iblk m c 2 t) y
    = down (m ((c : Thread nD τ).loc main_arg0)) (m ((c : Thread nD τ).loc main_arg1)) (m ((c : Thread nD τ).loc main_arg2)) (((cfg0.win 3).blk t).view.emb y) := by
  pointwise [k0_pay1, down]
  blk_point [iblk, V, blocks t]

theorem final (c : Dev nD) : (dats m 0 c).arrAt 3 (cfgs 0).N = down (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  exact entry m c t y

theorem pair : Cert.algebraic_Kernel16Ideal_Reference16Ideal := by
  pair_intro
  · run_from Cert.Kernel16Ideal.Gen.run_main m g
  · hlo_run
    exact (final m c).symm

end Cert.FfnDown

end
-- ==== Proof.OutProj.lean ====
/- The output projection of the merged branches, added to the stream. -/
module

public import proofs.«01_k».proof.Defs
public import proofs.«01_k».proof.Proof.Gen.Kernel17Ideal.Frame
public import proofs.«01_k».proof.Proof.Gen.Reference17Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.OutProj

open Cert.Kernel17Ideal Cert.Kernel17Ideal.Gen

/-- What the reference computes of the merged branches, of the weight and of the stream. -/
abbrev out (X W : FVec Ideal S4096x4096 .bf16) (h : FVec Ideal S4096x4096 .f32) : FVec Ideal S4096x4096 .f32 :=
  addf h (Host.dotGeneral Cert.Reference17Ideal.dot_S4096x4096_S4096x4096_S4096x4096_1_0_0_1_n_n none (extf .f32 X Cert.Reference17Ideal.Gen.bitsLt_bf16_f32) (extf .f32 W Cert.Reference17Ideal.Gen.bitsLt_bf16_f32))

variable (m : (ℓ : Loc nD τ sig) → Buf (Elt Ideal) ℓ)

/-- The block of each array that a grid point takes. -/
theorem blocks : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

theorem entry (c : Dev nD) (t : Fin cfg0.N) (y) : k0_pay1 (iblk m c 0 t) (iblk m c 1 t) (iblk m c 2 t) y
    = out (m ((c : Thread nD τ).loc main_arg0)) (m ((c : Thread nD τ).loc main_arg1)) (m ((c : Thread nD τ).loc main_arg2)) (((cfg0.win 3).blk t).view.emb y) := by
  pointwise [k0_pay1, out]
  blk_point [iblk, V, blocks t]

theorem final (c : Dev nD) : (dats m 0 c).arrAt 3 (cfgs 0).N = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  exact entry m c t y

theorem pair : Cert.algebraic_Kernel17Ideal_Reference17Ideal := by
  pair_intro
  · run_from Cert.Kernel17Ideal.Gen.run_main m g
  · hlo_run
    exact (final m c).symm

end Cert.OutProj

end
-- ==== Proof.BranchA.lean ====
/- The projection of the first branch. -/
module

public import proofs.«01_k».proof.Defs
public import proofs.«01_k».proof.Proof.Gen.Kernel18Ideal.Frame
public import proofs.«01_k».proof.Proof.Gen.Reference18Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.BranchA

open Cert.Kernel18Ideal Cert.Kernel18Ideal.Gen

/-- What the reference computes of the branch and of its weight. -/
abbrev branch (X : FVec Ideal S4096x2048 .bf16) (W : FVec Ideal S2048x4096 .bf16) : FVec Ideal S4096x4096 .bf16 :=
  truncf .bf16 (Host.dotGeneral Cert.Reference18Ideal.dot_S4096x2048_S2048x4096_S4096x4096_1_0_0_1_n_n none (extf .f32 X Cert.Reference18Ideal.Gen.bitsLt_bf16_f32) (extf .f32 W Cert.Reference18Ideal.Gen.bitsLt_bf16_f32)) Cert.Reference18Ideal.Gen.bitsLt_bf16_f32

variable (m : (ℓ : Loc nD τ sig) → Buf (Elt Ideal) ℓ)

/-- The block of each array that a grid point takes. -/
theorem blocks : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

theorem entry (c : Dev nD) (t : Fin cfg0.N) (y) : k0_pay1 (iblk m c 0 t) (iblk m c 1 t) y
    = branch (m ((c : Thread nD τ).loc main_arg0)) (m ((c : Thread nD τ).loc main_arg1)) (((cfg0.win 2).blk t).view.emb y) := by
  pointwise [k0_pay1, branch]
  blk_point [iblk, V, blocks t]

theorem final (c : Dev nD) : (dats m 0 c).arrAt 2 (cfgs 0).N = branch (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact entry m c t y

theorem pair : Cert.algebraic_Kernel18Ideal_Reference18Ideal := by
  pair_intro
  · run_from Cert.Kernel18Ideal.Gen.run_main m g
  · hlo_run
    exact (final m c).symm

end Cert.BranchA

end
-- ==== Proof.BranchB.lean ====
/- The projection of the second branch and the merge of the two branches by their gates, which the call computes from
   the block of the product it has just made. -/
module

public import proofs.«01_k».proof.Defs
public import proofs.«01_k».proof.Proof.Gen.Kernel19Ideal.Frame
public import proofs.«01_k».proof.Proof.Gen.Reference19Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.BranchB

open Cert.Kernel19Ideal Cert.Kernel19Ideal.Gen

/-- What the reference computes of the branch and of its weight. -/
abbrev branch (X : FVec Ideal S4096x2048 .bf16) (W : FVec Ideal S2048x4096 .bf16) : FVec Ideal S4096x4096 .bf16 :=
  truncf .bf16 (Host.dotGeneral Cert.Reference19Ideal.dot_S4096x2048_S2048x4096_S4096x4096_1_0_0_1_n_n none (extf .f32 X Cert.Reference19Ideal.Gen.bitsLt_bf16_f32) (extf .f32 W Cert.Reference19Ideal.Gen.bitsLt_bf16_f32)) Cert.Reference19Ideal.Gen.bitsLt_bf16_f32

abbrev ones : FVec Ideal S4096x4096 .f32 :=
  broadcastInDim Cert.Reference19Ideal.S4096x4096 ![] Cert.Reference19Ideal.Gen.bcast_S_S4096x4096 (constant Cert.Reference19Ideal.S_ .f32 0x3F800000#32)

/-- The gate of the first branch: the logistic function, as a quotient, of its columns of the input projection. -/
abbrev gateA (P : FVec Ideal S4096x22528 .bf16) : FVec Ideal S4096x4096 .f32 :=
  Host.divf ones (addf ones (Host.exp (Host.negf (extf .f32
    (extractStridedSlice Cert.Reference19Ideal.S4096x4096 ![0, 14336] P Cert.Reference19Ideal.Gen.slices_S4096x22528_S4096x4096_0_14336) Cert.Reference19Ideal.Gen.bitsLt_bf16_f32))))

/-- The gate of the second branch. -/
abbrev gateB (P : FVec Ideal S4096x22528 .bf16) : FVec Ideal S4096x4096 .f32 :=
  Host.divf ones (addf ones (Host.exp (Host.negf (extf .f32
    (extractStridedSlice Cert.Reference19Ideal.S4096x4096 ![0, 18432] P Cert.Reference19Ideal.Gen.slices_S4096x22528_S4096x4096_0_18432) Cert.Reference19Ideal.Gen.bitsLt_bf16_f32))))

/-- The two branches, each times its gate, added. -/
abbrev merged (X : FVec Ideal S4096x2048 .bf16) (W : FVec Ideal S2048x4096 .bf16) (P : FVec Ideal S4096x22528 .bf16) (ya : FVec Ideal S4096x4096 .bf16) :
    FVec Ideal S4096x4096 .bf16 :=
  truncf .bf16 (addf (mulf (gateA P) (extf .f32 ya Cert.Reference19Ideal.Gen.bitsLt_bf16_f32))
    (mulf (gateB P) (extf .f32 (branch X W) Cert.Reference19Ideal.Gen.bitsLt_bf16_f32))) Cert.Reference19Ideal.Gen.bitsLt_bf16_f32

variable (m : (ℓ : Loc nD τ sig) → Buf (Elt Ideal) ℓ)

/-- The block of each array that a grid point takes. -/
theorem blocks : ∀ t : Fin cfg0.N, win0_0.index t = ![(grid0.coords t 0).val, 0]
    ∧ win0_1.index t = ![0, (grid0.coords t 1).val]
    ∧ win0_2.index t = ![(grid0.coords t 0).val, (grid0.coords t 1).val + 14]
    ∧ win0_3.index t = ![(grid0.coords t 0).val, (grid0.coords t 1).val + 18]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val] :=
  (by decide +kernel : ∀ t : Fin grid0.N, _)

theorem entry5 (c : Dev nD) (t : Fin cfg0.N) (y) : k0_pay2 (iblk m c 0 t) (iblk m c 1 t) y
    = branch (m ((c : Thread nD τ).loc main_arg0)) (m ((c : Thread nD τ).loc main_arg1)) (((cfg0.win 5).blk t).view.emb y) := by
  pointwise [k0_pay1, k0_pay2, branch]
  blk_point [iblk, V, blocks t]

theorem final5 (c : Dev nD) : (dats m 0 c).arrAt 5 (cfgs 0).N = branch (m ((c : Thread nD τ).loc main_arg0)) (m ((c : Thread nD τ).loc main_arg1)) := by
  refine (dats m 0 c).arrAt_eq_of_covers 5 _ (by decide +kernel) fun t _ y => ?_
  blk_simp
  rw [after0_5]; unfold outsAt0; frame_out
  exact entry5 m c t y

theorem entry6 (c : Dev nD) (t : Fin cfg0.N) (y) : k0_pay3 (iblk m c 0 t) (iblk m c 1 t) (iblk m c 2 t) (iblk m c 3 t) (iblk m c 4 t) y
    = merged (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay1, k0_pay3, merged, branch, gateA, gateB, ones]
  simp only [Ideal.logistic]
  blk_point [iblk, V, blocks t]

theorem final6 (c : Dev nD) : (dats m 0 c).arrAt 6 (cfgs 0).N = merged (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; unfold outsAt0; frame_out
  exact entry6 m c t y

theorem pair : Cert.algebraic_Kernel19Ideal_Reference19Ideal := by
  pair_intro
  · run_from Cert.Kernel19Ideal.Gen.run_main m g
  · hlo_run
    · exact (final5 m c).symm
    · exact (final6 m c).symm

end Cert.BranchB

end
-- ==== Proof.AdamIn.lean ====
/- The optimiser on the input projection: its gradient summed over the parts, the new moments and the step. -/
module

public import proofs.«01_k».proof.Defs
public import proofs.«01_k».proof.Proof.Gen.Kernel20Ideal.Frame
public import proofs.«01_k».proof.Proof.Gen.Reference20Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.AdamIn

open Cert.Kernel20Ideal Cert.Kernel20Ideal.Gen

/-- The gradient: the sum of the parts. -/
abbrev grad (X : FVec Ideal S4x4096x2822 .bf16) : FVec Ideal S4096x2822 .f32 :=
  Host.reduceAdd (extf .f32 X Cert.Reference20Ideal.Gen.bitsLt_bf16_f32)
    (constant Cert.Reference20Ideal.S_ .f32 0x00000000#32) Cert.Reference20Ideal.Gen.reducesTo_S4x4096x2822_S4096x2822_d0 Cert.Reference20Ideal.Gen.h_S_

/-- The first moment: nine tenths of the old one and a tenth of the gradient. -/
abbrev first (X : FVec Ideal S4x4096x2822 .bf16) (M : FVec Ideal S4096x2822 .f32) : FVec Ideal S4096x2822 .f32 :=
  addf (mulf (broadcastInDim Cert.Reference20Ideal.S4096x2822 ![] Cert.Reference20Ideal.Gen.bcast_S_S4096x2822 (constant Cert.Reference20Ideal.S_ .f32 0x3F666666#32)) M) (mulf (broadcastInDim Cert.Reference20Ideal.S4096x2822 ![] Cert.Reference20Ideal.Gen.bcast_S_S4096x2822 (constant Cert.Reference20Ideal.S_ .f32 0x3DCCCCCD#32)) (grad X))

/-- The second moment, of the gradient's square. -/
abbrev second (X : FVec Ideal S4x4096x2822 .bf16) (V : FVec Ideal S4096x2822 .f32) : FVec Ideal S4096x2822 .f32 :=
  addf (mulf (broadcastInDim Cert.Reference20Ideal.S4096x2822 ![] Cert.Reference20Ideal.Gen.bcast_S_S4096x2822 (constant Cert.Reference20Ideal.S_ .f32 0x3F7FBE77#32)) V) (mulf (broadcastInDim Cert.Reference20Ideal.S4096x2822 ![] Cert.Reference20Ideal.Gen.bcast_S_S4096x2822 (constant Cert.Reference20Ideal.S_ .f32 0x3A83126F#32)) (mulf (grad X) (grad X)))

/-- The step: minus the rate times the corrected first moment over the root of the corrected second, and the decay. -/
abbrev step (X : FVec Ideal S4x4096x2822 .bf16) (W M V : FVec Ideal S4096x2822 .f32) : FVec Ideal S4096x2822 .f32 :=
  mulf (broadcastInDim Cert.Reference20Ideal.S4096x2822 ![] Cert.Reference20Ideal.Gen.bcast_S_S4096x2822 (constant Cert.Reference20Ideal.S_ .f32 0xBA83126F#32))
    (addf (Host.divf (Host.divf (first X M) (broadcastInDim Cert.Reference20Ideal.S4096x2822 ![] Cert.Reference20Ideal.Gen.bcast_S_S4096x2822 (constant Cert.Reference20Ideal.S_ .f32 0x3F26BD02#32)))
        (addf (Host.sqrt (Host.divf (second X V) (broadcastInDim Cert.Reference20Ideal.S4096x2822 ![] Cert.Reference20Ideal.Gen.bcast_S_S4096x2822 (constant Cert.Reference20Ideal.S_ .f32 0x3C231ACC#32)))) (broadcastInDim Cert.Reference20Ideal.S4096x2822 ![] Cert.Reference20Ideal.Gen.bcast_S_S4096x2822 (constant Cert.Reference20Ideal.S_ .f32 0x322BCC77#32))))
      (mulf (broadcastInDim Cert.Reference20Ideal.S4096x2822 ![] Cert.Reference20Ideal.Gen.bcast_S_S4096x2822 (constant Cert.Reference20Ideal.S_ .f32 0x3C23D70A#32)) W))

variable (m : (ℓ : Loc nD τ sig) → Buf (Elt Ideal) ℓ)

/-- The block of each array that a grid point takes. -/
theorem blocks : ∀ t : Fin cfg0.N, win0_0.index t = ![0, (grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0]
    ∧ win0_7.index t = ![(grid0.coords t 0).val, 0] :=
  (by decide +kernel : ∀ t : Fin grid0.N, _)

theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  pointwise [k0_pay1, k0_pay2, k0_pay3, k0_pay4, k0_pay5, k0_pay6, grad, first, second, step]
  simp only [Fin.sum_univ_four]
  blk_point [iblk, V, blocks t]

theorem final5 (c : Dev nD) : (dats m 0 c).arrAt 5 (cfgs 0).N = step (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, k0_pay3, k0_pay4, k0_pay5, k0_pay6, grad, first, second, step]
  simp only [Fin.sum_univ_four]
  blk_point [iblk, V, blocks t]

theorem final6 (c : Dev nD) : (dats m 0 c).arrAt 6 (cfgs 0).N = first (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, k0_pay2, k0_pay3, k0_pay4, k0_pay5, k0_pay6, grad, first, second, step]
  simp only [Fin.sum_univ_four]
  blk_point [iblk, V, blocks t]

theorem final7 (c : Dev nD) : (dats m 0 c).arrAt 7 (cfgs 0).N = second (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay1, k0_pay2, k0_pay3, k0_pay4, k0_pay5, k0_pay6, grad, first, second, step]
  simp only [Fin.sum_univ_four]
  blk_point [iblk, V, blocks t]

theorem pair : Cert.algebraic_Kernel20Ideal_Reference20Ideal := by
  pair_intro
  · run_from Cert.Kernel20Ideal.Gen.run_main m g
  · hlo_run
    · exact (final4 m c).symm
    · exact (final5 m c).symm
    · exact (final6 m c).symm
    · exact (final7 m c).symm

end Cert.AdamIn

end
-- ==== Proof.AdamBranch.lean ====
/- The optimiser on a branch's projection: its gradient summed over the parts, the new moments and the step. -/
module

public import proofs.«01_k».proof.Defs
public import proofs.«01_k».proof.Proof.Gen.Kernel21Ideal.Frame
public import proofs.«01_k».proof.Proof.Gen.Reference21Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.AdamBranch

open Cert.Kernel21Ideal Cert.Kernel21Ideal.Gen

/-- The gradient: the sum of the parts. -/
abbrev grad (X : FVec Ideal S4x2048x512 .bf16) : FVec Ideal S2048x512 .f32 :=
  Host.reduceAdd (extf .f32 X Cert.Reference21Ideal.Gen.bitsLt_bf16_f32)
    (constant Cert.Reference21Ideal.S_ .f32 0x00000000#32) Cert.Reference21Ideal.Gen.reducesTo_S4x2048x512_S2048x512_d0 Cert.Reference21Ideal.Gen.h_S_

/-- The first moment: nine tenths of the old one and a tenth of the gradient. -/
abbrev first (X : FVec Ideal S4x2048x512 .bf16) (M : FVec Ideal S2048x512 .f32) : FVec Ideal S2048x512 .f32 :=
  addf (mulf (broadcastInDim Cert.Reference21Ideal.S2048x512 ![] Cert.Reference21Ideal.Gen.bcast_S_S2048x512 (constant Cert.Reference21Ideal.S_ .f32 0x3F666666#32)) M) (mulf (broadcastInDim Cert.Reference21Ideal.S2048x512 ![] Cert.Reference21Ideal.Gen.bcast_S_S2048x512 (constant Cert.Reference21Ideal.S_ .f32 0x3DCCCCCD#32)) (grad X))

/-- The second moment, of the gradient's square. -/
abbrev second (X : FVec Ideal S4x2048x512 .bf16) (V : FVec Ideal S2048x512 .f32) : FVec Ideal S2048x512 .f32 :=
  addf (mulf (broadcastInDim Cert.Reference21Ideal.S2048x512 ![] Cert.Reference21Ideal.Gen.bcast_S_S2048x512 (constant Cert.Reference21Ideal.S_ .f32 0x3F7FBE77#32)) V) (mulf (broadcastInDim Cert.Reference21Ideal.S2048x512 ![] Cert.Reference21Ideal.Gen.bcast_S_S2048x512 (constant Cert.Reference21Ideal.S_ .f32 0x3A83126F#32)) (mulf (grad X) (grad X)))

/-- The step: minus the rate times the corrected first moment over the root of the corrected second, and the decay. -/
abbrev step (X : FVec Ideal S4x2048x512 .bf16) (W M V : FVec Ideal S2048x512 .f32) : FVec Ideal S2048x512 .f32 :=
  mulf (broadcastInDim Cert.Reference21Ideal.S2048x512 ![] Cert.Reference21Ideal.Gen.bcast_S_S2048x512 (constant Cert.Reference21Ideal.S_ .f32 0xBA83126F#32))
    (addf (Host.divf (Host.divf (first X M) (broadcastInDim Cert.Reference21Ideal.S2048x512 ![] Cert.Reference21Ideal.Gen.bcast_S_S2048x512 (constant Cert.Reference21Ideal.S_ .f32 0x3F26BD02#32)))
        (addf (Host.sqrt (Host.divf (second X V) (broadcastInDim Cert.Reference21Ideal.S2048x512 ![] Cert.Reference21Ideal.Gen.bcast_S_S2048x512 (constant Cert.Reference21Ideal.S_ .f32 0x3C231ACC#32)))) (broadcastInDim Cert.Reference21Ideal.S2048x512 ![] Cert.Reference21Ideal.Gen.bcast_S_S2048x512 (constant Cert.Reference21Ideal.S_ .f32 0x322BCC77#32))))
      (mulf (broadcastInDim Cert.Reference21Ideal.S2048x512 ![] Cert.Reference21Ideal.Gen.bcast_S_S2048x512 (constant Cert.Reference21Ideal.S_ .f32 0x3C23D70A#32)) W))

variable (m : (ℓ : Loc nD τ sig) → Buf (Elt Ideal) ℓ)

/-- The block of each array that a grid point takes. -/
theorem blocks : ∀ t : Fin cfg0.N, win0_0.index t = ![0, (grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0]
    ∧ win0_7.index t = ![(grid0.coords t 0).val, 0] :=
  (by decide +kernel : ∀ t : Fin grid0.N, _)

theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  pointwise [k0_pay1, k0_pay2, k0_pay3, k0_pay4, k0_pay5, k0_pay6, grad, first, second, step]
  simp only [Fin.sum_univ_four]
  blk_point [iblk, V, blocks t]

theorem final5 (c : Dev nD) : (dats m 0 c).arrAt 5 (cfgs 0).N = step (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, k0_pay3, k0_pay4, k0_pay5, k0_pay6, grad, first, second, step]
  simp only [Fin.sum_univ_four]
  blk_point [iblk, V, blocks t]

theorem final6 (c : Dev nD) : (dats m 0 c).arrAt 6 (cfgs 0).N = first (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, k0_pay2, k0_pay3, k0_pay4, k0_pay5, k0_pay6, grad, first, second, step]
  simp only [Fin.sum_univ_four]
  blk_point [iblk, V, blocks t]

theorem final7 (c : Dev nD) : (dats m 0 c).arrAt 7 (cfgs 0).N = second (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay1, k0_pay2, k0_pay3, k0_pay4, k0_pay5, k0_pay6, grad, first, second, step]
  simp only [Fin.sum_univ_four]
  blk_point [iblk, V, blocks t]

theorem pair : Cert.algebraic_Kernel21Ideal_Reference21Ideal := by
  pair_intro
  · run_from Cert.Kernel21Ideal.Gen.run_main m g
  · hlo_run
    · exact (final4 m c).symm
    · exact (final5 m c).symm
    · exact (final6 m c).symm
    · exact (final7 m c).symm

end Cert.AdamBranch

end
-- ==== Proof.AdamOut.lean ====
/- The optimiser on the output projection: its gradient summed over the parts, the new moments and the step. -/
module

public import proofs.«01_k».proof.Defs
public import proofs.«01_k».proof.Proof.Gen.Kernel22Ideal.Frame
public import proofs.«01_k».proof.Proof.Gen.Reference22Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.AdamOut

open Cert.Kernel22Ideal Cert.Kernel22Ideal.Gen

/-- The gradient: the sum of the parts. -/
abbrev grad (X : FVec Ideal S4x512x4096 .bf16) : FVec Ideal S512x4096 .f32 :=
  Host.reduceAdd (extf .f32 X Cert.Reference22Ideal.Gen.bitsLt_bf16_f32)
    (constant Cert.Reference22Ideal.S_ .f32 0x00000000#32) Cert.Reference22Ideal.Gen.reducesTo_S4x512x4096_S512x4096_d0 Cert.Reference22Ideal.Gen.h_S_

/-- The first moment: nine tenths of the old one and a tenth of the gradient. -/
abbrev first (X : FVec Ideal S4x512x4096 .bf16) (M : FVec Ideal S512x4096 .f32) : FVec Ideal S512x4096 .f32 :=
  addf (mulf (broadcastInDim Cert.Reference22Ideal.S512x4096 ![] Cert.Reference22Ideal.Gen.bcast_S_S512x4096 (constant Cert.Reference22Ideal.S_ .f32 0x3F666666#32)) M) (mulf (broadcastInDim Cert.Reference22Ideal.S512x4096 ![] Cert.Reference22Ideal.Gen.bcast_S_S512x4096 (constant Cert.Reference22Ideal.S_ .f32 0x3DCCCCCD#32)) (grad X))

/-- The second moment, of the gradient's square. -/
abbrev second (X : FVec Ideal S4x512x4096 .bf16) (V : FVec Ideal S512x4096 .f32) : FVec Ideal S512x4096 .f32 :=
  addf (mulf (broadcastInDim Cert.Reference22Ideal.S512x4096 ![] Cert.Reference22Ideal.Gen.bcast_S_S512x4096 (constant Cert.Reference22Ideal.S_ .f32 0x3F7FBE77#32)) V) (mulf (broadcastInDim Cert.Reference22Ideal.S512x4096 ![] Cert.Reference22Ideal.Gen.bcast_S_S512x4096 (constant Cert.Reference22Ideal.S_ .f32 0x3A83126F#32)) (mulf (grad X) (grad X)))

/-- The step: minus the rate times the corrected first moment over the root of the corrected second, and the decay. -/
abbrev step (X : FVec Ideal S4x512x4096 .bf16) (W M V : FVec Ideal S512x4096 .f32) : FVec Ideal S512x4096 .f32 :=
  mulf (broadcastInDim Cert.Reference22Ideal.S512x4096 ![] Cert.Reference22Ideal.Gen.bcast_S_S512x4096 (constant Cert.Reference22Ideal.S_ .f32 0xBA83126F#32))
    (addf (Host.divf (Host.divf (first X M) (broadcastInDim Cert.Reference22Ideal.S512x4096 ![] Cert.Reference22Ideal.Gen.bcast_S_S512x4096 (constant Cert.Reference22Ideal.S_ .f32 0x3F26BD02#32)))
        (addf (Host.sqrt (Host.divf (second X V) (broadcastInDim Cert.Reference22Ideal.S512x4096 ![] Cert.Reference22Ideal.Gen.bcast_S_S512x4096 (constant Cert.Reference22Ideal.S_ .f32 0x3C231ACC#32)))) (broadcastInDim Cert.Reference22Ideal.S512x4096 ![] Cert.Reference22Ideal.Gen.bcast_S_S512x4096 (constant Cert.Reference22Ideal.S_ .f32 0x322BCC77#32))))
      (mulf (broadcastInDim Cert.Reference22Ideal.S512x4096 ![] Cert.Reference22Ideal.Gen.bcast_S_S512x4096 (constant Cert.Reference22Ideal.S_ .f32 0x3C23D70A#32)) W))

variable (m : (ℓ : Loc nD τ sig) → Buf (Elt Ideal) ℓ)

/-- The block of each array that a grid point takes. -/
theorem blocks : ∀ t : Fin cfg0.N, win0_0.index t = ![0, (grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0]
    ∧ win0_7.index t = ![(grid0.coords t 0).val, 0] :=
  (by decide +kernel : ∀ t : Fin grid0.N, _)

theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  pointwise [k0_pay1, k0_pay2, k0_pay3, k0_pay4, k0_pay5, k0_pay6, grad, first, second, step]
  simp only [Fin.sum_univ_four]
  blk_point [iblk, V, blocks t]

theorem final5 (c : Dev nD) : (dats m 0 c).arrAt 5 (cfgs 0).N = step (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, k0_pay3, k0_pay4, k0_pay5, k0_pay6, grad, first, second, step]
  simp only [Fin.sum_univ_four]
  blk_point [iblk, V, blocks t]

theorem final6 (c : Dev nD) : (dats m 0 c).arrAt 6 (cfgs 0).N = first (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, k0_pay2, k0_pay3, k0_pay4, k0_pay5, k0_pay6, grad, first, second, step]
  simp only [Fin.sum_univ_four]
  blk_point [iblk, V, blocks t]

theorem final7 (c : Dev nD) : (dats m 0 c).arrAt 7 (cfgs 0).N = second (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay1, k0_pay2, k0_pay3, k0_pay4, k0_pay5, k0_pay6, grad, first, second, step]
  simp only [Fin.sum_univ_four]
  blk_point [iblk, V, blocks t]

theorem pair : Cert.algebraic_Kernel22Ideal_Reference22Ideal := by
  pair_intro
  · run_from Cert.Kernel22Ideal.Gen.run_main m g
  · hlo_run
    · exact (final4 m c).symm
    · exact (final5 m c).symm
    · exact (final6 m c).symm
    · exact (final7 m c).symm

end Cert.AdamOut

end
-- ==== Proof.AdamGate.lean ====
/- The optimiser on a first weight of the feed-forward block, whose parts carry columns of padding: its gradient summed over the parts, the new moments and the step. -/
module

public import proofs.«01_k».proof.Defs
public import proofs.«01_k».proof.Proof.Gen.Kernel23Ideal.Frame
public import proofs.«01_k».proof.Proof.Gen.Reference23Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.AdamGate

open Cert.Kernel23Ideal Cert.Kernel23Ideal.Gen

/-- The gradient: the sum of the parts. -/
abbrev grad (X : FVec Ideal S4x4096x1408 .bf16) : FVec Ideal S4096x1376 .f32 :=
  Host.reduceAdd (extractStridedSlice Cert.Reference23Ideal.S4x4096x1376 ![0, 0, 0] (extf .f32 X Cert.Reference23Ideal.Gen.bitsLt_bf16_f32) Cert.Reference23Ideal.Gen.slices_S4x4096x1408_S4x4096x1376_0_0_0)
    (constant Cert.Reference23Ideal.S_ .f32 0x00000000#32) Cert.Reference23Ideal.Gen.reducesTo_S4x4096x1376_S4096x1376_d0 Cert.Reference23Ideal.Gen.h_S_

/-- The first moment: nine tenths of the old one and a tenth of the gradient. -/
abbrev first (X : FVec Ideal S4x4096x1408 .bf16) (M : FVec Ideal S4096x1376 .f32) : FVec Ideal S4096x1376 .f32 :=
  addf (mulf (broadcastInDim Cert.Reference23Ideal.S4096x1376 ![] Cert.Reference23Ideal.Gen.bcast_S_S4096x1376 (constant Cert.Reference23Ideal.S_ .f32 0x3F666666#32)) M) (mulf (broadcastInDim Cert.Reference23Ideal.S4096x1376 ![] Cert.Reference23Ideal.Gen.bcast_S_S4096x1376 (constant Cert.Reference23Ideal.S_ .f32 0x3DCCCCCD#32)) (grad X))

/-- The second moment, of the gradient's square. -/
abbrev second (X : FVec Ideal S4x4096x1408 .bf16) (V : FVec Ideal S4096x1376 .f32) : FVec Ideal S4096x1376 .f32 :=
  addf (mulf (broadcastInDim Cert.Reference23Ideal.S4096x1376 ![] Cert.Reference23Ideal.Gen.bcast_S_S4096x1376 (constant Cert.Reference23Ideal.S_ .f32 0x3F7FBE77#32)) V) (mulf (broadcastInDim Cert.Reference23Ideal.S4096x1376 ![] Cert.Reference23Ideal.Gen.bcast_S_S4096x1376 (constant Cert.Reference23Ideal.S_ .f32 0x3A83126F#32)) (mulf (grad X) (grad X)))

/-- The step: minus the rate times the corrected first moment over the root of the corrected second, and the decay. -/
abbrev step (X : FVec Ideal S4x4096x1408 .bf16) (W M V : FVec Ideal S4096x1376 .f32) : FVec Ideal S4096x1376 .f32 :=
  mulf (broadcastInDim Cert.Reference23Ideal.S4096x1376 ![] Cert.Reference23Ideal.Gen.bcast_S_S4096x1376 (constant Cert.Reference23Ideal.S_ .f32 0xBA83126F#32))
    (addf (Host.divf (Host.divf (first X M) (broadcastInDim Cert.Reference23Ideal.S4096x1376 ![] Cert.Reference23Ideal.Gen.bcast_S_S4096x1376 (constant Cert.Reference23Ideal.S_ .f32 0x3F26BD02#32)))
        (addf (Host.sqrt (Host.divf (second X V) (broadcastInDim Cert.Reference23Ideal.S4096x1376 ![] Cert.Reference23Ideal.Gen.bcast_S_S4096x1376 (constant Cert.Reference23Ideal.S_ .f32 0x3C231ACC#32)))) (broadcastInDim Cert.Reference23Ideal.S4096x1376 ![] Cert.Reference23Ideal.Gen.bcast_S_S4096x1376 (constant Cert.Reference23Ideal.S_ .f32 0x322BCC77#32))))
      (mulf (broadcastInDim Cert.Reference23Ideal.S4096x1376 ![] Cert.Reference23Ideal.Gen.bcast_S_S4096x1376 (constant Cert.Reference23Ideal.S_ .f32 0x3C23D70A#32)) W))

variable (m : (ℓ : Loc nD τ sig) → Buf (Elt Ideal) ℓ)

/-- The block of each array that a grid point takes. -/
theorem blocks : ∀ t : Fin cfg0.N, win0_0.index t = ![0, (grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0]
    ∧ win0_7.index t = ![(grid0.coords t 0).val, 0] :=
  (by decide +kernel : ∀ t : Fin grid0.N, _)

theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  pointwise [k0_pay1, k0_pay2, k0_pay3, k0_pay4, k0_pay5, k0_pay6, grad, first, second, step]
  simp only [Fin.sum_univ_four]
  blk_point [iblk, V, blocks t]

theorem final5 (c : Dev nD) : (dats m 0 c).arrAt 5 (cfgs 0).N = step (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, k0_pay3, k0_pay4, k0_pay5, k0_pay6, grad, first, second, step]
  simp only [Fin.sum_univ_four]
  blk_point [iblk, V, blocks t]

theorem final6 (c : Dev nD) : (dats m 0 c).arrAt 6 (cfgs 0).N = first (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, k0_pay2, k0_pay3, k0_pay4, k0_pay5, k0_pay6, grad, first, second, step]
  simp only [Fin.sum_univ_four]
  blk_point [iblk, V, blocks t]

theorem final7 (c : Dev nD) : (dats m 0 c).arrAt 7 (cfgs 0).N = second (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay1, k0_pay2, k0_pay3, k0_pay4, k0_pay5, k0_pay6, grad, first, second, step]
  simp only [Fin.sum_univ_four]
  blk_point [iblk, V, blocks t]

theorem pair : Cert.algebraic_Kernel23Ideal_Reference23Ideal := by
  pair_intro
  · run_from Cert.Kernel23Ideal.Gen.run_main m g
  · hlo_run
    · exact (final4 m c).symm
    · exact (final5 m c).symm
    · exact (final6 m c).symm
    · exact (final7 m c).symm

end Cert.AdamGate

end
-- ==== Proof.AdamDown.lean ====
/- The optimiser on the last weight of the feed-forward block, whose parts carry rows of padding: its gradient summed over the parts, the new moments and the step. -/
module

public import proofs.«01_k».proof.Defs
public import proofs.«01_k».proof.Proof.Gen.Kernel24Ideal.Frame
public import proofs.«01_k».proof.Proof.Gen.Reference24Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.AdamDown

open Cert.Kernel24Ideal Cert.Kernel24Ideal.Gen

/-- The gradient: the sum of the parts. -/
abbrev grad (X : FVec Ideal S4x1408x4096 .bf16) : FVec Ideal S1376x4096 .f32 :=
  Host.reduceAdd (extractStridedSlice Cert.Reference24Ideal.S4x1376x4096 ![0, 0, 0] (extf .f32 X Cert.Reference24Ideal.Gen.bitsLt_bf16_f32) Cert.Reference24Ideal.Gen.slices_S4x1408x4096_S4x1376x4096_0_0_0)
    (constant Cert.Reference24Ideal.S_ .f32 0x00000000#32) Cert.Reference24Ideal.Gen.reducesTo_S4x1376x4096_S1376x4096_d0 Cert.Reference24Ideal.Gen.h_S_

/-- The first moment: nine tenths of the old one and a tenth of the gradient. -/
abbrev first (X : FVec Ideal S4x1408x4096 .bf16) (M : FVec Ideal S1376x4096 .f32) : FVec Ideal S1376x4096 .f32 :=
  addf (mulf (broadcastInDim Cert.Reference24Ideal.S1376x4096 ![] Cert.Reference24Ideal.Gen.bcast_S_S1376x4096 (constant Cert.Reference24Ideal.S_ .f32 0x3F666666#32)) M) (mulf (broadcastInDim Cert.Reference24Ideal.S1376x4096 ![] Cert.Reference24Ideal.Gen.bcast_S_S1376x4096 (constant Cert.Reference24Ideal.S_ .f32 0x3DCCCCCD#32)) (grad X))

/-- The second moment, of the gradient's square. -/
abbrev second (X : FVec Ideal S4x1408x4096 .bf16) (V : FVec Ideal S1376x4096 .f32) : FVec Ideal S1376x4096 .f32 :=
  addf (mulf (broadcastInDim Cert.Reference24Ideal.S1376x4096 ![] Cert.Reference24Ideal.Gen.bcast_S_S1376x4096 (constant Cert.Reference24Ideal.S_ .f32 0x3F7FBE77#32)) V) (mulf (broadcastInDim Cert.Reference24Ideal.S1376x4096 ![] Cert.Reference24Ideal.Gen.bcast_S_S1376x4096 (constant Cert.Reference24Ideal.S_ .f32 0x3A83126F#32)) (mulf (grad X) (grad X)))

/-- The step: minus the rate times the corrected first moment over the root of the corrected second, and the decay. -/
abbrev step (X : FVec Ideal S4x1408x4096 .bf16) (W M V : FVec Ideal S1376x4096 .f32) : FVec Ideal S1376x4096 .f32 :=
  mulf (broadcastInDim Cert.Reference24Ideal.S1376x4096 ![] Cert.Reference24Ideal.Gen.bcast_S_S1376x4096 (constant Cert.Reference24Ideal.S_ .f32 0xBA83126F#32))
    (addf (Host.divf (Host.divf (first X M) (broadcastInDim Cert.Reference24Ideal.S1376x4096 ![] Cert.Reference24Ideal.Gen.bcast_S_S1376x4096 (constant Cert.Reference24Ideal.S_ .f32 0x3F26BD02#32)))
        (addf (Host.sqrt (Host.divf (second X V) (broadcastInDim Cert.Reference24Ideal.S1376x4096 ![] Cert.Reference24Ideal.Gen.bcast_S_S1376x4096 (constant Cert.Reference24Ideal.S_ .f32 0x3C231ACC#32)))) (broadcastInDim Cert.Reference24Ideal.S1376x4096 ![] Cert.Reference24Ideal.Gen.bcast_S_S1376x4096 (constant Cert.Reference24Ideal.S_ .f32 0x322BCC77#32))))
      (mulf (broadcastInDim Cert.Reference24Ideal.S1376x4096 ![] Cert.Reference24Ideal.Gen.bcast_S_S1376x4096 (constant Cert.Reference24Ideal.S_ .f32 0x3C23D70A#32)) W))

variable (m : (ℓ : Loc nD τ sig) → Buf (Elt Ideal) ℓ)

/-- The block of each array that a grid point takes. -/
theorem blocks : ∀ t : Fin cfg0.N, win0_0.index t = ![0, (grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0]
    ∧ win0_7.index t = ![(grid0.coords t 0).val, 0] :=
  (by decide +kernel : ∀ t : Fin grid0.N, _)

theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  pointwise [k0_pay1, k0_pay2, k0_pay3, k0_pay4, k0_pay5, k0_pay6, grad, first, second, step]
  simp only [Fin.sum_univ_four]
  blk_point [iblk, V, blocks t]

theorem final5 (c : Dev nD) : (dats m 0 c).arrAt 5 (cfgs 0).N = step (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, k0_pay3, k0_pay4, k0_pay5, k0_pay6, grad, first, second, step]
  simp only [Fin.sum_univ_four]
  blk_point [iblk, V, blocks t]

theorem final6 (c : Dev nD) : (dats m 0 c).arrAt 6 (cfgs 0).N = first (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, k0_pay2, k0_pay3, k0_pay4, k0_pay5, k0_pay6, grad, first, second, step]
  simp only [Fin.sum_univ_four]
  blk_point [iblk, V, blocks t]

theorem final7 (c : Dev nD) : (dats m 0 c).arrAt 7 (cfgs 0).N = second (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay1, k0_pay2, k0_pay3, k0_pay4, k0_pay5, k0_pay6, grad, first, second, step]
  simp only [Fin.sum_univ_four]
  blk_point [iblk, V, blocks t]

theorem pair : Cert.algebraic_Kernel24Ideal_Reference24Ideal := by
  pair_intro
  · run_from Cert.Kernel24Ideal.Gen.run_main m g
  · hlo_run
    · exact (final4 m c).symm
    · exact (final5 m c).symm
    · exact (final6 m c).symm
    · exact (final7 m c).symm

end Cert.AdamDown

end
-- ==== Proof.AdamConv.lean ====
/- The optimiser on the convolution's weight: its gradient summed over the parts, the new moments and the step. -/
module

public import proofs.«01_k».proof.Defs
public import proofs.«01_k».proof.Proof.Gen.Kernel25Ideal.Frame
public import proofs.«01_k».proof.Proof.Gen.Reference25Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.AdamConv

open Cert.Kernel25Ideal Cert.Kernel25Ideal.Gen

/-- The gradient: the sum of the parts. -/
abbrev grad (X : FVec Ideal S4x4x768 .bf16) : FVec Ideal S4x768 .f32 :=
  Host.reduceAdd (extf .f32 X Cert.Reference25Ideal.Gen.bitsLt_bf16_f32)
    (constant Cert.Reference25Ideal.S_ .f32 0x00000000#32) Cert.Reference25Ideal.Gen.reducesTo_S4x4x768_S4x768_d0 Cert.Reference25Ideal.Gen.h_S_

/-- The first moment: nine tenths of the old one and a tenth of the gradient. -/
abbrev first (X : FVec Ideal S4x4x768 .bf16) (M : FVec Ideal S4x768 .f32) : FVec Ideal S4x768 .f32 :=
  addf (mulf (broadcastInDim Cert.Reference25Ideal.S4x768 ![] Cert.Reference25Ideal.Gen.bcast_S_S4x768 (constant Cert.Reference25Ideal.S_ .f32 0x3F666666#32)) M) (mulf (broadcastInDim Cert.Reference25Ideal.S4x768 ![] Cert.Reference25Ideal.Gen.bcast_S_S4x768 (constant Cert.Reference25Ideal.S_ .f32 0x3DCCCCCD#32)) (grad X))

/-- The second moment, of the gradient's square. -/
abbrev second (X : FVec Ideal S4x4x768 .bf16) (V : FVec Ideal S4x768 .f32) : FVec Ideal S4x768 .f32 :=
  addf (mulf (broadcastInDim Cert.Reference25Ideal.S4x768 ![] Cert.Reference25Ideal.Gen.bcast_S_S4x768 (constant Cert.Reference25Ideal.S_ .f32 0x3F7FBE77#32)) V) (mulf (broadcastInDim Cert.Reference25Ideal.S4x768 ![] Cert.Reference25Ideal.Gen.bcast_S_S4x768 (constant Cert.Reference25Ideal.S_ .f32 0x3A83126F#32)) (mulf (grad X) (grad X)))

/-- The step: minus the rate times the corrected first moment over the root of the corrected second, and the decay. -/
abbrev step (X : FVec Ideal S4x4x768 .bf16) (W M V : FVec Ideal S4x768 .f32) : FVec Ideal S4x768 .f32 :=
  mulf (broadcastInDim Cert.Reference25Ideal.S4x768 ![] Cert.Reference25Ideal.Gen.bcast_S_S4x768 (constant Cert.Reference25Ideal.S_ .f32 0xBA83126F#32))
    (addf (Host.divf (Host.divf (first X M) (broadcastInDim Cert.Reference25Ideal.S4x768 ![] Cert.Reference25Ideal.Gen.bcast_S_S4x768 (constant Cert.Reference25Ideal.S_ .f32 0x3F26BD02#32)))
        (addf (Host.sqrt (Host.divf (second X V) (broadcastInDim Cert.Reference25Ideal.S4x768 ![] Cert.Reference25Ideal.Gen.bcast_S_S4x768 (constant Cert.Reference25Ideal.S_ .f32 0x3C231ACC#32)))) (broadcastInDim Cert.Reference25Ideal.S4x768 ![] Cert.Reference25Ideal.Gen.bcast_S_S4x768 (constant Cert.Reference25Ideal.S_ .f32 0x322BCC77#32))))
      (mulf (broadcastInDim Cert.Reference25Ideal.S4x768 ![] Cert.Reference25Ideal.Gen.bcast_S_S4x768 (constant Cert.Reference25Ideal.S_ .f32 0x3C23D70A#32)) W))

variable (m : (ℓ : Loc nD τ sig) → Buf (Elt Ideal) ℓ)

/-- The block of each array that a grid point takes. -/
theorem blocks : ∀ t : Fin cfg0.N, win0_0.index t = ![0, (grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0]
    ∧ win0_7.index t = ![(grid0.coords t 0).val, 0] :=
  (by decide +kernel : ∀ t : Fin grid0.N, _)

theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  pointwise [k0_pay1, k0_pay2, k0_pay3, k0_pay4, k0_pay5, k0_pay6, grad, first, second, step]
  simp only [Fin.sum_univ_four]
  blk_point [iblk, V, blocks t]

theorem final5 (c : Dev nD) : (dats m 0 c).arrAt 5 (cfgs 0).N = step (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, k0_pay3, k0_pay4, k0_pay5, k0_pay6, grad, first, second, step]
  simp only [Fin.sum_univ_four]
  blk_point [iblk, V, blocks t]

theorem final6 (c : Dev nD) : (dats m 0 c).arrAt 6 (cfgs 0).N = first (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, k0_pay2, k0_pay3, k0_pay4, k0_pay5, k0_pay6, grad, first, second, step]
  simp only [Fin.sum_univ_four]
  blk_point [iblk, V, blocks t]

theorem final7 (c : Dev nD) : (dats m 0 c).arrAt 7 (cfgs 0).N = second (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay1, k0_pay2, k0_pay3, k0_pay4, k0_pay5, k0_pay6, grad, first, second, step]
  simp only [Fin.sum_univ_four]
  blk_point [iblk, V, blocks t]

theorem pair : Cert.algebraic_Kernel25Ideal_Reference25Ideal := by
  pair_intro
  · run_from Cert.Kernel25Ideal.Gen.run_main m g
  · hlo_run
    · exact (final4 m c).symm
    · exact (final5 m c).symm
    · exact (final6 m c).symm
    · exact (final7 m c).symm

end Cert.AdamConv

end
-- ==== Proof.AdamSmall.lean ====
/- The optimiser on the small weights, packed into rows: its gradient summed over the parts, the new moments and the step. -/
module

public import proofs.«01_k».proof.Defs
public import proofs.«01_k».proof.Proof.Gen.Kernel26Ideal.Frame
public import proofs.«01_k».proof.Proof.Gen.Reference26Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.AdamSmall

open Cert.Kernel26Ideal Cert.Kernel26Ideal.Gen

/-- The gradient: the sum of the parts. -/
def grad (X : FVec Ideal S8x72x128 .f32) : FVec Ideal S72x128 .f32 :=
  Host.reduceAdd X
    (constant Cert.Reference26Ideal.S_ .f32 0x00000000#32) Cert.Reference26Ideal.Gen.reducesTo_S8x72x128_S72x128_d0 Cert.Reference26Ideal.Gen.h_S_

/-- The first moment: nine tenths of the old one and a tenth of the gradient. -/
abbrev first (X : FVec Ideal S8x72x128 .f32) (M : FVec Ideal S72x128 .f32) : FVec Ideal S72x128 .f32 :=
  addf (mulf (broadcastInDim Cert.Reference26Ideal.S72x128 ![] Cert.Reference26Ideal.Gen.bcast_S_S72x128 (constant Cert.Reference26Ideal.S_ .f32 0x3F666666#32)) M) (mulf (broadcastInDim Cert.Reference26Ideal.S72x128 ![] Cert.Reference26Ideal.Gen.bcast_S_S72x128 (constant Cert.Reference26Ideal.S_ .f32 0x3DCCCCCD#32)) (grad X))

/-- The second moment, of the gradient's square. -/
abbrev second (X : FVec Ideal S8x72x128 .f32) (V : FVec Ideal S72x128 .f32) : FVec Ideal S72x128 .f32 :=
  addf (mulf (broadcastInDim Cert.Reference26Ideal.S72x128 ![] Cert.Reference26Ideal.Gen.bcast_S_S72x128 (constant Cert.Reference26Ideal.S_ .f32 0x3F7FBE77#32)) V) (mulf (broadcastInDim Cert.Reference26Ideal.S72x128 ![] Cert.Reference26Ideal.Gen.bcast_S_S72x128 (constant Cert.Reference26Ideal.S_ .f32 0x3A83126F#32)) (mulf (grad X) (grad X)))

/-- The step: minus the rate times the corrected first moment over the root of the corrected second, and the decay. -/
abbrev step (X : FVec Ideal S8x72x128 .f32) (W M V : FVec Ideal S72x128 .f32) : FVec Ideal S72x128 .f32 :=
  mulf (broadcastInDim Cert.Reference26Ideal.S72x128 ![] Cert.Reference26Ideal.Gen.bcast_S_S72x128 (constant Cert.Reference26Ideal.S_ .f32 0xBA83126F#32))
    (addf (Host.divf (Host.divf (first X M) (broadcastInDim Cert.Reference26Ideal.S72x128 ![] Cert.Reference26Ideal.Gen.bcast_S_S72x128 (constant Cert.Reference26Ideal.S_ .f32 0x3F26BD02#32)))
        (addf (Host.sqrt (Host.divf (second X V) (broadcastInDim Cert.Reference26Ideal.S72x128 ![] Cert.Reference26Ideal.Gen.bcast_S_S72x128 (constant Cert.Reference26Ideal.S_ .f32 0x3C231ACC#32)))) (broadcastInDim Cert.Reference26Ideal.S72x128 ![] Cert.Reference26Ideal.Gen.bcast_S_S72x128 (constant Cert.Reference26Ideal.S_ .f32 0x322BCC77#32))))
      (mulf (broadcastInDim Cert.Reference26Ideal.S72x128 ![] Cert.Reference26Ideal.Gen.bcast_S_S72x128 (constant Cert.Reference26Ideal.S_ .f32 0x3C23D70A#32)) W))

variable (m : (ℓ : Loc nD τ sig) → Buf (Elt Ideal) ℓ)

/-- The block of each array that a grid point takes. -/
theorem blocks : ∀ t : Fin cfg0.N, win0_0.index t = ![0, (grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0]
    ∧ win0_7.index t = ![(grid0.coords t 0).val, 0] :=
  (by decide +kernel : ∀ t : Fin grid0.N, _)

theorem total (c : Dev nD) (t : Fin cfg0.N) (y) : k0_pay6 (F := Ideal) (iblk m c 0 t) (iblk m c 1 t) (iblk m c 2 t) (iblk m c 3 t) y
    = grad (m ((c : Thread nD τ).loc main_arg0)) (((cfg0.win 4).blk t).view.emb y) := by
  unfold k0_pay6
  pointwise [k0_pay4, grad]
  simp only [Fin.sum_univ_eight]
  blk_point [iblk, V, blocks t]

theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  exact total m c t y

theorem final5 (c : Dev nD) : (dats m 0 c).arrAt 5 (cfgs 0).N = step (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  unfold k0_pay7
  pointwise [k0_pay1, k0_pay2, k0_pay3, k0_pay5, first, second, step]
  have e := total m c t y
  rw [e]
  blk_point [iblk, V, blocks t]

theorem final6 (c : Dev nD) : (dats m 0 c).arrAt 6 (cfgs 0).N = first (m ((c : Thread nD τ).loc main_arg0)) (m ((c : Thread nD τ).loc main_arg2)) := by
  refine (dats m 0 c).arrAt_eq_of_covers 6 _ (by decide +kernel) fun t _ y => ?_
  blk_simp
  rw [after0_6]; frame_out
  unfold k0_pay7
  pointwise [k0_pay1, k0_pay5, first]
  have e := total m c t y
  rw [e]
  blk_point [iblk, V, blocks t]

theorem final7 (c : Dev nD) : (dats m 0 c).arrAt 7 (cfgs 0).N = second (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay2, second]
  have e := total m c t y
  rw [e]
  blk_point [iblk, V, blocks t]

theorem pair : Cert.algebraic_Kernel26Ideal_Reference26Ideal := by
  pair_intro
  · run_from Cert.Kernel26Ideal.Gen.run_main m g
  · hlo_run
    · exact (final4 m c).symm
    · exact (final5 m c).symm
    · exact (final6 m c).symm
    · exact (final7 m c).symm

end Cert.AdamSmall

end
-- ==== Proof.Norm.lean ====
/- The norm before the projections and before the feed-forward block: each row over the root of the mean of its squares,
   times the weight. -/
module

public import proofs.«01_k».proof.Defs
public import proofs.«01_k».proof.Proof.Gen.Kernel27Ideal.Frame
public import proofs.«01_k».proof.Proof.Gen.Reference27Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.Norm

open Cert.Kernel27Ideal Cert.Kernel27Ideal.Gen

/-- The mean of a row's squares, with the epsilon. -/
abbrev power (X : FVec Ideal S4096x4096 .f32) : FVec Ideal Cert.Reference27Ideal.S4096x1 .f32 :=
  addf (Host.divf (broadcastInDim Cert.Reference27Ideal.S4096x1 ![0] Cert.Reference27Ideal.Gen.bcast_S4096_S4096x1_0
      (Host.reduceAdd (mulf X X) (constant Cert.Reference27Ideal.S_ .f32 0x00000000#32) Cert.Reference27Ideal.Gen.reducesTo_S4096x4096_S4096_d1 Cert.Reference27Ideal.Gen.h_S_))
    (broadcastInDim Cert.Reference27Ideal.S4096x1 ![] Cert.Reference27Ideal.Gen.bcast_S_S4096x1 (constant Cert.Reference27Ideal.S_ .f32 0x45800000#32))) (broadcastInDim Cert.Reference27Ideal.S4096x1 ![] Cert.Reference27Ideal.Gen.bcast_S_S4096x1 (constant Cert.Reference27Ideal.S_ .f32 0x358637BD#32))

/-- One over the root of it. -/
abbrev scale (X : FVec Ideal S4096x4096 .f32) : FVec Ideal Cert.Reference27Ideal.S4096x1 .f32 :=
  Host.rsqrt (power X)

/-- What the reference computes of the rows and of the weight. -/
abbrev normed (X : FVec Ideal S4096x4096 .f32) (W : FVec Ideal S1x4096 .f32) : FVec Ideal S4096x4096 .bf16 :=
  truncf .bf16 (mulf (mulf X (broadcastInDim Cert.Reference27Ideal.S4096x4096 ![0, 1] Cert.Reference27Ideal.Gen.bcast_S4096x1_S4096x4096_0_1 (scale X))) (broadcastInDim Cert.Reference27Ideal.S4096x4096 ![0, 1] Cert.Reference27Ideal.Gen.bcast_S1x4096_S4096x4096_0_1 W)) Cert.Reference27Ideal.Gen.bitsLt_bf16_f32

variable (m : (ℓ : Loc nD τ sig) → Buf (Elt Ideal) ℓ)

/-- The block of each array that a grid point takes. -/
theorem blocks : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- The result array after the run. -/
theorem final (c : Dev nD) : (dats m 0 c).arrAt 2 (cfgs 0).N = normed (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, normed, scale, power]
  blk_point [iblk, V, blocks t]

theorem pair : Cert.algebraic_Kernel27Ideal_Reference27Ideal := by
  pair_intro
  · run_from Cert.Kernel27Ideal.Gen.run_main m g
  · hlo_run
    exact (final m c).symm

end Cert.Norm

end
-- ==== Proof.DMixNorm.lean ====
/- The gradient of the norm before the projections by its input, on top of the stream's, and by its weight, which the call
   adds up block of rows by block of rows. -/
module

public import proofs.«01_k».proof.Defs
public import proofs.«01_k».proof.Proof.Gen.Kernel28Ideal.Frame
public import proofs.«01_k».proof.Proof.Gen.Reference28Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DMixNorm

open Cert.Kernel28Ideal Cert.Kernel28Ideal.Gen

/-- The mean of a row's squares, with the epsilon. -/
abbrev power (X : FVec Ideal S4096x4096 .f32) : FVec Ideal Cert.Reference28Ideal.S4096x1 .f32 :=
  addf (Host.divf (broadcastInDim Cert.Reference28Ideal.S4096x1 ![0] Cert.Reference28Ideal.Gen.bcast_S4096_S4096x1_0
      (Host.reduceAdd (mulf X X) (constant Cert.Reference28Ideal.S_ .f32 0x00000000#32) Cert.Reference28Ideal.Gen.reducesTo_S4096x4096_S4096_d1 Cert.Reference28Ideal.Gen.h_S_))
    (broadcastInDim Cert.Reference28Ideal.S4096x1 ![] Cert.Reference28Ideal.Gen.bcast_S_S4096x1 (constant Cert.Reference28Ideal.S_ .f32 0x45800000#32))) (broadcastInDim Cert.Reference28Ideal.S4096x1 ![] Cert.Reference28Ideal.Gen.bcast_S_S4096x1 (constant Cert.Reference28Ideal.S_ .f32 0x358637BD#32))

/-- One over the root of it. -/
abbrev scale (X : FVec Ideal S4096x4096 .f32) : FVec Ideal Cert.Reference28Ideal.S4096x1 .f32 :=
  Host.rsqrt (power X)

/-- The gradient of a row's mean of squares, spread over the row. -/
abbrev spread (X : FVec Ideal S4096x4096 .f32) (W : FVec Ideal S1x4096 .f32) (D : FVec Ideal S4096x4096 .f32) : FVec Ideal S4096x4096 .f32 :=
  broadcastInDim Cert.Reference28Ideal.S4096x4096 ![0] Cert.Reference28Ideal.Gen.bcast_S4096_S4096x4096_0 (Host.reduceAdd (Host.divf (mulf (shapeCast Cert.Reference28Ideal.S4096x1 (Host.reduceAdd (mulf X (mulf D (broadcastInDim Cert.Reference28Ideal.S4096x4096 ![0, 1] Cert.Reference28Ideal.Gen.bcast_S1x4096_S4096x4096_0_1 W))) (constant Cert.Reference28Ideal.S_ .f32 0x00000000#32) Cert.Reference28Ideal.Gen.reducesTo_S4096x4096_S4096_d1 Cert.Reference28Ideal.Gen.h_S_) Cert.Reference28Ideal.Gen.shapeCasts_S4096_S4096x1) (mulf (broadcastInDim Cert.Reference28Ideal.S4096x1 ![] Cert.Reference28Ideal.Gen.bcast_S_S4096x1 (constant Cert.Reference28Ideal.S_ .f32 0xBF000000#32)) (Host.divf (scale X) (power X)))) (broadcastInDim Cert.Reference28Ideal.S4096x1 ![] Cert.Reference28Ideal.Gen.bcast_S_S4096x1 (constant Cert.Reference28Ideal.S_ .f32 0x45800000#32))) (constant Cert.Reference28Ideal.S_ .f32 0x00000000#32) Cert.Reference28Ideal.Gen.reducesTo_S4096x1_S4096_d1 Cert.Reference28Ideal.Gen.h_S_)

/-- What the reference computes: the gradient by the input, on top of the stream's. -/
abbrev byInput (X : FVec Ideal S4096x4096 .f32) (W : FVec Ideal S1x4096 .f32) (D H : FVec Ideal S4096x4096 .f32) : FVec Ideal S4096x4096 .f32 :=
  addf (addf (addf (mulf (mulf D (broadcastInDim Cert.Reference28Ideal.S4096x4096 ![0, 1] Cert.Reference28Ideal.Gen.bcast_S1x4096_S4096x4096_0_1 W)) (broadcastInDim Cert.Reference28Ideal.S4096x4096 ![0, 1] Cert.Reference28Ideal.Gen.bcast_S4096x1_S4096x4096_0_1 (scale X))) (mulf X (spread X W D))) (mulf (spread X W D) X)) H

/-- The gradient by the weight. -/
abbrev byWeight (X D : FVec Ideal S4096x4096 .f32) : FVec Ideal S1x4096 .f32 :=
  shapeCast Cert.Reference28Ideal.S1x4096 (Host.reduceAdd (mulf (mulf X (broadcastInDim Cert.Reference28Ideal.S4096x4096 ![0, 1] Cert.Reference28Ideal.Gen.bcast_S4096x1_S4096x4096_0_1 (scale X))) D) (constant Cert.Reference28Ideal.S_ .f32 0x00000000#32) Cert.Reference28Ideal.Gen.reducesTo_S4096x4096_S4096_d0 Cert.Reference28Ideal.Gen.h_S_) Cert.Reference28Ideal.Gen.shapeCasts_S4096_S1x4096

variable (m : (ℓ : Loc nD τ sig) → Buf (Elt Ideal) ℓ)

/-- The block of each array that a grid point takes. -/
theorem blocks : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0] :=
  (by decide +kernel : ∀ t : Fin grid0.N, _)

theorem entry (c : Dev nD) (t : Fin cfg0.N) (y) : k0_pay5 (iblk m c 1 t) (iblk m c 0 t) (iblk m c 2 t) (iblk m c 3 t) y
    = byInput (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay2, k0_pay3, k0_pay5, byInput, spread, scale, power]
  blk_point [iblk, V, blocks t]

/-- The input's gradient after the run. -/
theorem final4 (c : Dev nD) : (dats m 0 c).arrAt 4 (cfgs 0).N = byInput (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  have hN : t.val < 32 := t.isLt
  by_cases h : t.val = 0
  · rw [outsAt0_A m c t (by omega) (by omega)]; frame_out
    exact entry m c t y
  · rw [outsAt0_B m c t (by omega) (by omega)]; frame_out
    exact entry m c t y

/-- A block's part of the weight's gradient. -/
theorem part (x g : FVec Ideal S128x4096 .f32) (j : S1x4096.Idx) :
    k0_pay4 (F := Ideal) x g j = ∑ k : Fin 128, x (ix2 k (j 1)) * k0_pay3 (F := Ideal) x (ix2 k 0) * g (ix2 k (j 1)) := by
  pointwise [k0_pay4]

theorem byWeight_apply (X D : FVec Ideal S4096x4096 .f32) (j : S1x4096.Idx) :
    byWeight X D j = ∑ l : Fin 4096, X (ix2 l (j 1)) * scale X (ix2 l 0) * D (ix2 l (j 1)) := by
  pointwise [byWeight]

theorem first (c : Dev nD) (t : Fin cfg0.N) (h : t.val % 32 = 0) (j) :
    (outsAt0 m c t.val t.isLt).2 j = 0 + k0_pay4 (F := Ideal) (iblk m c 0 t) (iblk m c 2 t) j := by
  have hN : t.val < 32 := t.isLt
  rw [outsAt0_A m c t (by omega) (by omega)]
  frame_out
  rw [zero_add]

theorem next (c : Dev nD) (t : Fin cfg0.N) (h : ¬ t.val % 32 = 0) (j) :
    (outsAt0 m c t.val t.isLt).2 j
      = (outsAt0 m c (t.val - 1) (Nat.lt_of_le_of_lt (Nat.sub_le _ _) t.isLt)).2 j + k0_pay4 (F := Ideal) (iblk m c 0 t) (iblk m c 2 t) j := by
  rw [outsAt0_B m c t (by omega) (by omega)]
  frame_out
  pointwise [k0_pay1]

/-- The weight's gradient after the run. -/
theorem final5 (c : Dev nD) : (dats m 0 c).arrAt 5 (cfgs 0).N = byWeight (m ((c : Thread nD τ).loc main_arg0)) (m ((c : Thread nD τ).loc main_arg2)) := by
  refine (dats m 0 c).arrAt_eq_of_covers 5 _ (by decide +kernel) fun t hf y => ?_
  have h := (flush0_5 t).mp hf
  blk_simp
  rw [after0_5, Pipeline.eq_sum_fin_of_reset_step_apply_of_flush (fun n h => (outsAt0 m c n h).2) 32 (fun _ => 0)
    (fun t j => k0_pay4 (F := Ideal) (iblk m c 0 t) (iblk m c 2 t) j) (first m c) (next m c) t h _, zero_add, byWeight_apply]
  simp only [part]
  refine Fin.sum_mul_add_congr fun s k hl => ?_
  pointwise [k0_pay3, k0_pay2, scale, power]
  blk_point [iblk, V, blocks t, blocks ⟨_, Pipeline.run_point_lt_of_flush t h s⟩]

theorem pair : Cert.algebraic_Kernel28Ideal_Reference28Ideal := by
  pair_intro
  · run_from Cert.Kernel28Ideal.Gen.run_main m g
  · hlo_run
    · exact (final4 m c).symm
    · exact (final5 m c).symm

end Cert.DMixNorm

end
-- ==== Proof.DFfnNorm.lean ====
/- The gradient of the norm before the feed-forward block by its input, on top of the stream's, a copy of it, and by its
   weight, which the call adds up block of rows by block of rows. -/
module

public import proofs.«01_k».proof.Defs
public import proofs.«01_k».proof.Proof.Gen.Kernel29Ideal.Frame
public import proofs.«01_k».proof.Proof.Gen.Reference29Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DFfnNorm

open Cert.Kernel29Ideal Cert.Kernel29Ideal.Gen

/-- The mean of a row's squares, with the epsilon. -/
abbrev power (X : FVec Ideal S4096x4096 .f32) : FVec Ideal Cert.Reference29Ideal.S4096x1 .f32 :=
  addf (Host.divf (broadcastInDim Cert.Reference29Ideal.S4096x1 ![0] Cert.Reference29Ideal.Gen.bcast_S4096_S4096x1_0
      (Host.reduceAdd (mulf X X) (constant Cert.Reference29Ideal.S_ .f32 0x00000000#32) Cert.Reference29Ideal.Gen.reducesTo_S4096x4096_S4096_d1 Cert.Reference29Ideal.Gen.h_S_))
    (broadcastInDim Cert.Reference29Ideal.S4096x1 ![] Cert.Reference29Ideal.Gen.bcast_S_S4096x1 (constant Cert.Reference29Ideal.S_ .f32 0x45800000#32))) (broadcastInDim Cert.Reference29Ideal.S4096x1 ![] Cert.Reference29Ideal.Gen.bcast_S_S4096x1 (constant Cert.Reference29Ideal.S_ .f32 0x358637BD#32))

/-- One over the root of it. -/
abbrev scale (X : FVec Ideal S4096x4096 .f32) : FVec Ideal Cert.Reference29Ideal.S4096x1 .f32 :=
  Host.rsqrt (power X)

/-- The gradient of a row's mean of squares, spread over the row. -/
abbrev spread (X : FVec Ideal S4096x4096 .f32) (W : FVec Ideal S1x4096 .f32) (D : FVec Ideal S4096x4096 .f32) : FVec Ideal S4096x4096 .f32 :=
  broadcastInDim Cert.Reference29Ideal.S4096x4096 ![0] Cert.Reference29Ideal.Gen.bcast_S4096_S4096x4096_0 (Host.reduceAdd (Host.divf (mulf (shapeCast Cert.Reference29Ideal.S4096x1 (Host.reduceAdd (mulf X (mulf D (broadcastInDim Cert.Reference29Ideal.S4096x4096 ![0, 1] Cert.Reference29Ideal.Gen.bcast_S1x4096_S4096x4096_0_1 W))) (constant Cert.Reference29Ideal.S_ .f32 0x00000000#32) Cert.Reference29Ideal.Gen.reducesTo_S4096x4096_S4096_d1 Cert.Reference29Ideal.Gen.h_S_) Cert.Reference29Ideal.Gen.shapeCasts_S4096_S4096x1) (mulf (broadcastInDim Cert.Reference29Ideal.S4096x1 ![] Cert.Reference29Ideal.Gen.bcast_S_S4096x1 (constant Cert.Reference29Ideal.S_ .f32 0xBF000000#32)) (Host.divf (scale X) (power X)))) (broadcastInDim Cert.Reference29Ideal.S4096x1 ![] Cert.Reference29Ideal.Gen.bcast_S_S4096x1 (constant Cert.Reference29Ideal.S_ .f32 0x45800000#32))) (constant Cert.Reference29Ideal.S_ .f32 0x00000000#32) Cert.Reference29Ideal.Gen.reducesTo_S4096x1_S4096_d1 Cert.Reference29Ideal.Gen.h_S_)

/-- What the reference computes: the gradient by the input, on top of the stream's. -/
abbrev byInput (X : FVec Ideal S4096x4096 .f32) (W : FVec Ideal S1x4096 .f32) (D H : FVec Ideal S4096x4096 .f32) : FVec Ideal S4096x4096 .f32 :=
  addf (addf (addf (mulf (mulf D (broadcastInDim Cert.Reference29Ideal.S4096x4096 ![0, 1] Cert.Reference29Ideal.Gen.bcast_S1x4096_S4096x4096_0_1 W)) (broadcastInDim Cert.Reference29Ideal.S4096x4096 ![0, 1] Cert.Reference29Ideal.Gen.bcast_S4096x1_S4096x4096_0_1 (scale X))) (mulf X (spread X W D))) (mulf (spread X W D) X)) H

/-- The gradient by the weight. -/
abbrev byWeight (X D : FVec Ideal S4096x4096 .f32) : FVec Ideal S1x4096 .f32 :=
  shapeCast Cert.Reference29Ideal.S1x4096 (Host.reduceAdd (mulf (mulf X (broadcastInDim Cert.Reference29Ideal.S4096x4096 ![0, 1] Cert.Reference29Ideal.Gen.bcast_S4096x1_S4096x4096_0_1 (scale X))) D) (constant Cert.Reference29Ideal.S_ .f32 0x00000000#32) Cert.Reference29Ideal.Gen.reducesTo_S4096x4096_S4096_d0 Cert.Reference29Ideal.Gen.h_S_) Cert.Reference29Ideal.Gen.shapeCasts_S4096_S1x4096

variable (m : (ℓ : Loc nD τ sig) → Buf (Elt Ideal) ℓ)

/-- The block of each array that a grid point takes. -/
theorem blocks : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![t.val, 0] :=
  (by decide +kernel : ∀ t : Fin grid0.N, _)

theorem entry (c : Dev nD) (t : Fin cfg0.N) (y) : k0_pay6 (iblk m c 1 t) (iblk m c 0 t) (iblk m c 2 t) (iblk m c 3 t) y
    = byInput (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay3, k0_pay4, k0_pay6, byInput, spread, scale, power]
  blk_point [iblk, V, blocks t]

/-- The input's gradient after the run. -/
theorem final4 (c : Dev nD) : (dats m 0 c).arrAt 4 (cfgs 0).N = byInput (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  have hN : t.val < 32 := t.isLt
  by_cases h : t.val = 0
  · rw [outsAt0_A m c t (by omega) (by omega)]; frame_out
    exact entry m c t y
  · rw [outsAt0_B m c t (by omega) (by omega)]; frame_out
    exact entry m c t y

/-- A block's part of the weight's gradient. -/
theorem part (x g : FVec Ideal S128x4096 .f32) (j : S1x4096.Idx) :
    k0_pay5 (F := Ideal) x g j = ∑ k : Fin 128, x (ix2 k (j 1)) * k0_pay4 (F := Ideal) x (ix2 k 0) * g (ix2 k (j 1)) := by
  pointwise [k0_pay5]

theorem byWeight_apply (X D : FVec Ideal S4096x4096 .f32) (j : S1x4096.Idx) :
    byWeight X D j = ∑ l : Fin 4096, X (ix2 l (j 1)) * scale X (ix2 l 0) * D (ix2 l (j 1)) := by
  pointwise [byWeight]

theorem first (c : Dev nD) (t : Fin cfg0.N) (h : t.val % 32 = 0) (j) :
    (outsAt0 m c t.val t.isLt).2.1 j = 0 + k0_pay5 (F := Ideal) (iblk m c 0 t) (iblk m c 2 t) j := by
  have hN : t.val < 32 := t.isLt
  rw [outsAt0_A m c t (by omega) (by omega)]
  frame_out
  rw [zero_add]

theorem next (c : Dev nD) (t : Fin cfg0.N) (h : ¬ t.val % 32 = 0) (j) :
    (outsAt0 m c t.val t.isLt).2.1 j
      = (outsAt0 m c (t.val - 1) (Nat.lt_of_le_of_lt (Nat.sub_le _ _) t.isLt)).2.1 j + k0_pay5 (F := Ideal) (iblk m c 0 t) (iblk m c 2 t) j := by
  rw [outsAt0_B m c t (by omega) (by omega)]
  frame_out
  pointwise [k0_pay2]

/-- The weight's gradient after the run. -/
theorem final5 (c : Dev nD) : (dats m 0 c).arrAt 5 (cfgs 0).N = byWeight (m ((c : Thread nD τ).loc main_arg0)) (m ((c : Thread nD τ).loc main_arg2)) := by
  refine (dats m 0 c).arrAt_eq_of_covers 5 _ (by decide +kernel) fun t hf y => ?_
  have h := (flush0_5 t).mp hf
  blk_simp
  rw [after0_5, Pipeline.eq_sum_fin_of_reset_step_apply_of_flush (fun n h => (outsAt0 m c n h).2.1) 32 (fun _ => 0)
    (fun t j => k0_pay5 (F := Ideal) (iblk m c 0 t) (iblk m c 2 t) j) (first m c) (next m c) t h _, zero_add, byWeight_apply]
  simp only [part]
  refine Fin.sum_mul_add_congr fun s k hl => ?_
  pointwise [k0_pay4, k0_pay3, scale, power]
  blk_point [iblk, V, blocks t, blocks ⟨_, Pipeline.run_point_lt_of_flush t h s⟩]

/-- The copy of the input's gradient after the run. -/
theorem final6 (c : Dev nD) : (dats m 0 c).arrAt 6 (cfgs 0).N = truncf .bf16 (byInput (m ((c : Thread nD τ).loc main_arg0)) (m ((c : Thread nD τ).loc main_arg1)) (m ((c : Thread nD τ).loc main_arg2)) (m ((c : Thread nD τ).loc main_arg3))) Cert.Reference29Ideal.Gen.bitsLt_bf16_f32 := by
  refine (dats m 0 c).arrAt_eq_of_covers 6 _ (by decide +kernel) fun t _ y => ?_
  blk_simp
  rw [after0_6]
  have hN : t.val < 32 := t.isLt
  by_cases h : t.val = 0
  · rw [outsAt0_A m c t (by omega) (by omega)]; frame_out
    exact entry m c t y
  · rw [outsAt0_B m c t (by omega) (by omega)]; frame_out
    exact entry m c t y

theorem pair : Cert.algebraic_Kernel29Ideal_Reference29Ideal := by
  pair_intro
  · run_from Cert.Kernel29Ideal.Gen.run_main m g
  · hlo_run
    · exact (final4 m c).symm
    · exact (final5 m c).symm
    · exact (final6 m c).symm

end Cert.DFfnNorm

end
-- ==== Proof.LossHead.lean ====
/- The loss of the rows and its gradient. The loss is added up block of rows by block of rows, each block's squares already
   divided; squares are not negative, so the division passes through the sums whatever the operands hold. -/
module

public import proofs.«01_k».proof.Defs
public import proofs.«01_k».proof.Proof.Gen.Kernel30Ideal.Frame
public import proofs.«01_k».proof.Proof.Gen.Reference30Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.LossHead

open Cert.Kernel30Ideal Cert.Kernel30Ideal.Gen

/-! ### The constants -/

theorem half : Ideal.ofBits .f32 0x3F000000#32 = (((1 : ℝ) / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem width : Ideal.ofBits .f32 0x45800000#32 = ((4096 : ℝ) : EReal) := by
  simp [Ideal.ofBits, Ideal.ieee, -EReal.coe_mul]; norm_num
theorem onWidth : Ideal.ofBits .f32 0x39800000#32 = (((1 : ℝ) / 4096 : ℝ) : EReal) := by
  simp [Ideal.ofBits, Ideal.ieee, -EReal.coe_mul]; norm_num
theorem halfOnWidth : Ideal.ofBits .f32 0x39000000#32 = (((1 : ℝ) / 8192 : ℝ) : EReal) := by
  simp [Ideal.ofBits, Ideal.ieee, -EReal.coe_mul]; norm_num

/-- Division by 4096 is multiplication by its inverse. -/
theorem div_width (x : EReal) : Ideal.div x (Ideal.ofBits .f32 0x45800000#32) = x * (((1 : ℝ) / 4096 : ℝ) : EReal) := by
  have h : ((4096 : ℝ) : EReal) ≠ 0 := by norm_cast
  rw [width, Ideal.div, if_neg h, ← EReal.coe_inv, one_div]

/-- The reference's factor and its two make the kernel's one factor. -/
theorem factor (x : EReal) : x * Ideal.ofBits .f32 0x39800000#32
    = Ideal.div (Ideal.ofBits .f32 0x3F000000#32) (Ideal.ofBits .f32 0x45800000#32) * (Ideal.ofBits .f32 0x40000000#32 * x) := by
  rw [div_width, half, two, onWidth, ← mul_assoc, ← EReal.coe_mul, ← EReal.coe_mul, mul_comm]
  norm_num

/-! ### Sums of squares -/

theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

/-- A factor passes through a sum of numbers that are not negative. -/
theorem sum_times {n : ℕ} (f : Fin n → EReal) (h : ∀ k, 0 ≤ f k) (a : EReal) : (∑ k, f k) * a = ∑ k, f k * a := by
  classical
  have : ∀ S : Finset (Fin n), (∑ k ∈ S, f k) * a = ∑ k ∈ S, f k * a := by
    intro S
    induction S using Finset.induction_on with
    | empty => simp
    | insert b S hb ih =>
      rw [Finset.sum_insert hb, Finset.sum_insert hb, EReal.right_distrib_of_nonneg (h b) (Finset.sum_nonneg fun k _ => h k), ih]
  exact this _

theorem part (x z : FVec Ideal S128x4096 .f32) (a : FVec Ideal S1x128 .f32) (j : S1x128.Idx) :
    k0_pay5 (F := Ideal) x z a j = a j + (∑ k : Fin 128, ∑ l : Fin 4096, (x (ix2 k l) - z (ix2 k l)) * (x (ix2 k l) - z (ix2 k l))) * Ideal.ofBits .f32 0x39000000#32 := by
  pointwise [k0_pay5, k0_pay1]

/-! ### The two results -/

/-- What the reference computes: the gradient by the rows. -/
abbrev slope (X T : FVec Ideal S4096x4096 .f32) : FVec Ideal S4096x4096 .f32 :=
  mulf (broadcastInDim Cert.Reference30Ideal.S4096x4096 ![0] Cert.Reference30Ideal.Gen.bcast_S4096_S4096x4096_0 (Host.divf (broadcastInDim Cert.Reference30Ideal.S4096 ![] Cert.Reference30Ideal.Gen.bcast_S_S4096
      (mulf (constant Cert.Reference30Ideal.S_ .f32 0x3F000000#32) (constant Cert.Reference30Ideal.S_ .f32 0x3F800000#32)))
    (broadcastInDim Cert.Reference30Ideal.S4096 ![] Cert.Reference30Ideal.Gen.bcast_S_S4096 (constant Cert.Reference30Ideal.S_ .f32 0x45800000#32))))
   (mulf (broadcastInDim Cert.Reference30Ideal.S4096x4096 ![] Cert.Reference30Ideal.Gen.bcast_S_S4096x4096 (constant Cert.Reference30Ideal.S_ .f32 0x40000000#32)) (subf X T))

/-- Half the sum over the rows of the mean of a row's squares. -/
abbrev loss (X T : FVec Ideal S4096x4096 .f32) : FVec Ideal S1x128 .f32 :=
  broadcastInDim Cert.Reference30Ideal.S1x128 ![] Cert.Reference30Ideal.Gen.bcast_S_S1x128 (mulf (constant Cert.Reference30Ideal.S_ .f32 0x3F000000#32)
    (Host.reduceAdd (Host.divf (Host.reduceAdd (mulf (subf X T) (subf X T)) (constant Cert.Reference30Ideal.S_ .f32 0x00000000#32) Cert.Reference30Ideal.Gen.reducesTo_S4096x4096_S4096_d1 Cert.Reference30Ideal.Gen.h_S_)
      (broadcastInDim Cert.Reference30Ideal.S4096 ![] Cert.Reference30Ideal.Gen.bcast_S_S4096 (constant Cert.Reference30Ideal.S_ .f32 0x45800000#32))) (constant Cert.Reference30Ideal.S_ .f32 0x00000000#32) Cert.Reference30Ideal.Gen.reducesTo_S4096_S_d0 Cert.Reference30Ideal.Gen.h_S_))

theorem loss_apply (X T : FVec Ideal S4096x4096 .f32) (j : S1x128.Idx) : loss X T j = Ideal.ofBits .f32 0x3F000000#32
    * ∑ k : Fin 4096, Ideal.div (∑ l : Fin 4096, (X (ix2 k l) - T (ix2 k l)) * (X (ix2 k l) - T (ix2 k l))) (Ideal.ofBits .f32 0x45800000#32) := by
  pointwise [loss]

/-- The sum of a row's squares. -/
def row {n : ℕ} (x z : Fin n → Fin 4096 → EReal) (k : Fin n) : EReal := ∑ l : Fin 4096, (x k l - z k l) * (x k l - z k l)

theorem row_nonneg {n : ℕ} (x z : Fin n → Fin 4096 → EReal) (k : Fin n) : 0 ≤ row x z k :=
  Finset.sum_nonneg fun l _ => square_nonneg _

/-- The loss with its two factors made one and brought to each row. -/
theorem loss_rows (X T : FVec Ideal S4096x4096 .f32) (j : S1x128.Idx) : loss X T j
    = ∑ k : Fin 4096, row (fun k l => X (ix2 k l)) (fun k l => T (ix2 k l)) k * Ideal.ofBits .f32 0x39000000#32 := by
  rw [loss_apply, half, mul_comm]
  simp only [div_width, halfOnWidth]
  rw [← sum_times _ (row_nonneg _ _), ← sum_times (fun k : Fin 4096 => ∑ l : Fin 4096, (X (ix2 k l) - T (ix2 k l)) * (X (ix2 k l) - T (ix2 k l)))
    (row_nonneg (fun k l => X (ix2 k l)) (fun k l => T (ix2 k l))), mul_assoc, ← EReal.coe_mul]
  norm_num [row]

variable (m : (ℓ : Loc nD τ sig) → Buf (Elt Ideal) ℓ)

/-- The block of each array that a grid point takes. -/
theorem blocks : ∀ t : Fin cfg0.N, win0_0.index t = ![t.val, 0]
    ∧ win0_1.index t = ![t.val, 0]
    ∧ win0_2.index t = ![t.val, 0]
    ∧ win0_3.index t = ![t.val, 0]
    ∧ win0_4.index t = ![0, 0] :=
  (by decide +kernel : ∀ t : Fin grid0.N, _)

theorem entry2 (c : Dev nD) (t : Fin cfg0.N) (y) : k0_pay2 (F := Ideal) (iblk m c 0 t) (iblk m c 1 t) y
    = slope (m ((c : Thread nD τ).loc main_arg0)) (m ((c : Thread nD τ).loc main_arg1)) (((cfg0.win 2).blk t).view.emb y) := by
  pointwise [k0_pay2, k0_pay1, slope]
  rw [factor]
  blk_point [iblk, V, blocks t]

theorem entry3 (c : Dev nD) (t : Fin cfg0.N) (y) : k0_pay3 (F := Ideal) (iblk m c 0 t) (iblk m c 1 t) y
    = slope (m ((c : Thread nD τ).loc main_arg0)) (m ((c : Thread nD τ).loc main_arg1)) (((cfg0.win 3).blk t).view.emb y) := by
  pointwise [k0_pay3, k0_pay2, k0_pay1, slope]
  rw [factor]
  blk_point [iblk, V, blocks t]

/-- The gradient after the run. -/
theorem final2 (c : Dev nD) : (dats m 0 c).arrAt 2 (cfgs 0).N = slope (m ((c : Thread nD τ).loc main_arg0)) (m ((c : Thread nD τ).loc main_arg1)) := by
  refine (dats m 0 c).arrAt_eq_of_covers 2 _ (by decide +kernel) fun t _ y => ?_
  blk_simp
  rw [after0_2]
  have hN : t.val < 32 := t.isLt
  by_cases h : t.val = 0
  · rw [outsAt0_A m c t (by omega)]; frame_out
    exact entry2 m c t y
  · rw [outsAt0_B m c t (by omega)]; frame_out
    exact entry2 m c t y

/-- The gradient, rounded, after the run. -/
theorem final3 (c : Dev nD) : (dats m 0 c).arrAt 3 (cfgs 0).N = truncf .bf16 (slope (m ((c : Thread nD τ).loc main_arg0)) (m ((c : Thread nD τ).loc main_arg1))) Cert.Reference30Ideal.Gen.bitsLt_bf16_f32 := by
  refine (dats m 0 c).arrAt_eq_of_covers 3 _ (by decide +kernel) fun t _ y => ?_
  blk_simp
  rw [after0_3]
  have hN : t.val < 32 := t.isLt
  by_cases h : t.val = 0
  · rw [outsAt0_A m c t (by omega)]; frame_out
    exact entry3 m c t y
  · rw [outsAt0_B m c t (by omega)]; frame_out
    exact entry3 m c t y

/-- What a block of rows adds. -/
def term (c : Dev nD) (t : Fin cfg0.N) : EReal :=
  (∑ k : Fin 128, row (fun k l => (iblk m c 0 t : FVec Ideal S128x4096 .f32) (ix2 k l)) (fun k l => (iblk m c 1 t : FVec Ideal S128x4096 .f32) (ix2 k l)) k)
    * Ideal.ofBits .f32 0x39000000#32

theorem first (c : Dev nD) (t : Fin cfg0.N) (h : t.val % 32 = 0) (j) :
    (outsAt0 m c t.val t.isLt).2.2 j = 0 + term m c t := by
  have hN : t.val < 32 := t.isLt
  rw [outsAt0_A m c t (by omega)]
  frame_out
  rw [part]
  have z : k0_pay4 (F := Ideal) j = 0 := by pointwise [k0_pay4]
  rw [z]
  rfl

theorem next (c : Dev nD) (t : Fin cfg0.N) (h : ¬ t.val % 32 = 0) (j) :
    (outsAt0 m c t.val t.isLt).2.2 j = (outsAt0 m c (t.val - 1) (Nat.lt_of_le_of_lt (Nat.sub_le _ _) t.isLt)).2.2 j + term m c t := by
  rw [outsAt0_B m c t (by omega)]
  frame_out
  exact part _ _ _ j

/-- The loss after the run. -/
theorem final4 (c : Dev nD) : (dats m 0 c).arrAt 4 (cfgs 0).N = loss (m ((c : Thread nD τ).loc main_arg0)) (m ((c : Thread nD τ).loc main_arg1)) := by
  refine (dats m 0 c).arrAt_eq_of_covers 4 _ (by decide +kernel) fun t hf y => ?_
  have h := (flush0_4 t).mp hf
  blk_simp
  rw [after0_4, Pipeline.eq_sum_fin_of_reset_step_apply_of_flush (fun n h => (outsAt0 m c n h).2.2) 32 (fun _ => 0)
    (fun t _ => term m c t) (first m c) (next m c) t h _, zero_add, loss_rows]
  simp only [term, sum_times _ (row_nonneg _ _)]
  refine Fin.sum_mul_add_congr fun s k hl => ?_
  simp only [row]
  blk_point [iblk, V, blocks t, blocks ⟨_, Pipeline.run_point_lt_of_flush t h s⟩]

theorem pair : Cert.algebraic_Kernel30Ideal_Reference30Ideal := by
  pair_intro
  · run_from Cert.Kernel30Ideal.Gen.run_main m g
  · hlo_run
    · exact (final2 m c).symm
    · exact (final3 m c).symm
    · exact (final4 m c).symm

end Cert.LossHead

end
-- ==== Proof.InSmall.lean ====
/- The small columns of the input projection. -/
module

public import proofs.«01_k».proof.Defs
public import proofs.«01_k».proof.Proof.Gen.Kernel31Ideal.Frame
public import proofs.«01_k».proof.Proof.Gen.Reference31Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.InSmall

open Cert.Kernel31Ideal Cert.Kernel31Ideal.Gen

/-- What the reference computes of the normed input and of the weight. -/
abbrev proj (X : FVec Ideal S4096x4096 .bf16) (W : FVec Ideal S4096x128 .bf16) : FVec Ideal S4096x128 .f32 :=
  Host.dotGeneral Cert.Reference31Ideal.dot_S4096x4096_S4096x128_S4096x128_1_0_0_1_n_n none (extf .f32 X Cert.Reference31Ideal.Gen.bitsLt_bf16_f32) (extf .f32 W Cert.Reference31Ideal.Gen.bitsLt_bf16_f32)

variable (m : (ℓ : Loc nD τ sig) → Buf (Elt Ideal) ℓ)

/-- The block of each array that a grid point takes. -/
theorem blocks : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

theorem entry (c : Dev nD) (t : Fin cfg0.N) (y) : k0_pay1 (iblk m c 0 t) (iblk m c 1 t) y
    = proj (m ((c : Thread nD τ).loc main_arg0)) (m ((c : Thread nD τ).loc main_arg1)) (((cfg0.win 2).blk t).view.emb y) := by
  pointwise [k0_pay1, proj]
  blk_point [iblk, V, blocks t]

theorem final (c : Dev nD) : (dats m 0 c).arrAt 2 (cfgs 0).N = proj (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact entry m c t y

theorem pair : Cert.algebraic_Kernel31Ideal_Reference31Ideal := by
  pair_intro
  · run_from Cert.Kernel31Ideal.Gen.run_main m g
  · hlo_run
    exact (final m c).symm

end Cert.InSmall

end
-- ==== Proof.DwInSmall.lean ====
/- The gradient of the small columns of the input projection by their weight. -/
module

public import proofs.«01_k».proof.Defs
public import proofs.«01_k».proof.Proof.Gen.Kernel32Ideal.Frame
public import proofs.«01_k».proof.Proof.Gen.Reference32Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DwInSmall

open Cert.Kernel32Ideal Cert.Kernel32Ideal.Gen

/-- What the reference computes of the normed input and of the columns' gradient. -/
abbrev grad (X : FVec Ideal S4096x4096 .bf16) (D : FVec Ideal S4096x128 .f32) : FVec Ideal S4096x128 .bf16 :=
  truncf .bf16 (transpose Cert.Reference32Ideal.S4096x128 [1, 0]
    (Host.dotGeneral Cert.Reference32Ideal.dot_S4096x128_S4096x4096_S128x4096_0_0_1_1_n_n none D (extf .f32 X Cert.Reference32Ideal.Gen.bitsLt_bf16_f32))
    Cert.Reference32Ideal.Gen.transposes_S128x4096_S4096x128_1_0) Cert.Reference32Ideal.Gen.bitsLt_bf16_f32

variable (m : (ℓ : Loc nD τ sig) → Buf (Elt Ideal) ℓ)

/-- The block of each array that a grid point takes. -/
theorem blocks : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

theorem entry (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  refine Finset.sum_congr rfl fun k _ => (mul_comm _ _).trans ?_
  blk_point [iblk, V, blocks t]

theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact entry m c t y

theorem pair : Cert.algebraic_Kernel32Ideal_Reference32Ideal := by
  pair_intro
  · run_from Cert.Kernel32Ideal.Gen.run_main m g
  · hlo_run
    exact (final m c).symm

end Cert.DwInSmall

end
-- ==== Proof.DXnSmall.lean ====
/- The gradient of the small columns of the input projection by its normed input. -/
module

public import proofs.«01_k».proof.Defs
public import proofs.«01_k».proof.Proof.Gen.Kernel33Ideal.Frame
public import proofs.«01_k».proof.Proof.Gen.Reference33Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.DXnSmall

open Cert.Kernel33Ideal Cert.Kernel33Ideal.Gen

/-- What the reference computes of the columns' gradient and of the weight. -/
abbrev grad (D : FVec Ideal S4096x128 .f32) (W : FVec Ideal S4096x128 .bf16) : FVec Ideal S4096x4096 .f32 :=
  Host.dotGeneral Cert.Reference33Ideal.dot_S4096x128_S4096x128_S4096x4096_1_1_0_0_n_n none D (extf .f32 W Cert.Reference33Ideal.Gen.bitsLt_bf16_f32)

variable (m : (ℓ : Loc nD τ sig) → Buf (Elt Ideal) ℓ)

/-- The block of each array that a grid point takes. -/
theorem blocks : ∀ t : Fin cfg0.N, win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

theorem entry (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  blk_point [iblk, V, blocks t]

theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact entry m c t y

theorem pair : Cert.algebraic_Kernel33Ideal_Reference33Ideal := by
  pair_intro
  · run_from Cert.Kernel33Ideal.Gen.run_main m g
  · hlo_run
    exact (final m c).symm

end Cert.DXnSmall

end
-- ==== Proof.FwdMath.lean ====
module

public import proofs.«01_k».proof.Proof.Soft

@[expose] public section

noncomputable section

/-! The running softmax in real numbers: what one row carries over the tiles of keys, a step of it, and what it ends as. -/

namespace Cert.Fwd

open Idealize.ShloMosaic Cert.Att
open Finset (range)

/-- What row `t` carries after `n` keys: the largest logit to base 2, the sum of the powers with it taken off, and the
values under those powers. Before any key there is no largest logit. -/
def Carried (A : Data) (h t n : ℕ) (m l : EReal) (acc : ℕ → EReal) : Prop :=
  (n = 0 ∧ m = ⊥ ∧ l = 0 ∧ ∀ d, d < 128 → acc d = 0) ∨
  ∃ a : ℝ, m = ((a / Real.log 2 : ℝ) : EReal) ∧ l = ((∑ s ∈ range n, expo a (A.x h t) t s : ℝ) : EReal)
    ∧ ∀ d, d < 128 → acc d = ((∑ s ∈ range n, expo a (A.x h t) t s * A.v s (h * 128 + d) : ℝ) : EReal)

/-- The masked logit to base 2. -/
def logit (x : ℕ → ℝ) (t s : ℕ) : EReal := if s ≤ t then ((x s / Real.log 2 : ℝ) : EReal) else ⊥

theorem two_pow (x : ℝ) : Real.rpow 2 (x / Real.log 2) = Real.exp x := by
  show (2 : ℝ) ^ (x / Real.log 2) = _
  rw [Real.rpow_def_of_pos (by norm_num : (0 : ℝ) < 2), mul_div_cancel₀ _ log_two_ne]

theorem exp2_logit (x : ℕ → ℝ) (t s : ℕ) (a : ℝ) :
    Ideal.exp2 (logit x t s - ((a / Real.log 2 : ℝ) : EReal)) = ((expo a x t s : ℝ) : EReal) := by
  unfold logit expo; split
  · rw [← EReal.coe_sub, Ideal.exp2_coe, ← sub_div, two_pow]
  · rw [EReal.bot_sub, Ideal.exp2_bot, EReal.coe_zero]

/-- The largest logit of a tile whose first key the row reads is a number. -/
theorem exists_top (x : ℕ → ℝ) {t b : ℕ} (hb : b ≤ t) : ∃ a : ℝ,
    (Finset.univ : Finset (Fin 1024)).fold max ⊥ (fun s => logit x t (b + s.val)) = ((a / Real.log 2 : ℝ) : EReal) := by
  have lt_top : ∀ S : Finset (Fin 1024), S.fold max ⊥ (fun s => logit x t (b + s.val)) ≠ ⊤ := by
    intro S
    induction S using Finset.induction_on with
    | empty => simp
    | insert a S ha ih =>
      rw [Finset.fold_insert ha]
      rcases max_choice (logit x t (b + a.val)) (S.fold max ⊥ fun s => logit x t (b + s.val)) with h | h
      · rw [h, logit]; split
        · exact EReal.coe_ne_top _
        · exact bot_ne_top
      · rw [h]; exact ih
  have ne_bot : (Finset.univ : Finset (Fin 1024)).fold max ⊥ (fun s => logit x t (b + s.val)) ≠ ⊥ := by
    intro h
    have : logit x t (b + (0 : Fin 1024).val) ≤ (Finset.univ : Finset (Fin 1024)).fold max ⊥ (fun s => logit x t (b + s.val)) :=
      Finset.le_fold_max _ |>.mpr (Or.inr ⟨0, Finset.mem_univ _, le_rfl⟩)
    rw [h, le_bot_iff, logit, if_pos (by simpa using hb)] at this
    exact EReal.coe_ne_bot _ this
  refine ⟨((Finset.univ : Finset (Fin 1024)).fold max ⊥ (fun s => logit x t (b + s.val))).toReal * Real.log 2, ?_⟩
  rw [mul_div_assoc, div_self log_two_ne, mul_one]
  exact (EReal.coe_toReal (lt_top _) ne_bot).symm

theorem expo_change (a a' : ℝ) (x : ℕ → ℝ) (t s : ℕ) : expo a' x t s = Real.exp (a - a') * expo a x t s := by
  rw [expo_shift a', expo_shift a, ← mul_assoc, ← Real.exp_add]
  congr 2; ring

/-- One tile more. -/
theorem Carried.step {A : Data} {h t n : ℕ} {m l : EReal} {acc : ℕ → EReal} (C : Carried A h t n m l acc) (hn : n ≤ t)
    {p : Fin 1024 → EReal} {m' : EReal}
    (em : m' = max m ((Finset.univ : Finset (Fin 1024)).fold max ⊥ (fun s => logit (A.x h t) t (n + s.val))))
    (ep : ∀ s : Fin 1024, p s = Ideal.exp2 (logit (A.x h t) t (n + s.val) - m'))
    {l' : EReal} (el : l' = Ideal.exp2 (m - m') * l + ∑ s, p s)
    {acc' : ℕ → EReal} (ea : ∀ d, d < 128 → acc' d = Ideal.exp2 (m - m') * acc d + ∑ s : Fin 1024, p s * ((A.v (n + s.val) (h * 128 + d) : ℝ) : EReal)) :
    Carried A h t (n + 1024) m' l' acc' := by
  obtain ⟨b, hb⟩ := exists_top (A.x h t) hn
  rw [hb] at em
  have key : ∃ a' : ℝ, m' = ((a' / Real.log 2 : ℝ) : EReal) := by
    rcases max_choice m ((b / Real.log 2 : ℝ) : EReal) with e | e
    · rcases C with ⟨_, rfl, _⟩ | ⟨a, rfl, _⟩
      · exact ⟨b, by rw [em]; exact max_eq_right bot_le⟩
      · exact ⟨a, em.trans e⟩
    · exact ⟨b, em.trans e⟩
  obtain ⟨a', rfl⟩ := key
  have hp : ∀ s : Fin 1024, p s = ((expo a' (A.x h t) t (n + s.val) : ℝ) : EReal) := fun s => by rw [ep, exp2_logit]
  have hl : ∑ s, p s = ((∑ s ∈ range 1024, expo a' (A.x h t) t (n + s) : ℝ) : EReal) := by
    rw [← coe_sum_fin]; exact Finset.sum_congr rfl fun s _ => hp s
  have ha : ∀ d, ∑ s : Fin 1024, p s * ((A.v (n + s.val) (h * 128 + d) : ℝ) : EReal)
      = ((∑ s ∈ range 1024, expo a' (A.x h t) t (n + s) * A.v (n + s) (h * 128 + d) : ℝ) : EReal) := fun d => by
    rw [← coe_sum_fin]; exact Finset.sum_congr rfl fun s _ => by rw [hp, EReal.coe_mul]
  refine Or.inr ⟨a', rfl, ?_, fun d hd => ?_⟩
  · rw [el, hl]
    rcases C with ⟨rfl, rfl, rfl, _⟩ | ⟨a, rfl, rfl, _⟩
    · rw [mul_zero, zero_add]; simp
    · rw [← EReal.coe_sub, Ideal.exp2_coe, ← sub_div, two_pow, ← EReal.coe_mul, ← EReal.coe_add, Finset.sum_range_add, Finset.mul_sum]
      congr 2
      exact Finset.sum_congr rfl fun s _ => (expo_change a a' _ t s).symm
  · rw [ea d hd, ha]
    rcases C with ⟨rfl, rfl, rfl, z⟩ | ⟨a, rfl, _, z⟩
    · rw [z d hd, mul_zero, zero_add]; simp
    · rw [z d hd, ← EReal.coe_sub, Ideal.exp2_coe, ← sub_div, two_pow, ← EReal.coe_mul, ← EReal.coe_add, Finset.sum_range_add, Finset.mul_sum]
      congr 2
      exact Finset.sum_congr rfl fun s _ => by rw [expo_change a a' _ t s, mul_assoc]

/-- No tile is carried as nothing. -/
theorem Carried.start (A : Data) (h t : ℕ) : Carried A h t 0 ⊥ 0 (fun _ => 0) := Or.inl ⟨rfl, rfl, rfl, fun _ _ => rfl⟩

/-- Keys after the row have no power. -/
theorem sum_all {x : ℕ → ℝ} {t n : ℕ} (hn : t < n) (h4 : n ≤ 4096) (a : ℝ) (f : ℕ → ℝ) :
    ∑ s ∈ range n, expo a x t s * f s = ∑ s ∈ range 4096, expo a x t s * f s := by
  refine Finset.sum_subset (Finset.range_mono h4) fun s _ hs => ?_
  rw [expo, if_neg (by have := Finset.mem_range.not.mp hs; omega), zero_mul]

/-- The logarithm of the sum does not depend on what is taken off. -/
theorem log_sum (a b : ℝ) (x : ℕ → ℝ) {t : ℕ} (ht : t < 4096) : a + Real.log (total a x t) = b + Real.log (total b x t) := by
  rw [total_shift a, total_shift b, Real.log_mul (Real.exp_pos _).ne' (total_pos 0 x ht).ne', Real.log_mul (Real.exp_pos _).ne' (total_pos 0 x ht).ne',
    Real.log_exp, Real.log_exp]
  ring

/-- After the keys up to the row: the quotient is the attention, -/
theorem Carried.out {A : Data} {h t n : ℕ} {m l : EReal} {acc : ℕ → EReal} (C : Carried A h t n m l acc) (hn : t < n) (h4 : n ≤ 4096)
    {d : ℕ} (hd : d < 128) : Ideal.div (acc d) l = ((∑ s ∈ range 4096, A.v s (h * 128 + d) * A.p h t s : ℝ) : EReal) := by
  rcases C with ⟨rfl, _⟩ | ⟨a, _, e, z⟩
  · omega
  · have q := sum_all (x := A.x h t) hn h4 a fun _ => 1
    simp only [mul_one] at q
    rw [z d hd, e, sum_all hn h4, q]
    show Ideal.div _ ((total a (A.x h t) t : ℝ) : EReal) = _
    rw [div_real _ (total_pos _ _ (by omega)).ne', Finset.sum_div]
    congr 1
    refine Finset.sum_congr rfl fun s _ => ?_
    rw [Data.p, ← soft_of a]; ring
/-- and the largest logit with the sum's logarithm is the row's normaliser to base 2. -/
theorem Carried.norm {A : Data} {h t n : ℕ} {m l : EReal} {acc : ℕ → EReal} (C : Carried A h t n m l acc) (hn : t < n) (h4 : n ≤ 4096) (b : ℝ) :
    m + Ideal.log l * (((Real.log 2)⁻¹ : ℝ) : EReal) = (((b + Real.log (total b (A.x h t) t)) / Real.log 2 : ℝ) : EReal) := by
  rcases C with ⟨rfl, _⟩ | ⟨a, rfl, e, z⟩
  · omega
  · have q := sum_all (x := A.x h t) hn h4 a fun _ => 1
    simp only [mul_one] at q
    rw [e, q]
    show _ + Ideal.log ((total a (A.x h t) t : ℝ) : EReal) * _ = _
    rw [log_total _ _ (by omega : t < 4096), ← EReal.coe_mul, ← EReal.coe_add, ← div_eq_mul_inv, ← add_div, log_sum a b _ (by omega)]

end Cert.Fwd

end
-- ==== Proof.FwdTile.lean ====
module

public import proofs.«01_k».proof.Proof.Gen.Kernel34Ideal.Frame
public import proofs.«01_k».proof.Proof.FwdMath
public import Idealize.ShloMosaic.Lib.Pointwise
public import Idealize.ShloMosaic.Lib.WordCmp

@[expose] public section

set_option maxRecDepth 16384

noncomputable section

/-! What the forward call's body makes of one tile, when its operands are real numbers. -/

namespace Cert.Fwd

open Idealize.ShloMosaic Idealize.ShloMosaic.TcCoe Idealize.SL.Sem
open Cert.Kernel34Ideal Cert.Kernel34Ideal.Gen
open Cert.Att
open Finset (range)

/-- The constant that stands for minus infinity. -/
theorem named_mask : (Named.named κ "mask" 0xF149F2CA#32 : Ideal .f32) = (⊥ : EReal) := rfl
/-- The constant that stands for the logarithm of e to base 2. -/
theorem named_log2e : (Named.named κ "log2e" 0x3FB8AA3B#32 : Ideal .f32) = (((Real.log 2)⁻¹ : ℝ) : EReal) := rfl

/-- The operands of the tile of rows from `a` and keys from `b` of head `h`. -/
structure Tile (A : Data) (h a b : ℕ) (q k v : FVec Ideal S1024x128 .bf16) (c : FVec Ideal S1x1x1x1024 .f32) : Prop where
  hq : ∀ (r : Fin 1024) (d : Fin 128), q (ix2 r d) = ((A.q (a + r) (h * 128 + d) * sigma / Real.log 2 : ℝ) : EReal)
  hk : ∀ (s : Fin 1024) (d : Fin 128), k (ix2 s d) = ((A.k (b + s) (h * 128 + d) : ℝ) : EReal)
  hv : ∀ (s : Fin 1024) (d : Fin 128), v (ix2 s d) = ((A.v (b + s) (h * 128 + d) : ℝ) : EReal)
  hc : ∀ s : Fin 1024, c (ix4 0 0 0 s) = ((A.c h (b + s) / Real.log 2 : ℝ) : EReal)

/-- What the rows of the tile from `a` carry after `n` keys. -/
def Rows (A : Data) (h a n : ℕ) (m l : FVec Ideal S1024x1 .f32) (acc : FVec Ideal S1024x128 .f32) : Prop :=
  ∀ r : Fin 1024, Carried A h (a + r) n (m (ix2 r 0)) (l (ix2 r 0)) (fun d => if e : d < 128 then acc (ix2 r ⟨d, e⟩) else 0)

theorem Rows.start (A : Data) (h a : ℕ) : Rows A h a 0 (k0_pay6 (F := Ideal)) (k0_pay7 (F := Ideal)) (k0_pay8 (F := Ideal)) := fun r => by
  have e6 : k0_pay6 (F := Ideal) (ix2 r 0) = ⊥ := by
    pointwise [k0_pay6]
    exact named_mask
  have e7 : k0_pay7 (F := Ideal) (ix2 r 0) = 0 := by pointwise [k0_pay7]
  have e8 : ∀ d : Fin 128, k0_pay8 (F := Ideal) (ix2 r d) = 0 := fun d => by pointwise [k0_pay8]
  exact Or.inl ⟨rfl, e6, e7, fun d hd => (dif_pos hd).trans (e8 _)⟩

section
variable {A : Data} {h a b : ℕ} {q k v : FVec Ideal S1024x128 .bf16} {c : FVec Ideal S1x1x1x1024 .f32} (T : Tile A h a b q k v c)
include T

/-- The logit before the mask. -/
theorem Tile.dot (r s : Fin 1024) : (∑ x : Fin 128, q (ix2 r x) * k (ix2 s x)) - c (ix4 0 0 0 s) = ((A.x h (a + r) (b + s) / Real.log 2 : ℝ) : EReal) := by
  have e : (∑ x : Fin 128, q (ix2 r x) * k (ix2 s x)) = ((∑ d ∈ range 128, A.q (a + r) (h * 128 + d) * sigma / Real.log 2 * A.k (b + s) (h * 128 + d) : ℝ) : EReal) := by
    rw [← coe_sum_fin]
    exact Finset.sum_congr rfl fun x _ => by rw [T.hq, T.hk, ← EReal.coe_mul]
  rw [e, T.hc, ← EReal.coe_sub, Data.x, sub_div, Finset.sum_mul, Finset.sum_div]
  congr 2
  exact Finset.sum_congr rfl fun x _ => by ring

theorem Tile.below (hb : b + 1024 ≤ a) (r s : Fin 1024) : k0_pay9 (F := Ideal) q k c (ix2 r s) = logit (A.x h (a + r)) (a + r) (b + s) := by
  pointwise [k0_pay9, k0_pay5]
  rw [T.dot, logit, if_pos (by have := s.isLt; omega)]

/-- A tile below the diagonal. -/
theorem Tile.step (hb : b + 1024 ≤ a) {m l : FVec Ideal S1024x1 .f32} {acc : FVec Ideal S1024x128 .f32} (R : Rows A h a b m l acc) :
    Rows A h a (b + 1024) (k0_pay10 (F := Ideal) q m k c) (k0_pay13 (F := Ideal) q m l k c) (k0_pay14 (F := Ideal) q m acc k c v) := fun r => by
  have em : k0_pay10 (F := Ideal) q m k c (ix2 r 0)
      = max (m (ix2 r 0)) ((Finset.univ : Finset (Fin 1024)).fold max ⊥ (fun s => logit (A.x h (a + r)) (a + r) (b + s.val))) := by
    pointwise [k0_pay10]
    rw [ofBits_bot]
    exact congrArg (fun f => max (m (ix2 r 0)) ((Finset.univ : Finset (Fin 1024)).fold max ⊥ f)) (funext fun s => T.below hb r s)
  have ep : ∀ s : Fin 1024, k0_pay11 (F := Ideal) q m k c (ix2 r s) = Ideal.exp2 (logit (A.x h (a + r)) (a + r) (b + s.val) - k0_pay10 (F := Ideal) q m k c (ix2 r 0)) := fun s => by
    pointwise [k0_pay11]
    rw [T.below hb]
    rfl
  have el : k0_pay13 (F := Ideal) q m l k c (ix2 r 0) = Ideal.exp2 (m (ix2 r 0) - k0_pay10 (F := Ideal) q m k c (ix2 r 0)) * l (ix2 r 0)
      + ∑ s : Fin 1024, k0_pay11 (F := Ideal) q m k c (ix2 r s) := by
    pointwise [k0_pay13, k0_pay12]
    rfl
  have ea : ∀ d : Fin 128, k0_pay14 (F := Ideal) q m acc k c v (ix2 r d) = Ideal.exp2 (m (ix2 r 0) - k0_pay10 (F := Ideal) q m k c (ix2 r 0)) * acc (ix2 r d)
      + ∑ s : Fin 1024, k0_pay11 (F := Ideal) q m k c (ix2 r s) * v (ix2 s d) := fun d => by
    pointwise [k0_pay14, k0_pay12]
    rfl
  refine (R r).step (by omega) em ep el fun d hd => ?_
  rw [dif_pos hd, dif_pos hd, ea]
  exact congrArg (fun f : Fin 1024 → EReal => _ + ∑ s : Fin 1024, f s) (funext fun s => by rw [T.hv])
end

section
variable {A : Data} {h a : ℕ} {q k v : FVec Ideal S1024x128 .bf16} {c : FVec Ideal S1x1x1x1024 .f32} (T : Tile A h a a q k v c)
include T

theorem Tile.diag (r s : Fin 1024) : k0_pay21 (F := Ideal) q k c (ix2 r s) = logit (A.x h (a + r)) (a + r) (a + s) := by
  pointwise [k0_pay21, k0_pay5]
  rw [T.dot, named_mask, logit]
  have w : IntOp.cmpi CmpIPredicate.sge (IntOp.addi (0#32) (BitVec.ofNat 32 r.val)) (BitVec.ofNat 32 s.val) = (1 : BitVec 1) ↔ s.val ≤ r.val := by
    rw [show IntOp.addi (0#32) (BitVec.ofNat 32 r.val) = BitVec.ofNat 32 r.val from BitVec.zero_add _]
    exact WordCmp.cmpi_sge_ofNat_eq_one_iff (by have := r.isLt; omega) (by have := s.isLt; omega)
  by_cases g : s.val ≤ r.val
  · rw [Scalar.select, if_pos (w.mpr g), if_pos (by omega)]
  · rw [Scalar.select, if_neg (mt w.mp g), if_neg (by omega)]

/-- The tile on the diagonal, where the row's sum and its values are still to be formed: what the results are of. -/
theorem Tile.last {m l : FVec Ideal S1024x1 .f32} {acc : FVec Ideal S1024x128 .f32} (R : Rows A h a a m l acc) (r : Fin 1024) :
    Carried A h (a + r) (a + 1024) (k0_pay22 (F := Ideal) q m k c (ix2 r 0))
      (k0_pay25 (F := Ideal) q m l k c (ix2 r 0) + ∑ s : Fin 1024, k0_pay23 (F := Ideal) q m k c (ix2 r s))
      (fun d => if e : d < 128 then k0_pay24 (F := Ideal) q m k c (ix2 r 0) * acc (ix2 r ⟨d, e⟩)
        + ∑ s : Fin 1024, k0_pay23 (F := Ideal) q m k c (ix2 r s) * v (ix2 s ⟨d, e⟩) else 0) := by
  have em : k0_pay22 (F := Ideal) q m k c (ix2 r 0)
      = max (m (ix2 r 0)) ((Finset.univ : Finset (Fin 1024)).fold max ⊥ (fun s => logit (A.x h (a + r)) (a + r) (a + s.val))) := by
    pointwise [k0_pay22]
    rw [ofBits_bot]
    exact congrArg (fun f => max (m (ix2 r 0)) ((Finset.univ : Finset (Fin 1024)).fold max ⊥ f)) (funext fun s => T.diag r s)
  have ep : ∀ s : Fin 1024, k0_pay23 (F := Ideal) q m k c (ix2 r s) = Ideal.exp2 (logit (A.x h (a + r)) (a + r) (a + s.val) - k0_pay22 (F := Ideal) q m k c (ix2 r 0)) := fun s => by
    pointwise [k0_pay23]
    rw [T.diag]
    rfl
  have es : k0_pay24 (F := Ideal) q m k c (ix2 r 0) = Ideal.exp2 (m (ix2 r 0) - k0_pay22 (F := Ideal) q m k c (ix2 r 0)) := by
    pointwise [k0_pay24]
    rfl
  have el : k0_pay25 (F := Ideal) q m l k c (ix2 r 0) = k0_pay24 (F := Ideal) q m k c (ix2 r 0) * l (ix2 r 0) := by
    pointwise [k0_pay25]
  refine (R r).step (by omega) em ep (by rw [el, es]) fun d hd => ?_
  rw [dif_pos hd, dif_pos hd, es]
  exact congrArg (fun f : Fin 1024 → EReal => _ + ∑ s : Fin 1024, f s) (funext fun s => by rw [T.hv])

/-- The attention's result of the tile. -/
theorem Tile.o_at {m l : FVec Ideal S1024x1 .f32} {acc : FVec Ideal S1024x128 .f32} (R : Rows A h a a m l acc) (h4 : a + 1024 ≤ 4096) (r : Fin 1024) (d : Fin 128) :
    k0_pay2 (F := Ideal) acc (k0_pay23 (F := Ideal) q m k c) (k0_pay24 (F := Ideal) q m k c) (k0_pay25 (F := Ideal) q m l k c) v (ix2 r d)
      = ((∑ s ∈ range 4096, A.v s (h * 128 + d) * A.p h (a + r) s : ℝ) : EReal) := by
  pointwise [k0_pay2, k0_pay1]
  have := (T.last R r).out (by omega) h4 d.isLt
  rw [dif_pos d.isLt] at this
  exact this
theorem Tile.ob_at {m l : FVec Ideal S1024x1 .f32} {acc : FVec Ideal S1024x128 .f32} (R : Rows A h a a m l acc) (h4 : a + 1024 ≤ 4096) (r : Fin 1024) (d : Fin 128) :
    k0_pay3 (F := Ideal) acc (k0_pay23 (F := Ideal) q m k c) (k0_pay24 (F := Ideal) q m k c) (k0_pay25 (F := Ideal) q m l k c) v (ix2 r d)
      = ((∑ s ∈ range 4096, A.v s (h * 128 + d) * A.p h (a + r) s : ℝ) : EReal) := by
  pointwise [k0_pay3]
  exact T.o_at R h4 r d
/-- The row's normaliser to base 2. -/
theorem Tile.z_at {m l : FVec Ideal S1024x1 .f32} {acc : FVec Ideal S1024x128 .f32} (R : Rows A h a a m l acc) (h4 : a + 1024 ≤ 4096) (r : Fin 1024) (y : ℝ) :
    k0_pay4 (F := Ideal) (k0_pay22 (F := Ideal) q m k c) (k0_pay23 (F := Ideal) q m k c) (k0_pay25 (F := Ideal) q m l k c) (ix3 0 r 0)
      = (((y + Real.log (total y (A.x h (a + r)) (a + r))) / Real.log 2 : ℝ) : EReal) := by
  pointwise [k0_pay4, k0_pay1]
  rw [named_log2e]
  exact (T.last R r).norm (by omega) h4 y
end

end Cert.Fwd

end
-- ==== Proof.FwdRun.lean ====
module

public import proofs.«01_k».proof.Proof.FwdTile
public import Idealize.ShloMosaic.Lib.Pipeline.ValueKit
public import Idealize.ShloMosaic.Lib.WholeRead

@[expose] public section

set_option maxRecDepth 16384

noncomputable section

/-! What the forward call's loop carries at a step of the grid, and what the step leaves in the three results. -/

namespace Cert.Fwd

open Idealize.ShloMosaic Idealize.ShloMosaic.TcCoe Idealize.SL.Sem
open Cert.Kernel34Ideal Cert.Kernel34Ideal.Gen
open Cert.Att
open Finset (range)

theorem trips_1 : ∀ i : grid0.Coords, (k0_t1_loop i).trips = (i 1).val := by decide +kernel
theorem trips_2 : ∀ i : grid0.Coords, (k0_t2_loop i).trips = 0 := by decide +kernel
theorem off1_eq : ∀ (i : grid0.Coords) (k : Fin (k0_t1_loop i).trips), k0_off1 i k = ![1024 * k.val, 0] := by decide +kernel
theorem off2_eq : ∀ (i : grid0.Coords) (k : Fin (k0_t1_loop i).trips), k0_off2 i k = ![0, k.val, 0, 0] := by decide +kernel
theorem off5_eq : ∀ i : grid0.Coords, k0_off5 i = ![1024 * (i 1).val, 0] := by decide +kernel
theorem off6_eq : ∀ i : grid0.Coords, k0_off6 i = ![0, (i 1).val, 0, 0] := by decide +kernel

/-- The blocks of a step with the rows from `a` of head `h`: its queries, and all keys, values and decays of the head. -/
structure Blocks (A : Data) (h a : ℕ) (x0 : FVec Ideal S1024x128 .bf16) (x1 x2 : FVec Ideal S4096x128 .bf16) (x3 : FVec Ideal S1x4x1x1024 .f32) : Prop where
  hq : ∀ (r : Fin 1024) (d : Fin 128), x0 (ix2 r d) = ((A.q (a + r) (h * 128 + d) * sigma / Real.log 2 : ℝ) : EReal)
  hk : ∀ (s : Fin 4096) (d : Fin 128), x1 (ix2 s d) = ((A.k s (h * 128 + d) : ℝ) : EReal)
  hv : ∀ (s : Fin 4096) (d : Fin 128), x2 (ix2 s d) = ((A.v s (h * 128 + d) : ℝ) : EReal)
  hc : ∀ (j : Fin 4) (s : Fin 1024), x3 (ix4 0 j 0 s) = ((A.c h (1024 * j + s) / Real.log 2 : ℝ) : EReal)

/-- A tile of keys read out of the blocks. -/
theorem Blocks.tile {A : Data} {h a : ℕ} {x0 : FVec Ideal S1024x128 .bf16} {x1 x2 : FVec Ideal S4096x128 .bf16} {x3 : FVec Ideal S1x4x1x1024 .f32}
    (B : Blocks A h a x0 x1 x2 x3) (j : ℕ) (hj : j < 4) (o : Fin 2 → ℕ) (o' : Fin 4 → ℕ) (eo : o = ![1024 * j, 0]) (eo' : o' = ![0, j, 0, 0])
    (b : ∀ x, o x + S1024x128.size x ≤ S4096x128.size x) (b' : ∀ x, o' x + S1x1x1x1024.size x ≤ S1x4x1x1024.size x) :
    Tile A h a (1024 * j) x0 (View.ld (Val := Elt Ideal) (e' := .bf16) x1 (Rect.unit (s := S4096x128) o S1024x128.size b)) (View.ld (Val := Elt Ideal) (e' := .bf16) x2 (Rect.unit (s := S4096x128) o S1024x128.size b))
      (View.ld (Val := Elt Ideal) (e' := .f32) x3 (Rect.unit (s := S1x4x1x1024) o' S1x1x1x1024.size b')) := by
  subst eo eo'
  have row : ∀ (s : Fin 1024) (d : Fin 128), (Rect.unit (s := S4096x128) ![1024 * j, 0] S1024x128.size b).idx (ix2 s d) = ix2 ⟨1024 * j + s.val, by omega⟩ d := fun s d => by
    refine funext fun x => Fin.ext ?_
    rw [Rect.idx_unit_val]
    fin_cases x
    · rfl
    · exact Nat.zero_add _
  have col : ∀ s : Fin 1024, (Rect.unit (s := S1x4x1x1024) ![0, j, 0, 0] S1x1x1x1024.size b').idx (ix4 0 0 0 s) = ix4 0 ⟨j, hj⟩ 0 s := fun s => by
    refine funext fun x => Fin.ext ?_
    rw [Rect.idx_unit_val]
    fin_cases x
    · rfl
    · rfl
    · rfl
    · exact Nat.zero_add _
  refine ⟨B.hq, fun s d => ?_, fun s d => ?_, fun s => ?_⟩
  · exact (congrArg x1 (row s d)).trans (B.hk _ _)
  · exact (congrArg x2 (row s d)).trans (B.hv _ _)
  · exact (congrArg x3 (col s)).trans (B.hc ⟨j, hj⟩ s)

section
variable (m : (ℓ : Loc nD τ sig) → Buf (Elt Ideal) ℓ) (c : Dev nD) (t : Fin cfg0.N)

/-- What the first loop carries before its trip `n`. -/
abbrev carried (n : ℕ) : FVec Ideal S1024x1 .f32 × FVec Ideal S1024x1 .f32 × FVec Ideal S1024x128 .f32 :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) ((hs0_1 t).unread (iblk m c 1 t)) ((hs0_2 t).unread (iblk m c 2 t)) ((hs0_3 t).unread (iblk m c 3 t))
    (k0_pay6 (F := Ideal), k0_pay7 (F := Ideal), k0_pay8 (F := Ideal)) n

/-- What the second loop ends with. -/
abbrev ended : FVec Ideal S1024x1 .f32 × FVec Ideal S1024x1 .f32 × FVec Ideal S1024x128 .f32 :=
  st_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) ((hs0_1 t).unread (iblk m c 1 t)) ((hs0_2 t).unread (iblk m c 2 t)) ((hs0_3 t).unread (iblk m c 3 t))
    ((carried m c t (k0_t1_loop (grid0.coords t)).trips).1, (carried m c t (k0_t1_loop (grid0.coords t)).trips).2.1, (carried m c t (k0_t1_loop (grid0.coords t)).trips).2.2)
    (k0_t2_loop (grid0.coords t)).trips

/-- It makes no trip. -/
theorem ended_eq : ended m c t = carried m c t (k0_t1_loop (grid0.coords t)).trips := by
  unfold ended
  rw [trips_2]
  rfl

theorem trip_eq (k : Fin (k0_t1_loop (grid0.coords t)).trips) (acc : FVec Ideal S1024x1 .f32 × FVec Ideal S1024x1 .f32 × FVec Ideal S1024x128 .f32) :
    tripR_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) ((hs0_1 t).unread (iblk m c 1 t)) ((hs0_2 t).unread (iblk m c 2 t)) ((hs0_3 t).unread (iblk m c 3 t)) k acc
      = (k0_pay10 (F := Ideal) (iblk m c 0 t) acc.1 (View.ld (iblk m c 1 t) (Rect.unit (s := S4096x128) (k0_off1 (grid0.coords t) k) S1024x128.size (k0_off1_inb _ _)))
            (View.ld (iblk m c 3 t) (Rect.unit (s := S1x4x1x1024) (k0_off2 (grid0.coords t) k) S1x1x1x1024.size (k0_off2_inb _ _))),
          k0_pay13 (F := Ideal) (iblk m c 0 t) acc.1 acc.2.1 (View.ld (iblk m c 1 t) (Rect.unit (s := S4096x128) (k0_off1 (grid0.coords t) k) S1024x128.size (k0_off1_inb _ _)))
            (View.ld (iblk m c 3 t) (Rect.unit (s := S1x4x1x1024) (k0_off2 (grid0.coords t) k) S1x1x1x1024.size (k0_off2_inb _ _))),
          k0_pay14 (F := Ideal) (iblk m c 0 t) acc.1 acc.2.2 (View.ld (iblk m c 1 t) (Rect.unit (s := S4096x128) (k0_off1 (grid0.coords t) k) S1024x128.size (k0_off1_inb _ _)))
            (View.ld (iblk m c 3 t) (Rect.unit (s := S1x4x1x1024) (k0_off2 (grid0.coords t) k) S1x1x1x1024.size (k0_off2_inb _ _)))
            (View.ld (iblk m c 2 t) (Rect.unit (s := S4096x128) (k0_off1 (grid0.coords t) k) S1024x128.size (k0_off1_inb _ _)))) := by
  have e1 := funext (Memref.IsWhole.readAt_unread (hs0_1 t) (iblk m c 1 t) (Rect.unit (s := S4096x128) (k0_off1 (grid0.coords t) k) S1024x128.size (k0_off1_inb _ _)).toLoadRect)
  have e2 := funext (Memref.IsWhole.readAt_unread (hs0_2 t) (iblk m c 2 t) (Rect.unit (s := S4096x128) (k0_off1 (grid0.coords t) k) S1024x128.size (k0_off1_inb _ _)).toLoadRect)
  have e3 := funext (Memref.IsWhole.readAt_unread (hs0_3 t) (iblk m c 3 t) (Rect.unit (s := S1x4x1x1024) (k0_off2 (grid0.coords t) k) S1x1x1x1024.size (k0_off2_inb _ _)).toLoadRect)
  unfold tripR_k0_t1 trip_k0_t1
  dsimp only
  rw [e1, e2, e3]
  rfl

section
variable {A : Data} {h : ℕ} (B : Blocks A h (1024 * (grid0.coords t 1).val) (iblk m c 0 t) (iblk m c 1 t) (iblk m c 2 t) (iblk m c 3 t))
include B

/-- Before trip `n` the keys of `n` tiles are in. -/
theorem carried_rows (n : ℕ) (hn : n ≤ (k0_t1_loop (grid0.coords t)).trips) :
    Rows A h (1024 * (grid0.coords t 1).val) (1024 * n) (carried m c t n).1 (carried m c t n).2.1 (carried m c t n).2.2 := by
  have hc : (grid0.coords t 1).val < 4 := (grid0.coords t 1).isLt
  induction n with
  | zero => exact Rows.start A h _
  | succ n ih =>
    have hk : n < (k0_t1_loop (grid0.coords t)).trips := hn
    have e : carried m c t (n + 1) = _ := (st_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) ((hs0_1 t).unread (iblk m c 1 t)) ((hs0_2 t).unread (iblk m c 2 t)) ((hs0_3 t).unread (iblk m c 3 t)) _ ⟨n, hk⟩).trans (trip_eq m c t ⟨n, hk⟩ _)
    rw [e]
    have hk' : n < (grid0.coords t 1).val := by rw [← trips_1]; exact hk
    exact (B.tile n (by omega) _ _ (off1_eq _ ⟨n, hk⟩) (off2_eq _ ⟨n, hk⟩) _ _).step (by omega) (ih (by omega))

theorem ended_rows : Rows A h (1024 * (grid0.coords t 1).val) (1024 * (grid0.coords t 1).val) (ended m c t).1 (ended m c t).2.1 (ended m c t).2.2 := by
  rw [ended_eq]
  have := carried_rows m c t B _ le_rfl
  rwa [trips_1] at this ⊢

/-- The tile on the diagonal. -/
theorem tile_diag : Tile A h (1024 * (grid0.coords t 1).val) (1024 * (grid0.coords t 1).val) (iblk m c 0 t)
    (View.ld (iblk m c 1 t) (Rect.unit (s := S4096x128) (k0_off5 (grid0.coords t)) S1024x128.size (k0_off5_inb _)))
    (View.ld (iblk m c 2 t) (Rect.unit (s := S4096x128) (k0_off5 (grid0.coords t)) S1024x128.size (k0_off5_inb _)))
    (View.ld (iblk m c 3 t) (Rect.unit (s := S1x4x1x1024) (k0_off6 (grid0.coords t)) S1x1x1x1024.size (k0_off6_inb _))) :=
  B.tile _ (grid0.coords t 1).isLt _ _ (off5_eq _) (off6_eq _) _ _

theorem room : 1024 * (grid0.coords t 1).val + 1024 ≤ 4096 := by
  have hc : (grid0.coords t 1).val < 4 := (grid0.coords t 1).isLt
  omega

theorem after_4 (r : Fin 1024) (d : Fin 128) : ((dats m 0 c).after 4 t : S1024x128.Idx → EReal) (ix2 r d)
    = ((∑ s ∈ range 4096, A.v s (h * 128 + d) * A.p h (1024 * (grid0.coords t 1).val + r) s : ℝ) : EReal) := by
  rw [after0_4]; unfold outsAt0; frame_out
  exact (tile_diag m c t B).ob_at (ended_rows m c t B) (room m c t B) r d
theorem after_5 (r : Fin 1024) (d : Fin 128) : ((dats m 0 c).after 5 t : S1024x128.Idx → EReal) (ix2 r d)
    = ((∑ s ∈ range 4096, A.v s (h * 128 + d) * A.p h (1024 * (grid0.coords t 1).val + r) s : ℝ) : EReal) := by
  rw [after0_5]; unfold outsAt0; frame_out
  exact (tile_diag m c t B).o_at (ended_rows m c t B) (room m c t B) r d
theorem after_6 (r : Fin 1024) (y : ℝ) : ((dats m 0 c).after 6 t : S1x1024x1.Idx → EReal) (ix3 0 r 0)
    = (((y + Real.log (total y (A.x h (1024 * (grid0.coords t 1).val + r)) (1024 * (grid0.coords t 1).val + r))) / Real.log 2 : ℝ) : EReal) := by
  rw [after0_6]; unfold outsAt0; frame_out
  exact (tile_diag m c t B).z_at (ended_rows m c t B) (room m c t B) r y
end
end

end Cert.Fwd

end
-- ==== Proof.FwdOut.lean ====
module

public import proofs.«01_k».proof.Proof.FwdRun
public import proofs.«01_k».proof.Proof.Host

@[expose] public section

set_option maxRecDepth 16384

noncomputable section

/-! What the forward call reads and what it writes, in real numbers: step `4 h + j` takes head `h` and the `j`-th 1024 rows. -/

namespace Cert.Fwd

open Idealize.ShloMosaic Idealize.ShloMosaic.TcCoe Idealize.SL.Sem
open Cert.Kernel34Ideal Cert.Kernel34Ideal.Gen
open Cert.Att
open Finset (range)

/-- What the call reads, as numbers. -/
structure Reads (A : Data) (q k : FVec Ideal S4096x2048 .f32) (p : FVec Ideal S4096x22528 .bf16) (c : FVec Ideal S16x4096 .f32) : Prop where
  q : ∀ (t : Fin 4096) (x : Fin 2048), q (ix2 t x) = ((A.q t.val x.val : ℝ) : EReal)
  k : ∀ (t : Fin 4096) (x : Fin 2048), k (ix2 t x) = ((A.k t.val x.val : ℝ) : EReal)
  v : ∀ (t : Fin 4096) (x : Fin 2048) (b : 12288 + x.val < 22528), p (ix2 t ⟨12288 + x.val, b⟩) = ((A.v t.val x.val : ℝ) : EReal)
  c : ∀ (h : Fin 16) (t : Fin 4096), c (ix2 h t) = ((A.c h.val t.val : ℝ) : EReal)

section
variable (m : (ℓ : Loc nD τ sig) → Buf (Elt Ideal) ℓ) (c : Dev nD)

/-! ## What the host prepares -/

theorem V5 (t : Fin 4096) (x : Fin 2048) (a : ℝ) (e : (m ((c : Thread nD τ).loc main_arg0) : S4096x2048.Idx → EReal) (ix2 t x) = ((a : ℝ) : EReal)) :
    (V m c main_v5 : S4096x2048.Idx → EReal) (ix2 t x) = ((a * sigma / Real.log 2 : ℝ) : EReal) := by
  unfold V
  simp only [hostOps0, List.flatten_cons, List.flatten_nil, List.cons_append, List.nil_append, List.append_nil]
  entry_read
  change (m (c, Proc.tc.devRef main_arg0) : S4096x2048.Idx → EReal) (ix2 t x) = _ at e
  pointwise
  rw [e, ofBits_sigma, ideal_log_two, ← EReal.coe_mul, div_real _ log_two_ne]
theorem V6 (t : Fin 4096) (x : Fin 2048) : (V m c main_v6 : S4096x2048.Idx → EReal) (ix2 t x) = (m ((c : Thread nD τ).loc main_arg1) : S4096x2048.Idx → EReal) (ix2 t x) := by
  unfold V
  simp only [hostOps0, List.flatten_cons, List.flatten_nil, List.cons_append, List.nil_append, List.append_nil]
  entry_read
  pointwise
theorem V10 (h : Fin 16) (j : Fin 4) (l : Fin 1024) (a : ℝ) (b : j.val * 1024 + l.val < 4096)
    (e : (m ((c : Thread nD τ).loc main_arg3) : S16x4096.Idx → EReal) (ix2 h ⟨j.val * 1024 + l.val, b⟩) = ((a : ℝ) : EReal)) :
    (V m c main_v10 : S16x4x1x1024.Idx → EReal) (ix4 h j 0 l) = ((a / Real.log 2 : ℝ) : EReal) := by
  unfold V
  simp only [hostOps0, List.flatten_cons, List.flatten_nil, List.cons_append, List.nil_append, List.append_nil]
  entry_read
  change (m (c, Proc.tc.devRef main_arg3) : S16x4096.Idx → EReal) (ix2 h ⟨j.val * 1024 + l.val, b⟩) = _ at e
  pointwise
  rw [e, ideal_log_two, div_real _ log_two_ne]

/-! ## The blocks of a step -/

theorem idx_0 : ∀ t : Fin cfg0.N, win0_0.index t = ![t.val % 4, t.val / 4] := (by decide +kernel : ∀ t : Fin grid0.N, _)
theorem idx_1 : ∀ t : Fin cfg0.N, win0_1.index t = ![0, t.val / 4] := (by decide +kernel : ∀ t : Fin grid0.N, _)
theorem idx_2 : ∀ t : Fin cfg0.N, win0_2.index t = ![0, 96 + t.val / 4] := (by decide +kernel : ∀ t : Fin grid0.N, _)
theorem idx_3 : ∀ t : Fin cfg0.N, win0_3.index t = ![t.val / 4, 0, 0, 0] := (by decide +kernel : ∀ t : Fin grid0.N, _)
theorem idx_4 : ∀ t : Fin cfg0.N, win0_4.index t = ![t.val % 4, t.val / 4] := (by decide +kernel : ∀ t : Fin grid0.N, _)
theorem idx_5 : ∀ t : Fin cfg0.N, win0_5.index t = ![t.val % 4, t.val / 4] := (by decide +kernel : ∀ t : Fin grid0.N, _)
theorem idx_6 : ∀ t : Fin cfg0.N, win0_6.index t = ![t.val / 4, t.val % 4, 0] := (by decide +kernel : ∀ t : Fin grid0.N, _)
theorem coords_val : ∀ t : Fin cfg0.N, (grid0.coords t 1).val = t.val % 4 := (by decide +kernel : ∀ t : Fin grid0.N, _)
theorem steps : cfg0.N = 64 := by decide

section
variable (t : Fin cfg0.N)
theorem blk_0 (r : Fin 1024) (d : Fin 128) (h : t.val / 4 * 128 + d.val < 2048) (h' : t.val % 4 * 1024 + r.val < 4096) :
    (iblk m c 0 t : S1024x128.Idx → EReal) (ix2 r d) = (V m c main_v5 : S4096x2048.Idx → EReal) (ix2 ⟨t.val % 4 * 1024 + r.val, h'⟩ ⟨t.val / 4 * 128 + d.val, h⟩) := by
  blk_ext [iblk, idx_0 t]
theorem blk_1 (s : Fin 4096) (d : Fin 128) (h : t.val / 4 * 128 + d.val < 2048) :
    (iblk m c 1 t : S4096x128.Idx → EReal) (ix2 s d) = (V m c main_v6 : S4096x2048.Idx → EReal) (ix2 s ⟨t.val / 4 * 128 + d.val, h⟩) := by
  blk_ext [iblk, idx_1 t]
theorem blk_2 (s : Fin 4096) (d : Fin 128) (h : 12288 + (t.val / 4 * 128 + d.val) < 22528) :
    (iblk m c 2 t : S4096x128.Idx → EReal) (ix2 s d) = (m ((c : Thread nD τ).loc main_arg2) : S4096x22528.Idx → EReal) (ix2 s ⟨12288 + (t.val / 4 * 128 + d.val), h⟩) := by
  blk_ext [iblk, idx_2 t]
theorem blk_3 (j : Fin 4) (s : Fin 1024) (h : t.val / 4 < 16) :
    (iblk m c 3 t : S1x4x1x1024.Idx → EReal) (ix4 0 j 0 s) = (V m c main_v10 : S16x4x1x1024.Idx → EReal) (ix4 ⟨t.val / 4, h⟩ j 0 s) := by
  blk_ext [iblk, idx_3 t]
end

section
variable {A : Data} (R : Reads A (m ((c.tc : Thread nD τ).loc main_arg0)) (m ((c.tc : Thread nD τ).loc main_arg1)) (m ((c.tc : Thread nD τ).loc main_arg2))
  (m ((c.tc : Thread nD τ).loc main_arg3)))
include R

theorem blocks (t : Fin cfg0.N) : Blocks A (t.val / 4) (1024 * (grid0.coords t 1).val) (iblk m c 0 t) (iblk m c 1 t) (iblk m c 2 t) (iblk m c 3 t) := by
  have hN : t.val < 64 := lt_of_lt_of_eq t.isLt steps
  rw [coords_val]
  refine ⟨fun r d => ?_, fun s d => ?_, fun s d => ?_, fun j s => ?_⟩
  · rw [Nat.mul_comm 1024]
    exact (blk_0 m c t r d (by omega) (by omega)).trans (V5 m c _ _ _ (R.q _ _))
  · exact (blk_1 m c t s d (by omega)).trans ((V6 m c _ _).trans (R.k _ _))
  · exact (blk_2 m c t s d (by omega)).trans (R.v _ ⟨t.val / 4 * 128 + d.val, by omega⟩ (by show 12288 + (t.val / 4 * 128 + d.val) < 22528; omega))
  · rw [Nat.mul_comm 1024]
    exact (blk_3 m c t j s (by omega)).trans (V10 m c _ _ _ _ (by omega) (R.c _ _))

/-! ## The arrays at the end -/

theorem out_4 : (dats m 0 c).arrAt 4 (cfgs 0).N
    = (fun i => ((∑ s ∈ range 4096, A.v s (i 1).val * A.p ((i 1).val / 128) (i 0).val s : ℝ) : EReal) : S4096x2048.Idx → EReal) := by
  refine (dats m 0 c).arrAt_eq_of_covers 4 _ (by decide +kernel) fun t hf y => ?_
  have hN : t.val < 64 := lt_of_lt_of_eq t.isLt steps
  have h1 : (y 1).val < 128 := (y 1).isLt
  blk_simp
  refine Eq.trans (congrArg ((dats m 0 c).after 4 t : S1024x128.Idx → EReal) (eq_ix2 y)) ((after_4 m c t (blocks m c R t) (y 0) (y 1)).trans ?_)
  blk_simp [idx_4 t]
  rw [coords_val, Nat.mul_comm 1024, show (t.val / 4 * 128 + (y 1).val) / 128 = t.val / 4 by omega]
theorem out_5 : (dats m 0 c).arrAt 5 (cfgs 0).N
    = (fun i => ((∑ s ∈ range 4096, A.v s (i 1).val * A.p ((i 1).val / 128) (i 0).val s : ℝ) : EReal) : S4096x2048.Idx → EReal) := by
  refine (dats m 0 c).arrAt_eq_of_covers 5 _ (by decide +kernel) fun t hf y => ?_
  have hN : t.val < 64 := lt_of_lt_of_eq t.isLt steps
  have h1 : (y 1).val < 128 := (y 1).isLt
  blk_simp
  refine Eq.trans (congrArg ((dats m 0 c).after 5 t : S1024x128.Idx → EReal) (eq_ix2 y)) ((after_5 m c t (blocks m c R t) (y 0) (y 1)).trans ?_)
  blk_simp [idx_5 t]
  rw [coords_val, Nat.mul_comm 1024, show (t.val / 4 * 128 + (y 1).val) / 128 = t.val / 4 by omega]
theorem out_6 : (dats m 0 c).arrAt 6 (cfgs 0).N
    = (fun i => (((peak (A.x (i 0).val (i 1).val) (i 1).val + Real.log (total (peak (A.x (i 0).val (i 1).val) (i 1).val) (A.x (i 0).val (i 1).val) (i 1).val)) / Real.log 2 : ℝ) : EReal)
        : S16x4096x1.Idx → EReal) := by
  refine (dats m 0 c).arrAt_eq_of_covers 6 _ (by decide +kernel) fun t hf y => ?_
  have hN : t.val < 64 := lt_of_lt_of_eq t.isLt steps
  blk_simp
  have h0 : (y 0).val = 0 := by have : (y 0).val < 1 := (y 0).isLt; omega
  have h2 : (y 2).val = 0 := by have : (y 2).val < 1 := (y 2).isLt; omega
  have e : y = ix3 0 (y 1) 0 := by
    funext b; fin_cases b
    · exact Fin.ext h0
    · rfl
    · exact Fin.ext h2
  refine Eq.trans (congrArg ((dats m 0 c).after 6 t : S1x1024x1.Idx → EReal) e) ((after_6 m c t (blocks m c R t) (y 1) (peak (A.x (t.val / 4) (1024 * (grid0.coords t 1).val + (y 1).val)) (1024 * (grid0.coords t 1).val + (y 1).val))).trans ?_)
  blk_simp [idx_6 t]
  rw [coords_val, Nat.mul_comm 1024]
end
end

end Cert.Fwd

end
-- ==== Proof.FoxFwd.lean ====
module

public import proofs.«01_k».proof.Defs
public import proofs.«01_k».proof.Proof.FwdOut
public import proofs.«01_k».proof.Proof.Pre
public import proofs.«01_k».proof.Proof.Gen.Reference34Ideal.Run

@[expose] public section

set_option maxRecDepth 16384

noncomputable section

/-! The forward call and its reference give the same three results. -/

namespace Cert.Fwd

open Idealize.ShloMosaic Idealize.ShloMosaic.TcCoe Idealize.SL.Sem
open Cert.Att
open Finset (range)

/-! ## What the precondition says -/

section
variable [Cert.Pre_finite_forward.Facts]
open Cert.Pre_finite_forward Cert.Pre_finite_forward.Facts

theorem all_real {s : Shape} (x : FVec Ideal s .f32) (b : S_.BroadcastsInDim s (![] : Fin 0 → Fin s.rank)) {ax : List (Fin s.rank)} (r : s.ReducesTo ax S_)
    (h : Host.reduce IntOp.andi (cmpf .olt (Host.absf x) (broadcastInDim s ![] b (constant S_ .f32 0x7F800000#32))) (constantI S_ 1 1#1) r h_S_ ix0 = 1#1)
    (i : s.Idx) : (x i : EReal) = (((x i : EReal).toReal : ℝ) : EReal) :=
  real_of_lt _ (Host.reduce_andi_all _ _ r h_S_ ix0 h i)

theorem pre_real (q k : FVec Ideal S4096x2048 .f32) (p : FVec Ideal S4096x22528 .bf16) (c : FVec Ideal S16x4096 .f32)
    (h : fn (F := Ideal) q k p c = fun _ => 1#1) :
    (∀ i, (q i : EReal) = (((q i : EReal).toReal : ℝ) : EReal)) ∧ (∀ i, (k i : EReal) = (((k i : EReal).toReal : ℝ) : EReal))
      ∧ (∀ i, (extractStridedSlice S4096x2048 ![0, 12288] p slices_S4096x22528_S4096x2048_0_12288 i : EReal)
          = (((extractStridedSlice S4096x2048 ![0, 12288] p slices_S4096x22528_S4096x2048_0_12288 i : EReal).toReal : ℝ) : EReal))
      ∧ (∀ i, (c i : EReal) = (((c i : EReal).toReal : ℝ) : EReal)) := by
  have h0 := congrFun h ix0
  unfold fn fn_part1 at h0
  dsimp only at h0
  generalize extractStridedSlice S4096x2048 ![0, 12288] p slices_S4096x22528_S4096x2048_0_12288 = z at h0 ⊢
  obtain ⟨h2, hc⟩ := IntOp.andi_eq_one.mp h0
  obtain ⟨h3, hp⟩ := IntOp.andi_eq_one.mp h2
  obtain ⟨hq, hk⟩ := IntOp.andi_eq_one.mp h3
  refine ⟨?_, ?_, ?_, ?_⟩
  · exact all_real q _ _ hq
  · exact all_real k _ _ hk
  · exact all_real (extf .f32 z bitsLt_bf16_f32) _ _ hp
  · exact all_real c _ _ hc

/-- The numbers of the arguments; there is no incoming gradient. -/
def dataOf (q k : FVec Ideal S4096x2048 .f32) (p : FVec Ideal S4096x22528 .bf16) (c : FVec Ideal S16x4096 .f32) : Data where
  q t x := if h : t < 4096 ∧ x < 2048 then (q (ix2 ⟨t, h.1⟩ ⟨x, h.2⟩) : EReal).toReal else 0
  k t x := if h : t < 4096 ∧ x < 2048 then (k (ix2 ⟨t, h.1⟩ ⟨x, h.2⟩) : EReal).toReal else 0
  v t x := if h : t < 4096 ∧ 12288 + x < 22528 then (p (ix2 ⟨t, h.1⟩ ⟨12288 + x, h.2⟩) : EReal).toReal else 0
  g t x := 0
  c h t := if e : h < 16 ∧ t < 4096 then (c (ix2 ⟨h, e.1⟩ ⟨t, e.2⟩) : EReal).toReal else 0

theorem slice_at (p : FVec Ideal S4096x22528 .bf16) (t : Fin 4096) (x : Fin 2048) (b : 12288 + x.val < 22528) :
    extractStridedSlice S4096x2048 ![0, 12288] p slices_S4096x22528_S4096x2048_0_12288 (ix2 t x) = p (ix2 t ⟨12288 + x.val, b⟩) := by
  pointwise

theorem reads_of (q k : FVec Ideal S4096x2048 .f32) (p : FVec Ideal S4096x22528 .bf16) (c : FVec Ideal S16x4096 .f32)
    (h : fn (F := Ideal) q k p c = fun _ => 1#1) : Reads (dataOf q k p c) q k p c := by
  obtain ⟨hq, hk, hp, hc⟩ := pre_real q k p c h
  refine ⟨fun t x => ?_, fun t x => ?_, fun t x b => ?_, fun i t => ?_⟩
  · simp only [dataOf, dif_pos (And.intro t.isLt x.isLt)]; exact hq _
  · simp only [dataOf, dif_pos (And.intro t.isLt x.isLt)]; exact hk _
  · have := hp (ix2 t x)
    rw [slice_at p t x b] at this
    simp only [dataOf, dif_pos (And.intro t.isLt b)]; exact this
  · simp only [dataOf, dif_pos (And.intro i.isLt t.isLt)]; exact hc _
end

/-! ## What the reference computes -/

section
open Cert.Reference34Ideal
variable (m : (ℓ : Loc nD τ sig) → Buf (Elt Ideal) ℓ) (c : Dev nD)

abbrev aQ : FVec Ideal S4096x2048 .f32 := m ((c.tc : Thread nD τ).loc main_arg0)
abbrev aK : FVec Ideal S4096x2048 .f32 := m ((c.tc : Thread nD τ).loc main_arg1)
abbrev aP : FVec Ideal S4096x22528 .bf16 := m ((c.tc : Thread nD τ).loc main_arg2)
abbrev aC : FVec Ideal S16x4096 .f32 := m ((c.tc : Thread nD τ).loc main_arg3)

theorem ref_1 : (Value.res_main_v26 m c : S4096x2048.Idx → EReal) = hO (hS (aQ m c) (aK m c) (aC m c)) (aP m c) := rfl
theorem ref_0 : (Value.res_main_v27 m c : S4096x2048.Idx → EReal) = hO (hS (aQ m c) (aK m c) (aC m c)) (aP m c) := rfl

variable {A : Data} (R : Reads A (aQ m c) (aK m c) (aP m c) (aC m c))
include R

theorem o_real (i : S4096x2048.Idx) : (hO (hS (aQ m c) (aK m c) (aC m c)) (aP m c) i : EReal)
    = ((∑ s ∈ range 4096, A.v s (i 1).val * A.p ((i 1).val / 128) (i 0).val s : ℝ) : EReal) := by
  have h1 : (i 1).val < 2048 := (i 1).isLt
  have e : i = ix2 (i 0) (⟨(i 1).val / 128 * 128 + (i 1).val % 128, by omega⟩ : Fin 2048) := by
    refine (eq_ix2 i).trans (congrArg (ix2 (i 0)) (Fin.ext ?_))
    show (i 1).val = (i 1).val / 128 * 128 + (i 1).val % 128
    omega
  refine (congrArg (hO (hS (aQ m c) (aK m c) (aC m c)) (aP m c)) e).trans ((hO_real R.q R.k R.c R.v (i 0) ⟨(i 1).val / 128, by omega⟩ ⟨(i 1).val % 128, by omega⟩
    (by show (i 1).val / 128 * 128 + (i 1).val % 128 < 2048; omega)).trans ?_)
  show ((∑ s ∈ range 4096, A.v s ((i 1).val / 128 * 128 + (i 1).val % 128) * A.p ((i 1).val / 128) (i 0).val s : ℝ) : EReal) = _
  rw [show (i 1).val / 128 * 128 + (i 1).val % 128 = (i 1).val by omega]

theorem z_real (i : S16x4096x1.Idx) : (hZ (hS (aQ m c) (aK m c) (aC m c)) i : EReal)
    = (((peak (A.x (i 0).val (i 1).val) (i 1).val + Real.log (total (peak (A.x (i 0).val (i 1).val) (i 1).val) (A.x (i 0).val (i 1).val) (i 1).val)) / Real.log 2 : ℝ) : EReal) := by
  have e : i = ix3 (i 0) (i 1) 0 := by
    funext b; fin_cases b
    · rfl
    · rfl
    · exact Fin.ext (by have : (i 2).val < 1 := (i 2).isLt; show (i 2).val = 0; omega)
  exact (congrArg (hZ (hS (aQ m c) (aK m c) (aC m c))) e).trans (hZ_real R.q R.k R.c (i 0) (i 1))
end

/-! ## The pair -/

section
open Cert.Kernel34Ideal Cert.Kernel34Ideal.Gen
variable (m : (ℓ : Loc nD τ sig) → Buf (Elt Ideal) ℓ) (ρ : Dev nD → PrngReg)

/-- The run, its three results named. -/
theorem run_results : θ_run defs (onTc (τ := τ) (main (F := Ideal))) ⟨m, fun _ => 0, ρ⟩ (fun r => ∀ c : Dev nD,
      r.2.mem ((c.tc : Thread nD τ).loc main_v11_0) = (dats m 0 c).arrAt 4 (cfgs 0).N
      ∧ r.2.mem ((c.tc : Thread nD τ).loc main_v11_1) = (dats m 0 c).arrAt 5 (cfgs 0).N
      ∧ r.2.mem ((c.tc : Thread nD τ).loc main_v11_2) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, (h.1 c).1 6, h.2.1 c⟩)
    (θ_run_and (run_main m ρ) (frame m ρ))
end

theorem pair [Cert.Pre_finite_forward.Facts] : Cert.algebraic_Kernel34Ideal_Reference34Ideal_pre_finite_forward := by
  intro m ρ m' ρ' hpre hag
  have R : ∀ c : Dev Cert.Kernel34Ideal.nD, Reads _ _ _ _ _ := fun c => reads_of _ _ _ _ (hpre c)
  refine ⟨fun c => (Cert.Kernel34Ideal.Gen.dats m 0 c).arrAt 4 (Cert.Kernel34Ideal.cfgs 0).N, fun c => (Cert.Kernel34Ideal.Gen.dats m 0 c).arrAt 5 (Cert.Kernel34Ideal.cfgs 0).N,
    fun c => (Cert.Kernel34Ideal.Gen.dats m 0 c).arrAt 6 (Cert.Kernel34Ideal.cfgs 0).N, run_results m ρ, ?_⟩
  refine (θ_run Cert.Reference34Ideal.defs _ _).mono (fun r h c => ?_) (Cert.Reference34Ideal.Value.run (F := Ideal) m' ρ')
  obtain ⟨h0, h1, h2, ha⟩ := h c
  obtain ⟨A, K⟩ : ∃ A : Data, Reads A (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1))
      (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3)) := ⟨_, R c⟩
  have R' : Reads A (aQ m' c) (aK m' c) (aP m' c) (aC m' c) := by
    unfold aQ aK aP aC
    rw [(hag c).1, (hag c).2.1, (hag c).2.2.1, (hag c).2.2.2]
    exact K
  refine ⟨h0.trans ?_, h1.trans ?_, h2.trans ?_, ha⟩
  · refine Eq.trans ?_ (out_4 m c K).symm
    exact (ref_0 m' c).trans (funext fun i => o_real m' c R' i)
  · refine Eq.trans ?_ (out_5 m c K).symm
    exact (ref_1 m' c).trans (funext fun i => o_real m' c R' i)
  · refine Eq.trans ?_ (out_6 m c K).symm
    exact Eq.trans (show _ = hZ (hS (aQ m' c) (aK m' c) (aC m' c)) from rfl) (funext fun i => z_real m' c R' i)

end Cert.Fwd

end
-- ==== Proof.ConvFwd.lean ====
/- The short convolution in front of the delta rule: each row's sum over itself and the three rows before it, each times its
   weight, and silu of the sum. -/
module

public import proofs.«01_k».proof.Defs
public import proofs.«01_k».proof.Proof.Gen.Kernel35Ideal.Frame
public import proofs.«01_k».proof.Proof.Gen.Reference35Ideal.Run
public import Idealize.ShloMosaic.Lib.Pipeline.ValueKit
public import Idealize.ShloMosaic.Lib.WordCmp
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.ConvFwd

open Cert.Kernel35Ideal Cert.Kernel35Ideal.Gen

/-- The entry `s` rows above, zero above the first row. -/
def above {n : ℕ} (x : (⟨2, ![4096, n]⟩ : Shape).Idx → EReal) (s : ℕ) (t : Fin 4096) (d : Fin n) : EReal :=
  if s ≤ t.val then x (ix2 ⟨t.val - s, by omega⟩ d) else 0

/-- A front padding of three rows, read three rows less `s` down. -/
theorem padded_at (x : S4096x6144.Idx → EReal) {u : Shape} (v : u.Idx → EReal) (hu : 0 < u.numel) (hv : ∀ i, v i = 0)
    (h : S4096x6144.Pads ![3, 0] ![0, 0] ![0, 0] Cert.Reference35Ideal.S4099x6144) (k s : ℕ) (hk : k + s = 3)
    (sl : Cert.Reference35Ideal.S4099x6144.Slices ![k, 0] S4096x6144) (t : Fin 4096) (d : Fin 6144) :
    extractStridedSlice S4096x6144 ![k, 0] (pad Cert.Reference35Ideal.S4099x6144 ![3, 0] ![0, 0] ![0, 0] x v h hu) sl (ix2 t d) = above x s t d := by
  unfold extractStridedSlice pad above
  by_cases g : s ≤ t.val
  · rw [if_pos g, dif_pos]
    · refine congrArg x (funext fun b => Fin.ext ?_)
      fin_cases b
      · show (k + t.val - 3) / 1 = t.val - s; omega
      · show (0 + d.val - 0) / 1 = d.val; omega
    · intro b
      have := d.isLt
      fin_cases b
      · show 3 ≤ k + t.val ∧ (k + t.val - 3) % 1 = 0 ∧ (k + t.val - 3) / 1 < 4096; omega
      · show 0 ≤ 0 + d.val ∧ (0 + d.val - 0) % 1 = 0 ∧ (0 + d.val - 0) / 1 < 6144; omega
  · rw [if_neg g, dif_neg (fun hin => ?_)]
    · exact hv _
    · have : 3 ≤ k + t.val := (hin 0).1
      omega

/-- A rotation by `s` rows and a weight, with zeros where it wraps around. -/
theorem turned_at (x : S4096x128.Idx → EReal) (v : EReal) (s : ℕ) (hs : s < 4096) (t : Fin 4096) (d : Fin 128) (h : (t.val + 4096 - s) % 4096 < 4096) :
    (Scalar.select (IntOp.cmpi .sge (BitVec.ofNat 32 t.val) (BitVec.ofNat 32 s)) (x (ix2 ⟨(t.val + 4096 - s) % 4096, h⟩ d) * v) (0 : EReal) : EReal)
      = above x s t d * v := by
  have w : IntOp.cmpi .sge (BitVec.ofNat 32 t.val) (BitVec.ofNat 32 s) = (1 : BitVec 1) ↔ s ≤ t.val :=
    WordCmp.cmpi_sge_ofNat_eq_one_iff (by omega) (by omega)
  rw [Scalar.select, above]
  by_cases g : s ≤ t.val
  · rw [if_pos g, if_pos (w.mpr g)]
    congr 3
    refine Fin.ext ?_
    show (t.val + 4096 - s) % 4096 = t.val - s
    omega
  · rw [if_neg g, if_neg (fun e => g (w.mp e)), zero_mul]

/-- The convolved rows, before silu. -/
def taps (X : S4096x22528.Idx → EReal) (W : S4x6144.Idx → EReal) (t : Fin 4096) (d : Fin 6144) : EReal :=
  above X 3 t ⟨d.val, by omega⟩ * W (ix2 0 d) + above X 2 t ⟨d.val, by omega⟩ * W (ix2 1 d) + above X 1 t ⟨d.val, by omega⟩ * W (ix2 2 d)
    + above X 0 t ⟨d.val, by omega⟩ * W (ix2 3 d)

/-- What the call computes. -/
def conved (X : FVec Ideal S4096x22528 .bf16) (W : FVec Ideal S4x6144 .f32) : FVec Ideal S4096x6144 .f32 :=
  fun i => taps X W (i 0) (i 1) * Ideal.logistic (taps X W (i 0) (i 1))

/-- What the body computes of a block. -/
theorem pay_at (x : FVec Ideal S4096x128 .bf16) (w : FVec Ideal S4x128 .f32) (t : Fin 4096) (d : Fin 128) (y : EReal)
    (hy : x (ix2 t d) * w (ix2 3 d) + above x 3 t d * w (ix2 0 d) + above x 2 t d * w (ix2 1 d) + above x 1 t d * w (ix2 2 d) = y) :
    k0_pay1 (F := Ideal) x w (ix2 t d) = y * Ideal.logistic y := by
  rw [← turned_at x _ 3 (by decide) t d (Nat.mod_lt _ (by decide)), ← turned_at x _ 2 (by decide) t d (Nat.mod_lt _ (by decide)),
    ← turned_at x _ 1 (by decide) t d (Nat.mod_lt _ (by decide))] at hy
  subst hy
  pointwise [k0_pay1]

variable (m : (ℓ : Loc nD τ sig) → Buf (Elt Ideal) ℓ)

theorem idx_0 : ∀ t : Fin cfg0.N, win0_0.index t = ![0, t.val] := (by decide +kernel : ∀ t : Fin grid0.N, _)
theorem idx_1 : ∀ t : Fin cfg0.N, win0_1.index t = ![0, t.val] := (by decide +kernel : ∀ t : Fin grid0.N, _)
theorem idx_2 : ∀ t : Fin cfg0.N, win0_2.index t = ![0, t.val] := (by decide +kernel : ∀ t : Fin grid0.N, _)
theorem steps : cfg0.N = 48 := by decide

section
variable (c : Dev nD) (t : Fin cfg0.N)
theorem blk_0 (s : Fin 4096) (d : Fin 128) (h : t.val * 128 + d.val < 22528) :
    (iblk m c 0 t : S4096x128.Idx → EReal) (ix2 s d) = (m ((c : Thread nD τ).loc main_arg0) : S4096x22528.Idx → EReal) (ix2 s ⟨t.val * 128 + d.val, h⟩) := by
  blk_ext [iblk, idx_0 t]
theorem blk_1 (s : Fin 4) (d : Fin 128) (h : t.val * 128 + d.val < 6144) :
    (iblk m c 1 t : S4x128.Idx → EReal) (ix2 s d) = (m ((c : Thread nD τ).loc main_arg1) : S4x6144.Idx → EReal) (ix2 s ⟨t.val * 128 + d.val, h⟩) := by
  blk_ext [iblk, idx_1 t]
/-- The rows above, in a block. -/
theorem above_blk (s : ℕ) (r : Fin 4096) (d : Fin 128) (h : t.val * 128 + d.val < 22528) :
    above (iblk m c 0 t : S4096x128.Idx → EReal) s r d = above (m ((c : Thread nD τ).loc main_arg0) : S4096x22528.Idx → EReal) s r ⟨t.val * 128 + d.val, h⟩ := by
  unfold above
  by_cases g : s ≤ r.val
  · rw [if_pos g, if_pos g]; exact blk_0 m c t _ d h
  · rw [if_neg g, if_neg g]
end

/-- The result array after the run. -/
theorem final (c : Dev nD) : (dats m 0 c).arrAt 2 (cfgs 0).N = conved (m ((c : Thread nD τ).loc main_arg0)) (m ((c : Thread nD τ).loc main_arg1)) := by
  refine (dats m 0 c).arrAt_eq_of_covers 2 _ (by decide +kernel) fun t _ y => ?_
  have hN : t.val < 48 := lt_of_lt_of_eq t.isLt steps
  obtain ⟨r, d, rfl⟩ : ∃ (r : Fin 4096) (d : Fin 128), y = ix2 r d := ⟨y 0, y 1, eq_ix2 y⟩
  blk_simp
  rw [after0_2]; frame_out
  refine (pay_at _ _ r d (taps (m ((c : Thread nD τ).loc main_arg0)) (m ((c : Thread nD τ).loc main_arg1)) r ⟨t.val * 128 + d.val, by omega⟩) ?_).trans ?_
  · rw [above_blk m c t 3 r d (by omega), above_blk m c t 2 r d (by omega), above_blk m c t 1 r d (by omega)]
    rw [blk_0 m c t r d (by omega), blk_1 m c t 0 d (by omega), blk_1 m c t 1 d (by omega), blk_1 m c t 2 d (by omega), blk_1 m c t 3 d (by omega)]
    unfold taps
    rw [add_assoc, add_assoc, add_comm, ← add_assoc]
    rfl
  · refine (?_ : conved _ _ (ix2 r ⟨t.val * 128 + d.val, by omega⟩) = _)
    blk_simp
    blk_ext [idx_2 t]

/-- The reference's rows, with three rows of zeros in front. -/
abbrev padded (X : FVec Ideal S4096x22528 .bf16) : FVec Ideal Cert.Reference35Ideal.S4099x6144 .f32 :=
  pad Cert.Reference35Ideal.S4099x6144 ![3, 0] ![0, 0] ![0, 0] (extf .f32 (extractStridedSlice S4096x6144 ![0, 0] X Cert.Reference35Ideal.Gen.slices_S4096x22528_S4096x6144_0_0) Cert.Reference35Ideal.Gen.bitsLt_bf16_f32)
    (sitofp .f32 (constantI Cert.Reference35Ideal.S_ 32 0#32)) Cert.Reference35Ideal.Gen.pads_S4096x6144_S4099x6144_300_000 Cert.Reference35Ideal.Gen.h_S_

/-- The reference's sum. -/
abbrev summed (X : FVec Ideal S4096x22528 .bf16) (W : FVec Ideal S4x6144 .f32) : FVec Ideal S4096x6144 .f32 :=
  addf (addf (addf (mulf (extractStridedSlice S4096x6144 ![0, 0] (padded X) Cert.Reference35Ideal.Gen.slices_S4099x6144_S4096x6144_0_0) (broadcastInDim S4096x6144 ![0, 1] Cert.Reference35Ideal.Gen.bcast_S1x6144_S4096x6144_0_1
    (broadcastInDim Cert.Reference35Ideal.S1x6144 ![1] Cert.Reference35Ideal.Gen.bcast_S6144_S1x6144_1 (shapeCast _ (extractStridedSlice Cert.Reference35Ideal.S1x6144 ![0, 0] W Cert.Reference35Ideal.Gen.slices_S4x6144_S1x6144_0_0) Cert.Reference35Ideal.Gen.shapeCasts_S1x6144_S6144)))) (mulf (extractStridedSlice S4096x6144 ![1, 0] (padded X) Cert.Reference35Ideal.Gen.slices_S4099x6144_S4096x6144_1_0) (broadcastInDim S4096x6144 ![0, 1] Cert.Reference35Ideal.Gen.bcast_S1x6144_S4096x6144_0_1
    (broadcastInDim Cert.Reference35Ideal.S1x6144 ![1] Cert.Reference35Ideal.Gen.bcast_S6144_S1x6144_1 (shapeCast _ (extractStridedSlice Cert.Reference35Ideal.S1x6144 ![1, 0] W Cert.Reference35Ideal.Gen.slices_S4x6144_S1x6144_1_0) Cert.Reference35Ideal.Gen.shapeCasts_S1x6144_S6144))))) (mulf (extractStridedSlice S4096x6144 ![2, 0] (padded X) Cert.Reference35Ideal.Gen.slices_S4099x6144_S4096x6144_2_0) (broadcastInDim S4096x6144 ![0, 1] Cert.Reference35Ideal.Gen.bcast_S1x6144_S4096x6144_0_1
    (broadcastInDim Cert.Reference35Ideal.S1x6144 ![1] Cert.Reference35Ideal.Gen.bcast_S6144_S1x6144_1 (shapeCast _ (extractStridedSlice Cert.Reference35Ideal.S1x6144 ![2, 0] W Cert.Reference35Ideal.Gen.slices_S4x6144_S1x6144_2_0) Cert.Reference35Ideal.Gen.shapeCasts_S1x6144_S6144))))) (mulf (extractStridedSlice S4096x6144 ![3, 0] (padded X) Cert.Reference35Ideal.Gen.slices_S4099x6144_S4096x6144_3_0) (broadcastInDim S4096x6144 ![0, 1] Cert.Reference35Ideal.Gen.bcast_S1x6144_S4096x6144_0_1
    (broadcastInDim Cert.Reference35Ideal.S1x6144 ![1] Cert.Reference35Ideal.Gen.bcast_S6144_S1x6144_1 (shapeCast _ (extractStridedSlice Cert.Reference35Ideal.S1x6144 ![3, 0] W Cert.Reference35Ideal.Gen.slices_S4x6144_S1x6144_3_0) Cert.Reference35Ideal.Gen.shapeCasts_S1x6144_S6144))))

/-- The reference's result. -/
abbrev result (X : FVec Ideal S4096x22528 .bf16) (W : FVec Ideal S4x6144 .f32) : FVec Ideal S4096x6144 .f32 :=
  mulf (summed X W) (Host.divf (broadcastInDim S4096x6144 ![] Cert.Reference35Ideal.Gen.bcast_S_S4096x6144 (constant Cert.Reference35Ideal.S_ .f32 0x3F800000#32)) (addf (broadcastInDim S4096x6144 ![] Cert.Reference35Ideal.Gen.bcast_S_S4096x6144 (constant Cert.Reference35Ideal.S_ .f32 0x3F800000#32)) (Host.exp (Host.negf (summed X W)))))

theorem padded_row (X : FVec Ideal S4096x22528 .bf16) (k s : ℕ) (hk : k + s = 3) (sl : Cert.Reference35Ideal.S4099x6144.Slices ![k, 0] S4096x6144) (t : Fin 4096) (d : Fin 6144) :
    extractStridedSlice S4096x6144 ![k, 0] (padded X) sl (ix2 t d) = above X s t ⟨d.val, by omega⟩ := by
  refine (padded_at _ _ _ (fun i => ?_) _ k s hk sl t d).trans ?_
  · show ((BitVec.toInt 0#32 : ℝ) : EReal) = 0
    simp
  · unfold above
    by_cases g : s ≤ t.val
    · rw [if_pos g, if_pos g]
      pointwise
    · rw [if_neg g, if_neg g]

theorem summed_at (X : FVec Ideal S4096x22528 .bf16) (W : FVec Ideal S4x6144 .f32) (t : Fin 4096) (d : Fin 6144) :
    summed X W (ix2 t d) = taps X W t d := by
  unfold summed taps
  rw [← padded_row X 0 3 rfl Cert.Reference35Ideal.Gen.slices_S4099x6144_S4096x6144_0_0, ← padded_row X 1 2 rfl Cert.Reference35Ideal.Gen.slices_S4099x6144_S4096x6144_1_0,
    ← padded_row X 2 1 rfl Cert.Reference35Ideal.Gen.slices_S4099x6144_S4096x6144_2_0, ← padded_row X 3 0 rfl Cert.Reference35Ideal.Gen.slices_S4099x6144_S4096x6144_3_0]
  generalize padded X = Z
  pointwise

theorem result_eq (X : FVec Ideal S4096x22528 .bf16) (W : FVec Ideal S4x6144 .f32) : result X W = conved X W := by
  funext i
  obtain ⟨t, d, rfl⟩ : ∃ (t : Fin 4096) (d : Fin 6144), i = ix2 t d := ⟨i 0, i 1, eq_ix2 i⟩
  have e := summed_at X W t d
  unfold result conved
  generalize summed X W = Z at e ⊢
  pointwise
  rw [e]
  rfl

theorem pair : Cert.algebraic_Kernel35Ideal_Reference35Ideal := by
  pair_intro
  · run_from Cert.Kernel35Ideal.Gen.run_main m g
  · hlo_run
    exact ((final m c).trans (result_eq _ _).symm).symm

end Cert.ConvFwd

end
-- ==== Proof.Gates.lean ====
/- The gates: a logistic function, the negative of an exponential times a softplus, and a logarithm of a logistic function, side by
   side in the lanes of one array. -/
module

public import proofs.«01_k».proof.Defs
public import proofs.«01_k».proof.Proof.Gen.Kernel36Ideal.Frame
public import proofs.«01_k».proof.Proof.Gen.Reference36Ideal.Run
public import Idealize.ShloMosaic.Lib.Pipeline.ValueKit
public import Idealize.ShloMosaic.Lib.WordCmp
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.Gates

open Cert.Kernel36Ideal Cert.Kernel36Ideal.Gen

/-- Softplus of a number. -/
def soft (x : EReal) : EReal := max x 0 + Ideal.log1p (Ideal.exp (-FloatOps.absf (F := Ideal) (φ := .f32) x))

/-- One gate: which, by its lane. -/
def gate (z a b : EReal) (d : ℕ) : EReal :=
  if d < 16 then Ideal.logistic z else if d < 32 then -Ideal.exp a * soft (z + b) else if d < 48 then -soft (-(z + b)) else 0

/-- What the call computes. -/
def gates (Z : FVec Ideal S4096x128 .f32) (A B : FVec Ideal S1x128 .f32) : FVec Ideal S4096x128 .f32 :=
  fun i => gate (Z i) (A (ix2 0 (i 1))) (B (ix2 0 (i 1))) (i 1).val

theorem lane {α : Type} (d n : ℕ) (hd : d < 128) (hn : n < 128) (x y : α) :
    Scalar.select (IntOp.cmpi .slt (BitVec.ofNat 32 d) (BitVec.ofNat 32 n)) x y = if d < n then x else y := by
  have w : IntOp.cmpi .slt (BitVec.ofNat 32 d) (BitVec.ofNat 32 n) = (1 : BitVec 1) ↔ d < n :=
    WordCmp.cmpi_slt_ofNat_eq_one_iff (by omega) (by omega)
  rw [Scalar.select]
  by_cases g : d < n
  · rw [if_pos g, if_pos (w.mpr g)]
  · rw [if_neg g, if_neg (fun e => g (w.mp e))]

theorem pay_at (z : FVec Ideal S512x128 .f32) (a b : FVec Ideal S1x128 .f32) (t : Fin 512) (d : Fin 128) :
    k0_pay1 (F := Ideal) (iota .tc S512x128 32 [1] iota_S512x128_d1_w32) (k0_pay2 z) (k0_pay3 a b z) (k0_pay4 b z) k0_pay5 (ix2 t d)
      = gate (z (ix2 t d)) (a (ix2 0 d)) (b (ix2 0 d)) d.val := by
  pointwise [k0_pay1, k0_pay2, k0_pay3, k0_pay4, k0_pay5]
  have l1 := fun x y : EReal => lane d.val 16 d.isLt (by decide) x y
  have l2 := fun x y : EReal => lane d.val 32 d.isLt (by decide) x y
  have l3 := fun x y : EReal => lane d.val 48 d.isLt (by decide) x y
  simp only [l1, l2, l3, gate, soft, ne_eq, not_true_eq_false, if_false, zero_sub]

variable (m : (ℓ : Loc nD τ sig) → Buf (Elt Ideal) ℓ)

theorem blocks : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The result array after the run. -/
theorem final (c : Dev nD) : (dats m 0 c).arrAt 3 (cfgs 0).N
    = gates (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 512) (d : Fin 128), y = ix2 r d := ⟨y 0, y 1, eq_ix2 y⟩
  blk_simp
  rw [after0_3]; frame_out
  refine (pay_at _ _ _ r d).trans ?_
  unfold gates
  blk_point [iblk, V, blocks t]

/-- Softplus as the reference takes it. -/
abbrev softplus (x : FVec Ideal Cert.Reference36Ideal.S4096x16 .f32) : FVec Ideal Cert.Reference36Ideal.S4096x16 .f32 :=
  select (cmpf .une (subf x (broadcastInDim Cert.Reference36Ideal.S4096x16 ![] Cert.Reference36Ideal.Gen.bcast_S_S4096x16 (constant Cert.Reference36Ideal.S_ .f32 0x00000000#32))) (subf x (broadcastInDim Cert.Reference36Ideal.S4096x16 ![] Cert.Reference36Ideal.Gen.bcast_S_S4096x16 (constant Cert.Reference36Ideal.S_ .f32 0x00000000#32))))
    (addf x (broadcastInDim Cert.Reference36Ideal.S4096x16 ![] Cert.Reference36Ideal.Gen.bcast_S_S4096x16 (constant Cert.Reference36Ideal.S_ .f32 0x00000000#32)))
    (addf (maximumf x (broadcastInDim Cert.Reference36Ideal.S4096x16 ![] Cert.Reference36Ideal.Gen.bcast_S_S4096x16 (constant Cert.Reference36Ideal.S_ .f32 0x00000000#32)))
      (Host.log1p (Host.exp (Host.negf (Host.absf (subf x (broadcastInDim Cert.Reference36Ideal.S4096x16 ![] Cert.Reference36Ideal.Gen.bcast_S_S4096x16 (constant Cert.Reference36Ideal.S_ .f32 0x00000000#32))))))))

theorem softplus_at (x : FVec Ideal Cert.Reference36Ideal.S4096x16 .f32) (t : Fin 4096) (d : Fin 16) : softplus x (ix2 t d) = soft (x (ix2 t d)) := by
  pointwise [softplus]
  simp only [soft, ne_eq, not_true_eq_false, if_false]

/-- The reference's result. -/
abbrev result (Z : FVec Ideal S4096x128 .f32) (A B : FVec Ideal S1x128 .f32) : FVec Ideal S4096x128 .f32 :=
  concatenate S4096x128 1 [⟨Cert.Reference36Ideal.S4096x16, Host.divf (broadcastInDim Cert.Reference36Ideal.S4096x16 ![] Cert.Reference36Ideal.Gen.bcast_S_S4096x16 (constant Cert.Reference36Ideal.S_ .f32 0x3F800000#32)) (addf (broadcastInDim Cert.Reference36Ideal.S4096x16 ![] Cert.Reference36Ideal.Gen.bcast_S_S4096x16 (constant Cert.Reference36Ideal.S_ .f32 0x3F800000#32)) (Host.exp (Host.negf (extractStridedSlice Cert.Reference36Ideal.S4096x16 ![0, 0] Z Cert.Reference36Ideal.Gen.slices_S4096x128_S4096x16_0_0))))⟩,
    ⟨Cert.Reference36Ideal.S4096x16, mulf (broadcastInDim Cert.Reference36Ideal.S4096x16 ![0, 1] Cert.Reference36Ideal.Gen.bcast_S1x16_S4096x16_0_1 (Host.negf (Host.exp (extractStridedSlice Cert.Reference36Ideal.S1x16 ![0, 16] A Cert.Reference36Ideal.Gen.slices_S1x128_S1x16_0_16)))) (softplus (addf (extractStridedSlice Cert.Reference36Ideal.S4096x16 ![0, 16] Z Cert.Reference36Ideal.Gen.slices_S4096x128_S4096x16_0_16) (broadcastInDim Cert.Reference36Ideal.S4096x16 ![0, 1] Cert.Reference36Ideal.Gen.bcast_S1x16_S4096x16_0_1 (extractStridedSlice Cert.Reference36Ideal.S1x16 ![0, 16] B Cert.Reference36Ideal.Gen.slices_S1x128_S1x16_0_16))))⟩,
    ⟨Cert.Reference36Ideal.S4096x16, Host.negf (softplus (Host.negf (addf (extractStridedSlice Cert.Reference36Ideal.S4096x16 ![0, 32] Z Cert.Reference36Ideal.Gen.slices_S4096x128_S4096x16_0_32) (broadcastInDim Cert.Reference36Ideal.S4096x16 ![0, 1] Cert.Reference36Ideal.Gen.bcast_S1x16_S4096x16_0_1 (extractStridedSlice Cert.Reference36Ideal.S1x16 ![0, 32] B Cert.Reference36Ideal.Gen.slices_S1x128_S1x16_0_32)))))⟩,
    ⟨Cert.Reference36Ideal.S4096x80, broadcastInDim Cert.Reference36Ideal.S4096x80 ![] Cert.Reference36Ideal.Gen.bcast_S_S4096x80 (constant Cert.Reference36Ideal.S_ .f32 0x00000000#32)⟩] Cert.Reference36Ideal.Gen.concatenates_S4096x16_S4096x16_S4096x16_S4096x80_S4096x128_d1

theorem result_eq (Z : FVec Ideal S4096x128 .f32) (A B : FVec Ideal S1x128 .f32) : result Z A B = gates Z A B := by
  funext i
  obtain ⟨t, d, rfl⟩ : ∃ (t : Fin 4096) (d : Fin 128), i = ix2 t d := ⟨i 0, i 1, eq_ix2 i⟩
  unfold result gates gate
  generalize hs : softplus (addf (extractStridedSlice Cert.Reference36Ideal.S4096x16 ![0, 16] Z Cert.Reference36Ideal.Gen.slices_S4096x128_S4096x16_0_16) (broadcastInDim Cert.Reference36Ideal.S4096x16 ![0, 1] Cert.Reference36Ideal.Gen.bcast_S1x16_S4096x16_0_1 (extractStridedSlice Cert.Reference36Ideal.S1x16 ![0, 16] B Cert.Reference36Ideal.Gen.slices_S1x128_S1x16_0_16))) = S1
  generalize hu : softplus (Host.negf (addf (extractStridedSlice Cert.Reference36Ideal.S4096x16 ![0, 32] Z Cert.Reference36Ideal.Gen.slices_S4096x128_S4096x16_0_32) (broadcastInDim Cert.Reference36Ideal.S4096x16 ![0, 1] Cert.Reference36Ideal.Gen.bcast_S1x16_S4096x16_0_1 (extractStridedSlice Cert.Reference36Ideal.S1x16 ![0, 32] B Cert.Reference36Ideal.Gen.slices_S1x128_S1x16_0_32)))) = S2
  pointwise
  by_cases h1 : d.val < 16
  · rw [dif_pos h1, if_pos h1]; rfl
  · rw [dif_neg h1, if_neg h1]
    by_cases h2 : d.val < 32
    · rw [dif_pos (show d.val - 16 < 16 by omega), if_pos h2, ← hs, softplus_at]
      have e : (⟨16 + (d.val - 16), by omega⟩ : Fin 128) = d := Fin.ext (by show 16 + (d.val - 16) = d.val; omega)
      pointwise
      rw [e]
    · rw [dif_neg (show ¬ d.val - 16 < 16 by omega), if_neg h2]
      by_cases h3 : d.val < 48
      · rw [dif_pos (show d.val - 16 - 16 < 16 by omega), if_pos h3, ← hu, softplus_at]
        have e : (⟨32 + (d.val - 16 - 16), by omega⟩ : Fin 128) = d := Fin.ext (by show 32 + (d.val - 16 - 16) = d.val; omega)
        pointwise
        rw [e]
      · rw [dif_neg (show ¬ d.val - 16 - 16 < 16 by omega), if_neg h3]

theorem pair : Cert.algebraic_Kernel36Ideal_Reference36Ideal := by
  pair_intro
  · run_from Cert.Kernel36Ideal.Gen.run_main m g
  · refine (θ_run Cert.Reference36Ideal.defs _ _).mono (fun r h c => ?_) (Cert.Reference36Ideal.Value.run (F := Ideal) m' g')
    refine ⟨(h c).1.trans ?_, (h c).2⟩
    refine Eq.trans ?_ ((final m c).trans (result_eq _ _ _).symm).symm
    refine Eq.trans (show _ = result (m' ((c.tc : Thread Cert.Reference36Ideal.nD Cert.Reference36Ideal.τ).loc Cert.Reference36Ideal.main_arg0))
      (m' ((c.tc : Thread Cert.Reference36Ideal.nD Cert.Reference36Ideal.τ).loc Cert.Reference36Ideal.main_arg1))
      (m' ((c.tc : Thread Cert.Reference36Ideal.nD Cert.Reference36Ideal.τ).loc Cert.Reference36Ideal.main_arg2)) from rfl) ?_
    rw [(hagree c).1, (hagree c).2.1, (hagree c).2.2]

end Cert.Gates

end
-- ==== Proof.QkNorm.lean ====
/- The norms of q and k, head by head, and the attention's scale on q: the call takes one block of rows and goes through the
   heads' columns one after the other; the reference splits the columns into heads. -/
module

public import proofs.«01_k».proof.Defs
public import proofs.«01_k».proof.Proof.Gen.Kernel37Ideal.Frame
public import proofs.«01_k».proof.Proof.Gen.Reference37Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.QkNorm

open Cert.Kernel37Ideal Cert.Kernel37Ideal.Gen

/-- Where an entry of one head's columns lies in the block. -/
theorem emb_at (o : ℕ) (inb : ∀ a, (![0, o] : Fin 2 → ℕ) a + S512x128.size a ≤ S512x2048.size a) (r : Fin 512) (e : Fin 128) :
    (Rect.unit (s := S512x2048) ![0, o] S512x128.size inb).emb (ix2 r e) = ix2 r ⟨o + e.val, by have : o + 128 ≤ 2048 := inb 1; omega⟩ := by
  funext b
  refine Fin.ext ?_
  fin_cases b
  · show 0 + 1 * r.val = r.val; omega
  · show o + 1 * e.val = o + e.val; omega

theorem blocks : ∀ t : Fin cfg0.N, win0_0.index t = ![t.val, 4] ∧ win0_1.index t = ![t.val, 5] ∧ win0_2.index t = ![0, 0] ∧ win0_3.index t = ![0, 0]
    ∧ win0_4.index t = ![t.val, 0] ∧ win0_5.index t = ![t.val, 0] :=
  (by decide +kernel : ∀ t : Fin grid0.N, _)

/-! ## q -/

/-- What the body computes of one head's columns. -/
abbrev unit_q (w : FVec Ideal S1x128 .f32) (x : FVec Ideal S512x128 .bf16) : FVec Ideal S512x128 .bf16 :=
  k0_pay3 w x

/-- One number of the result, from its row of the head, itself and its weight. -/
def entry_q (row : Fin 128 → EReal) (x w : EReal) : EReal :=
  x * Ideal.rsqrt (Ideal.div (∑ e, row e * row e) (Ideal.ofBits .f32 0x43000000#32) + Ideal.ofBits .f32 0x358637BD#32) * w * Ideal.ofBits .f32 0x3E0293EE#32

theorem unit_q_at (w : FVec Ideal S1x128 .f32) (x : FVec Ideal S512x128 .bf16) (r : Fin 512) (d : Fin 128) :
    unit_q w x (ix2 r d) = entry_q (fun e => x (ix2 r e)) (x (ix2 r d)) (w (ix2 0 d)) := by
  pointwise [unit_q, k0_pay3]
  rfl

/-- A block of the result. -/
def block_q (X : S512x2048.Idx → EReal) (w : S1x128.Idx → EReal) : FVec Ideal S512x2048 .bf16 := fun i =>
  entry_q (fun e => X (ix2 (i 0) ⟨(i 1).val / 128 * 128 + e.val, by have : (i 1).val < 2048 := (i 1).isLt; omega⟩)) (X i) (w (ix2 0 ⟨(i 1).val % 128, by omega⟩))

/-- One head's columns are those of the block. -/
theorem piece_q (X : FVec Ideal S512x2048 .bf16) (w : FVec Ideal S1x128 .f32) (o : ℕ) (ho : o % 128 = 0)
    (inb : ∀ a, (![0, o] : Fin 2 → ℕ) a + S512x128.size a ≤ S512x2048.size a) (x : S512x128.Idx) :
    unit_q w (View.ld (Val := Elt Ideal) (e' := .bf16) X (Rect.unit (s := S512x2048) ![0, o] S512x128.size inb)) x
      = block_q X w ((Rect.unit (s := S512x2048) ![0, o] S512x128.size inb).emb x) := by
  obtain ⟨r, d, rfl⟩ : ∃ (r : Fin 512) (d : Fin 128), x = ix2 r d := ⟨x 0, x 1, eq_ix2 x⟩
  have hb : o + 128 ≤ 2048 := inb 1
  rw [unit_q_at, emb_at o inb r d]
  have h2 : (o + d.val) % 128 = d.val := by omega
  have e2 : (⟨(o + d.val) % 128, by omega⟩ : Fin 128) = d := Fin.ext h2
  unfold block_q
  refine congr (congr (congrArg entry_q (funext fun e => ?_)) ?_) ?_
  · refine (congrArg X (emb_at o inb r e)).trans (congrArg X ?_)
    funext b
    fin_cases b
    · rfl
    · exact Fin.ext (by show o + e.val = (o + d.val) / 128 * 128 + e.val; omega)
  · exact congrArg X (emb_at o inb r d)
  · exact congrArg w (congrArg (ix2 0) e2.symm)

/-- What the body leaves is the block. -/
theorem out_q (X Y : FVec Ideal S512x2048 .bf16) (w w' : FVec Ideal S1x128 .f32) : out0_4 (F := Ideal) X Y w w' = block_q X w := by
  have hw : View.ld (Val := Elt Ideal) (e' := .f32) w r0_0 = w := View.ld_unit_lit _ _ (by decide)
  unfold out0_4
  rw [hw]
  funext y
  refine (congrArg (fun L => View.canon (Val := Elt Ideal) (s := S512x2048) (e := .bf16) L y) (List.append_nil _).symm).trans
    (View.canon_append_of_piecesOf (Val := Elt Ideal) (s := S512x2048) (e := .bf16) (block_q X w) [] _ ?_ y (cover0_4 _ _ _ _ _ _ _ _ _ _ _ _ _ _ _ _ y))
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact piece_q X w 1920 (by decide) inb_S512x2048_S512x128_0_1920 x
  · exact piece_q X w 1792 (by decide) inb_S512x2048_S512x128_0_1792 x
  · exact piece_q X w 1664 (by decide) inb_S512x2048_S512x128_0_1664 x
  · exact piece_q X w 1536 (by decide) inb_S512x2048_S512x128_0_1536 x
  · exact piece_q X w 1408 (by decide) inb_S512x2048_S512x128_0_1408 x
  · exact piece_q X w 1280 (by decide) inb_S512x2048_S512x128_0_1280 x
  · exact piece_q X w 1152 (by decide) inb_S512x2048_S512x128_0_1152 x
  · exact piece_q X w 1024 (by decide) inb_S512x2048_S512x128_0_1024 x
  · exact piece_q X w 896 (by decide) inb_S512x2048_S512x128_0_896 x
  · exact piece_q X w 768 (by decide) inb_S512x2048_S512x128_0_768 x
  · exact piece_q X w 640 (by decide) inb_S512x2048_S512x128_0_640 x
  · exact piece_q X w 512 (by decide) inb_S512x2048_S512x128_0_512 x
  · exact piece_q X w 384 (by decide) inb_S512x2048_S512x128_0_384 x
  · exact piece_q X w 256 (by decide) inb_S512x2048_S512x128_0_256 x
  · exact piece_q X w 128 (by decide) inb_S512x2048_S512x128_0_128 x
  · exact piece_q X w 0 (by decide) inb_S512x2048_S512x128_0_0 x

/-- What the call computes. -/
def normed_q (P : FVec Ideal S4096x22528 .bf16) (W : FVec Ideal S1x128 .f32) : FVec Ideal S4096x2048 .bf16 := fun i =>
  entry_q (fun e => P (ix2 (i 0) ⟨8192 + ((i 1).val / 128 * 128 + e.val), by have : (i 1).val < 2048 := (i 1).isLt; omega⟩))
    (P (ix2 (i 0) ⟨8192 + (i 1).val, by have : (i 1).val < 2048 := (i 1).isLt; omega⟩)) (W (ix2 0 ⟨(i 1).val % 128, by omega⟩))

/-- The result array after the run. -/
theorem final_q (m : (ℓ : Loc nD τ sig) → Buf (Elt Ideal) ℓ) (c : Dev nD) : (dats m 0 c).arrAt 4 (cfgs 0).N
    = normed_q (m ((c : Thread nD τ).loc main_arg0)) (m ((c : Thread nD τ).loc main_arg1)) := by
  refine (dats m 0 c).arrAt_eq_of_covers 4 _ (by decide +kernel) fun t _ y => ?_
  obtain ⟨r, d, rfl⟩ : ∃ (r : Fin 512) (d : Fin 2048), y = ix2 r d := ⟨y 0, y 1, eq_ix2 y⟩
  blk_simp
  rw [after0_4, out_q]
  unfold normed_q block_q
  blk_point [iblk, V, blocks t]

/-- The reference's result. -/
abbrev result_q (P : FVec Ideal S4096x22528 .bf16) (W : FVec Ideal S1x128 .f32) : FVec Ideal S4096x2048 .bf16 :=
  truncf .bf16 (shapeCast _ (mulf (mulf (mulf (shapeCast _ (extf .f32 (extractStridedSlice S4096x2048 ![0, 8192] P Cert.Reference37Ideal.Gen.slices_S4096x22528_S4096x2048_0_8192) Cert.Reference37Ideal.Gen.bitsLt_bf16_f32) Cert.Reference37Ideal.Gen.shapeCasts_S4096x2048_S4096x16x128) (broadcastInDim Cert.Reference37Ideal.S4096x16x128 ![0, 1, 2] Cert.Reference37Ideal.Gen.bcast_S4096x16x1_S4096x16x128_0_1_2 (Host.rsqrt (addf (Host.divf (broadcastInDim Cert.Reference37Ideal.S4096x16x1 ![0, 1] Cert.Reference37Ideal.Gen.bcast_S4096x16_S4096x16x1_0_1 (Host.reduceAdd (mulf (shapeCast _ (extf .f32 (extractStridedSlice S4096x2048 ![0, 8192] P Cert.Reference37Ideal.Gen.slices_S4096x22528_S4096x2048_0_8192) Cert.Reference37Ideal.Gen.bitsLt_bf16_f32) Cert.Reference37Ideal.Gen.shapeCasts_S4096x2048_S4096x16x128) (shapeCast _ (extf .f32 (extractStridedSlice S4096x2048 ![0, 8192] P Cert.Reference37Ideal.Gen.slices_S4096x22528_S4096x2048_0_8192) Cert.Reference37Ideal.Gen.bitsLt_bf16_f32) Cert.Reference37Ideal.Gen.shapeCasts_S4096x2048_S4096x16x128)) (constant Cert.Reference37Ideal.S_ .f32 0x00000000#32) Cert.Reference37Ideal.Gen.reducesTo_S4096x16x128_S4096x16_d2 Cert.Reference37Ideal.Gen.h_S_)) (broadcastInDim Cert.Reference37Ideal.S4096x16x1 ![] Cert.Reference37Ideal.Gen.bcast_S_S4096x16x1 (constant Cert.Reference37Ideal.S_ .f32 0x43000000#32))) (broadcastInDim Cert.Reference37Ideal.S4096x16x1 ![] Cert.Reference37Ideal.Gen.bcast_S_S4096x16x1 (constant Cert.Reference37Ideal.S_ .f32 0x358637BD#32)))))) (broadcastInDim Cert.Reference37Ideal.S4096x16x128 ![0, 1, 2] Cert.Reference37Ideal.Gen.bcast_S1x1x128_S4096x16x128_0_1_2 (broadcastInDim Cert.Reference37Ideal.S1x1x128 ![1, 2] Cert.Reference37Ideal.Gen.bcast_S1x128_S1x1x128_1_2 W))) (broadcastInDim Cert.Reference37Ideal.S4096x16x128 ![] Cert.Reference37Ideal.Gen.bcast_S_S4096x16x128 (constant Cert.Reference37Ideal.S_ .f32 0x3E0293EE#32))) Cert.Reference37Ideal.Gen.shapeCasts_S4096x16x128_S4096x2048) Cert.Reference37Ideal.Gen.bitsLt_bf16_f32

theorem result_q_eq (P : FVec Ideal S4096x22528 .bf16) (W : FVec Ideal S1x128 .f32) : result_q P W = normed_q P W := by
  funext i
  obtain ⟨t, d, rfl⟩ : ∃ (t : Fin 4096) (d : Fin 2048), i = ix2 t d := ⟨i 0, i 1, eq_ix2 i⟩
  pointwise [result_q]
  rfl

/-! ## k -/

/-- What the body computes of one head's columns. -/
abbrev unit_k (w : FVec Ideal S1x128 .f32) (x : FVec Ideal S512x128 .bf16) : FVec Ideal S512x128 .bf16 :=
  k0_pay4 w x

/-- One number of the result, from its row of the head, itself and its weight. -/
def entry_k (row : Fin 128 → EReal) (x w : EReal) : EReal :=
  x * Ideal.rsqrt (Ideal.div (∑ e, row e * row e) (Ideal.ofBits .f32 0x43000000#32) + Ideal.ofBits .f32 0x358637BD#32) * w

theorem unit_k_at (w : FVec Ideal S1x128 .f32) (x : FVec Ideal S512x128 .bf16) (r : Fin 512) (d : Fin 128) :
    unit_k w x (ix2 r d) = entry_k (fun e => x (ix2 r e)) (x (ix2 r d)) (w (ix2 0 d)) := by
  pointwise [unit_k, k0_pay4]
  rfl

/-- A block of the result. -/
def block_k (X : S512x2048.Idx → EReal) (w : S1x128.Idx → EReal) : FVec Ideal S512x2048 .bf16 := fun i =>
  entry_k (fun e => X (ix2 (i 0) ⟨(i 1).val / 128 * 128 + e.val, by have : (i 1).val < 2048 := (i 1).isLt; omega⟩)) (X i) (w (ix2 0 ⟨(i 1).val % 128, by omega⟩))

/-- One head's columns are those of the block. -/
theorem piece_k (X : FVec Ideal S512x2048 .bf16) (w : FVec Ideal S1x128 .f32) (o : ℕ) (ho : o % 128 = 0)
    (inb : ∀ a, (![0, o] : Fin 2 → ℕ) a + S512x128.size a ≤ S512x2048.size a) (x : S512x128.Idx) :
    unit_k w (View.ld (Val := Elt Ideal) (e' := .bf16) X (Rect.unit (s := S512x2048) ![0, o] S512x128.size inb)) x
      = block_k X w ((Rect.unit (s := S512x2048) ![0, o] S512x128.size inb).emb x) := by
  obtain ⟨r, d, rfl⟩ : ∃ (r : Fin 512) (d : Fin 128), x = ix2 r d := ⟨x 0, x 1, eq_ix2 x⟩
  have hb : o + 128 ≤ 2048 := inb 1
  rw [unit_k_at, emb_at o inb r d]
  have h2 : (o + d.val) % 128 = d.val := by omega
  have e2 : (⟨(o + d.val) % 128, by omega⟩ : Fin 128) = d := Fin.ext h2
  unfold block_k
  refine congr (congr (congrArg entry_k (funext fun e => ?_)) ?_) ?_
  · refine (congrArg X (emb_at o inb r e)).trans (congrArg X ?_)
    funext b
    fin_cases b
    · rfl
    · exact Fin.ext (by show o + e.val = (o + d.val) / 128 * 128 + e.val; omega)
  · exact congrArg X (emb_at o inb r d)
  · exact congrArg w (congrArg (ix2 0) e2.symm)

/-- What the body leaves is the block. -/
theorem out_k (X Y : FVec Ideal S512x2048 .bf16) (w w' : FVec Ideal S1x128 .f32) : out0_5 (F := Ideal) Y X w' w = block_k X w := by
  have hw : View.ld (Val := Elt Ideal) (e' := .f32) w r0_0 = w := View.ld_unit_lit _ _ (by decide)
  unfold out0_5
  rw [hw]
  funext y
  refine (congrArg (fun L => View.canon (Val := Elt Ideal) (s := S512x2048) (e := .bf16) L y) (List.append_nil _).symm).trans
    (View.canon_append_of_piecesOf (Val := Elt Ideal) (s := S512x2048) (e := .bf16) (block_k X w) [] _ ?_ y (cover0_5 _ _ _ _ _ _ _ _ _ _ _ _ _ _ _ _ y))
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact piece_k X w 1920 (by decide) inb_S512x2048_S512x128_0_1920 x
  · exact piece_k X w 1792 (by decide) inb_S512x2048_S512x128_0_1792 x
  · exact piece_k X w 1664 (by decide) inb_S512x2048_S512x128_0_1664 x
  · exact piece_k X w 1536 (by decide) inb_S512x2048_S512x128_0_1536 x
  · exact piece_k X w 1408 (by decide) inb_S512x2048_S512x128_0_1408 x
  · exact piece_k X w 1280 (by decide) inb_S512x2048_S512x128_0_1280 x
  · exact piece_k X w 1152 (by decide) inb_S512x2048_S512x128_0_1152 x
  · exact piece_k X w 1024 (by decide) inb_S512x2048_S512x128_0_1024 x
  · exact piece_k X w 896 (by decide) inb_S512x2048_S512x128_0_896 x
  · exact piece_k X w 768 (by decide) inb_S512x2048_S512x128_0_768 x
  · exact piece_k X w 640 (by decide) inb_S512x2048_S512x128_0_640 x
  · exact piece_k X w 512 (by decide) inb_S512x2048_S512x128_0_512 x
  · exact piece_k X w 384 (by decide) inb_S512x2048_S512x128_0_384 x
  · exact piece_k X w 256 (by decide) inb_S512x2048_S512x128_0_256 x
  · exact piece_k X w 128 (by decide) inb_S512x2048_S512x128_0_128 x
  · exact piece_k X w 0 (by decide) inb_S512x2048_S512x128_0_0 x

/-- What the call computes. -/
def normed_k (P : FVec Ideal S4096x22528 .bf16) (W : FVec Ideal S1x128 .f32) : FVec Ideal S4096x2048 .bf16 := fun i =>
  entry_k (fun e => P (ix2 (i 0) ⟨10240 + ((i 1).val / 128 * 128 + e.val), by have : (i 1).val < 2048 := (i 1).isLt; omega⟩))
    (P (ix2 (i 0) ⟨10240 + (i 1).val, by have : (i 1).val < 2048 := (i 1).isLt; omega⟩)) (W (ix2 0 ⟨(i 1).val % 128, by omega⟩))

/-- The result array after the run. -/
theorem final_k (m : (ℓ : Loc nD τ sig) → Buf (Elt Ideal) ℓ) (c : Dev nD) : (dats m 0 c).arrAt 5 (cfgs 0).N
    = normed_k (m ((c : Thread nD τ).loc main_arg0)) (m ((c : Thread nD τ).loc main_arg2)) := by
  refine (dats m 0 c).arrAt_eq_of_covers 5 _ (by decide +kernel) fun t _ y => ?_
  obtain ⟨r, d, rfl⟩ : ∃ (r : Fin 512) (d : Fin 2048), y = ix2 r d := ⟨y 0, y 1, eq_ix2 y⟩
  blk_simp
  rw [after0_5, out_k]
  unfold normed_k block_k
  blk_point [iblk, V, blocks t]

/-- The reference's result. -/
abbrev result_k (P : FVec Ideal S4096x22528 .bf16) (W : FVec Ideal S1x128 .f32) : FVec Ideal S4096x2048 .bf16 :=
  truncf .bf16 (shapeCast _ (mulf (mulf (shapeCast _ (extf .f32 (extractStridedSlice S4096x2048 ![0, 10240] P Cert.Reference37Ideal.Gen.slices_S4096x22528_S4096x2048_0_10240) Cert.Reference37Ideal.Gen.bitsLt_bf16_f32) Cert.Reference37Ideal.Gen.shapeCasts_S4096x2048_S4096x16x128) (broadcastInDim Cert.Reference37Ideal.S4096x16x128 ![0, 1, 2] Cert.Reference37Ideal.Gen.bcast_S4096x16x1_S4096x16x128_0_1_2 (Host.rsqrt (addf (Host.divf (broadcastInDim Cert.Reference37Ideal.S4096x16x1 ![0, 1] Cert.Reference37Ideal.Gen.bcast_S4096x16_S4096x16x1_0_1 (Host.reduceAdd (mulf (shapeCast _ (extf .f32 (extractStridedSlice S4096x2048 ![0, 10240] P Cert.Reference37Ideal.Gen.slices_S4096x22528_S4096x2048_0_10240) Cert.Reference37Ideal.Gen.bitsLt_bf16_f32) Cert.Reference37Ideal.Gen.shapeCasts_S4096x2048_S4096x16x128) (shapeCast _ (extf .f32 (extractStridedSlice S4096x2048 ![0, 10240] P Cert.Reference37Ideal.Gen.slices_S4096x22528_S4096x2048_0_10240) Cert.Reference37Ideal.Gen.bitsLt_bf16_f32) Cert.Reference37Ideal.Gen.shapeCasts_S4096x2048_S4096x16x128)) (constant Cert.Reference37Ideal.S_ .f32 0x00000000#32) Cert.Reference37Ideal.Gen.reducesTo_S4096x16x128_S4096x16_d2 Cert.Reference37Ideal.Gen.h_S_)) (broadcastInDim Cert.Reference37Ideal.S4096x16x1 ![] Cert.Reference37Ideal.Gen.bcast_S_S4096x16x1 (constant Cert.Reference37Ideal.S_ .f32 0x43000000#32))) (broadcastInDim Cert.Reference37Ideal.S4096x16x1 ![] Cert.Reference37Ideal.Gen.bcast_S_S4096x16x1 (constant Cert.Reference37Ideal.S_ .f32 0x358637BD#32)))))) (broadcastInDim Cert.Reference37Ideal.S4096x16x128 ![0, 1, 2] Cert.Reference37Ideal.Gen.bcast_S1x1x128_S4096x16x128_0_1_2 (broadcastInDim Cert.Reference37Ideal.S1x1x128 ![1, 2] Cert.Reference37Ideal.Gen.bcast_S1x128_S1x1x128_1_2 W))) Cert.Reference37Ideal.Gen.shapeCasts_S4096x16x128_S4096x2048) Cert.Reference37Ideal.Gen.bitsLt_bf16_f32

theorem result_k_eq (P : FVec Ideal S4096x22528 .bf16) (W : FVec Ideal S1x128 .f32) : result_k P W = normed_k P W := by
  funext i
  obtain ⟨t, d, rfl⟩ : ∃ (t : Fin 4096) (d : Fin 2048), i = ix2 t d := ⟨i 0, i 1, eq_ix2 i⟩
  pointwise [result_k]
  rfl

theorem pair : Cert.algebraic_Kernel37Ideal_Reference37Ideal := by
  pair_intro
  · run_from Cert.Kernel37Ideal.Gen.run_main m g
  · refine (θ_run Cert.Reference37Ideal.defs _ _).mono (fun r h c => ?_) (Cert.Reference37Ideal.Value.run (F := Ideal) m' g')
    refine ⟨(h c).1.trans ?_, (h c).2.1.trans ?_, (h c).2.2⟩
    · refine Eq.trans ?_ ((final_q m c).trans (result_q_eq _ _).symm).symm
      refine Eq.trans (show _ = result_q (m' ((c.tc : Thread Cert.Reference37Ideal.nD Cert.Reference37Ideal.τ).loc Cert.Reference37Ideal.main_arg0)) (m' ((c.tc : Thread Cert.Reference37Ideal.nD Cert.Reference37Ideal.τ).loc Cert.Reference37Ideal.main_arg1)) from rfl) ?_
      rw [(hagree c).1, (hagree c).2.1]
    · refine Eq.trans ?_ ((final_k m c).trans (result_k_eq _ _).symm).symm
      refine Eq.trans (show _ = result_k (m' ((c.tc : Thread Cert.Reference37Ideal.nD Cert.Reference37Ideal.τ).loc Cert.Reference37Ideal.main_arg0)) (m' ((c.tc : Thread Cert.Reference37Ideal.nD Cert.Reference37Ideal.τ).loc Cert.Reference37Ideal.main_arg2)) from rfl) ?_
      rw [(hagree c).1, (hagree c).2.2]

end Cert.QkNorm

end
-- ==== Proof.GdnOut.lean ====
/- The norm of the delta rule's output, head by head, times its gate: the call takes one block of rows and goes through the heads'
   columns one after the other; the reference splits the columns into heads. -/
module

public import proofs.«01_k».proof.Defs
public import proofs.«01_k».proof.Proof.Gen.Kernel38Ideal.Frame
public import proofs.«01_k».proof.Proof.Gen.Reference38Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.GdnOut

open Cert.Kernel38Ideal Cert.Kernel38Ideal.Gen

/-- What the body computes of one head's columns. -/
abbrev unit (w : FVec Ideal S1x128 .f32) (x : FVec Ideal S512x128 .f32) (z : FVec Ideal S512x128 .bf16) : FVec Ideal S512x128 .bf16 :=
  k0_pay2 w x z

/-- One number of the result, from its row of the head, itself, its weight and its gate. -/
def entry (row : Fin 128 → EReal) (x w z : EReal) : EReal :=
  x * Ideal.rsqrt (Ideal.div (∑ e, row e * row e) (Ideal.ofBits .f32 0x43000000#32) + Ideal.ofBits .f32 0x358637BD#32) * w * (z * Ideal.logistic z)

theorem unit_at (w : FVec Ideal S1x128 .f32) (x : FVec Ideal S512x128 .f32) (z : FVec Ideal S512x128 .bf16) (r : Fin 512) (d : Fin 128) :
    unit w x z (ix2 r d) = entry (fun e => x (ix2 r e)) (x (ix2 r d)) (w (ix2 0 d)) (z (ix2 r d)) := by
  pointwise [unit, k0_pay2]
  rfl

/-- A block of the result. -/
def blockOf (X : S512x2048.Idx → EReal) (Z : S512x2048.Idx → EReal) (w : S1x128.Idx → EReal) : FVec Ideal S512x2048 .bf16 := fun i =>
  entry (fun e => X (ix2 (i 0) ⟨(i 1).val / 128 * 128 + e.val, by have : (i 1).val < 2048 := (i 1).isLt; omega⟩)) (X i) (w (ix2 0 ⟨(i 1).val % 128, by omega⟩)) (Z i)

/-- One head's columns are those of the block. -/
theorem piece_at (X : FVec Ideal S512x2048 .f32) (Z : FVec Ideal S512x2048 .bf16) (w : FVec Ideal S1x128 .f32) (o : ℕ) (ho : o % 128 = 0)
    (inb : ∀ a, (![0, o] : Fin 2 → ℕ) a + S512x128.size a ≤ S512x2048.size a) (x : S512x128.Idx) :
    unit w (View.ld (Val := Elt Ideal) (e' := .f32) X (Rect.unit (s := S512x2048) ![0, o] S512x128.size inb)) (View.ld (Val := Elt Ideal) (e' := .bf16) Z (Rect.unit (s := S512x2048) ![0, o] S512x128.size inb)) x
      = blockOf X Z w ((Rect.unit (s := S512x2048) ![0, o] S512x128.size inb).emb x) := by
  obtain ⟨r, d, rfl⟩ : ∃ (r : Fin 512) (d : Fin 128), x = ix2 r d := ⟨x 0, x 1, eq_ix2 x⟩
  have hb : o + 128 ≤ 2048 := inb 1
  have ed : ∀ e : Fin 128, (Rect.unit (s := S512x2048) ![0, o] S512x128.size inb).emb (ix2 r e) = ix2 r ⟨o + e.val, by omega⟩ := fun e => by
    funext b
    refine Fin.ext ?_
    fin_cases b
    · show 0 + 1 * r.val = r.val; omega
    · show o + 1 * e.val = o + e.val; omega
  rw [unit_at, ed]
  have h1 : (o + d.val) / 128 * 128 = o := by omega
  have h2 : (o + d.val) % 128 = d.val := by omega
  unfold blockOf
  have e2 : (⟨(o + d.val) % 128, by omega⟩ : Fin 128) = d := Fin.ext h2
  refine congr (congr (congr (congrArg entry (funext fun e => ?_)) ?_) ?_) ?_
  · refine (congrArg X (ed e)).trans (congrArg X ?_)
    funext b
    fin_cases b
    · rfl
    · exact Fin.ext (by show o + e.val = (o + d.val) / 128 * 128 + e.val; omega)
  · exact congrArg X (ed d)
  · exact congrArg w (congrArg (ix2 0) e2.symm)
  · exact congrArg Z (ed d)

/-- What the body leaves is the block. -/
theorem out_eq (X : FVec Ideal S512x2048 .f32) (Z : FVec Ideal S512x2048 .bf16) (w : FVec Ideal S1x128 .f32) : out0_3 (F := Ideal) X Z w = blockOf X Z w := by
  have hw : View.ld (Val := Elt Ideal) (e' := .f32) w r0_0 = w := View.ld_unit_lit _ _ (by decide)
  unfold out0_3
  rw [hw]
  funext y
  refine (congrArg (fun L => View.canon (Val := Elt Ideal) (s := S512x2048) (e := .bf16) L y) (List.append_nil _).symm).trans
    (View.canon_append_of_piecesOf (Val := Elt Ideal) (s := S512x2048) (e := .bf16) (blockOf X Z w) [] _ ?_ y (cover0_3 _ _ _ _ _ _ _ _ _ _ _ _ _ _ _ _ y))
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact piece_at X Z w 1920 (by decide) inb_S512x2048_S512x128_0_1920 x
  · exact piece_at X Z w 1792 (by decide) inb_S512x2048_S512x128_0_1792 x
  · exact piece_at X Z w 1664 (by decide) inb_S512x2048_S512x128_0_1664 x
  · exact piece_at X Z w 1536 (by decide) inb_S512x2048_S512x128_0_1536 x
  · exact piece_at X Z w 1408 (by decide) inb_S512x2048_S512x128_0_1408 x
  · exact piece_at X Z w 1280 (by decide) inb_S512x2048_S512x128_0_1280 x
  · exact piece_at X Z w 1152 (by decide) inb_S512x2048_S512x128_0_1152 x
  · exact piece_at X Z w 1024 (by decide) inb_S512x2048_S512x128_0_1024 x
  · exact piece_at X Z w 896 (by decide) inb_S512x2048_S512x128_0_896 x
  · exact piece_at X Z w 768 (by decide) inb_S512x2048_S512x128_0_768 x
  · exact piece_at X Z w 640 (by decide) inb_S512x2048_S512x128_0_640 x
  · exact piece_at X Z w 512 (by decide) inb_S512x2048_S512x128_0_512 x
  · exact piece_at X Z w 384 (by decide) inb_S512x2048_S512x128_0_384 x
  · exact piece_at X Z w 256 (by decide) inb_S512x2048_S512x128_0_256 x
  · exact piece_at X Z w 128 (by decide) inb_S512x2048_S512x128_0_128 x
  · exact piece_at X Z w 0 (by decide) inb_S512x2048_S512x128_0_0 x

/-- What the call computes. -/
def gated (X : FVec Ideal S4096x2048 .f32) (Z : FVec Ideal S4096x22528 .bf16) (W : FVec Ideal S1x128 .f32) : FVec Ideal S4096x2048 .bf16 := fun i =>
  entry (fun e => X (ix2 (i 0) ⟨(i 1).val / 128 * 128 + e.val, by have : (i 1).val < 2048 := (i 1).isLt; omega⟩)) (X i) (W (ix2 0 ⟨(i 1).val % 128, by omega⟩))
    (Z (ix2 (i 0) ⟨6144 + (i 1).val, by have : (i 1).val < 2048 := (i 1).isLt; omega⟩))

variable (m : (ℓ : Loc nD τ sig) → Buf (Elt Ideal) ℓ)

theorem blocks : ∀ t : Fin cfg0.N, win0_0.index t = ![t.val, 0] ∧ win0_1.index t = ![t.val, 3] ∧ win0_2.index t = ![0, 0] ∧ win0_3.index t = ![t.val, 0] :=
  (by decide +kernel : ∀ t : Fin grid0.N, _)

/-- The result array after the run. -/
theorem final (c : Dev nD) : (dats m 0 c).arrAt 3 (cfgs 0).N
    = gated (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 512) (d : Fin 2048), y = ix2 r d := ⟨y 0, y 1, eq_ix2 y⟩
  blk_simp
  rw [after0_3, out_eq]
  unfold gated blockOf
  blk_point [iblk, V, blocks t]

/-- The reference's result. -/
abbrev result (X : FVec Ideal S4096x2048 .f32) (Z : FVec Ideal S4096x22528 .bf16) (W : FVec Ideal S1x128 .f32) : FVec Ideal S4096x2048 .bf16 :=
  (truncf .bf16 (shapeCast S4096x2048 (mulf (mulf (mulf (shapeCast _ X Cert.Reference38Ideal.Gen.shapeCasts_S4096x2048_S4096x16x128) (broadcastInDim Cert.Reference38Ideal.S4096x16x128 ![0, 1, 2] Cert.Reference38Ideal.Gen.bcast_S4096x16x1_S4096x16x128_0_1_2 (Host.rsqrt (addf (Host.divf (broadcastInDim Cert.Reference38Ideal.S4096x16x1 ![0, 1] Cert.Reference38Ideal.Gen.bcast_S4096x16_S4096x16x1_0_1 (Host.reduceAdd (mulf (shapeCast _ X Cert.Reference38Ideal.Gen.shapeCasts_S4096x2048_S4096x16x128) (shapeCast _ X Cert.Reference38Ideal.Gen.shapeCasts_S4096x2048_S4096x16x128)) (constant Cert.Reference38Ideal.S_ .f32 0x00000000#32) Cert.Reference38Ideal.Gen.reducesTo_S4096x16x128_S4096x16_d2 Cert.Reference38Ideal.Gen.h_S_)) (broadcastInDim Cert.Reference38Ideal.S4096x16x1 ![] Cert.Reference38Ideal.Gen.bcast_S_S4096x16x1 (constant Cert.Reference38Ideal.S_ .f32 0x43000000#32))) (broadcastInDim Cert.Reference38Ideal.S4096x16x1 ![] Cert.Reference38Ideal.Gen.bcast_S_S4096x16x1 (constant Cert.Reference38Ideal.S_ .f32 0x358637BD#32)))))) (broadcastInDim Cert.Reference38Ideal.S4096x16x128 ![0, 1, 2] Cert.Reference38Ideal.Gen.bcast_S1x1x128_S4096x16x128_0_1_2 (broadcastInDim Cert.Reference38Ideal.S1x1x128 ![1, 2] Cert.Reference38Ideal.Gen.bcast_S1x128_S1x1x128_1_2 W))) (mulf (shapeCast _ (extf .f32 (extractStridedSlice S4096x2048 ![0, 6144] Z Cert.Reference38Ideal.Gen.slices_S4096x22528_S4096x2048_0_6144) Cert.Reference38Ideal.Gen.bitsLt_bf16_f32) Cert.Reference38Ideal.Gen.shapeCasts_S4096x2048_S4096x16x128) (Host.divf (broadcastInDim Cert.Reference38Ideal.S4096x16x128 ![] Cert.Reference38Ideal.Gen.bcast_S_S4096x16x128 (constant Cert.Reference38Ideal.S_ .f32 0x3F800000#32)) (addf (broadcastInDim Cert.Reference38Ideal.S4096x16x128 ![] Cert.Reference38Ideal.Gen.bcast_S_S4096x16x128 (constant Cert.Reference38Ideal.S_ .f32 0x3F800000#32)) (Host.exp (Host.negf (shapeCast _ (extf .f32 (extractStridedSlice S4096x2048 ![0, 6144] Z Cert.Reference38Ideal.Gen.slices_S4096x22528_S4096x2048_0_6144) Cert.Reference38Ideal.Gen.bitsLt_bf16_f32) Cert.Reference38Ideal.Gen.shapeCasts_S4096x2048_S4096x16x128))))))) Cert.Reference38Ideal.Gen.shapeCasts_S4096x16x128_S4096x2048) Cert.Reference38Ideal.Gen.bitsLt_bf16_f32 : FVec Ideal S4096x2048 .bf16)

theorem result_eq (X : FVec Ideal S4096x2048 .f32) (Z : FVec Ideal S4096x22528 .bf16) (W : FVec Ideal S1x128 .f32) : result X Z W = gated X Z W := by
  funext i
  obtain ⟨t, d, rfl⟩ : ∃ (t : Fin 4096) (d : Fin 2048), i = ix2 t d := ⟨i 0, i 1, eq_ix2 i⟩
  pointwise [result]
  rfl

theorem pair : Cert.algebraic_Kernel38Ideal_Reference38Ideal := by
  pair_intro
  · run_from Cert.Kernel38Ideal.Gen.run_main m g
  · refine (θ_run Cert.Reference38Ideal.defs _ _).mono (fun r h c => ?_) (Cert.Reference38Ideal.Value.run (F := Ideal) m' g')
    refine ⟨(h c).1.trans ?_, (h c).2⟩
    refine Eq.trans ?_ ((final m c).trans (result_eq _ _ _).symm).symm
    refine Eq.trans (show _ = result (m' ((c.tc : Thread Cert.Reference38Ideal.nD Cert.Reference38Ideal.τ).loc Cert.Reference38Ideal.main_arg0))
      (m' ((c.tc : Thread Cert.Reference38Ideal.nD Cert.Reference38Ideal.τ).loc Cert.Reference38Ideal.main_arg1))
      (m' ((c.tc : Thread Cert.Reference38Ideal.nD Cert.Reference38Ideal.τ).loc Cert.Reference38Ideal.main_arg2)) from rfl) ?_
    rw [(hagree c).1, (hagree c).2.1, (hagree c).2.2]

end Cert.GdnOut

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Frame
public import proofs.«01_k».proof.Proof.Gen.Pre_finite_forward
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Frame
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Frame
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Frame
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Frame
public import proofs.«01_k».proof.Proof.Gen.Reference30Ideal
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Frame
public import proofs.«01_k».proof.Proof.Gen.Reference31Ideal
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Frame
public import proofs.«01_k».proof.Proof.Gen.Reference32Ideal
public import proofs.«01_k».proof.Proof.Gen.Reference32Ideal.Run
public import proofs.«01_k».proof.Proof.Gen.Kernel33
public import proofs.«01_k».proof.Proof.Gen.Kernel33.Skeleton
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Frame
public import proofs.«01_k».proof.Proof.Gen.Reference33Ideal
public import proofs.«01_k».proof.Proof.Gen.Reference33Ideal.Run
public import proofs.«01_k».proof.Proof.Gen.Kernel34
public import proofs.«01_k».proof.Proof.Gen.Kernel34.Skeleton
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Frame
public import proofs.«01_k».proof.Proof.Gen.Reference34Ideal
public import proofs.«01_k».proof.Proof.Gen.Reference34Ideal.Run
public import proofs.«01_k».proof.Proof.Gen.Kernel35
public import proofs.«01_k».proof.Proof.Gen.Kernel35.Skeleton
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Frame
public import proofs.«01_k».proof.Proof.Gen.Reference35Ideal
public import proofs.«01_k».proof.Proof.Gen.Reference35Ideal.Run
public import proofs.«01_k».proof.Proof.Gen.Kernel36
public import proofs.«01_k».proof.Proof.Gen.Kernel36.Skeleton
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Frame
public import proofs.«01_k».proof.Proof.Gen.Reference36Ideal
public import proofs.«01_k».proof.Proof.Gen.Reference36Ideal.Run
public import proofs.«01_k».proof.Proof.Gen.Kernel37
public import proofs.«01_k».proof.Proof.Gen.Kernel37.Skeleton
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Frame
public import proofs.«01_k».proof.Proof.Gen.Reference37Ideal
public import proofs.«01_k».proof.Proof.Gen.Reference37Ideal.Run
public import proofs.«01_k».proof.Proof.Gen.Kernel38
public import proofs.«01_k».proof.Proof.Gen.Kernel38.Skeleton
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Frame
public import proofs.«01_k».proof.Proof.Gen.Reference38Ideal
public import proofs.«01_k».proof.Proof.Gen.Reference38Ideal.Run
public import proofs.«01_k».proof.Proof.Words.Dats
public import proofs.«01_k».proof.Proof.Pair
public import proofs.«01_k».proof.Proof.DAct
public import proofs.«01_k».proof.Proof.DwIn
public import proofs.«01_k».proof.Proof.DXn
public import proofs.«01_k».proof.Proof.DwGate
public import proofs.«01_k».proof.Proof.DHnUp
public import proofs.«01_k».proof.Proof.DwDown
public import proofs.«01_k».proof.Proof.DHnGate
public import proofs.«01_k».proof.Proof.DMerged
public import proofs.«01_k».proof.Proof.DwOut
public import proofs.«01_k».proof.Proof.DBranch
public import proofs.«01_k».proof.Proof.DwBranch
public import proofs.«01_k».proof.Proof.InProj
public import proofs.«01_k».proof.Proof.FfnGate
public import proofs.«01_k».proof.Proof.FfnUp
public import proofs.«01_k».proof.Proof.FfnDown
public import proofs.«01_k».proof.Proof.OutProj
public import proofs.«01_k».proof.Proof.BranchA
public import proofs.«01_k».proof.Proof.BranchB
public import proofs.«01_k».proof.Proof.AdamIn
public import proofs.«01_k».proof.Proof.AdamBranch
public import proofs.«01_k».proof.Proof.AdamOut
public import proofs.«01_k».proof.Proof.AdamGate
public import proofs.«01_k».proof.Proof.AdamDown
public import proofs.«01_k».proof.Proof.AdamConv
public import proofs.«01_k».proof.Proof.AdamSmall
public import proofs.«01_k».proof.Proof.Norm
public import proofs.«01_k».proof.Proof.DMixNorm
public import proofs.«01_k».proof.Proof.DFfnNorm
public import proofs.«01_k».proof.Proof.LossHead
public import proofs.«01_k».proof.Proof.InSmall
public import proofs.«01_k».proof.Proof.DwInSmall
public import proofs.«01_k».proof.Proof.DXnSmall
public import proofs.«01_k».proof.Proof.FoxFwd
public import proofs.«01_k».proof.Proof.ConvFwd
public import proofs.«01_k».proof.Proof.Gates
public import proofs.«01_k».proof.Proof.QkNorm
public import proofs.«01_k».proof.Proof.GdnOut

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Kernel32.Gen.facts,
    Cert.Kernel32Ideal.Gen.facts,
    Cert.Reference32Ideal.Gen.facts,
    Cert.Kernel33.Gen.facts,
    Cert.Kernel33Ideal.Gen.facts,
    Cert.Reference33Ideal.Gen.facts,
    Cert.Kernel35.Gen.facts,
    Cert.Kernel35Ideal.Gen.facts,
    Cert.Reference35Ideal.Gen.facts,
    Cert.Kernel36.Gen.facts,
    Cert.Kernel36Ideal.Gen.facts,
    Cert.Reference36Ideal.Gen.facts,
    Cert.Kernel37.Gen.facts,
    Cert.Kernel37Ideal.Gen.facts,
    Cert.Reference37Ideal.Gen.facts,
    Cert.Kernel38.Gen.facts,
    Cert.Kernel38Ideal.Gen.facts,
    Cert.Reference38Ideal.Gen.facts,
    Cert.Kernel34.Gen.facts,
    Cert.Kernel34Ideal.Gen.facts,
    Cert.Reference34Ideal.Gen.facts,
    Cert.Pre_finite.Gen.facts,
    Cert.Pre_finite_forward.Gen.facts,
    fun m ρ _ => Cert.Words.frame_holds m ρ,
    fun m ρ _ => Cert.Att.frame_holds m ρ,
    fun m ρ _ => Cert.Att.frame_holds m ρ,
    fun m ρ _ => (θ_run Cert.ReferenceIdeal.defs _ _).mono (fun r h => ⟨fun c => (h c).2.2.2.2.2, sem_eq_zero_of_no_sems (by decide) r.2⟩)
      (Cert.ReferenceIdeal.Value.run (F := Ideal) m ρ),
    fun m ρ _ => (θ_run Cert.ReferenceIdeal.defs _ _).mono (fun r h => ⟨fun c => (h c).2.2.2.2.2, sem_eq_zero_of_no_sems (by decide) r.2⟩)
      (Cert.ReferenceIdeal.Value.run (F := Ideal) m ρ),
    fun m ρ _ => Cert.Kernel2.Gen.frame m ρ,
    fun m ρ _ => Cert.Kernel2Ideal.Gen.frame m ρ,
    fun m ρ _ => (θ_run Cert.Reference2Ideal.defs _ _).mono (fun r h => ⟨fun c => (h c).2.2, sem_eq_zero_of_no_sems (by decide) r.2⟩)
      (Cert.Reference2Ideal.Value.run (F := Ideal) m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2, sem_eq_zero_of_no_sems (by decide) r.2⟩)
      (Cert.Reference3Ideal.Value.run (F := Ideal) m ρ),
    fun m ρ _ => Cert.Kernel4.Gen.frame m ρ,
    fun m ρ _ => Cert.Kernel4Ideal.Gen.frame m ρ,
    fun m ρ _ => (θ_run Cert.Reference4Ideal.defs _ _).mono (fun r h => ⟨fun c => (h c).2, sem_eq_zero_of_no_sems (by decide) r.2⟩)
      (Cert.Reference4Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2, sem_eq_zero_of_no_sems (by decide) r.2⟩)
      (Cert.Reference5Ideal.Value.run (F := Ideal) m ρ),
    fun m ρ _ => Cert.Kernel6.Gen.frame m ρ,
    fun m ρ _ => Cert.Kernel6Ideal.Gen.frame m ρ,
    fun m ρ _ => (θ_run Cert.Reference6Ideal.defs _ _).mono (fun r h => ⟨fun c => (h c).2, sem_eq_zero_of_no_sems (by decide) r.2⟩)
      (Cert.Reference6Ideal.Value.run (F := Ideal) m ρ),
    fun m ρ _ => Cert.Kernel7.Gen.frame m ρ,
    fun m ρ _ => Cert.Kernel7Ideal.Gen.frame m ρ,
    fun m ρ _ => (θ_run Cert.Reference7Ideal.defs _ _).mono (fun r h => ⟨fun c => (h c).2, sem_eq_zero_of_no_sems (by decide) r.2⟩)
      (Cert.Reference7Ideal.Value.run (F := Ideal) m ρ),
    fun m ρ _ => Cert.Kernel8.Gen.frame m ρ,
    fun m ρ _ => Cert.Kernel8Ideal.Gen.frame m ρ,
    fun m ρ _ => (θ_run Cert.Reference8Ideal.defs _ _).mono (fun r h => ⟨fun c => (h c).2, sem_eq_zero_of_no_sems (by decide) r.2⟩)
      (Cert.Reference8Ideal.Value.run (F := Ideal) m ρ),
    fun m ρ _ => Cert.Kernel9.Gen.frame m ρ,
    fun m ρ _ => Cert.Kernel9Ideal.Gen.frame m ρ,
    fun m ρ _ => (θ_run Cert.Reference9Ideal.defs _ _).mono (fun r h => ⟨fun c => (h c).2.2.2.2, sem_eq_zero_of_no_sems (by decide) r.2⟩)
      (Cert.Reference9Ideal.Value.run (F := Ideal) m ρ),
    fun m ρ _ => Cert.Kernel10.Gen.frame m ρ,
    fun m ρ _ => Cert.Kernel10Ideal.Gen.frame m ρ,
    fun m ρ _ => (θ_run Cert.Reference10Ideal.defs _ _).mono (fun r h => ⟨fun c => (h c).2, sem_eq_zero_of_no_sems (by decide) r.2⟩)
      (Cert.Reference10Ideal.Value.run (F := Ideal) m ρ),
    fun m ρ _ => Cert.Kernel11.Gen.frame m ρ,
    fun m ρ _ => Cert.Kernel11Ideal.Gen.frame m ρ,
    fun m ρ _ => (θ_run Cert.Reference11Ideal.defs _ _).mono (fun r h => ⟨fun c => (h c).2, sem_eq_zero_of_no_sems (by decide) r.2⟩)
      (Cert.Reference11Ideal.Value.run (F := Ideal) m ρ),
    fun m ρ _ => Cert.Kernel12.Gen.frame m ρ,
    fun m ρ _ => Cert.Kernel12Ideal.Gen.frame m ρ,
    fun m ρ _ => (θ_run Cert.Reference12Ideal.defs _ _).mono (fun r h => ⟨fun c => (h c).2, sem_eq_zero_of_no_sems (by decide) r.2⟩)
      (Cert.Reference12Ideal.Value.run (F := Ideal) m ρ),
    fun m ρ _ => Cert.Kernel13.Gen.frame m ρ,
    fun m ρ _ => Cert.Kernel13Ideal.Gen.frame m ρ,
    fun m ρ _ => (θ_run Cert.Reference13Ideal.defs _ _).mono (fun r h => ⟨fun c => (h c).2, sem_eq_zero_of_no_sems (by decide) r.2⟩)
      (Cert.Reference13Ideal.Value.run (F := Ideal) m ρ),
    fun m ρ _ => Cert.Kernel14.Gen.frame m ρ,
    fun m ρ _ => Cert.Kernel14Ideal.Gen.frame m ρ,
    fun m ρ _ => (θ_run Cert.Reference14Ideal.defs _ _).mono (fun r h => ⟨fun c => (h c).2, sem_eq_zero_of_no_sems (by decide) r.2⟩)
      (Cert.Reference14Ideal.Value.run (F := Ideal) m ρ),
    fun m ρ _ => Cert.Kernel15.Gen.frame m ρ,
    fun m ρ _ => Cert.Kernel15Ideal.Gen.frame m ρ,
    fun m ρ _ => (θ_run Cert.Reference15Ideal.defs _ _).mono (fun r h => ⟨fun c => (h c).2.2, sem_eq_zero_of_no_sems (by decide) r.2⟩)
      (Cert.Reference15Ideal.Value.run (F := Ideal) m ρ),
    fun m ρ _ => Cert.Kernel16.Gen.frame m ρ,
    fun m ρ _ => Cert.Kernel16Ideal.Gen.frame m ρ,
    fun m ρ _ => (θ_run Cert.Reference16Ideal.defs _ _).mono (fun r h => ⟨fun c => (h c).2, sem_eq_zero_of_no_sems (by decide) r.2⟩)
      (Cert.Reference16Ideal.Value.run (F := Ideal) m ρ),
    fun m ρ _ => Cert.Kernel17.Gen.frame m ρ,
    fun m ρ _ => Cert.Kernel17Ideal.Gen.frame m ρ,
    fun m ρ _ => (θ_run Cert.Reference17Ideal.defs _ _).mono (fun r h => ⟨fun c => (h c).2, sem_eq_zero_of_no_sems (by decide) r.2⟩)
      (Cert.Reference17Ideal.Value.run (F := Ideal) m ρ),
    fun m ρ _ => Cert.Kernel18.Gen.frame m ρ,
    fun m ρ _ => Cert.Kernel18Ideal.Gen.frame m ρ,
    fun m ρ _ => (θ_run Cert.Reference18Ideal.defs _ _).mono (fun r h => ⟨fun c => (h c).2, sem_eq_zero_of_no_sems (by decide) r.2⟩)
      (Cert.Reference18Ideal.Value.run (F := Ideal) m ρ),
    fun m ρ _ => Cert.Kernel19.Gen.frame m ρ,
    fun m ρ _ => Cert.Kernel19Ideal.Gen.frame m ρ,
    fun m ρ _ => (θ_run Cert.Reference19Ideal.defs _ _).mono (fun r h => ⟨fun c => (h c).2.2, sem_eq_zero_of_no_sems (by decide) r.2⟩)
      (Cert.Reference19Ideal.Value.run (F := Ideal) m ρ),
    fun m ρ _ => Cert.Kernel20.Gen.frame m ρ,
    fun m ρ _ => Cert.Kernel20Ideal.Gen.frame m ρ,
    fun m ρ _ => (θ_run Cert.Reference20Ideal.defs _ _).mono (fun r h => ⟨fun c => (h c).2.2.2.2, sem_eq_zero_of_no_sems (by decide) r.2⟩)
      (Cert.Reference20Ideal.Value.run (F := Ideal) m ρ),
    fun m ρ _ => Cert.Kernel21.Gen.frame m ρ,
    fun m ρ _ => Cert.Kernel21Ideal.Gen.frame m ρ,
    fun m ρ _ => (θ_run Cert.Reference21Ideal.defs _ _).mono (fun r h => ⟨fun c => (h c).2.2.2.2, sem_eq_zero_of_no_sems (by decide) r.2⟩)
      (Cert.Reference21Ideal.Value.run (F := Ideal) m ρ),
    fun m ρ _ => Cert.Kernel22.Gen.frame m ρ,
    fun m ρ _ => Cert.Kernel22Ideal.Gen.frame m ρ,
    fun m ρ _ => (θ_run Cert.Reference22Ideal.defs _ _).mono (fun r h => ⟨fun c => (h c).2.2.2.2, sem_eq_zero_of_no_sems (by decide) r.2⟩)
      (Cert.Reference22Ideal.Value.run (F := Ideal) m ρ),
    fun m ρ _ => Cert.Kernel23.Gen.frame m ρ,
    fun m ρ _ => Cert.Kernel23Ideal.Gen.frame m ρ,
    fun m ρ _ => (θ_run Cert.Reference23Ideal.defs _ _).mono (fun r h => ⟨fun c => (h c).2.2.2.2, sem_eq_zero_of_no_sems (by decide) r.2⟩)
      (Cert.Reference23Ideal.Value.run (F := Ideal) m ρ),
    fun m ρ _ => Cert.Kernel24.Gen.frame m ρ,
    fun m ρ _ => Cert.Kernel24Ideal.Gen.frame m ρ,
    fun m ρ _ => (θ_run Cert.Reference24Ideal.defs _ _).mono (fun r h => ⟨fun c => (h c).2.2.2.2, sem_eq_zero_of_no_sems (by decide) r.2⟩)
      (Cert.Reference24Ideal.Value.run (F := Ideal) m ρ),
    fun m ρ _ => Cert.Kernel25.Gen.frame m ρ,
    fun m ρ _ => Cert.Kernel25Ideal.Gen.frame m ρ,
    fun m ρ _ => (θ_run Cert.Reference25Ideal.defs _ _).mono (fun r h => ⟨fun c => (h c).2.2.2.2, sem_eq_zero_of_no_sems (by decide) r.2⟩)
      (Cert.Reference25Ideal.Value.run (F := Ideal) m ρ),
    fun m ρ _ => Cert.Kernel26.Gen.frame m ρ,
    fun m ρ _ => Cert.Kernel26Ideal.Gen.frame m ρ,
    fun m ρ _ => (θ_run Cert.Reference26Ideal.defs _ _).mono (fun r h => ⟨fun c => (h c).2.2.2.2, sem_eq_zero_of_no_sems (by decide) r.2⟩)
      (Cert.Reference26Ideal.Value.run (F := Ideal) m ρ),
    fun m ρ _ => Cert.Kernel27.Gen.frame m ρ,
    fun m ρ _ => Cert.Kernel27Ideal.Gen.frame m ρ,
    fun m ρ _ => (θ_run Cert.Reference27Ideal.defs _ _).mono (fun r h => ⟨fun c => (h c).2, sem_eq_zero_of_no_sems (by decide) r.2⟩)
      (Cert.Reference27Ideal.Value.run (F := Ideal) m ρ),
    fun m ρ _ => Cert.Kernel28.Gen.frame m ρ,
    fun m ρ _ => Cert.Kernel28Ideal.Gen.frame m ρ,
    fun m ρ _ => (θ_run Cert.Reference28Ideal.defs _ _).mono (fun r h => ⟨fun c => (h c).2.2, sem_eq_zero_of_no_sems (by decide) r.2⟩)
      (Cert.Reference28Ideal.Value.run (F := Ideal) m ρ),
    fun m ρ _ => Cert.Kernel29.Gen.frame m ρ,
    fun m ρ _ => Cert.Kernel29Ideal.Gen.frame m ρ,
    fun m ρ _ => (θ_run Cert.Reference29Ideal.defs _ _).mono (fun r h => ⟨fun c => (h c).2.2.2, sem_eq_zero_of_no_sems (by decide) r.2⟩)
      (Cert.Reference29Ideal.Value.run (F := Ideal) m ρ),
    fun m ρ _ => Cert.Kernel30.Gen.frame m ρ,
    fun m ρ _ => Cert.Kernel30Ideal.Gen.frame m ρ,
    fun m ρ _ => (θ_run Cert.Reference30Ideal.defs _ _).mono (fun r h => ⟨fun c => (h c).2.2.2, sem_eq_zero_of_no_sems (by decide) r.2⟩)
      (Cert.Reference30Ideal.Value.run (F := Ideal) m ρ),
    fun m ρ _ => Cert.Kernel31.Gen.frame m ρ,
    fun m ρ _ => Cert.Kernel31Ideal.Gen.frame m ρ,
    fun m ρ _ => (θ_run Cert.Reference31Ideal.defs _ _).mono (fun r h => ⟨fun c => (h c).2, sem_eq_zero_of_no_sems (by decide) r.2⟩)
      (Cert.Reference31Ideal.Value.run (F := Ideal) m ρ),
    fun m ρ _ => Cert.Kernel32.Gen.frame m ρ,
    fun m ρ _ => Cert.Kernel32Ideal.Gen.frame m ρ,
    fun m ρ _ => (θ_run Cert.Reference32Ideal.defs _ _).mono (fun r h => ⟨fun c => (h c).2, sem_eq_zero_of_no_sems (by decide) r.2⟩)
      (Cert.Reference32Ideal.Value.run (F := Ideal) m ρ),
    fun m ρ _ => Cert.Kernel33.Gen.frame m ρ,
    fun m ρ _ => Cert.Kernel33Ideal.Gen.frame m ρ,
    fun m ρ _ => (θ_run Cert.Reference33Ideal.defs _ _).mono (fun r h => ⟨fun c => (h c).2, sem_eq_zero_of_no_sems (by decide) r.2⟩)
      (Cert.Reference33Ideal.Value.run (F := Ideal) m ρ),
    fun m ρ _ => Cert.Kernel35.Gen.frame m ρ,
    fun m ρ _ => Cert.Kernel35Ideal.Gen.frame m ρ,
    fun m ρ _ => (θ_run Cert.Reference35Ideal.defs _ _).mono (fun r h => ⟨fun c => (h c).2, sem_eq_zero_of_no_sems (by decide) r.2⟩)
      (Cert.Reference35Ideal.Value.run (F := Ideal) m ρ),
    fun m ρ _ => Cert.Kernel36.Gen.frame m ρ,
    fun m ρ _ => Cert.Kernel36Ideal.Gen.frame m ρ,
    fun m ρ _ => (θ_run Cert.Reference36Ideal.defs _ _).mono (fun r h => ⟨fun c => (h c).2, sem_eq_zero_of_no_sems (by decide) r.2⟩)
      (Cert.Reference36Ideal.Value.run (F := Ideal) m ρ),
    fun m ρ _ => Cert.Kernel37.Gen.frame m ρ,
    fun m ρ _ => Cert.Kernel37Ideal.Gen.frame m ρ,
    fun m ρ _ => (θ_run Cert.Reference37Ideal.defs _ _).mono (fun r h => ⟨fun c => (h c).2.2, sem_eq_zero_of_no_sems (by decide) r.2⟩)
      (Cert.Reference37Ideal.Value.run (F := Ideal) m ρ),
    fun m ρ _ => Cert.Kernel38.Gen.frame m ρ,
    fun m ρ _ => Cert.Kernel38Ideal.Gen.frame m ρ,
    fun m ρ _ => (θ_run Cert.Reference38Ideal.defs _ _).mono (fun r h => ⟨fun c => (h c).2, sem_eq_zero_of_no_sems (by decide) r.2⟩)
      (Cert.Reference38Ideal.Value.run (F := Ideal) m ρ),
    fun m ρ _ => Cert.Kernel34.Gen.frame m ρ,
    fun m ρ _ => Cert.Kernel34Ideal.Gen.frame m ρ,
    fun m ρ _ => Cert.Kernel34Ideal.Gen.frame m ρ,
    fun m ρ _ => (θ_run Cert.Reference34Ideal.defs _ _).mono (fun r h => ⟨fun c => (h c).2.2.2, sem_eq_zero_of_no_sems (by decide) r.2⟩)
      (Cert.Reference34Ideal.Value.run (F := Ideal) m ρ),
    fun m ρ _ => (θ_run Cert.Reference34Ideal.defs _ _).mono (fun r h => ⟨fun c => (h c).2.2.2, sem_eq_zero_of_no_sems (by decide) r.2⟩)
      (Cert.Reference34Ideal.Value.run (F := Ideal) m ρ),
    ⟨IdealRules.named_const.statement Cert.KernelIdeal.κ "mask" .f32 0xF149F2CA#32 ⊥ rfl,
      IdealRules.named_const.statement Cert.KernelIdeal.κ "ln2" .f32 0x3F317218#32 ((Real.log 2 : ℝ) : EReal) rfl⟩,
    (letI := Cert.Pre_finite.Gen.facts; Cert.Att.pair),
    trivial,
    Cert.DAct.pair,
    trivial,
    Cert.DwIn.pair,
    trivial,
    Cert.DXn.pair,
    trivial,
    Cert.DwGate.pair,
    trivial,
    Cert.DHnUp.pair,
    trivial,
    Cert.DwDown.pair,
    trivial,
    Cert.DHnGate.pair,
    trivial,
    Cert.DMerged.pair,
    trivial,
    Cert.DwOut.pair,
    trivial,
    Cert.DBranch.pair,
    trivial,
    Cert.DwBranch.pair,
    trivial,
    Cert.InProj.pair,
    trivial,
    Cert.FfnGate.pair,
    trivial,
    Cert.FfnUp.pair,
    trivial,
    Cert.FfnDown.pair,
    trivial,
    Cert.OutProj.pair,
    trivial,
    Cert.BranchA.pair,
    trivial,
    Cert.BranchB.pair,
    trivial,
    Cert.AdamIn.pair,
    trivial,
    Cert.AdamBranch.pair,
    trivial,
    Cert.AdamOut.pair,
    trivial,
    Cert.AdamGate.pair,
    trivial,
    Cert.AdamDown.pair,
    trivial,
    Cert.AdamConv.pair,
    trivial,
    Cert.AdamSmall.pair,
    trivial,
    Cert.Norm.pair,
    trivial,
    Cert.DMixNorm.pair,
    trivial,
    Cert.DFfnNorm.pair,
    trivial,
    Cert.LossHead.pair,
    trivial,
    Cert.InSmall.pair,
    trivial,
    Cert.DwInSmall.pair,
    trivial,
    Cert.DXnSmall.pair,
    trivial,
    Cert.ConvFwd.pair,
    trivial,
    Cert.Gates.pair,
    trivial,
    Cert.QkNorm.pair,
    trivial,
    Cert.GdnOut.pair,
    ⟨IdealRules.named_const.statement Cert.Kernel34Ideal.κ "mask" .f32 0xF149F2CA#32 ⊥ rfl,
      IdealRules.named_const.statement Cert.Kernel34Ideal.κ "log2e" .f32 0x3FB8AA3B#32 (((Real.log 2)⁻¹ : ℝ) : EReal) rfl⟩,
    (letI := Cert.Pre_finite_forward.Gen.facts; Cert.Fwd.pair)⟩

end Cert.Proof

end
